-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_below14 [hPre_below14 : Cert.Pre_below14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_below14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_below14 [hPre_below14 : Cert.Pre_below14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_below14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_below14 [hKernel14Ideal : Cert.Kernel14Ideal.Facts] [hPre_below14 : Cert.Pre_below14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_below14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_below14 [hReference14Ideal : Cert.Reference14Ideal.Facts] [hPre_below14 : Cert.Pre_below14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_below14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v95) = v2 c
          ∧ r.2.mem ((c.tc : Thread Cert.Reference3Ideal.nD Cert.Reference3Ideal.τ).loc Cert.Reference3Ideal.main_v124) = v3 c
          ∧ r.2.mem ((c.tc : Thread Cert.Reference3Ideal.nD Cert.Reference3Ideal.τ).loc Cert.Reference3Ideal.main_v102) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_v17) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_v38) = v1 c
          ∧ r.2.mem ((c.tc : Thread Cert.Reference20Ideal.nD Cert.Reference20Ideal.τ).loc Cert.Reference20Ideal.main_v39) = v2 c
          ∧ r.2.mem ((c.tc : Thread Cert.Reference20Ideal.nD Cert.Reference20Ideal.τ).loc Cert.Reference20Ideal.main_v40) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v11) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel14_Kernel14Ideal : Prop :=
  True

def algebraic_Kernel14Ideal_Reference14Ideal_pre_below14 [hKernel14Ideal : Cert.Kernel14Ideal.Facts] [hReference14Ideal : Cert.Reference14Ideal.Facts] [hPre_below14 : Cert.Pre_below14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_below14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v48) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v49_0)) (v1 : (c : Dev Cert.Kernel15Ideal.nD) → Buf (Elt Ideal) ((c.tc : Thread Cert.Kernel15Ideal.nD Cert.Kernel15Ideal.τ).loc Cert.Kernel15Ideal.main_v49_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v49_0) = v0 c
          ∧ r.2.mem ((c.tc : Thread Cert.Kernel15Ideal.nD Cert.Kernel15Ideal.τ).loc Cert.Kernel15Ideal.main_v49_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v99) = v0 c
          ∧ r.2.mem ((c.tc : Thread Cert.Reference15Ideal.nD Cert.Reference15Ideal.τ).loc Cert.Reference15Ideal.main_v79) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite2 : Cert.Pre_finite2.Facts) (hPre_finite3 : Cert.Pre_finite3.Facts) (hPre_finite4 : Cert.Pre_finite4.Facts) (hPre_finite7 : Cert.Pre_finite7.Facts) (hPre_finite6 : Cert.Pre_finite6.Facts) (hPre_finite13 : Cert.Pre_finite13.Facts) (hPre_below14 : Cert.Pre_below14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel14 (hKernel14 := hKernel14)
    ∧ quiescent_Kernel14Ideal (hKernel14Ideal := hKernel14Ideal)
    ∧ quiescent_Kernel14Ideal_pre_below14 (hKernel14Ideal := hKernel14Ideal) (hPre_below14 := hPre_below14)
    ∧ quiescent_Reference14Ideal (hReference14Ideal := hReference14Ideal)
    ∧ quiescent_Reference14Ideal_pre_below14 (hReference14Ideal := hReference14Ideal) (hPre_below14 := hPre_below14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel14_Kernel14Ideal
    ∧ algebraic_Kernel14Ideal_Reference14Ideal_pre_below14 (hKernel14Ideal := hKernel14Ideal) (hReference14Ideal := hReference14Ideal) (hPre_below14 := hPre_below14)
    ∧ preserves_Kernel15_Kernel15Ideal
    ∧ algebraic_Kernel15Ideal_Reference15Ideal (hKernel15Ideal := hKernel15Ideal) (hReference15Ideal := hReference15Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_below14.lean ====
abbrev S4096x13312 : Shape := ⟨2, ![4096, 13312]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S4096x13312 .f32) (main_arg1 : FVec F S2x1024 .f32) : IVec S_ 1 :=
  let main_cst : FVec F S_ .f32 := constant S_ .f32 0x7F800000#32
  let main_v0 : FVec F S2x1024 .f32 := broadcastInDim S2x1024 ![] bcast_S_S2x1024 main_cst
  let main_v1 : IVec S2x1024 1 := cmpf .olt main_arg1 main_v0
  let main_c : IVec S_ 1 := constantI S_ 1 1#1
  let main_v2 : IVec S_ 1 := (fun x v => Host.reduce IntOp.andi x v reducesTo_S2x1024_S_d0_1 h_S_) main_v1 main_c
  main_v2
-- ==== Pre_finite13.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S_ : Shape := ⟨0, ![]⟩

class Facts : Prop where
  slices_S4096x13312_S4096x512_0_9728 : S4096x13312.Slices ![0, 9728] S4096x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  main_v19

def fn {F : FTy → Type} [FloatOps F] (main_arg0 : FVec F S4096x13312 .f32) (main_arg1 : FVec F S256x1024 .f32) (main_arg2 : FVec F S1x128 .f32) (main_arg3 : FVec F S1x128 .f32) : IVec S_ 1 :=
  let main_v0 : FVec F S4096x512 .f32 := (extractStridedSlice S4096x512 ![0, 9728] · slices_S4096x13312_S4096x512_0_9728) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_v14 main_v15 main_v16
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .bf16) (main_arg1 : FVec F S4096x2816 .bf16) (main_arg2 : FVec F S2816x1024 .bf16) (main_arg3 : FVec F S4096x1024 .bf16) : IVec S_ 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := (extf .f32 · bitsLt_bf16_f32) main_arg2
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x1024 .f32 := (extf .f32 · bitsLt_bf16_f32) main_arg3
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Pre_finite3.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S_ : Shape := ⟨0, ![]⟩

class Facts : Prop where
  slices_S4096x13312_S4096x512_0_9728 : S4096x13312.Slices ![0, 9728] S4096x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S4096x512 .f32) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  let main_v20 : FVec F S4096x512 .f32 := Host.absf main_arg4
  let main_cst_6 : FVec F S_ .f32 := constant S_ .f32 0x7F800000#32
  let main_v21 : FVec F S4096x512 .f32 := broadcastInDim S4096x512 ![] bcast_S_S4096x512 main_cst_6
  let main_v22 : IVec S4096x512 1 := cmpf .olt main_v20 main_v21
  let main_c_7 : IVec S_ 1 := constantI S_ 1 1#1
  let main_v23 : IVec S_ 1 := (fun x v => Host.reduce IntOp.andi x v reducesTo_S4096x512_S_d0_1 h_S_) main_v22 main_c_7
  let main_v24 : IVec S_ 1 := andi main_v19 main_v23
  main_v24

def fn {F : FTy → Type} [FloatOps F] (main_arg0 : FVec F S4096x13312 .f32) (main_arg1 : FVec F S256x1024 .f32) (main_arg2 : FVec F S1x128 .f32) (main_arg3 : FVec F S1x128 .f32) (main_arg4 : FVec F S4096x512 .f32) (main_arg5 : FVec F S4096x13312 .bf16) : IVec S_ 1 :=
  let main_v0 : FVec F S4096x512 .f32 := (extractStridedSlice S4096x512 ![0, 9728] · slices_S4096x13312_S4096x512_0_9728) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_arg4 main_v14 main_v15 main_v16
-- ==== Pre_finite4.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2x4096x2816 .bf16) (main_arg1 : FVec F S1024x5632 .bf16) (main_arg2 : FVec F S4096x1024 .f32) (main_arg3 : FVec F S4096x1024 .f32) (main_arg4 : FVec F S1x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_v15 main_v16 main_cst_4
-- ==== Pre_finite6.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S_ : Shape := ⟨0, ![]⟩
abbrev S1024x1024 : Shape := ⟨2, ![1024, 1024]⟩

class Facts : Prop where
  slices_S4096x13312_S1024x13312_0_0 : S4096x13312.Slices ![0, 0] S1024x13312
  bitsLt_bf16_f32 : FTy.bits .bf16 < FTy.bits .f32
  bcast_S_S1024x13312 : S_.BroadcastsInDim S1024x13312 (![] : Fin 0 → Fin S1024x13312.rank)
  reducesTo_S1024x13312_S_d0_1 : S1024x13312.ReducesTo [0, 1] S_
  h_S_ : 0 < S_.numel
  slices_S4096x1024_S1024x1024_0_0 : S4096x1024.Slices ![0, 0] S1024x1024
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x13312 .bf16) (main_arg1 : FVec F S1024x13312 .bf16) (main_arg2 : FVec F S4096x1024 .f32) (main_arg3 : FVec F S4096x1024 .f32) (main_arg4 : FVec F S1x1024 .f32) : IVec S_ 1 :=
  let main_v0 : FVec F S1024x13312 .bf16 := (extractStridedSlice S1024x13312 ![0, 0] · slices_S4096x13312_S1024x13312_0_0) main_arg0
  let main_v1 : FVec F S1024x13312 .f32 := (extf .f32 · bitsLt_bf16_f32) main_v0
  let main_v2 : FVec F S1024x13312 .f32 := Host.absf main_v1
  let main_cst : FVec F S_ .f32 := constant S_ .f32 0x7F800000#32
  let main_v3 : FVec F S1024x13312 .f32 := broadcastInDim S1024x13312 ![] bcast_S_S1024x13312 main_cst
  let main_v4 : IVec S1024x13312 1 := cmpf .olt main_v2 main_v3
  let main_c : IVec S_ 1 := constantI S_ 1 1#1
  let main_v5 : IVec S_ 1 := (fun x v => Host.reduce IntOp.andi x v reducesTo_S1024x13312_S_d0_1 h_S_) main_v4 main_c
  let main_v6 : FVec F S1024x13312 .f32 := (extf .f32 · bitsLt_bf16_f32) main_arg1
  let main_v7 : FVec F S1024x13312 .f32 := Host.absf main_v6
  let main_cst_0 : FVec F S_ .f32 := constant S_ .f32 0x7F800000#32
  let main_v8 : FVec F S1024x13312 .f32 := broadcastInDim S1024x13312 ![] bcast_S_S1024x13312 main_cst_0
  let main_v9 : IVec S1024x13312 1 := cmpf .olt main_v7 main_v8
  let main_c_1 : IVec S_ 1 := constantI S_ 1 1#1
  let main_v10 : IVec S_ 1 := (fun x v => Host.reduce IntOp.andi x v reducesTo_S1024x13312_S_d0_1 h_S_) main_v9 main_c_1
  let main_v11 : IVec S_ 1 := andi main_v5 main_v10
  let main_v12 : FVec F S1024x1024 .f32 := (extractStridedSlice S1024x1024 ![0, 0] · slices_S4096x1024_S1024x1024_0_0) main_arg2
  let main_v13 : FVec F S1024x1024 .f32 := Host.absf main_v12
  let main_cst_2 : FVec F S_ .f32 := constant S_ .f32 0x7F800000#32
  let main_v14 : FVec F S1024x1024 .f32 := broadcastInDim S1024x1024 ![] bcast_S_S1024x1024 main_cst_2
  let main_v15 : IVec S1024x1024 1 := cmpf .olt main_v13 main_v14
  let main_c_3 : IVec S_ 1 := constantI S_ 1 1#1
  let main_v16 : IVec S_ 1 := (fun x v => Host.reduce IntOp.andi x v reducesTo_S1024x1024_S_d0_1 h_S_) main_v15 main_c_3
  let main_v17 : IVec S_ 1 := andi main_v11 main_v16
  main_v17
-- ==== Pre_finite7.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S3072x13312 : Shape := ⟨2, ![3072, 13312]⟩
abbrev S_ : Shape := ⟨0, ![]⟩
abbrev S3072x1024 : Shape := ⟨2, ![3072, 1024]⟩

class Facts : Prop where
  slices_S4096x13312_S3072x13312_1024_0 : S4096x13312.Slices ![1024, 0] S3072x13312
  bitsLt_bf16_f32 : FTy.bits .bf16 < FTy.bits .f32
  bcast_S_S3072x13312 : S_.BroadcastsInDim S3072x13312 (![] : Fin 0 → Fin S3072x13312.rank)
  reducesTo_S3072x13312_S_d0_1 : S3072x13312.ReducesTo [0, 1] S_
  h_S_ : 0 < S_.numel
  bcast_S_S1024x13312 : S_.BroadcastsInDim S1024x13312 (![] : Fin 0 → Fin S1024x13312.rank)
  reducesTo_S1024x13312_S_d0_1 : S1024x13312.ReducesTo [0, 1] S_
  slices_S4096x1024_S3072x1024_1024_0 : S4096x1024.Slices ![1024, 0] S3072x1024
  bcast_S_S3072x1024 : S_.BroadcastsInDim S3072x1024 (![] : Fin 0 → Fin S3072x1024.rank)
  reducesTo_S3072x1024_S_d0_1 : S3072x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v17 : IVec S_ 1) : IVec S_ 1 :=
  let main_v18 : FVec F S1x1024 .f32 := Host.absf main_arg4
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  main_v22

def fn {F : FTy → Type} [FloatOps F] (main_arg0 : FVec F S4096x13312 .bf16) (main_arg1 : FVec F S1024x13312 .bf16) (main_arg2 : FVec F S4096x1024 .f32) (main_arg3 : FVec F S4096x1024 .f32) (main_arg4 : FVec F S1x1024 .f32) (main_arg5 : FVec F S4096x1024 .f32) : IVec S_ 1 :=
  let main_v0 : FVec F S3072x13312 .bf16 := (extractStridedSlice S3072x13312 ![1024, 0] · slices_S4096x13312_S3072x13312_1024_0) main_arg0
  let main_v1 : FVec F S3072x13312 .f32 := (extf .f32 · bitsLt_bf16_f32) main_v0
  let main_v2 : FVec F S3072x13312 .f32 := Host.absf main_v1
  let main_cst : FVec F S_ .f32 := constant S_ .f32 0x7F800000#32
  let main_v3 : FVec F S3072x13312 .f32 := broadcastInDim S3072x13312 ![] bcast_S_S3072x13312 main_cst
  let main_v4 : IVec S3072x13312 1 := cmpf .olt main_v2 main_v3
  let main_c : IVec S_ 1 := constantI S_ 1 1#1
  let main_v5 : IVec S_ 1 := (fun x v => Host.reduce IntOp.andi x v reducesTo_S3072x13312_S_d0_1 h_S_) main_v4 main_c
  let main_v6 : FVec F S1024x13312 .f32 := (extf .f32 · bitsLt_bf16_f32) main_arg1
  let main_v7 : FVec F S1024x13312 .f32 := Host.absf main_v6
  let main_cst_0 : FVec F S_ .f32 := constant S_ .f32 0x7F800000#32
  let main_v8 : FVec F S1024x13312 .f32 := broadcastInDim S1024x13312 ![] bcast_S_S1024x13312 main_cst_0
  let main_v9 : IVec S1024x13312 1 := cmpf .olt main_v7 main_v8
  let main_c_1 : IVec S_ 1 := constantI S_ 1 1#1
  let main_v10 : IVec S_ 1 := (fun x v => Host.reduce IntOp.andi x v reducesTo_S1024x13312_S_d0_1 h_S_) main_v9 main_c_1
  let main_v11 : IVec S_ 1 := andi main_v5 main_v10
  let main_v12 : FVec F S3072x1024 .f32 := (extractStridedSlice S3072x1024 ![1024, 0] · slices_S4096x1024_S3072x1024_1024_0) main_arg2
  let main_v13 : FVec F S3072x1024 .f32 := Host.absf main_v12
  let main_cst_2 : FVec F S_ .f32 := constant S_ .f32 0x7F800000#32
  let main_v14 : FVec F S3072x1024 .f32 := broadcastInDim S3072x1024 ![] bcast_S_S3072x1024 main_cst_2
  let main_v15 : IVec S3072x1024 1 := cmpf .olt main_v13 main_v14
  let main_c_3 : IVec S_ 1 := constantI S_ 1 1#1
  let main_v16 : IVec S_ 1 := (fun x v => Host.reduce IntOp.andi x v reducesTo_S3072x1024_S_d0_1 h_S_) main_v15 main_c_3
  let main_v17 : IVec S_ 1 := andi main_v11 main_v16
  fn_part1 (F := F) main_arg4 main_v17
-- ==== Kernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S2x4096x2816 : Shape := ⟨3, ![2, 4096, 2816]⟩
abbrev S1024x1024 : Shape := ⟨2, ![1024, 1024]⟩
abbrev S1408x1024 : Shape := ⟨2, ![1408, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1024x1408, .bf16⟩
  | .local _ .vmem, ⟨9, _⟩ => ⟨S2x1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S1x4096x2816, .f32⟩
  | .hbm, ⟨31, _⟩ => ⟨S1x4096x2816, .f32⟩
  | .hbm, ⟨32, _⟩ => ⟨S2x4096x2816, .f32⟩
  | .hbm, ⟨33, _⟩ => ⟨S2x4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel3.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S256x512 : Shape := ⟨2, ![256, 512]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 11
  | .vmem => 19
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S4096x512, .f32⟩
  | .hbm, ⟨5, _⟩ => ⟨S4096x13312, .bf16⟩
  | .hbm, ⟨6, _⟩ => ⟨S4096x13312, .bf16⟩
  | .hbm, ⟨7, _⟩ => ⟨S256x512, .f32⟩
  | .hbm, ⟨8, _⟩ => ⟨S256x512, .f32⟩
  | .hbm, ⟨9, _⟩ => ⟨S1x128, .f32⟩
  | .hbm, ⟨10, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S256x128, .f32⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def k0_cond5 (i : grid0.Coords) : BitVec 1 :=
  let arg1 : BitVec 32 := BitVec.ofNat 32 (i 1).val
  let c3_i32 : BitVec 32 := 3#32
  let v309 : BitVec 1 := Scalar.cmpi .eq arg1 c3_i32
  let v310 : BitVec 32 := Scalar.extui v309
  let c0_i32_101 : BitVec 32 := 0#32
  let v311 : BitVec 1 := Scalar.cmpi .ne v310 c0_i32_101
  v311

def k0_cond3 (i : grid0.Coords) : BitVec 1 :=
  let arg1 : BitVec 32 := BitVec.ofNat 32 (i 1).val
  let c0_i32_97 : BitVec 32 := 0#32
  let v303 : BitVec 1 := Scalar.cmpi .eq arg1 c0_i32_97
  let v304 : BitVec 32 := Scalar.extui v303
  let c0_i32_98 : BitVec 32 := 0#32
  let v305 : BitVec 1 := Scalar.cmpi .ne v304 c0_i32_98
  v305

def k0_cond4 (i : grid0.Coords) : BitVec 1 :=
  let arg1 : BitVec 32 := BitVec.ofNat 32 (i 1).val
  let c0_i32_99 : BitVec 32 := 0#32
  let v306 : BitVec 1 := Scalar.cmpi .sgt arg1 c0_i32_99
  let v307 : BitVec 32 := Scalar.extui v306
  let c0_i32_100 : BitVec 32 := 0#32
  let v308 : BitVec 1 := Scalar.cmpi .ne v307 c0_i32_100
  v308

def k0_cond1 (i : grid0.Coords) : BitVec 1 :=
  let arg0 : BitVec 32 := BitVec.ofNat 32 (i 0).val
  let c0_i32 : BitVec 32 := 0#32
  let v295 : BitVec 1 := Scalar.cmpi .eq arg0 c0_i32
  let arg1 : BitVec 32 := BitVec.ofNat 32 (i 1).val
  let c0_i32_94 : BitVec 32 := 0#32
  let v296 : BitVec 1 := Scalar.cmpi .eq arg1 c0_i32_94
  let v297 : BitVec 1 := Scalar.andi v295 v296
  let v298 : BitVec 32 := Scalar.extui v297
  let c0_i32_95 : BitVec 32 := 0#32
  let v299 : BitVec 1 := Scalar.cmpi .ne v298 c0_i32_95
  v299

def k0_cond2 (i : grid0.Coords) : BitVec 1 :=
  let arg0 : BitVec 32 := BitVec.ofNat 32 (i 0).val
  let c0_i32 : BitVec 32 := 0#32
  let v295 : BitVec 1 := Scalar.cmpi .eq arg0 c0_i32
  let arg1 : BitVec 32 := BitVec.ofNat 32 (i 1).val
  let c0_i32_94 : BitVec 32 := 0#32
  let v296 : BitVec 1 := Scalar.cmpi .eq arg1 c0_i32_94
  let v297 : BitVec 1 := Scalar.andi v295 v296
  let v_true : BitVec 1 := 1#1
  let v300 : BitVec 1 := Scalar.xori v297 v_true
  let v301 : BitVec 32 := Scalar.extui v300
  let c0_i32_96 : BitVec 32 := 0#32
  let v302 : BitVec 1 := Scalar.cmpi .ne v301 c0_i32_96
  v302

def k0_cond6 (i : grid0.Coords) : BitVec 1 :=
  let arg0 : BitVec 32 := BitVec.ofNat 32 (i 0).val
  let c0_i32_109 : BitVec 32 := 0#32
  let v329 : BitVec 1 := Scalar.cmpi .eq arg0 c0_i32_109
  let v330 : BitVec 32 := Scalar.extui v329
  let c0_i32_110 : BitVec 32 := 0#32
  let v331 : BitVec 1 := Scalar.cmpi .ne v330 c0_i32_110
  v331

def k0_cond7 (i : grid0.Coords) : BitVec 1 :=
  let arg0 : BitVec 32 := BitVec.ofNat 32 (i 0).val
  let c0_i32_111 : BitVec 32 := 0#32
  let v332 : BitVec 1 := Scalar.cmpi .sgt arg0 c0_i32_111
  let v333 : BitVec 32 := Scalar.extui v332
  let c0_i32_112 : BitVec 32 := 0#32
  let v334 : BitVec 1 := Scalar.cmpi .ne v333 c0_i32_112
  v334

def cc0_transform_0 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S256x512 : Shape := ⟨2, ![256, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S128 : Shape := ⟨1, ![128]⟩
abbrev S4096x9728 : Shape := ⟨2, ![4096, 9728]⟩
abbrev S4096x3072 : Shape := ⟨2, ![4096, 3072]⟩

abbrev nBuf : Space → Nat
  | .hbm => 182
  | .vmem => 0
  | .smem => 0
  | _ => 0

abbrev hbmTy0_0 (i : Nat) : BufTy := match i % 128 with
  | 0 => ⟨S4096x13312, .f32⟩
  | 1 => ⟨S256x1024, .f32⟩
  | 2 => ⟨S1x128, .f32⟩
  | 3 => ⟨S1x128, .f32⟩
  | 4 => ⟨S4096x512, .f32⟩
  | 5 => ⟨S4096x13312, .bf16⟩
  | 6 => ⟨S256x512, .f32⟩
  | 7 => ⟨S256x512, .f32⟩
  | 8 => ⟨S4096x512, .f32⟩
  | 9 => ⟨S4096x4x128, .f32⟩
  | 10 => ⟨S4096x4x128, .f32⟩
  | 11 => ⟨S_, .f32⟩
  | 12 => ⟨S4096x4, .f32⟩
  | 13 => ⟨S4096x4x1, .f32⟩
  | 14 => ⟨S_, .f32⟩
  | 15 => ⟨S4096x4x1, .f32⟩
  | 16 => ⟨S4096x4x1, .f32⟩
  | 17 => ⟨S_, .f32⟩
  | 18 => ⟨S4096x4x1, .f32⟩
  | 19 => ⟨S4096x4x1, .f32⟩
  | 20 => ⟨S4096x4x1, .f32⟩
  | 21 => ⟨S4096x4x1, .f32⟩
  | 22 => ⟨S_, .f32⟩
  | 23 => ⟨S4096x4x1, .f32⟩
  | 24 => ⟨S4096x4x1, .f32⟩
  | 25 => ⟨S4096x4x128, .f32⟩
  | 26 => ⟨S4096x4x128, .f32⟩
  | 27 => ⟨S1x1x128, .f32⟩
  | 28 => ⟨S4096x4x128, .f32⟩
  | 29 => ⟨S4096x4x128, .f32⟩
  | 30 => ⟨S256x4x128, .f32⟩
  | 31 => ⟨S256x4x128, .f32⟩
  | 32 => ⟨S_, .f32⟩
  | 33 => ⟨S256x4, .f32⟩
  | 34 => ⟨S256x4x1, .f32⟩
  | 35 => ⟨S_, .f32⟩
  | 36 => ⟨S256x4x1, .f32⟩
  | 37 => ⟨S256x4x1, .f32⟩
  | 38 => ⟨S_, .f32⟩
  | 39 => ⟨S256x4x1, .f32⟩
  | 40 => ⟨S256x4x1, .f32⟩
  | 41 => ⟨S256x4x1, .f32⟩
  | 42 => ⟨S256x4x1, .f32⟩
  | 43 => ⟨S_, .f32⟩
  | 44 => ⟨S256x4x1, .f32⟩
  | 45 => ⟨S256x4x1, .f32⟩
  | 46 => ⟨S256x4x128, .f32⟩
  | 47 => ⟨S256x4x128, .f32⟩
  | 48 => ⟨S1x1x128, .f32⟩
  | 49 => ⟨S256x4x128, .f32⟩
  | 50 => ⟨S256x4x128, .f32⟩
  | 51 => ⟨S256x4x128, .f32⟩
  | 52 => ⟨S4x4096x256, .f32⟩
  | 53 => ⟨S_, .f32⟩
  | 54 => ⟨S4x4096x256, .f32⟩
  | 55 => ⟨S4x4096x256, .f32⟩
  | 56 => ⟨S_, .f32⟩
  | 57 => ⟨S4x4096, .f32⟩
  | 58 => ⟨S4x4096x1, .f32⟩
  | 59 => ⟨S4x4096x256, .f32⟩
  | 60 => ⟨S4x4096x256, .i1⟩
  | 61 => ⟨S4x4096x256, .f32⟩
  | 62 => ⟨S_, .f32⟩
  | 63 => ⟨S4x4096, .f32⟩
  | 64 => ⟨S_, .f32⟩
  | 65 => ⟨S4x4096, .f32⟩
  | 66 => ⟨S4x4096, .f32⟩
  | 67 => ⟨S_, .f32⟩
  | 68 => ⟨S4x4096, .f32⟩
  | 69 => ⟨S4x4096, .i1⟩
  | 70 => ⟨S_, .f32⟩
  | 71 => ⟨S4x4096, .f32⟩
  | 72 => ⟨S4x4096, .i1⟩
  | 73 => ⟨S_, .f32⟩
  | 74 => ⟨S4x4096, .f32⟩
  | 75 => ⟨S_, .f32⟩
  | 76 => ⟨S4x4096, .f32⟩
  | 77 => ⟨S_, .f32⟩
  | 78 => ⟨S4x4096, .f32⟩
  | 79 => ⟨S4x4096, .f32⟩
  | 80 => ⟨S4x4096, .f32⟩
  | 81 => ⟨S4x4096x1, .f32⟩
  | 82 => ⟨S4x4096x256, .f32⟩
  | 83 => ⟨S4x4096x256, .f32⟩
  | 84 => ⟨S4x4096x256, .f32⟩
  | 85 => ⟨S_, .f32⟩
  | 86 => ⟨S4x4096, .f32⟩
  | 87 => ⟨S4x4096x1, .f32⟩
  | 88 => ⟨S4x4096x256, .f32⟩
  | 89 => ⟨S4x4096x256, .f32⟩
  | 90 => ⟨S4x4096x1, .f32⟩
  | 91 => ⟨S_, .f32⟩
  | 92 => ⟨S4x4096x1, .f32⟩
  | 93 => ⟨S4x4096x1, .f32⟩
  | 94 => ⟨S4x128x4096, .f32⟩
  | 95 => ⟨S4096x4x128, .f32⟩
  | 96 => ⟨S4096x512, .f32⟩
  | 97 => ⟨S4096x4x128, .f32⟩
  | 98 => ⟨S4x128x4096, .f32⟩
  | 99 => ⟨S4x4096x256, .f32⟩
  | 100 => ⟨S4x128x256, .f32⟩
  | 101 => ⟨S256x4x128, .f32⟩
  | 102 => ⟨S4x4096x256, .f32⟩
  | 103 => ⟨S4x4096x256, .f32⟩
  | 104 => ⟨S4x4096x256, .f32⟩
  | 105 => ⟨S_, .f32⟩
  | 106 => ⟨S4x4096, .f32⟩
  | 107 => ⟨S4x4096x1, .f32⟩
  | 108 => ⟨S4x4096x1, .f32⟩
  | 109 => ⟨S4x4096x256, .f32⟩
  | 110 => ⟨S4x4096x256, .f32⟩
  | 111 => ⟨S_, .f32⟩
  | 112 => ⟨S4x4096, .f32⟩
  | 113 => ⟨S4x4096x256, .f32⟩
  | 114 => ⟨S4x4096x256, .f32⟩
  | 115 => ⟨S4x4096x256, .f32⟩
  | 116 => ⟨S_, .f32⟩
  | 117 => ⟨S4x4096x256, .f32⟩
  | 118 => ⟨S4x4096x256, .f32⟩
  | 119 => ⟨S4x256x128, .f32⟩
  | 120 => ⟨S256x4x128, .f32⟩
  | 121 => ⟨S4x4096x128, .f32⟩
  | 122 => ⟨S4096x4x128, .f32⟩
  | 123 => ⟨S256x512, .f32⟩
  | 124 => ⟨S256x4x128, .f32⟩
  | 125 => ⟨S_, .f32⟩
  | 126 => ⟨S128, .f32⟩
  | 127 => ⟨S1x1x128, .f32⟩
  | _ => ⟨S4096x13312, .f32⟩

abbrev hbmTy0_1 (i : Nat) : BufTy := match i % 128 with
  | 0 => ⟨S256x4x128, .f32⟩
  | 1 => ⟨S256x4x128, .f32⟩
  | 2 => ⟨S_, .f32⟩
  | 3 => ⟨S128, .f32⟩
  | 4 => ⟨S1x128, .f32⟩
  | 5 => ⟨S256x4x128, .f32⟩
  | 6 => ⟨S_, .f32⟩
  | 7 => ⟨S256x4, .f32⟩
  | 8 => ⟨S256x4x1, .f32⟩
  | 9 => ⟨S256x4x128, .f32⟩
  | 10 => ⟨S256x4x128, .f32⟩
  | 11 => ⟨S256x4x1, .f32⟩
  | 12 => ⟨S_, .f32⟩
  | 13 => ⟨S256x4x1, .f32⟩
  | 14 => ⟨S256x4x1, .f32⟩
  | 15 => ⟨S_, .f32⟩
  | 16 => ⟨S256x4, .f32⟩
  | 17 => ⟨S256x4x128, .f32⟩
  | 18 => ⟨S256x4x128, .f32⟩
  | 19 => ⟨S256x4x128, .f32⟩
  | 20 => ⟨S256x4x128, .f32⟩
  | 21 => ⟨S256x4x128, .f32⟩
  | 22 => ⟨S256x512, .f32⟩
  | 23 => ⟨S4096x4x128, .f32⟩
  | 24 => ⟨S_, .f32⟩
  | 25 => ⟨S128, .f32⟩
  | 26 => ⟨S1x1x128, .f32⟩
  | 27 => ⟨S4096x4x128, .f32⟩
  | 28 => ⟨S4096x4x128, .f32⟩
  | 29 => ⟨S_, .f32⟩
  | 30 => ⟨S128, .f32⟩
  | 31 => ⟨S1x128, .f32⟩
  | 32 => ⟨S4096x4x128, .f32⟩
  | 33 => ⟨S_, .f32⟩
  | 34 => ⟨S4096x4, .f32⟩
  | 35 => ⟨S4096x4x1, .f32⟩
  | 36 => ⟨S4096x4x128, .f32⟩
  | 37 => ⟨S4096x4x128, .f32⟩
  | 38 => ⟨S4096x4x1, .f32⟩
  | 39 => ⟨S_, .f32⟩
  | 40 => ⟨S4096x4x1, .f32⟩
  | 41 => ⟨S4096x4x1, .f32⟩
  | 42 => ⟨S_, .f32⟩
  | 43 => ⟨S4096x4, .f32⟩
  | 44 => ⟨S4096x4x128, .f32⟩
  | 45 => ⟨S4096x4x128, .f32⟩
  | 46 => ⟨S4096x4x128, .f32⟩
  | 47 => ⟨S4096x4x128, .f32⟩
  | 48 => ⟨S4096x4x128, .f32⟩
  | 49 => ⟨S4096x512, .f32⟩
  | 50 => ⟨S4096x9728, .bf16⟩
  | 51 => ⟨S4096x512, .bf16⟩
  | 52 => ⟨S4096x3072, .bf16⟩
  | 53 => ⟨S4096x13312, .bf16⟩
  | _ => ⟨S4096x13312, .f32⟩

abbrev hbmTy (i : Nat) : BufTy := match i / 128 with
  | 0 => hbmTy0_0 i
  | 1 => hbmTy0_1 i
  | _ => ⟨S4096x13312, .f32⟩

abbrev bufTy : (tb : Table) → Fin (tcTables nBuf tb) → BufTy
  | .hbm, ⟨i, _⟩ => hbmTy i
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_21 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_24 : Ref sig .tc := ⟨.hbm, 140, rfl⟩
abbrev main_v109 : Ref sig .tc := ⟨.hbm, 141, rfl⟩
abbrev main_v110 : Ref sig .tc := ⟨.hbm, 142, rfl⟩
abbrev main_cst_25 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_26 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_28 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_29 : Ref sig .tc := ⟨.hbm, 167, rfl⟩
abbrev main_v131 : Ref sig .tc := ⟨.hbm, 168, rfl⟩
abbrev main_v132 : Ref sig .tc := ⟨.hbm, 169, rfl⟩
abbrev main_cst_30 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩

abbrev nD : Nat := 1
abbrev τ : Topo := Topo.v7x

variable {F : FTy → Type} [FloatOps F]
-- ==== Kernel4.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_7 : BitVec 32 := 1#32
  let v12 : BitVec 1 := Scalar.cmpi .eq arg1 c1_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_27 : BitVec 32 := 0#32
  let v49 : BitVec 1 := Scalar.cmpi .eq arg0 c0_i32_27
  let v50 : BitVec 32 := Scalar.extui v49
  let c0_i32_28 : BitVec 32 := 0#32
  let v51 : BitVec 1 := Scalar.cmpi .ne v50 c0_i32_28
  v51

def k0_cond5 (i : grid0.Coords) : BitVec 1 :=
  let arg0 : BitVec 32 := BitVec.ofNat 32 (i 0).val
  let c0_i32_29 : BitVec 32 := 0#32
  let v52 : BitVec 1 := Scalar.cmpi .sgt arg0 c0_i32_29
  let v53 : BitVec 32 := Scalar.extui v52
  let c0_i32_30 : BitVec 32 := 0#32
  let v54 : BitVec 1 := Scalar.cmpi .ne v53 c0_i32_30
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x5632, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S1x4096x2816, .bf16⟩
  | .hbm, ⟨10, _⟩ => ⟨S4096x2816, .bf16⟩
  | .hbm, ⟨11, _⟩ => ⟨S4096x2816, .f32⟩
  | .hbm, ⟨12, _⟩ => ⟨S4096x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S2816x1024 : Shape := ⟨2, ![2816, 1024]⟩
abbrev S1x128 : Shape := ⟨2, ![1, 128]⟩
abbrev S512x1024 : Shape := ⟨2, ![512, 1024]⟩
abbrev S512x2816 : Shape := ⟨2, ![512, 2816]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel7.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S1024x8x1664 : Shape := ⟨3, ![1024, 8, 1664]⟩
abbrev S8x1024x1664 : Shape := ⟨3, ![8, 1024, 1664]⟩
abbrev S1024x1664 : Shape := ⟨2, ![1024, 1664]⟩
abbrev S1x1024x1664 : Shape := ⟨3, ![1, 1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x8x1664, .bf16⟩
  | .hbm, ⟨7, _⟩ => ⟨S8x1024x1664, .bf16⟩
  | .hbm, ⟨8, _⟩ => ⟨S4096x1024, .f32⟩
  | .hbm, ⟨9, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![3, 8], ![false, false]⟩

def k0_cond3 (i : grid0.Coords) : BitVec 1 :=
  let arg1 : BitVec 32 := BitVec.ofNat 32 (i 1).val
  let c7_i32_7 : BitVec 32 := 7#32
  let v12 : BitVec 1 := Scalar.cmpi .eq arg1 c7_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond5 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference7Ideal.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S3072x13312 : Shape := ⟨2, ![3072, 13312]⟩
abbrev S3072x1024 : Shape := ⟨2, ![3072, 1024]⟩
abbrev S_ : Shape := ⟨0, ![]⟩
abbrev S3072 : Shape := ⟨1, ![3072]⟩
abbrev S3072x1 : Shape := ⟨2, ![3072, 1]⟩
abbrev S1024 : Shape := ⟨1, ![1024]⟩
abbrev S1024x1024 : Shape := ⟨2, ![1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S3072x13312, .bf16⟩
  | .hbm, ⟨7, _⟩ => ⟨S3072x1024, .f32⟩
  | .hbm, ⟨8, _⟩ => ⟨S3072x1024, .f32⟩
  | .hbm, ⟨9, _⟩ => ⟨S1024x13312, .f32⟩
  | .hbm, ⟨10, _⟩ => ⟨S3072x1024, .f32⟩
  | .hbm, ⟨11, _⟩ => ⟨S_, .f32⟩
  | .hbm, ⟨12, _⟩ => ⟨S3072, .f32⟩
  | .hbm, ⟨13, _⟩ => ⟨S3072x1, .f32⟩
  | .hbm, ⟨14, _⟩ => ⟨S_, .f32⟩
  | .hbm, ⟨15, _⟩ => ⟨S3072x1, .f32⟩
  | .hbm, ⟨16, _⟩ => ⟨S3072x1, .f32⟩
  | .hbm, ⟨17, _⟩ => ⟨S_, .f32⟩
  | .hbm, ⟨18, _⟩ => ⟨S3072x1, .f32⟩
  | .hbm, ⟨19, _⟩ => ⟨S3072x1, .f32⟩
  | .hbm, ⟨20, _⟩ => ⟨S3072x1, .f32⟩
  | .hbm, ⟨21, _⟩ => ⟨S3072x1, .f32⟩
  | .hbm, ⟨22, _⟩ => ⟨S_, .f32⟩
  | .hbm, ⟨23, _⟩ => ⟨S3072x1, .f32⟩
  | .hbm, ⟨24, _⟩ => ⟨S3072x1, .f32⟩
  | .hbm, ⟨25, _⟩ => ⟨S3072x1024, .f32⟩
  | .hbm, ⟨26, _⟩ => ⟨S3072x1024, .f32⟩
  | .hbm, ⟨27, _⟩ => ⟨S3072x1024, .f32⟩
  | .hbm, ⟨28, _⟩ => ⟨S3072x1024, .f32⟩
  | .hbm, ⟨29, _⟩ => ⟨S3072x13312, .f32⟩
  | .hbm, ⟨30, _⟩ => ⟨S3072x13312, .f32⟩
  | .hbm, ⟨31, _⟩ => ⟨S3072x1024, .f32⟩
  | .hbm, ⟨32, _⟩ => ⟨S3072x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S3072x1024, .f32⟩
  | .hbm, ⟨37, _⟩ => ⟨S3072x1024, .f32⟩
  | .hbm, ⟨38, _⟩ => ⟨S3072x1024, .f32⟩
  | .hbm, ⟨39, _⟩ => ⟨S_, .f32⟩
  | .hbm, ⟨40, _⟩ => ⟨S3072, .f32⟩
  | .hbm, ⟨41, _⟩ => ⟨S3072x1, .f32⟩
  | .hbm, ⟨42, _⟩ => ⟨S3072x1024, .f32⟩
  | .hbm, ⟨43, _⟩ => ⟨S3072x1024, .f32⟩
  | .hbm, ⟨44, _⟩ => ⟨S3072x1, .f32⟩
  | .hbm, ⟨45, _⟩ => ⟨S_, .f32⟩
  | .hbm, ⟨46, _⟩ => ⟨S3072x1, .f32⟩
  | .hbm, ⟨47, _⟩ => ⟨S3072x1, .f32⟩
  | .hbm, ⟨48, _⟩ => ⟨S_, .f32⟩
  | .hbm, ⟨49, _⟩ => ⟨S3072, .f32⟩
  | .hbm, ⟨50, _⟩ => ⟨S3072x1024, .f32⟩
  | .hbm, ⟨51, _⟩ => ⟨S3072x1024, .f32⟩
  | .hbm, ⟨52, _⟩ => ⟨S3072x1024, .f32⟩
  | .hbm, ⟨53, _⟩ => ⟨S3072x1024, .f32⟩
  | .hbm, ⟨54, _⟩ => ⟨S3072x1024, .f32⟩
  | .hbm, ⟨55, _⟩ => ⟨S3072x1024, .f32⟩
  | .hbm, ⟨56, _⟩ => ⟨S1024x1024, .f32⟩
  | .hbm, ⟨57, _⟩ => ⟨S4096x1024, .f32⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel6.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S1024x8x1664 : Shape := ⟨3, ![1024, 8, 1664]⟩
abbrev S8x1024x1664 : Shape := ⟨3, ![8, 1024, 1664]⟩
abbrev S1024x1664 : Shape := ⟨2, ![1024, 1664]⟩
abbrev S1x1024x1664 : Shape := ⟨3, ![1, 1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x8x1664, .bf16⟩
  | .hbm, ⟨6, _⟩ => ⟨S8x1024x1664, .bf16⟩
  | .hbm, ⟨7, _⟩ => ⟨S4096x1024, .f32⟩
  | .hbm, ⟨8, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32_7 : BitVec 32 := 7#32
  let v12 : BitVec 1 := Scalar.cmpi .eq arg1 c7_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond5 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S4096x13312 : Shape := ⟨2, ![4096, 13312]⟩
abbrev S1024x13312 : Shape := ⟨2, ![1024, 13312]⟩
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x13312, .bf16⟩
  | .hbm, ⟨6, _⟩ => ⟨S1024x1024, .f32⟩
  | .hbm, ⟨7, _⟩ => ⟨S1024x1024, .f32⟩
  | .hbm, ⟨8, _⟩ => ⟨S1024x13312, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x13312, .f32⟩
  | .hbm, ⟨29, _⟩ => ⟨S1024x13312, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1024, .f32⟩
  | .hbm, ⟨42, _⟩ => ⟨S1024x1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S1024x1024, .f32⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel13.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x13312 : Shape := ⟨2, ![4096, 13312]⟩
abbrev S256x1024 : Shape := ⟨2, ![256, 1024]⟩
abbrev S1x128 : Shape := ⟨2, ![1, 128]⟩
abbrev S256x512 : Shape := ⟨2, ![256, 512]⟩
abbrev S4096x512 : Shape := ⟨2, ![4096, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S4096x512, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x128, .f32⟩
  | .hbm, ⟨20, _⟩ => ⟨S4096x4x128, .f32⟩
  | .hbm, ⟨21, _⟩ => ⟨S1x1x128, .f32⟩
  | .hbm, ⟨22, _⟩ => ⟨S4096x4x128, .f32⟩
  | .hbm, ⟨23, _⟩ => ⟨S4096x4x128, .f32⟩
  | .hbm, ⟨24, _⟩ => ⟨S256x4x128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x128, .f32⟩
  | .hbm, ⟨37, _⟩ => ⟨S256x4x128, .f32⟩
  | .hbm, ⟨38, _⟩ => ⟨S1x1x128, .f32⟩
  | .hbm, ⟨39, _⟩ => ⟨S256x4x128, .f32⟩
  | .hbm, ⟨40, _⟩ => ⟨S256x4x128, .f32⟩
  | .hbm, ⟨41, _⟩ => ⟨S256x4x128, .f32⟩
  | .hbm, ⟨42, _⟩ => ⟨S4x4096x256, .f32⟩
  | .hbm, ⟨43, _⟩ => ⟨S_, .f32⟩
  | .hbm, ⟨44, _⟩ => ⟨S4x4096x256, .f32⟩
  | .hbm, ⟨45, _⟩ => ⟨S4x4096x256, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096x1, .f32⟩
  | .hbm, ⟨52, _⟩ => ⟨S4x4096x256, .f32⟩
  | .hbm, ⟨53, _⟩ => ⟨S4x4096x256, .f32⟩
  | .hbm, ⟨54, _⟩ => ⟨S4x4096x256, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S4x4096x256, .f32⟩
  | .hbm, ⟨59, _⟩ => ⟨S4x4096x256, .f32⟩
  | .hbm, ⟨60, _⟩ => ⟨S4x128x4096, .f32⟩
  | .hbm, ⟨61, _⟩ => ⟨S4096x4x128, .f32⟩
  | .hbm, ⟨62, _⟩ => ⟨S4096x512, .f32⟩
  | .hbm, ⟨63, _⟩ => ⟨S4096x512, .bf16⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel16.lean ====
abbrev S4096x1024 : Shape := ⟨2, ![4096, 1024]⟩
abbrev S1024x5632 : Shape := ⟨2, ![1024, 5632]⟩
abbrev S4096x2816 : Shape := ⟨2, ![4096, 2816]⟩
abbrev S2816x4096 : Shape := ⟨2, ![2816, 4096]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S2816x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S2816x4096 : Shape := ⟨2, ![2816, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x2816, .bf16⟩
  | .hbm, ⟨19, _⟩ => ⟨S4096x2816, .bf16⟩
  | .hbm, ⟨20, _⟩ => ⟨S2816x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference18Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel20.lean ====
abbrev S4096x13312 : Shape := ⟨2, ![4096, 13312]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 11
  | .vmem => 23
  | .smem => 0
  | _ => 0

abbrev bufTy : (tb : Table) → Fin (tcTables nBuf tb) → BufTy
  | .hbm, ⟨0, _⟩ => ⟨S4096x13312, .f32⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference20Ideal.lean ====
abbrev S4096x13312 : Shape := ⟨2, ![4096, 13312]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x512, .f32⟩
  | .hbm, ⟨11, _⟩ => ⟨S512x1024, .f32⟩
  | .hbm, ⟨12, _⟩ => ⟨S4096x1024, .f32⟩
  | .hbm, ⟨13, _⟩ => ⟨S4096x512, .f32⟩
  | .hbm, ⟨14, _⟩ => ⟨S512x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel21.lean ====
abbrev S2x1024 : Shape := ⟨2, ![2, 1024]⟩
abbrev S1x1024 : Shape := ⟨2, ![1, 1024]⟩
abbrev S1024 : Shape := ⟨1, ![1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .local _ .vmem, ⟨0, _⟩ => ⟨S2x1024, .f32⟩
  | .local _ .vmem, ⟨1, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference21Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S4096x13312 : Shape := ⟨2, ![4096, 13312]⟩
abbrev S2x1024 : Shape := ⟨2, ![2, 1024]⟩
abbrev S2x8x1x128 : Shape := ⟨4, ![2, 8, 1, 128]⟩
abbrev S2x4x1x256 : Shape := ⟨4, ![2, 4, 1, 256]⟩
abbrev S2x4096x1024 : Shape := ⟨3, ![2, 4096, 1024]⟩
abbrev S4096x256 : Shape := ⟨2, ![4096, 256]⟩
abbrev S1x1x1x256 : Shape := ⟨4, ![1, 1, 1, 256]⟩
abbrev S1x4096x256 : Shape := ⟨3, ![1, 4096, 256]⟩
abbrev S256x256 : Shape := ⟨2, ![256, 256]⟩
abbrev S1x256 : Shape := ⟨2, ![1, 256]⟩
abbrev S1x256x256 : Shape := ⟨3, ![1, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x13312, .f32⟩
  | .hbm, ⟨1, _⟩ => ⟨S2x1024, .f32⟩
  | .hbm, ⟨2, _⟩ => ⟨S2x8x1x128, .f32⟩
  | .hbm, ⟨3, _⟩ => ⟨S2x4x1x256, .f32⟩
  | .hbm, ⟨4, _⟩ => ⟨S2x4096x1024, .f32⟩
  | .local _ .vmem, ⟨0, _⟩ => ⟨S4096x256, .f32⟩
  | .local _ .vmem, ⟨1, _⟩ => ⟨S4096x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x4096x256, .f32⟩
  | .local _ .vmem, ⟨5, _⟩ => ⟨S1x4096x256, .f32⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_17 : BitVec 32 := 0#32
  let c2_i32 : BitVec 32 := 2#32
  let v64 : BitVec 32 := Scalar.addi c0_i32_17 c2_i32
  let c1_i32_18 : BitVec 32 := 1#32
  ⟨c0_i32_17, v64, c1_i32_18⟩
def k0_mult1 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c0_i32_20 : BitVec 32 := 0#32
  let v65 : BitVec 32 := Scalar.addi arg5 c0_i32_20
  let c256_i32 : BitVec 32 := 256#32
  let v66 : BitVec 32 := Scalar.muli v65 c256_i32
  v66
def k0_mult2 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c2_i32_21 : BitVec 32 := 2#32
  let v68 : BitVec 32 := Scalar.addi arg5 c2_i32_21
  let c256_i32_22 : BitVec 32 := 256#32
  let v69 : BitVec 32 := Scalar.muli v68 c256_i32_22
  v69
def k0_mult3 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c4_i32 : BitVec 32 := 4#32
  let v71 : BitVec 32 := Scalar.addi arg5 c4_i32
  let c256_i32_23 : BitVec 32 := 256#32
  let v72 : BitVec 32 := Scalar.muli v71 c256_i32_23
  v72
def k0_mult4 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c6_i32 : BitVec 32 := 6#32
  let v74 : BitVec 32 := Scalar.addi arg5 c6_i32
  let c256_i32_24 : BitVec 32 := 256#32
  let v75 : BitVec 32 := Scalar.muli v74 c256_i32_24
  v75
def k0_mult5 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c8_i32 : BitVec 32 := 8#32
  let v77 : BitVec 32 := Scalar.addi arg5 c8_i32
  let c256_i32_25 : BitVec 32 := 256#32
  let v78 : BitVec 32 := Scalar.muli v77 c256_i32_25
  v78
def k0_mult6 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c10_i32 : BitVec 32 := 10#32
  let v80 : BitVec 32 := Scalar.addi arg5 c10_i32
  let c256_i32_26 : BitVec 32 := 256#32
  let v81 : BitVec 32 := Scalar.muli v80 c256_i32_26
  v81
def k0_mult7 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c12_i32 : BitVec 32 := 12#32
  let v83 : BitVec 32 := Scalar.addi arg5 c12_i32
  let c256_i32_27 : BitVec 32 := 256#32
  let v84 : BitVec 32 := Scalar.muli v83 c256_i32_27
  v84
def k0_mult8 (k0_t1 : Fin k0_t1_loop.trips) : BitVec 32 :=
  let c0_i32_17 : BitVec 32 := 0#32
  let c1_i32_18 : BitVec 32 := 1#32
  let arg5 : BitVec 32 := Scf.iv c0_i32_17 c1_i32_18 k0_t1
  let c14_i32 : BitVec 32 := 14#32
  let v86 : BitVec 32 := Scalar.addi arg5 c14_i32
  let c256_i32_28 : BitVec 32 := 256#32
  let v87 : BitVec 32 := Scalar.muli v86 c256_i32_28
  v87
def k0_off1 (k0_t1 : Fin k0_t1_loop.trips) (c0_i32_20 : BitVec 32) : Fin 2 → Nat :=
  let c0_i32_17 : BitVec 32 := 0#32
  let c1_i32_18 : BitVec 32 := 1#32
  let arg5 : BitVec 32 := Scf.iv c0_i32_17 c1_i32_18 k0_t1
  let v65 : BitVec 32 := Scalar.addi arg5 c0_i32_20
  let c256_i32 : BitVec 32 := 256#32
  let v66 : BitVec 32 := Scalar.muli v65 c256_i32
  let v67 : BitVec 32 := v66
  let v89 : Index := Scalar.indexCast v67
  let c0_29 : Index := 0#32
  ![v89.toNat, 0]
def k0_off2 (k0_t1 : Fin k0_t1_loop.trips) (c0_i32_20 : BitVec 32) : Fin 3 → Nat :=
  let c0_93 : Index := 0#32
  let c0_i32_17 : BitVec 32 := 0#32
  let c1_i32_18 : BitVec 32 := 1#32
  let arg5 : BitVec 32 := Scf.iv c0_i32_17 c1_i32_18 k0_t1
  let v65 : BitVec 32 := Scalar.addi arg5 c0_i32_20
  let c256_i32 : BitVec 32 := 256#32
  let v66 : BitVec 32 := Scalar.muli v65 c256_i32
  let v67 : BitVec 32 := v66
  let v313 : Index := Scalar.indexCast v67
  let c0_94 : Index := 0#32
  ![0, v313.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c4_i32_0 : BitVec 32 := 4#32
  let v1 : BitVec 32 := Scalar.addi c4_i32_0 v0
  let v2 : BitVec 32 := Scalar.addi v1 arg1
  let c0_i32 : BitVec 32 := 0#32
  let c0_i32_1 : BitVec 32 := 0#32
  ![c0_i32.toNat, v2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x13312 : Shape := ⟨2, ![4096, 13312]⟩
abbrev S2x1024 : Shape := ⟨2, ![2, 1024]⟩
abbrev S_ : Shape := ⟨0, ![]⟩
abbrev S64x64 : Shape := ⟨2, ![64, 64]⟩
abbrev S4096x1024 : Shape := ⟨2, ![4096, 1024]⟩
abbrev S1x1024 : Shape := ⟨2, ![1, 1024]⟩
abbrev S64x64x1024 : Shape := ⟨3, ![64, 64, 1024]⟩
abbrev S1x64x64x1 : Shape := ⟨4, ![1, 64, 64, 1]⟩
abbrev S64x1x64x1024 : Shape := ⟨4, ![64, 1, 64, 1024]⟩
abbrev S64x64x64x1024 : Shape := ⟨4, ![64, 64, 64, 1024]⟩
abbrev S1x4096x1024 : Shape := ⟨3, ![1, 4096, 1024]⟩
abbrev S2x4096x1024 : Shape := ⟨3, ![2, 4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S2x1024, .f32⟩
  | .hbm, ⟨2, _⟩ => ⟨S_, .i1⟩
  | .hbm, ⟨3, _⟩ => ⟨S64x64, .i1⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S_, .i1⟩
  | .hbm, ⟨11, _⟩ => ⟨S64x64, .i1⟩
  | .hbm, ⟨12, _⟩ => ⟨S64x64, .i1⟩
  | .hbm, ⟨13, _⟩ => ⟨S4096x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S64x64x1024, .f32⟩
  | .hbm, ⟨32, _⟩ => ⟨S1x64x64x1, .i1⟩
  | .hbm, ⟨33, _⟩ => ⟨S64x1x64x1024, .f32⟩
  | .hbm, ⟨34, _⟩ => ⟨S_, .f32⟩
  | .hbm, ⟨35, _⟩ => ⟨S_, .f32⟩
  | .hbm, ⟨36, _⟩ => ⟨S64x64x64x1024, .i1⟩
  | .hbm, ⟨37, _⟩ => ⟨S64x64x64x1024, .f32⟩
  | .hbm, ⟨38, _⟩ => ⟨S64x64x64x1024, .f32⟩
  | .hbm, ⟨39, _⟩ => ⟨S64x64x64x1024, .f32⟩
  | .hbm, ⟨40, _⟩ => ⟨S_, .f32⟩
  | .hbm, ⟨41, _⟩ => ⟨S64x64x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S64x64x1024, .f32⟩
  | .hbm, ⟨63, _⟩ => ⟨S1x64x64x1, .i1⟩
  | .hbm, ⟨64, _⟩ => ⟨S64x1x64x1024, .f32⟩
  | .hbm, ⟨65, _⟩ => ⟨S_, .f32⟩
  | .hbm, ⟨66, _⟩ => ⟨S_, .f32⟩
  | .hbm, ⟨67, _⟩ => ⟨S64x64x64x1024, .i1⟩
  | .hbm, ⟨68, _⟩ => ⟨S64x64x64x1024, .f32⟩
  | .hbm, ⟨69, _⟩ => ⟨S64x64x64x1024, .f32⟩
  | .hbm, ⟨70, _⟩ => ⟨S64x64x64x1024, .f32⟩
  | .hbm, ⟨71, _⟩ => ⟨S_, .f32⟩
  | .hbm, ⟨72, _⟩ => ⟨S64x64x1024, .f32⟩
  | .hbm, ⟨73, _⟩ => ⟨S4096x1024, .f32⟩
  | .hbm, ⟨74, _⟩ => ⟨S4096x1024, .f32⟩
  | .hbm, ⟨75, _⟩ => ⟨S1x4096x1024, .f32⟩
  | .hbm, ⟨76, _⟩ => ⟨S1x4096x1024, .f32⟩
  | .hbm, ⟨77, _⟩ => ⟨S2x4096x1024, .f32⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_0 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Kernel15.lean ====
abbrev S4096x13312 : Shape := ⟨2, ![4096, 13312]⟩
abbrev S2x1024 : Shape := ⟨2, ![2, 1024]⟩
abbrev S1x128 : Shape := ⟨2, ![1, 128]⟩
abbrev S_ : Shape := ⟨0, ![]⟩
abbrev S64x64 : Shape := ⟨2, ![64, 64]⟩
abbrev S4096x1024 : Shape := ⟨2, ![4096, 1024]⟩
abbrev S1x1024 : Shape := ⟨2, ![1, 1024]⟩
abbrev S64x64x1024 : Shape := ⟨3, ![64, 64, 1024]⟩
abbrev S1x64x64x1 : Shape := ⟨4, ![1, 64, 64, 1]⟩
abbrev S64x1x64x1024 : Shape := ⟨4, ![64, 1, 64, 1024]⟩
abbrev S64x64x64x1024 : Shape := ⟨4, ![64, 64, 64, 1024]⟩
abbrev S1x4096x1024 : Shape := ⟨3, ![1, 4096, 1024]⟩
abbrev S2x4096x1024 : Shape := ⟨3, ![2, 4096, 1024]⟩
abbrev S2x8x1x128 : Shape := ⟨4, ![2, 8, 1, 128]⟩
abbrev S8x2x64x128x128 : Shape := ⟨5, ![8, 2, 64, 128, 128]⟩
abbrev S8x2x64x8x128 : Shape := ⟨5, ![8, 2, 64, 8, 128]⟩
abbrev S4096x128 : Shape := ⟨2, ![4096, 128]⟩
abbrev S1x1x1x128 : Shape := ⟨4, ![1, 1, 1, 128]⟩
abbrev S1x4096x128 : Shape := ⟨3, ![1, 4096, 128]⟩
abbrev S1x1x64x128x128 : Shape := ⟨5, ![1, 1, 64, 128, 128]⟩
abbrev S1x1x64x8x128 : Shape := ⟨5, ![1, 1, 64, 8, 128]⟩
abbrev S64x128x128 : Shape := ⟨3, ![64, 128, 128]⟩
abbrev S256x256 : Shape := ⟨2, ![256, 256]⟩
abbrev S256x128 : Shape := ⟨2, ![256, 128]⟩
abbrev S1x256x128 : Shape := ⟨3, ![1, 256, 128]⟩
abbrev S64x128 : Shape := ⟨2, ![64, 128]⟩
abbrev S128x128 : Shape := ⟨2, ![128, 128]⟩
abbrev S8x128 : Shape := ⟨2, ![8, 128]⟩
abbrev S1x128x128 : Shape := ⟨3, ![1, 128, 128]⟩
abbrev S1x1x1x8x128 : Shape := ⟨5, ![1, 1, 1, 8, 128]⟩
abbrev S1x1x1x128x128 : Shape := ⟨5, ![1, 1, 1, 128, 128]⟩
abbrev S1x64x128 : Shape := ⟨3, ![1, 64, 128]⟩
abbrev S4096 : Shape := ⟨1, ![4096]⟩
abbrev S4096x1 : Shape := ⟨2, ![4096, 1]⟩

abbrev nBuf : Space → Nat
  | .hbm => 84
  | .vmem => 24
  | .smem => 0
  | _ => 0

abbrev bufTy : (tb : Table) → Fin (tcTables nBuf tb) → BufTy
  | .hbm, ⟨0, _⟩ => ⟨S4096x13312, .f32⟩
  | .hbm, ⟨1, _⟩ => ⟨S2x1024, .f32⟩
  | .hbm, ⟨2, _⟩ => ⟨S1x128, .f32⟩
  | .hbm, ⟨3, _⟩ => ⟨S_, .i1⟩
  | .hbm, ⟨4, _⟩ => ⟨S64x64, .i1⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S_, .i1⟩
  | .hbm, ⟨12, _⟩ => ⟨S64x64, .i1⟩
  | .hbm, ⟨13, _⟩ => ⟨S64x64, .i1⟩
  | .hbm, ⟨14, _⟩ => ⟨S4096x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S64x64x1024, .f32⟩
  | .hbm, ⟨33, _⟩ => ⟨S1x64x64x1, .i1⟩
  | .hbm, ⟨34, _⟩ => ⟨S64x1x64x1024, .f32⟩
  | .hbm, ⟨35, _⟩ => ⟨S_, .f32⟩
  | .hbm, ⟨36, _⟩ => ⟨S_, .f32⟩
  | .hbm, ⟨37, _⟩ => ⟨S64x64x64x1024, .i1⟩
  | .hbm, ⟨38, _⟩ => ⟨S64x64x64x1024, .f32⟩
  | .hbm, ⟨39, _⟩ => ⟨S64x64x64x1024, .f32⟩
  | .hbm, ⟨40, _⟩ => ⟨S64x64x64x1024, .f32⟩
  | .hbm, ⟨41, _⟩ => ⟨S_, .f32⟩
  | .hbm, ⟨42, _⟩ => ⟨S64x64x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S64x64, .i1⟩
  | .hbm, ⟨63, _⟩ => ⟨S64x64x1024, .f32⟩
  | .hbm, ⟨64, _⟩ => ⟨S1x64x64x1, .i1⟩
  | .hbm, ⟨65, _⟩ => ⟨S64x1x64x1024, .f32⟩
  | .hbm, ⟨66, _⟩ => ⟨S_, .f32⟩
  | .hbm, ⟨67, _⟩ => ⟨S_, .f32⟩
  | .hbm, ⟨68, _⟩ => ⟨S64x64x64x1024, .i1⟩
  | .hbm, ⟨69, _⟩ => ⟨S64x64x64x1024, .f32⟩
  | .hbm, ⟨70, _⟩ => ⟨S64x64x64x1024, .f32⟩
  | .hbm, ⟨71, _⟩ => ⟨S64x64x64x1024, .f32⟩
  | .hbm, ⟨72, _⟩ => ⟨S_, .f32⟩
  | .hbm, ⟨73, _⟩ => ⟨S64x64x1024, .f32⟩
  | .hbm, ⟨74, _⟩ => ⟨S4096x1024, .f32⟩
  | .hbm, ⟨75, _⟩ => ⟨S1x4096x1024, .f32⟩
  | .hbm, ⟨76, _⟩ => ⟨S1x4096x1024, .f32⟩
  | .hbm, ⟨77, _⟩ => ⟨S2x4096x1024, .f32⟩
  | .hbm, ⟨78, _⟩ => ⟨S2x8x1x128, .f32⟩
  | .hbm, ⟨79, _⟩ => ⟨S4096x1024, .bf16⟩
  | .hbm, ⟨80, _⟩ => ⟨S4096x1024, .f32⟩
  | .hbm, ⟨81, _⟩ => ⟨S8x2x64x128x128, .f32⟩
  | .hbm, ⟨82, _⟩ => ⟨S2x4096x1024, .bf16⟩
  | .hbm, ⟨83, _⟩ => ⟨S8x2x64x8x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x128, .f32⟩
  | .local _ .vmem, ⟨11, _⟩ => ⟨S1x4096x128, .f32⟩
  | .local _ .vmem, ⟨12, _⟩ => ⟨S1x4096x128, .f32⟩
  | .local _ .vmem, ⟨13, _⟩ => ⟨S4096x128, .bf16⟩
  | .local _ .vmem, ⟨14, _⟩ => ⟨S4096x128, .bf16⟩
  | .local _ .vmem, ⟨15, _⟩ => ⟨S4096x128, .f32⟩
  | .local _ .vmem, ⟨16, _⟩ => ⟨S4096x128, .f32⟩
  | .local _ .vmem, ⟨17, _⟩ => ⟨S1x1x64x128x128, .f32⟩
  | .local _ .vmem, ⟨18, _⟩ => ⟨S1x1x64x128x128, .f32⟩
  | .local _ .vmem, ⟨19, _⟩ => ⟨S1x4096x128, .bf16⟩
  | .local _ .vmem, ⟨20, _⟩ => ⟨S1x4096x128, .bf16⟩
  | .local _ .vmem, ⟨21, _⟩ => ⟨S1x1x64x8x128, .f32⟩
  | .local _ .vmem, ⟨22, _⟩ => ⟨S1x1x64x8x128, .f32⟩
  | .local _ .vmem, ⟨23, _⟩ => ⟨S64x128x128, .f32⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49_0 : Ref sig .tc := ⟨.hbm, 79, rfl⟩
abbrev main_v49_1 : Ref sig .tc := ⟨.hbm, 80, rfl⟩
abbrev main_v49_2 : Ref sig .tc := ⟨.hbm, 81, rfl⟩
abbrev main_v49_3 : Ref sig .tc := ⟨.hbm, 82, rfl⟩
abbrev main_v49_4 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_18 : BitVec 32 := 0#32
  let c2_i32 : BitVec 32 := 2#32
  let v63 : BitVec 32 := Scalar.addi c0_i32_18 c2_i32
  let c1_i32_19 : BitVec 32 := 1#32
  ⟨c0_i32_18, v63, c1_i32_19⟩
def k0_mult1 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c0_i32_31 : BitVec 32 := 0#32
  let v71 : BitVec 32 := Scalar.addi arg15 c0_i32_31
  let c256_i32 : BitVec 32 := 256#32
  let v79 : BitVec 32 := Scalar.muli v71 c256_i32
  v79
def k0_mult2 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c2_i32_32 : BitVec 32 := 2#32
  let v72 : BitVec 32 := Scalar.addi arg15 c2_i32_32
  let c256_i32_33 : BitVec 32 := 256#32
  let v81 : BitVec 32 := Scalar.muli v72 c256_i32_33
  v81
def k0_mult3 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c4_i32 : BitVec 32 := 4#32
  let v73 : BitVec 32 := Scalar.addi arg15 c4_i32
  let c256_i32_34 : BitVec 32 := 256#32
  let v83 : BitVec 32 := Scalar.muli v73 c256_i32_34
  v83
def k0_mult4 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c6_i32 : BitVec 32 := 6#32
  let v74 : BitVec 32 := Scalar.addi arg15 c6_i32
  let c256_i32_35 : BitVec 32 := 256#32
  let v85 : BitVec 32 := Scalar.muli v74 c256_i32_35
  v85
def k0_mult5 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c8_i32 : BitVec 32 := 8#32
  let v75 : BitVec 32 := Scalar.addi arg15 c8_i32
  let c256_i32_36 : BitVec 32 := 256#32
  let v87 : BitVec 32 := Scalar.muli v75 c256_i32_36
  v87
def k0_mult6 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c10_i32 : BitVec 32 := 10#32
  let v76 : BitVec 32 := Scalar.addi arg15 c10_i32
  let c256_i32_37 : BitVec 32 := 256#32
  let v89 : BitVec 32 := Scalar.muli v76 c256_i32_37
  v89
def k0_mult7 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c12_i32 : BitVec 32 := 12#32
  let v77 : BitVec 32 := Scalar.addi arg15 c12_i32
  let c256_i32_38 : BitVec 32 := 256#32
  let v91 : BitVec 32 := Scalar.muli v77 c256_i32_38
  v91
def k0_mult8 (k0_t1 : Fin k0_t1_loop.trips) : BitVec 32 :=
  let c0_i32_18 : BitVec 32 := 0#32
  let c1_i32_19 : BitVec 32 := 1#32
  let arg15 : BitVec 32 := Scf.iv c0_i32_18 c1_i32_19 k0_t1
  let c14_i32 : BitVec 32 := 14#32
  let v78 : BitVec 32 := Scalar.addi arg15 c14_i32
  let c256_i32_39 : BitVec 32 := 256#32
  let v93 : BitVec 32 := Scalar.muli v78 c256_i32_39
  v93
def k0_off1 (k0_t1 : Fin k0_t1_loop.trips) (c0_i32_31 : BitVec 32) : Fin 2 → Nat :=
  let c0_i32_18 : BitVec 32 := 0#32
  let c1_i32_19 : BitVec 32 := 1#32
  let arg15 : BitVec 32 := Scf.iv c0_i32_18 c1_i32_19 k0_t1
  let v71 : BitVec 32 := Scalar.addi arg15 c0_i32_31
  let c256_i32 : BitVec 32 := 256#32
  let v79 : BitVec 32 := Scalar.muli v71 c256_i32
  let v80 : BitVec 32 := v79
  let v95 : Index := Scalar.indexCast v80
  let c0_40 : Index := 0#32
  ![v95.toNat, 0]
def k0_off2 (k0_t1 : Fin k0_t1_loop.trips) (c0_i32_31 : BitVec 32) : Fin 3 → Nat :=
  let c0_44 : Index := 0#32
  let c0_i32_18 : BitVec 32 := 0#32
  let c1_i32_19 : BitVec 32 := 1#32
  let arg15 : BitVec 32 := Scf.iv c0_i32_18 c1_i32_19 k0_t1
  let v71 : BitVec 32 := Scalar.addi arg15 c0_i32_31
  let c256_i32 : BitVec 32 := 256#32
  let v79 : BitVec 32 := Scalar.muli v71 c256_i32
  let v80 : BitVec 32 := v79
  let v104 : Index := Scalar.indexCast v80
  let c0_45 : Index := 0#32
  ![0, v104.toNat, 0]
def k0_off3 (k0_t1 : Fin k0_t1_loop.trips) (c0_i32_31 : BitVec 32) (c0_i32_260 : BitVec 32) : Fin 3 → Nat :=
  let c0_i32_18 : BitVec 32 := 0#32
  let c1_i32_19 : BitVec 32 := 1#32
  let arg15 : BitVec 32 := Scf.iv c0_i32_18 c1_i32_19 k0_t1
  let v71 : BitVec 32 := Scalar.addi arg15 c0_i32_31
  let c4_i32_259 : BitVec 32 := 4#32
  let v973 : BitVec 32 := Scalar.muli v71 c4_i32_259
  let v974 : BitVec 32 := Scalar.addi v973 c0_i32_260
  let v975 : Index := Scalar.indexCast v974
  let c0_261 : Index := 0#32
  let c0_262 : Index := 0#32
  ![v975.toNat, 0, 0]
def k0_off4 (k0_t1 : Fin k0_t1_loop.trips) (c0_i32_31 : BitVec 32) (c0_i32_264 : BitVec 32) : Fin 5 → Nat :=
  let c0_265 : Index := 0#32
  let c0_266 : Index := 0#32
  let c0_i32_18 : BitVec 32 := 0#32
  let c1_i32_19 : BitVec 32 := 1#32
  let arg15 : BitVec 32 := Scf.iv c0_i32_18 c1_i32_19 k0_t1
  let v71 : BitVec 32 := Scalar.addi arg15 c0_i32_31
  let c4_i32_263 : BitVec 32 := 4#32
  let v979 : BitVec 32 := Scalar.muli v71 c4_i32_263
  let v980 : BitVec 32 := Scalar.addi v979 c0_i32_264
  let v981 : Index := Scalar.indexCast v980
  let c0_267 : Index := 0#32
  let c0_268 : Index := 0#32
  ![0, 0, v981.toNat, 0, 0]
@[reducible] def k0_t2_loop : Scf.Loop 32 :=
  let c0_i32_21 : BitVec 32 := 0#32
  let c64_i32_22 : BitVec 32 := 64#32
  let v65 : BitVec 32 := Scalar.addi c0_i32_21 c64_i32_22
  let c1_i32_23 : BitVec 32 := 1#32
  ⟨c0_i32_21, v65, c1_i32_23⟩
def k0_off5 (i : grid0.Coords) (k0_t2 : Fin k0_t2_loop.trips) : Fin 5 → Nat :=
  let c0_32 : Index := 0#32
  let c0_33 : Index := 0#32
  let arg1 : BitVec 32 := BitVec.ofNat 32 (i 1).val
  let c0_i32_31 : BitVec 32 := 0#32
  let v71 : BitVec 1 := Scalar.cmpi .eq arg1 c0_i32_31
  let c0_i32_21 : BitVec 32 := 0#32
  let c1_i32_23 : BitVec 32 := 1#32
  let arg15 : BitVec 32 := Scf.iv c0_i32_21 c1_i32_23 k0_t2
  let c63_i32 : BitVec 32 := 63#32
  let v72 : BitVec 32 := Scalar.subi c63_i32 arg15
  let v73 : BitVec 32 := Scalar.select v71 arg15 v72
  let v74 : Index := Scalar.indexCast v73
  let c0_34 : Index := 0#32
  let c0_35 : Index := 0#32
  ![0, 0, v74.toNat, 0, 0]
def k0_off6 (i : grid0.Coords) (k0_t2 : Fin k0_t2_loop.trips) : Fin 5 → Nat :=
  let c0_36 : Index := 0#32
  let c0_37 : Index := 0#32
  let arg1 : BitVec 32 := BitVec.ofNat 32 (i 1).val
  let c0_i32_31 : BitVec 32 := 0#32
  let v71 : BitVec 1 := Scalar.cmpi .eq arg1 c0_i32_31
  let c0_i32_21 : BitVec 32 := 0#32
  let c1_i32_23 : BitVec 32 := 1#32
  let arg15 : BitVec 32 := Scf.iv c0_i32_21 c1_i32_23 k0_t2
  let c63_i32 : BitVec 32 := 63#32
  let v72 : BitVec 32 := Scalar.subi c63_i32 arg15
  let v73 : BitVec 32 := Scalar.select v71 arg15 v72
  let v78 : Index := Scalar.indexCast v73
  let c0_38 : Index := 0#32
  let c0_39 : Index := 0#32
  ![0, 0, v78.toNat, 0, 0]
def k0_off7 (i : grid0.Coords) (k0_t2 : Fin k0_t2_loop.trips) : Fin 3 → Nat :=
  let arg1 : BitVec 32 := BitVec.ofNat 32 (i 1).val
  let c0_i32_31 : BitVec 32 := 0#32
  let v71 : BitVec 1 := Scalar.cmpi .eq arg1 c0_i32_31
  let c0_i32_21 : BitVec 32 := 0#32
  let c1_i32_23 : BitVec 32 := 1#32
  let arg15 : BitVec 32 := Scf.iv c0_i32_21 c1_i32_23 k0_t2
  let c63_i32 : BitVec 32 := 63#32
  let v72 : BitVec 32 := Scalar.subi c63_i32 arg15
  let v73 : BitVec 32 := Scalar.select v71 arg15 v72
  let v84 : Index := Scalar.indexCast v73
  let c0_40 : Index := 0#32
  let c0_41 : Index := 0#32
  ![v84.toNat, 0, 0]
@[reducible] def k0_t3_loop : Scf.Loop 32 :=
  let c0_i32_25 : BitVec 32 := 0#32
  let c2_i32_26 : BitVec 32 := 2#32
  let v67 : BitVec 32 := Scalar.addi c0_i32_25 c2_i32_26
  let c1_i32_27 : BitVec 32 := 1#32
  ⟨c0_i32_25, v67, c1_i32_27⟩
def k0_mult9 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c0_i32_31 : BitVec 32 := 0#32
  let v71 : BitVec 32 := Scalar.addi arg15 c0_i32_31
  let c64_i32_33 : BitVec 32 := 64#32
  let v103 : BitVec 32 := Scalar.muli v71 c64_i32_33
  v103
def k0_mult10 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c2_i32_32 : BitVec 32 := 2#32
  let v72 : BitVec 32 := Scalar.addi arg15 c2_i32_32
  let c64_i32_34 : BitVec 32 := 64#32
  let v105 : BitVec 32 := Scalar.muli v72 c64_i32_34
  v105
def k0_mult11 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c4_i32 : BitVec 32 := 4#32
  let v73 : BitVec 32 := Scalar.addi arg15 c4_i32
  let c64_i32_35 : BitVec 32 := 64#32
  let v107 : BitVec 32 := Scalar.muli v73 c64_i32_35
  v107
def k0_mult12 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c6_i32 : BitVec 32 := 6#32
  let v74 : BitVec 32 := Scalar.addi arg15 c6_i32
  let c64_i32_36 : BitVec 32 := 64#32
  let v109 : BitVec 32 := Scalar.muli v74 c64_i32_36
  v109
def k0_mult13 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c8_i32 : BitVec 32 := 8#32
  let v75 : BitVec 32 := Scalar.addi arg15 c8_i32
  let c64_i32_37 : BitVec 32 := 64#32
  let v111 : BitVec 32 := Scalar.muli v75 c64_i32_37
  v111
def k0_mult14 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c10_i32 : BitVec 32 := 10#32
  let v76 : BitVec 32 := Scalar.addi arg15 c10_i32
  let c64_i32_38 : BitVec 32 := 64#32
  let v113 : BitVec 32 := Scalar.muli v76 c64_i32_38
  v113
def k0_mult15 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c12_i32 : BitVec 32 := 12#32
  let v77 : BitVec 32 := Scalar.addi arg15 c12_i32
  let c64_i32_39 : BitVec 32 := 64#32
  let v115 : BitVec 32 := Scalar.muli v77 c64_i32_39
  v115
def k0_mult16 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c14_i32 : BitVec 32 := 14#32
  let v78 : BitVec 32 := Scalar.addi arg15 c14_i32
  let c64_i32_40 : BitVec 32 := 64#32
  let v117 : BitVec 32 := Scalar.muli v78 c64_i32_40
  v117
def k0_mult17 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c16_i32 : BitVec 32 := 16#32
  let v79 : BitVec 32 := Scalar.addi arg15 c16_i32
  let c64_i32_41 : BitVec 32 := 64#32
  let v119 : BitVec 32 := Scalar.muli v79 c64_i32_41
  v119
def k0_mult18 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c18_i32 : BitVec 32 := 18#32
  let v80 : BitVec 32 := Scalar.addi arg15 c18_i32
  let c64_i32_42 : BitVec 32 := 64#32
  let v121 : BitVec 32 := Scalar.muli v80 c64_i32_42
  v121
def k0_mult19 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c20_i32 : BitVec 32 := 20#32
  let v81 : BitVec 32 := Scalar.addi arg15 c20_i32
  let c64_i32_43 : BitVec 32 := 64#32
  let v123 : BitVec 32 := Scalar.muli v81 c64_i32_43
  v123
def k0_mult20 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c22_i32 : BitVec 32 := 22#32
  let v82 : BitVec 32 := Scalar.addi arg15 c22_i32
  let c64_i32_44 : BitVec 32 := 64#32
  let v125 : BitVec 32 := Scalar.muli v82 c64_i32_44
  v125
def k0_mult21 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c24_i32 : BitVec 32 := 24#32
  let v83 : BitVec 32 := Scalar.addi arg15 c24_i32
  let c64_i32_45 : BitVec 32 := 64#32
  let v127 : BitVec 32 := Scalar.muli v83 c64_i32_45
  v127
def k0_mult22 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c26_i32 : BitVec 32 := 26#32
  let v84 : BitVec 32 := Scalar.addi arg15 c26_i32
  let c64_i32_46 : BitVec 32 := 64#32
  let v129 : BitVec 32 := Scalar.muli v84 c64_i32_46
  v129
def k0_mult23 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c28_i32 : BitVec 32 := 28#32
  let v85 : BitVec 32 := Scalar.addi arg15 c28_i32
  let c64_i32_47 : BitVec 32 := 64#32
  let v131 : BitVec 32 := Scalar.muli v85 c64_i32_47
  v131
def k0_mult24 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c30_i32 : BitVec 32 := 30#32
  let v86 : BitVec 32 := Scalar.addi arg15 c30_i32
  let c64_i32_48 : BitVec 32 := 64#32
  let v133 : BitVec 32 := Scalar.muli v86 c64_i32_48
  v133
def k0_mult25 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c32_i32 : BitVec 32 := 32#32
  let v87 : BitVec 32 := Scalar.addi arg15 c32_i32
  let c64_i32_49 : BitVec 32 := 64#32
  let v135 : BitVec 32 := Scalar.muli v87 c64_i32_49
  v135
def k0_mult26 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c34_i32 : BitVec 32 := 34#32
  let v88 : BitVec 32 := Scalar.addi arg15 c34_i32
  let c64_i32_50 : BitVec 32 := 64#32
  let v137 : BitVec 32 := Scalar.muli v88 c64_i32_50
  v137
def k0_mult27 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c36_i32 : BitVec 32 := 36#32
  let v89 : BitVec 32 := Scalar.addi arg15 c36_i32
  let c64_i32_51 : BitVec 32 := 64#32
  let v139 : BitVec 32 := Scalar.muli v89 c64_i32_51
  v139
def k0_mult28 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c38_i32 : BitVec 32 := 38#32
  let v90 : BitVec 32 := Scalar.addi arg15 c38_i32
  let c64_i32_52 : BitVec 32 := 64#32
  let v141 : BitVec 32 := Scalar.muli v90 c64_i32_52
  v141
def k0_mult29 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c40_i32 : BitVec 32 := 40#32
  let v91 : BitVec 32 := Scalar.addi arg15 c40_i32
  let c64_i32_53 : BitVec 32 := 64#32
  let v143 : BitVec 32 := Scalar.muli v91 c64_i32_53
  v143
def k0_mult30 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c42_i32 : BitVec 32 := 42#32
  let v92 : BitVec 32 := Scalar.addi arg15 c42_i32
  let c64_i32_54 : BitVec 32 := 64#32
  let v145 : BitVec 32 := Scalar.muli v92 c64_i32_54
  v145
def k0_mult31 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c44_i32 : BitVec 32 := 44#32
  let v93 : BitVec 32 := Scalar.addi arg15 c44_i32
  let c64_i32_55 : BitVec 32 := 64#32
  let v147 : BitVec 32 := Scalar.muli v93 c64_i32_55
  v147
def k0_mult32 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c46_i32 : BitVec 32 := 46#32
  let v94 : BitVec 32 := Scalar.addi arg15 c46_i32
  let c64_i32_56 : BitVec 32 := 64#32
  let v149 : BitVec 32 := Scalar.muli v94 c64_i32_56
  v149
def k0_mult33 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c48_i32 : BitVec 32 := 48#32
  let v95 : BitVec 32 := Scalar.addi arg15 c48_i32
  let c64_i32_57 : BitVec 32 := 64#32
  let v151 : BitVec 32 := Scalar.muli v95 c64_i32_57
  v151
def k0_mult34 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c50_i32 : BitVec 32 := 50#32
  let v96 : BitVec 32 := Scalar.addi arg15 c50_i32
  let c64_i32_58 : BitVec 32 := 64#32
  let v153 : BitVec 32 := Scalar.muli v96 c64_i32_58
  v153
def k0_mult35 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c52_i32 : BitVec 32 := 52#32
  let v97 : BitVec 32 := Scalar.addi arg15 c52_i32
  let c64_i32_59 : BitVec 32 := 64#32
  let v155 : BitVec 32 := Scalar.muli v97 c64_i32_59
  v155
def k0_mult36 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c54_i32 : BitVec 32 := 54#32
  let v98 : BitVec 32 := Scalar.addi arg15 c54_i32
  let c64_i32_60 : BitVec 32 := 64#32
  let v157 : BitVec 32 := Scalar.muli v98 c64_i32_60
  v157
def k0_mult37 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c56_i32 : BitVec 32 := 56#32
  let v99 : BitVec 32 := Scalar.addi arg15 c56_i32
  let c64_i32_61 : BitVec 32 := 64#32
  let v159 : BitVec 32 := Scalar.muli v99 c64_i32_61
  v159
def k0_mult38 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c58_i32 : BitVec 32 := 58#32
  let v100 : BitVec 32 := Scalar.addi arg15 c58_i32
  let c64_i32_62 : BitVec 32 := 64#32
  let v161 : BitVec 32 := Scalar.muli v100 c64_i32_62
  v161
def k0_mult39 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c60_i32 : BitVec 32 := 60#32
  let v101 : BitVec 32 := Scalar.addi arg15 c60_i32
  let c64_i32_63 : BitVec 32 := 64#32
  let v163 : BitVec 32 := Scalar.muli v101 c64_i32_63
  v163
def k0_mult40 (k0_t3 : Fin k0_t3_loop.trips) : BitVec 32 :=
  let c0_i32_25 : BitVec 32 := 0#32
  let c1_i32_27 : BitVec 32 := 1#32
  let arg15 : BitVec 32 := Scf.iv c0_i32_25 c1_i32_27 k0_t3
  let c62_i32 : BitVec 32 := 62#32
  let v102 : BitVec 32 := Scalar.addi arg15 c62_i32
  let c64_i32_64 : BitVec 32 := 64#32
  let v165 : BitVec 32 := Scalar.muli v102 c64_i32_64
  v165
def k0_off8 (k0_t3 : Fin k0_t3_loop.trips) (c0_i32_31 : BitVec 32) : Fin 2 → Nat :=
  let c0_i32_25 : BitVec 32 := 0#32
  let c1_i32_27 : BitVec 32 := 1#32
  let arg15 : BitVec 32 := Scf.iv c0_i32_25 c1_i32_27 k0_t3
  let v71 : BitVec 32 := Scalar.addi arg15 c0_i32_31
  let c64_i32_33 : BitVec 32 := 64#32
  let v103 : BitVec 32 := Scalar.muli v71 c64_i32_33
  let v104 : BitVec 32 := v103
  let v167 : Index := Scalar.indexCast v104
  let c0_65 : Index := 0#32
  ![v167.toNat, 0]
def k0_off9 (k0_t3 : Fin k0_t3_loop.trips) (c0_i32_31 : BitVec 32) : Fin 3 → Nat :=
  let c0_66 : Index := 0#32
  let c0_i32_25 : BitVec 32 := 0#32
  let c1_i32_27 : BitVec 32 := 1#32
  let arg15 : BitVec 32 := Scf.iv c0_i32_25 c1_i32_27 k0_t3
  let v71 : BitVec 32 := Scalar.addi arg15 c0_i32_31
  let c64_i32_33 : BitVec 32 := 64#32
  let v103 : BitVec 32 := Scalar.muli v71 c64_i32_33
  let v104 : BitVec 32 := v103
  let v170 : Index := Scalar.indexCast v104
  let c0_67 : Index := 0#32
  ![0, v170.toNat, 0]
def k0_off10 (k0_t3 : Fin k0_t3_loop.trips) (c0_i32_31 : BitVec 32) : Fin 5 → Nat :=
  let c0_68 : Index := 0#32
  let c0_69 : Index := 0#32
  let c0_i32_25 : BitVec 32 := 0#32
  let c1_i32_27 : BitVec 32 := 1#32
  let arg15 : BitVec 32 := Scf.iv c0_i32_25 c1_i32_27 k0_t3
  let v71 : BitVec 32 := Scalar.addi arg15 c0_i32_31
  let v173 : Index := Scalar.indexCast v71
  let c0_70 : Index := 0#32
  let c0_71 : Index := 0#32
  ![0, 0, v173.toNat, 0, 0]
def k0_cond2 (i : grid0.Coords) : BitVec 1 :=
  let arg1 : BitVec 32 := BitVec.ofNat 32 (i 1).val
  let c1_i32_29 : BitVec 32 := 1#32
  let v68 : BitVec 1 := Scalar.cmpi .eq arg1 c1_i32_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi c8_i32_0 v0
  let v2 : BitVec 32 := Scalar.addi v1 arg0
  let c0_i32 : BitVec 32 := 0#32
  let c0_i32_1 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x64x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference15Ideal.lean ====
abbrev S4096x13312 : Shape := ⟨2, ![4096, 13312]⟩
abbrev S2x1024 : Shape := ⟨2, ![2, 1024]⟩
abbrev S1x128 : Shape := ⟨2, ![1, 128]⟩
abbrev S4096x1024 : Shape := ⟨2, ![4096, 1024]⟩
abbrev S_ : Shape := ⟨0, ![]⟩
abbrev S4096x8x128 : Shape := ⟨3, ![4096, 8, 128]⟩
abbrev S8x4096x128 : Shape := ⟨3, ![8, 4096, 128]⟩
abbrev S1x1024 : Shape := ⟨2, ![1, 1024]⟩
abbrev S16x4096x128 : Shape := ⟨3, ![16, 4096, 128]⟩
abbrev S64x64 : Shape := ⟨2, ![64, 64]⟩
abbrev S16x128x128 : Shape := ⟨3, ![16, 128, 128]⟩
abbrev S16x64x64x128 : Shape := ⟨4, ![16, 64, 64, 128]⟩
abbrev S64x16x64x128 : Shape := ⟨4, ![64, 16, 64, 128]⟩
abbrev S1x16x64x128 : Shape := ⟨4, ![1, 16, 64, 128]⟩
abbrev S16x64x128 : Shape := ⟨3, ![16, 64, 128]⟩
abbrev S64x64x1 : Shape := ⟨3, ![64, 64, 1]⟩
abbrev S16x1x64x128 : Shape := ⟨4, ![16, 1, 64, 128]⟩
abbrev S16x1x128 : Shape := ⟨3, ![16, 1, 128]⟩
abbrev S16x64x64 : Shape := ⟨3, ![16, 64, 64]⟩
abbrev S16x128 : Shape := ⟨2, ![16, 128]⟩
abbrev S16x128x1 : Shape := ⟨3, ![16, 128, 1]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 215
  | .vmem => 0
  | .smem => 0
  | _ => 0

abbrev hbmTy0_0 (i : Nat) : BufTy := match i % 128 with
  | 0 => ⟨S4096x13312, .f32⟩
  | 1 => ⟨S2x1024, .f32⟩
  | 2 => ⟨S1x128, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S4096x8x128, .f32⟩
  | 17 => ⟨S8x4096x128, .f32⟩
  | 18 => ⟨S_, .f32⟩
  | 19 => ⟨S8x4096x128, .f32⟩
  | 20 => ⟨S8x4096x128, .f32⟩
  | 21 => ⟨S4096x8x128, .f32⟩
  | 22 => ⟨S8x4096x128, .f32⟩
  | 23 => ⟨S1x1024, .f32⟩
  | 24 => ⟨S_, .f32⟩
  | 25 => ⟨S1x1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x8x128, .f32⟩
  | 43 => ⟨S8x4096x128, .f32⟩
  | 44 => ⟨S4096x1024, .f32⟩
  | 45 => ⟨S4096x8x128, .f32⟩
  | 46 => ⟨S8x4096x128, .f32⟩
  | 47 => ⟨S1x1024, .f32⟩
  | 48 => ⟨S_, .f32⟩
  | 49 => ⟨S1x1024, .f32⟩
  | 50 => ⟨S1x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S4096x8x128, .f32⟩
  | 67 => ⟨S8x4096x128, .f32⟩
  | 68 => ⟨S4096x1024, .f32⟩
  | 69 => ⟨S4096x8x128, .f32⟩
  | 70 => ⟨S8x4096x128, .f32⟩
  | 71 => ⟨S8x4096x128, .f32⟩
  | 72 => ⟨S16x4096x128, .f32⟩
  | 73 => ⟨S8x4096x128, .f32⟩
  | 74 => ⟨S16x4096x128, .f32⟩
  | 75 => ⟨S8x4096x128, .f32⟩
  | 76 => ⟨S16x4096x128, .f32⟩
  | 77 => ⟨S8x4096x128, .f32⟩
  | 78 => ⟨S16x4096x128, .f32⟩
  | 79 => ⟨S_, .i1⟩
  | 80 => ⟨S64x64, .i1⟩
  | 81 => ⟨S64x64, .i32⟩
  | 82 => ⟨S_, .i32⟩
  | 83 => ⟨S64x64, .i32⟩
  | 84 => ⟨S64x64, .i32⟩
  | 85 => ⟨S64x64, .i32⟩
  | 86 => ⟨S64x64, .i1⟩
  | 87 => ⟨S_, .i1⟩
  | 88 => ⟨S64x64, .i1⟩
  | 89 => ⟨S64x64, .i1⟩
  | 90 => ⟨S_, .f32⟩
  | 91 => ⟨S16x128x128, .f32⟩
  | 92 => ⟨S16x64x64x128, .f32⟩
  | 93 => ⟨S64x16x64x128, .f32⟩
  | 94 => ⟨S16x64x64x128, .f32⟩
  | 95 => ⟨S64x16x64x128, .f32⟩
  | 96 => ⟨S16x64x64x128, .f32⟩
  | 97 => ⟨S64x16x64x128, .f32⟩
  | 98 => ⟨S16x64x64x128, .f32⟩
  | 99 => ⟨S64x16x64x128, .f32⟩
  | 100 => ⟨S_, .f32⟩
  | 101 => ⟨S64x16x64x128, .f32⟩
  | 102 => ⟨S_, .i32⟩
  | 103 => ⟨S64x16x64x128, .f32⟩
  | 104 => ⟨S64x16x64x128, .f32⟩
  | 105 => ⟨S64x16x64x128, .f32⟩
  | 106 => ⟨S64x16x64x128, .f32⟩
  | 107 => ⟨S64x64, .i1⟩
  | 108 => ⟨S_, .i32⟩
  | 109 => ⟨S16x128x128, .f32⟩
  | 110 => ⟨S64x16x64x128, .f32⟩
  | 111 => ⟨S_, .i32⟩
  | 112 => ⟨S_, .i1⟩
  | 113 => ⟨S_, .i32⟩
  | 114 => ⟨S_, .i32⟩
  | 115 => ⟨S_, .i32⟩
  | 116 => ⟨S1x16x64x128, .f32⟩
  | 117 => ⟨S16x64x128, .f32⟩
  | 118 => ⟨S_, .i32⟩
  | 119 => ⟨S_, .i32⟩
  | 120 => ⟨S_, .i32⟩
  | 121 => ⟨S1x16x64x128, .f32⟩
  | 122 => ⟨S16x64x128, .f32⟩
  | 123 => ⟨S_, .i32⟩
  | 124 => ⟨S_, .i32⟩
  | 125 => ⟨S_, .i32⟩
  | 126 => ⟨S1x16x64x128, .f32⟩
  | 127 => ⟨S16x64x128, .f32⟩
  | _ => ⟨S4096x13312, .f32⟩

abbrev hbmTy0_1 (i : Nat) : BufTy := match i % 128 with
  | 0 => ⟨S_, .i32⟩
  | 1 => ⟨S_, .i32⟩
  | 2 => ⟨S_, .i32⟩
  | 3 => ⟨S1x16x64x128, .f32⟩
  | 4 => ⟨S16x64x128, .f32⟩
  | 5 => ⟨S64x64x1, .i1⟩
  | 6 => ⟨S16x1x64x128, .f32⟩
  | 7 => ⟨S_, .f32⟩
  | 8 => ⟨S_, .f32⟩
  | 9 => ⟨S16x64x64x128, .i1⟩
  | 10 => ⟨S16x64x64x128, .f32⟩
  | 11 => ⟨S16x64x64x128, .f32⟩
  | 12 => ⟨S16x64x64x128, .f32⟩
  | 13 => ⟨S_, .f32⟩
  | 14 => ⟨S16x64x128, .f32⟩
  | 15 => ⟨S16x1x128, .f32⟩
  | 16 => ⟨S16x64x128, .f32⟩
  | 17 => ⟨S16x64x128, .f32⟩
  | 18 => ⟨S16x64x128, .f32⟩
  | 19 => ⟨S16x64x128, .f32⟩
  | 20 => ⟨S16x64x128, .f32⟩
  | 21 => ⟨S16x64x128, .f32⟩
  | 22 => ⟨S16x64x128, .f32⟩
  | 23 => ⟨S16x64x128, .f32⟩
  | 24 => ⟨S16x64x128, .f32⟩
  | 25 => ⟨S16x64x64, .f32⟩
  | 26 => ⟨S_, .f32⟩
  | 27 => ⟨S_, .f32⟩
  | 28 => ⟨S16x64x64, .i1⟩
  | 29 => ⟨S16x64x64, .f32⟩
  | 30 => ⟨S16x64x64, .f32⟩
  | 31 => ⟨S16x64x128, .f32⟩
  | 32 => ⟨S16x128x128, .f32⟩
  | 33 => ⟨S16x128, .f32⟩
  | 34 => ⟨S16x128, .f32⟩
  | 35 => ⟨S16x64x128, .f32⟩
  | 36 => ⟨S16x128x1, .f32⟩
  | 37 => ⟨S16x128x128, .f32⟩
  | 38 => ⟨S16x128x128, .f32⟩
  | 39 => ⟨S16x128x128, .f32⟩
  | 40 => ⟨S16x64x128, .f32⟩
  | 41 => ⟨S1x16x64x128, .f32⟩
  | 42 => ⟨S_, .i32⟩
  | 43 => ⟨S_, .i32⟩
  | 44 => ⟨S_, .i32⟩
  | 45 => ⟨S64x16x64x128, .f32⟩
  | 46 => ⟨S_, .i32⟩
  | 47 => ⟨S_, .i32⟩
  | 48 => ⟨S16x64x64x128, .f32⟩
  | 49 => ⟨S16x4096x128, .f32⟩
  | 50 => ⟨S8x4096x128, .f32⟩
  | 51 => ⟨S8x4096x128, .f32⟩
  | 52 => ⟨S8x4096x128, .f32⟩
  | 53 => ⟨S8x4096x128, .f32⟩
  | 54 => ⟨S4096x8x128, .f32⟩
  | 55 => ⟨S4096x1024, .f32⟩
  | 56 => ⟨S4096x8x128, .f32⟩
  | 57 => ⟨S4096x8x128, .f32⟩
  | 58 => ⟨S_, .f32⟩
  | 59 => ⟨S4096x8, .f32⟩
  | 60 => ⟨S4096x8x1, .f32⟩
  | 61 => ⟨S_, .f32⟩
  | 62 => ⟨S4096x8x1, .f32⟩
  | 63 => ⟨S4096x8x1, .f32⟩
  | 64 => ⟨S_, .f32⟩
  | 65 => ⟨S4096x8x1, .f32⟩
  | 66 => ⟨S4096x8x1, .f32⟩
  | 67 => ⟨S4096x8x1, .f32⟩
  | 68 => ⟨S4096x8x128, .f32⟩
  | 69 => ⟨S4096x8x128, .f32⟩
  | 70 => ⟨S1x1x128, .f32⟩
  | 71 => ⟨S4096x8x128, .f32⟩
  | 72 => ⟨S4096x8x128, .f32⟩
  | 73 => ⟨S4096x1024, .f32⟩
  | 74 => ⟨S4096x8x128, .f32⟩
  | 75 => ⟨S4096x8x128, .f32⟩
  | 76 => ⟨S4096x8x128, .f32⟩
  | 77 => ⟨S_, .f32⟩
  | 78 => ⟨S4096x8x128, .f32⟩
  | 79 => ⟨S4096x8x128, .f32⟩
  | 80 => ⟨S_, .f32⟩
  | 81 => ⟨S4096x8x128, .f32⟩
  | 82 => ⟨S4096x8x128, .f32⟩
  | 83 => ⟨S4096x8x128, .f32⟩
  | 84 => ⟨S4096x8x128, .f32⟩
  | 85 => ⟨S4096x1024, .f32⟩
  | 86 => ⟨S4096x1024, .bf16⟩
  | _ => ⟨S4096x13312, .f32⟩

abbrev hbmTy (i : Nat) : BufTy := match i / 128 with
  | 0 => hbmTy0_0 i
  | 1 => hbmTy0_1 i
  | _ => ⟨S4096x13312, .f32⟩

abbrev bufTy : (tb : Table) → Fin (tcTables nBuf tb) → BufTy
  | .hbm, ⟨i, _⟩ => hbmTy i
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_call5_v0 : Ref sig .tc := ⟨.hbm, 81, rfl⟩
abbrev main_call5_c : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_c_0 : Ref sig .tc := ⟨.hbm, 87, rfl⟩
abbrev main_call5_v5 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_c_10 : Ref sig .tc := ⟨.hbm, 102, rfl⟩
abbrev main_v71_0 : Ref sig .tc := ⟨.hbm, 103, rfl⟩
abbrev main_v71_1 : Ref sig .tc := ⟨.hbm, 104, rfl⟩
abbrev main_v71_2 : Ref sig .tc := ⟨.hbm, 105, rfl⟩
abbrev main_v71_3 : Ref sig .tc := ⟨.hbm, 106, rfl⟩
abbrev main_v71_4 : Ref sig .tc := ⟨.hbm, 107, rfl⟩
abbrev main_v71_5 : Ref sig .tc := ⟨.hbm, 108, rfl⟩
abbrev main_v71_6 : Ref sig .tc := ⟨.hbm, 109, rfl⟩
abbrev main_v71_7 : Ref sig .tc := ⟨.hbm, 110, rfl⟩
abbrev main_while0c_c_21 : Ref sig .tc := ⟨.hbm, 111, rfl⟩
abbrev main_while0c_v100 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_v0 : Ref sig .tc := ⟨.hbm, 116, rfl⟩
abbrev main_while0b_v100 : Ref sig .tc := ⟨.hbm, 117, rfl⟩
abbrev main_while0b_call7_c : Ref sig .tc := ⟨.hbm, 118, rfl⟩
abbrev main_while0b_call7_c_0 : Ref sig .tc := ⟨.hbm, 119, rfl⟩
abbrev main_while0b_call7_c_1 : Ref sig .tc := ⟨.hbm, 120, rfl⟩
abbrev main_while0b_call7_v0 : Ref sig .tc := ⟨.hbm, 121, rfl⟩
abbrev main_while0b_v101 : Ref sig .tc := ⟨.hbm, 122, rfl⟩
abbrev main_while0b_call8_c : Ref sig .tc := ⟨.hbm, 123, rfl⟩
abbrev main_while0b_call8_c_0 : Ref sig .tc := ⟨.hbm, 124, rfl⟩
abbrev main_while0b_call8_c_1 : Ref sig .tc := ⟨.hbm, 125, rfl⟩
abbrev main_while0b_call8_v0 : Ref sig .tc := ⟨.hbm, 126, rfl⟩
abbrev main_while0b_v102 : Ref sig .tc := ⟨.hbm, 127, rfl⟩
abbrev main_while0b_call9_c : Ref sig .tc := ⟨.hbm, 128, rfl⟩
abbrev main_while0b_call9_c_0 : Ref sig .tc := ⟨.hbm, 129, rfl⟩
abbrev main_while0b_call9_c_1 : Ref sig .tc := ⟨.hbm, 130, rfl⟩
abbrev main_while0b_call9_v0 : Ref sig .tc := ⟨.hbm, 131, rfl⟩
abbrev main_while0b_v103 : Ref sig .tc := ⟨.hbm, 132, rfl⟩
abbrev main_while0b_v104 : Ref sig .tc := ⟨.hbm, 133, rfl⟩
abbrev main_while0b_v105 : Ref sig .tc := ⟨.hbm, 134, rfl⟩
abbrev main_while0b_cst_21 : Ref sig .tc := ⟨.hbm, 135, rfl⟩
abbrev main_while0b_call10_v0 : Ref sig .tc := ⟨.hbm, 136, rfl⟩
abbrev main_while0b_call10_v1 : Ref sig .tc := ⟨.hbm, 137, rfl⟩
abbrev main_while0b_call10_v2 : Ref sig .tc := ⟨.hbm, 138, rfl⟩
abbrev main_while0b_call10_v3 : Ref sig .tc := ⟨.hbm, 139, rfl⟩
abbrev main_while0b_v106 : Ref sig .tc := ⟨.hbm, 140, rfl⟩
abbrev main_while0b_cst_22 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_v115 : Ref sig .tc := ⟨.hbm, 150, rfl⟩
abbrev main_while0b_v116 : Ref sig .tc := ⟨.hbm, 151, rfl⟩
abbrev main_while0b_v117 : Ref sig .tc := ⟨.hbm, 152, rfl⟩
abbrev main_while0b_v118 : Ref sig .tc := ⟨.hbm, 153, rfl⟩
abbrev main_while0b_cst_23 : Ref sig .tc := ⟨.hbm, 154, rfl⟩
abbrev main_while0b_call11_v0 : Ref sig .tc := ⟨.hbm, 155, rfl⟩
abbrev main_while0b_call11_v1 : Ref sig .tc := ⟨.hbm, 156, rfl⟩
abbrev main_while0b_call11_v2 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_call12_v0 : Ref sig .tc := ⟨.hbm, 169, rfl⟩
abbrev main_while0b_call12_c : Ref sig .tc := ⟨.hbm, 170, rfl⟩
abbrev main_while0b_call12_c_0 : Ref sig .tc := ⟨.hbm, 171, rfl⟩
abbrev main_while0b_call12_c_1 : Ref sig .tc := ⟨.hbm, 172, rfl⟩
abbrev main_while0b_v130 : Ref sig .tc := ⟨.hbm, 173, rfl⟩
abbrev main_while0b_c_24 : Ref sig .tc := ⟨.hbm, 174, rfl⟩
abbrev main_while0b_v131 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_cst_11 : Ref sig .tc := ⟨.hbm, 186, rfl⟩
abbrev main_v82 : Ref sig .tc := ⟨.hbm, 187, rfl⟩
abbrev main_v83 : Ref sig .tc := ⟨.hbm, 188, rfl⟩
abbrev main_cst_12 : Ref sig .tc := ⟨.hbm, 189, rfl⟩
abbrev main_v84 : Ref sig .tc := ⟨.hbm, 190, rfl⟩
abbrev main_v85 : Ref sig .tc := ⟨.hbm, 191, rfl⟩
abbrev main_cst_13 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_call14_v0 : Ref sig .tc := ⟨.hbm, 203, rfl⟩
abbrev main_call14_v1 : Ref sig .tc := ⟨.hbm, 204, rfl⟩
abbrev main_call14_cst : Ref sig .tc := ⟨.hbm, 205, rfl⟩
abbrev main_call14_v2 : Ref sig .tc := ⟨.hbm, 206, rfl⟩
abbrev main_call14_v3 : Ref sig .tc := ⟨.hbm, 207, rfl⟩
abbrev main_call14_cst_0 : Ref sig .tc := ⟨.hbm, 208, rfl⟩
abbrev main_call14_v4 : Ref sig .tc := ⟨.hbm, 209, rfl⟩
abbrev main_call14_v5 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩

abbrev nD : Nat := 1
abbrev τ : Topo := Topo.v7x

variable {F : FTy → Type} [FloatOps F]

abbrev main_while0_count : Scf.Loop 32 := ⟨0#32, 64#32, 1#32⟩
-- ==== Kernel22.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S256x1024 : Shape := ⟨2, ![256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S256x1024 : Shape := ⟨2, ![256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S1024x13312 : Shape := ⟨2, ![1024, 13312]⟩
abbrev S1024x8x1664 : Shape := ⟨3, ![1024, 8, 1664]⟩
abbrev S8x1024x1664 : Shape := ⟨3, ![8, 1024, 1664]⟩
abbrev S4096x13312 : Shape := ⟨2, ![4096, 13312]⟩
abbrev S2048x1024 : Shape := ⟨2, ![2048, 1024]⟩
abbrev S1x1024x1664 : Shape := ⟨3, ![1, 1024, 1664]⟩
abbrev S2048x1664 : Shape := ⟨2, ![2048, 1664]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x13312, .bf16⟩
  | .hbm, ⟨2, _⟩ => ⟨S1024x8x1664, .bf16⟩
  | .hbm, ⟨3, _⟩ => ⟨S8x1024x1664, .bf16⟩
  | .hbm, ⟨4, _⟩ => ⟨S4096x13312, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S2048x1664, .f32⟩
  | .local _ .vmem, ⟨5, _⟩ => ⟨S2048x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S1024x13312 : Shape := ⟨2, ![1024, 13312]⟩
abbrev S4096x13312 : Shape := ⟨2, ![4096, 13312]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x13312, .bf16⟩
  | .hbm, ⟨2, _⟩ => ⟨S4096x1024, .f32⟩
  | .hbm, ⟨3, _⟩ => ⟨S1024x13312, .f32⟩
  | .hbm, ⟨4, _⟩ => ⟨S4096x13312, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel27.lean ====
abbrev S1024x4096 : Shape := ⟨2, ![1024, 4096]⟩
abbrev S4096x13312 : Shape := ⟨2, ![4096, 13312]⟩
abbrev S8x1024x1664 : Shape := ⟨3, ![8, 1024, 1664]⟩
abbrev S1024x2048 : Shape := ⟨2, ![1024, 2048]⟩
abbrev S2048x1664 : Shape := ⟨2, ![2048, 1664]⟩
abbrev S1x1024x1664 : Shape := ⟨3, ![1, 1024, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x13312, .bf16⟩
  | .hbm, ⟨2, _⟩ => ⟨S8x1024x1664, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1x1024x1664, .bf16⟩
  | .local _ .vmem, ⟨5, _⟩ => ⟨S1x1024x1664, .bf16⟩
  | .local _ .vmem, ⟨6, _⟩ => ⟨S1024x1664, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S1024x4096 : Shape := ⟨2, ![1024, 4096]⟩
abbrev S4096x13312 : Shape := ⟨2, ![4096, 13312]⟩
abbrev S4096x1024 : Shape := ⟨2, ![4096, 1024]⟩
abbrev S_ : Shape := ⟨0, ![]⟩
abbrev S1024x13312 : Shape := ⟨2, ![1024, 13312]⟩
abbrev S13312x1024 : Shape := ⟨2, ![13312, 1024]⟩
abbrev S1024x8x1664 : Shape := ⟨3, ![1024, 8, 1664]⟩
abbrev S8x1024x1664 : Shape := ⟨3, ![8, 1024, 1664]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x13312, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x13312, .f32⟩
  | .hbm, ⟨6, _⟩ => ⟨S4096x13312, .f32⟩
  | .hbm, ⟨7, _⟩ => ⟨S4096x13312, .f32⟩
  | .hbm, ⟨8, _⟩ => ⟨S13312x1024, .f32⟩
  | .hbm, ⟨9, _⟩ => ⟨S1024x13312, .f32⟩
  | .hbm, ⟨10, _⟩ => ⟨S1024x8x1664, .f32⟩
  | .hbm, ⟨11, _⟩ => ⟨S8x1024x1664, .f32⟩
  | .hbm, ⟨12, _⟩ => ⟨S8x1024x1664, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel28.lean ====
abbrev S2816x4096 : Shape := ⟨2, ![2816, 4096]⟩
abbrev S4096x1024 : Shape := ⟨2, ![4096, 1024]⟩
abbrev S2816x1024 : Shape := ⟨2, ![2816, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S2816x4096 : Shape := ⟨2, ![2816, 4096]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x4096, .f32⟩
  | .hbm, ⟨3, _⟩ => ⟨S4096x2816, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel29.lean ====
abbrev S1024x4096 : Shape := ⟨2, ![1024, 4096]⟩
abbrev S2x4096x2816 : Shape := ⟨3, ![2, 4096, 2816]⟩
abbrev S1024x5632 : Shape := ⟨2, ![1024, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.divsi arg1 c2_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi arg1 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S1024x4096 : Shape := ⟨2, ![1024, 4096]⟩
abbrev S2x4096x2816 : Shape := ⟨3, ![2, 4096, 2816]⟩
abbrev S4096x1024 : Shape := ⟨2, ![4096, 1024]⟩
abbrev S4096x2x2816 : Shape := ⟨3, ![4096, 2, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S1024x4096, .f32⟩
  | .hbm, ⟨3, _⟩ => ⟨S4096x1024, .f32⟩
  | .hbm, ⟨4, _⟩ => ⟨S2x4096x2816, .f32⟩
  | .hbm, ⟨5, _⟩ => ⟨S4096x2x2816, .f32⟩
  | .hbm, ⟨6, _⟩ => ⟨S4096x5632, .f32⟩
  | .hbm, ⟨7, _⟩ => ⟨S_, .f32⟩
  | .hbm, ⟨8, _⟩ => ⟨S1024x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1024x5632, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel30.lean ====
abbrev S1024x1664 : Shape := ⟨2, ![1024, 1664]⟩
abbrev S3x1024x1664 : Shape := ⟨3, ![3, 1024, 1664]⟩
abbrev S128x1664 : Shape := ⟨2, ![128, 1664]⟩
abbrev S3x128x1664 : Shape := ⟨3, ![3, 128, 1664]⟩
abbrev S1x128x1664 : Shape := ⟨3, ![1, 128, 1664]⟩

abbrev nBuf : Space → Nat
  | .hbm => 9
  | .vmem => 18
  | .smem => 0
  | _ => 0

abbrev bufTy : (tb : Table) → Fin (tcTables nBuf tb) → BufTy
  | .hbm, ⟨0, _⟩ => ⟨S1024x1664, .f32⟩
  | .hbm, ⟨1, _⟩ => ⟨S3x1024x1664, .bf16⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .hbm, ⟨8, _⟩ => ⟨S1024x1664, .f32⟩
  | .local _ .vmem, ⟨0, _⟩ => ⟨S128x1664, .f32⟩
  | .local _ .vmem, ⟨1, _⟩ => ⟨S128x1664, .f32⟩
  | .local _ .vmem, ⟨2, _⟩ => ⟨S3x128x1664, .bf16⟩
  | .local _ .vmem, ⟨3, _⟩ => ⟨S3x128x1664, .bf16⟩
  | .local _ .vmem, ⟨4, _⟩ => ⟨S128x1664, .f32⟩
  | .local _ .vmem, ⟨5, _⟩ => ⟨S128x1664, .f32⟩
  | .local _ .vmem, ⟨6, _⟩ => ⟨S128x1664, .f32⟩
  | .local _ .vmem, ⟨7, _⟩ => ⟨S128x1664, .f32⟩
  | .local _ .vmem, ⟨8, _⟩ => ⟨S128x1664, .f32⟩
  | .local _ .vmem, ⟨9, _⟩ => ⟨S128x1664, .f32⟩
  | .local _ .vmem, ⟨10, _⟩ => ⟨S128x1664, .f32⟩
  | .local _ .vmem, ⟨11, _⟩ => ⟨S128x1664, .f32⟩
  | .local _ .vmem, ⟨12, _⟩ => ⟨S128x1664, .f32⟩
  | .local _ .vmem, ⟨13, _⟩ => ⟨S128x1664, .f32⟩
  | .local _ .vmem, ⟨14, _⟩ => ⟨S128x1664, .f32⟩
  | .local _ .vmem, ⟨15, _⟩ => ⟨S128x1664, .f32⟩
  | .local _ .vmem, ⟨16, _⟩ => ⟨S128x1664, .f32⟩
  | .local _ .vmem, ⟨17, _⟩ => ⟨S128x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference30Ideal.lean ====
abbrev S1024x1664 : Shape := ⟨2, ![1024, 1664]⟩
abbrev S3x1024x1664 : Shape := ⟨3, ![3, 1024, 1664]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S3x1024x1664, .bf16⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S3x1024x1664, .f32⟩
  | .hbm, ⟨6, _⟩ => ⟨S_, .f32⟩
  | .hbm, ⟨7, _⟩ => ⟨S1024x1664, .f32⟩
  | .hbm, ⟨8, _⟩ => ⟨S1024x1664, .f32⟩
  | .hbm, ⟨9, _⟩ => ⟨S_, .f32⟩
  | .hbm, ⟨10, _⟩ => ⟨S1024x1664, .f32⟩
  | .hbm, ⟨11, _⟩ => ⟨S1024x1664, .f32⟩
  | .hbm, ⟨12, _⟩ => ⟨S_, .f32⟩
  | .hbm, ⟨13, _⟩ => ⟨S1024x1664, .f32⟩
  | .hbm, ⟨14, _⟩ => ⟨S1024x1664, .f32⟩
  | .hbm, ⟨15, _⟩ => ⟨S1024x1664, .f32⟩
  | .hbm, ⟨16, _⟩ => ⟨S_, .f32⟩
  | .hbm, ⟨17, _⟩ => ⟨S1024x1664, .f32⟩
  | .hbm, ⟨18, _⟩ => ⟨S1024x1664, .f32⟩
  | .hbm, ⟨19, _⟩ => ⟨S1024x1664, .f32⟩
  | .hbm, ⟨20, _⟩ => ⟨S_, .f32⟩
  | .hbm, ⟨21, _⟩ => ⟨S1024x1664, .f32⟩
  | .hbm, ⟨22, _⟩ => ⟨S1024x1664, .f32⟩
  | .hbm, ⟨23, _⟩ => ⟨S1024x1664, .f32⟩
  | .hbm, ⟨24, _⟩ => ⟨S_, .f32⟩
  | .hbm, ⟨25, _⟩ => ⟨S1024x1664, .f32⟩
  | .hbm, ⟨26, _⟩ => ⟨S1024x1664, .f32⟩
  | .hbm, ⟨27, _⟩ => ⟨S_, .f32⟩
  | .hbm, ⟨28, _⟩ => ⟨S1024x1664, .f32⟩
  | .hbm, ⟨29, _⟩ => ⟨S1024x1664, .f32⟩
  | .hbm, ⟨30, _⟩ => ⟨S1024x1664, .f32⟩
  | .hbm, ⟨31, _⟩ => ⟨S_, .f32⟩
  | .hbm, ⟨32, _⟩ => ⟨S1024x1664, .f32⟩
  | .hbm, ⟨33, _⟩ => ⟨S1024x1664, .f32⟩
  | .hbm, ⟨34, _⟩ => ⟨S1024x1664, .f32⟩
  | .hbm, ⟨35, _⟩ => ⟨S_, .f32⟩
  | .hbm, ⟨36, _⟩ => ⟨S1024x1664, .f32⟩
  | .hbm, ⟨37, _⟩ => ⟨S1024x1664, .f32⟩
  | .hbm, ⟨38, _⟩ => ⟨S1024x1664, .f32⟩
  | .hbm, ⟨39, _⟩ => ⟨S_, .f32⟩
  | .hbm, ⟨40, _⟩ => ⟨S1024x1664, .f32⟩
  | .hbm, ⟨41, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Gain.lean ====
/- The gradient of the gain of the memory tokens' norm (`norm_mem_bwd`). -/
module

public import proofs.«01_k».proof.Proof.Gen.KernelIdeal.Value
public import proofs.«01_k».proof.Proof.Gen.ReferenceIdeal.Read
public import Idealize.ShloMosaic.Lib.Pointwise

@[expose] public section

set_option maxRecDepth 16384

noncomputable section

namespace Cert.Gain

open Cert.KernelIdeal Idealize.ShloMosaic

/-- What the kernel stores for column `i 1`: the sum over the rows of the normed input times the cotangent. -/
theorem pay_apply (x dy : FVec Ideal S256x1024 .f32) (i : S1x1024.Idx) :
    (∑ r : Fin 256, x (ix2 r (i 1)) * Ideal.rsqrt (Ideal.div (∑ k : Fin 1024, x (ix2 r k) * x (ix2 r k)) (Ideal.ofBits .f32 0x44800000#32)
        + Ideal.ofBits .f32 0x358637BD#32) * dy (ix2 r (i 1)))
      = Gen.k0_pay1 (F := Ideal) x dy i := by
  pointwise [Gen.k0_pay1]
  exact Finset.sum_congr rfl fun r _ => by rw [mul_comm, mul_assoc]

/-- The reference's result is what the kernel stores. -/
theorem ref_eq (x dy : FVec Ideal S256x1024 .f32) :
    ReferenceIdeal.Read.val_main_v14 (F := Ideal) x dy = Gen.k0_pay1 (F := Ideal) x dy := by
  funext i
  refine Eq.trans ?_ (pay_apply x dy i)
  pointwise [ReferenceIdeal.Read.val_main_v14, ReferenceIdeal.Read.val_main_v13, ReferenceIdeal.Read.val_main_v12,
    ReferenceIdeal.Read.val_main_v9, ReferenceIdeal.Read.val_main_v8, ReferenceIdeal.Read.val_main_v7, ReferenceIdeal.Read.val_main_v6,
    ReferenceIdeal.Read.val_main_v5, ReferenceIdeal.Read.val_main_v4, ReferenceIdeal.Read.val_main_v3, ReferenceIdeal.Read.val_main_v2,
    ReferenceIdeal.Read.val_main_v1, ReferenceIdeal.Read.val_main_v0, ReferenceIdeal.Read.val_main_cst, ReferenceIdeal.Read.val_main_cst_0,
    ReferenceIdeal.Read.val_main_cst_1, ReferenceIdeal.Read.val_main_cst_2]

end Cert.Gain

end
-- ==== Proof.Reals.lean ====
/- Extended-real expressions over finite numbers, rewritten as real numbers: each operation that the programs use,
   applied to embedded reals, is the embedding of the real operation. The float words that the programs name are
   given their real values here too. -/
module

public import Idealize.ShloMosaic.Lib.Pointwise
public import Idealize.ShloMosaic.Lib.Claim
public import Mathlib.Analysis.SpecialFunctions.Trigonometric.DerivHyp

@[expose] public section

noncomputable section

namespace Cert.Reals

open Idealize.ShloMosaic

/-- A finite sum of embedded reals is the embedded sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals with a nonzero divisor. -/
theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The exponential of a real. -/
theorem exp_coe (a : ℝ) : Ideal.exp (a : EReal) = ((Real.exp a : ℝ) : EReal) := rfl

/-- The hyperbolic tangent of a real. -/
theorem tanh_coe (a : ℝ) : Ideal.tanh (a : EReal) = ((Real.tanh a : ℝ) : EReal) := rfl

/-- The reciprocal square root of a positive real. -/
theorem rsqrt_coe {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg ha.le.not_gt, if_neg ha.ne']

/-- The logistic function of a real. -/
theorem logistic_coe (a : ℝ) : Ideal.logistic (a : EReal) = ((1 / (1 + Real.exp (-a)) : ℝ) : EReal) := by
  unfold Ideal.logistic
  rw [← EReal.coe_neg, exp_coe, ← EReal.coe_one, ← EReal.coe_add, div_coe (by positivity)]

/-- One half of the hyperbolic tangent of the half, plus one half, is the logistic function. -/
theorem tanh_half (a : ℝ) : (1 / 2 : ℝ) * Real.tanh (1 / 2 * a) + 1 / 2 = 1 / (1 + Real.exp (-a)) := by
  have h : Real.exp (-a) = Real.exp (-(1 / 2 * a)) * Real.exp (-(1 / 2 * a)) := by
    rw [← Real.exp_add]; ring_nf
  have h2 : Real.exp (1 / 2 * a) * Real.exp (-(1 / 2 * a)) = 1 := by
    rw [← Real.exp_add]; simp
  have p1 := Real.exp_pos (1 / 2 * a)
  have p2 := Real.exp_pos (-(1 / 2 * a))
  rw [Real.tanh_eq_sinh_div_cosh, Real.sinh_eq, Real.cosh_eq, h]
  generalize Real.exp (1 / 2 * a) = u at *
  generalize Real.exp (-(1 / 2 * a)) = w at *
  have : u + w ≠ 0 := by positivity
  have : 1 + w * w ≠ 0 := by positivity
  field_simp
  nlinarith [h2]

/-- The larger of two reals. -/
theorem max_coe (a b : ℝ) : max (a : EReal) (b : EReal) = ((max a b : ℝ) : EReal) :=
  ((EReal.coe_strictMono.monotone).map_max).symm

/-- The maximum of finitely many (at least one) reals, folded from the bottom element. -/
theorem fold_max_coe {n : ℕ} (f : Fin (n + 1) → ℝ) :
    Finset.univ.fold max (⊥ : EReal) (fun k => ((f k : ℝ) : EReal)) = ((Finset.univ.sup' Finset.univ_nonempty f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' (Finset.univ_nonempty) f
    rw [hk, Finset.le_fold_max]
    exact Or.inr ⟨k, Finset.mem_univ k, le_rfl⟩

/-- A number whose magnitude is below infinity is real. -/
theorem exists_real {x : EReal} (h : max x (-x) < ⊤) : ∃ r : ℝ, x = (r : EReal) := by
  induction x with
  | bot => simp at h
  | top => simp at h
  | coe r => exact ⟨r, rfl⟩

/-- An array of magnitudes below infinity is an array of reals. -/
theorem exists_reals {ι : Type} {x : ι → EReal} (h : ∀ i, max (x i) (-(x i)) < ⊤) : ∃ r : ι → ℝ, x = fun i => (r i : EReal) := by
  choose r hr using fun i => exists_real (h i)
  exact ⟨r, funext hr⟩

/-- The word of plus infinity. -/
theorem word_top : Ideal.ofBits .f32 0x7F800000#32 = ⊤ := by simp [Ideal.ofBits, Ideal.ieee]

/-- The word of minus infinity. -/
theorem word_bot : Ideal.ofBits .f32 0xFF800000#32 = ⊥ := by simp [Ideal.ofBits, Ideal.ieee]

/-- The word of one half. -/
theorem word_half : Ideal.ofBits .f32 0x3F000000#32 = ((1 / 2 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The word of 128. -/
theorem word_128 : Ideal.ofBits .f32 0x43000000#32 = ((128 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- The real number that the small constant of the norms is. -/
def eps : ℝ := 8796093 / 8796093022208

/-- The small constant is positive. -/
theorem eps_pos : 0 < eps := by unfold eps; norm_num

/-- The word of the small constant of the norms. -/
theorem word_eps : Ideal.ofBits .f32 0x358637BD#32 = ((eps : ℝ) : EReal) := by
  simp [Ideal.ofBits, Ideal.ieee, eps, -EReal.coe_mul]; norm_num

/-- The real number that the scale of the scores is. -/
def scale : ℝ := 11863283 / 134217728

/-- The word of the scale of the scores. -/
theorem word_scale : Ideal.ofBits .f32 0x3DB504F3#32 = ((scale : ℝ) : EReal) := by
  simp [Ideal.ofBits, Ideal.ieee, scale, -EReal.coe_mul]; norm_num

end Cert.Reals

end
-- ==== Proof.Gate.lean ====
/- The gated unit's derivative at one element: the kernel writes the logistic function as half a hyperbolic tangent plus
   one half and factors the derivative; the reference divides one by one plus an exponential. -/
module

public import proofs.«01_k».proof.Proof.Reals

@[expose] public section

noncomputable section

namespace Cert.Gate

open Idealize.ShloMosaic Cert.Reals

/-- The logistic function as the kernel writes it. -/
def sigK (a : EReal) : EReal :=
  Ideal.ofBits .f32 0x3F000000#32 * Ideal.tanh (Ideal.ofBits .f32 0x3F000000#32 * a) + Ideal.ofBits .f32 0x3F000000#32

/-- The logistic function as the reference writes it. -/
def sigR (a : EReal) : EReal :=
  Ideal.div 1 (1 + Ideal.exp (-a))

/-- On a real, the kernel's form is the logistic function. -/
theorem sigK_coe (a : ℝ) : sigK (a : EReal) = ((1 / (1 + Real.exp (-a)) : ℝ) : EReal) := by
  unfold sigK
  rw [word_half, ← EReal.coe_mul, tanh_coe, ← EReal.coe_mul, ← EReal.coe_add, tanh_half]

/-- On a real, the reference's form is the logistic function. -/
theorem sigR_coe (a : ℝ) : sigR (a : EReal) = ((1 / (1 + Real.exp (-a)) : ℝ) : EReal) := by
  unfold sigR
  rw [← EReal.coe_neg, exp_coe, ← EReal.coe_one, ← EReal.coe_add, div_coe (by positivity)]

/-- At plus infinity the kernel's form is one. -/
theorem sigK_top : sigK ⊤ = 1 := by
  unfold sigK
  rw [word_half, EReal.coe_mul_top_of_pos (by norm_num)]
  show ((1 / 2 : ℝ) : EReal) * (1 : EReal) + ((1 / 2 : ℝ) : EReal) = 1
  rw [mul_one, ← EReal.coe_add]; norm_num

/-- At minus infinity the kernel's form is zero. -/
theorem sigK_bot : sigK ⊥ = 0 := by
  unfold sigK
  rw [word_half, EReal.coe_mul_bot_of_pos (by norm_num)]
  show ((1 / 2 : ℝ) : EReal) * (-1 : EReal) + ((1 / 2 : ℝ) : EReal) = 0
  rw [mul_neg, mul_one, ← EReal.coe_neg, ← EReal.coe_add]; norm_num

/-- At plus infinity the reference's form is one. -/
theorem sigR_top : sigR ⊤ = 1 := by
  unfold sigR
  rw [EReal.neg_top]
  show Ideal.div 1 (1 + 0) = 1
  rw [add_zero, ← EReal.coe_one, div_coe one_ne_zero, div_one]

/-- At minus infinity the reference's form is zero. -/
theorem sigR_bot : sigR ⊥ = 0 := by
  unfold sigR
  rw [EReal.neg_bot]
  show Ideal.div 1 (1 + ⊤) = 0
  rw [EReal.add_top_of_ne_bot (by decide)]
  simp [Ideal.div]

/-- The two forms of the logistic function agree on every extended real. -/
theorem sig_eq (a : EReal) : sigK a = sigR a := by
  induction a with
  | bot => rw [sigK_bot, sigR_bot]
  | top => rw [sigK_top, sigR_top]
  | coe r => rw [sigK_coe, sigR_coe]

/-- The derivative with respect to the gated input, times a real cotangent `d * b`: factored as the kernel has it, and as
    the sum of the product rule's two terms that the reference adds. -/
theorem dgate_eq (a : EReal) (d b : ℝ) :
    ((d : EReal) * (b : EReal)) * (sigK a + (a * sigK a) * (1 - sigK a))
      = ((d : EReal) * (b : EReal)) * sigR a
        + (a * ((d : EReal) * (b : EReal))) * (sigR a * (1 - sigR a)) := by
  rw [sig_eq, ← EReal.coe_one]
  induction a with
  | bot => rw [sigR_bot]; simp
  | top =>
    have h : ((1 : ℝ) : EReal) - 1 = 0 := by rw [← EReal.coe_one, ← EReal.coe_sub, sub_self, EReal.coe_zero]
    rw [sigR_top, h]; simp
  | coe r =>
    rw [sigR_coe]
    generalize 1 / (1 + Real.exp (-r)) = s
    simp only [← EReal.coe_mul, ← EReal.coe_add, ← EReal.coe_sub]
    rw [EReal.coe_eq_coe_iff]
    ring

end Cert.Gate

end
-- ==== Proof.Swiglu.lean ====
/- The gradient of the gated unit (`ffn_out_bwd_swiglu`): the array the kernel leaves is the reference's. -/
module

public import proofs.«01_k».proof.Proof.Gate
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Swiglu

open Cert.Kernel2Ideal Cert.Kernel2Ideal.Gen Idealize.ShloMosaic Idealize.ShloMosaic.TcCoe Idealize.SL.Sem
open Idealize.ShloMosaic.Pipeline (Dat)
open Cert.Reference2Ideal.Read Cert.Reals

/-- The blocks that grid point `t` names: its row block is `t / 2`, its column block `t % 2`. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![0, t.val / 2, t.val % 2] :=
  (by decide +kernel : ∀ t : Fin grid0.N, _)

/-- What the kernel's block holds at an index. -/
theorem out_apply (x0 : FVec Ideal S1024x1024 .bf16) (x1 : FVec Ideal S1408x1024 .bf16) (x2 x3 : FVec Ideal S1024x1408 .bf16)
    (y : S2x1024x1408.Idx) (d : EReal) (hd : d = ∑ k : Fin 1024, x0 (ix2 (y 1) k) * x1 (ix2 (y 2) k)) :
    (out0_4 (F := Ideal) x0 x1 x2 x3 y : EReal)
      = if (y 0 : ℕ) = 0 then
          (d * x3 (ix2 (y 1) (y 2))) * (Gate.sigK (x2 (ix2 (y 1) (y 2)))
            + (x2 (ix2 (y 1) (y 2)) * Gate.sigK (x2 (ix2 (y 1) (y 2)))) * (1 - Gate.sigK (x2 (ix2 (y 1) (y 2)))))
        else d * (x2 (ix2 (y 1) (y 2)) * Gate.sigK (x2 (ix2 (y 1) (y 2)))) := by
  subst hd
  unfold out0_4
  canon_tiles x h
  all_goals open_payloads
  all_goals pointwise [Gate.sigK]
  all_goals
    obtain e1 : (y 1 : Fin 1024) = x 1 := Fin.ext h1
    obtain e2 : (y 2 : Fin 1408) = x 2 := Fin.ext h2
    rw [e1, e2]
  · rw [if_neg (by omega)]
  · rw [if_pos (by omega)]

/-- The reference's result at an index. -/
theorem ref_apply (a b : FVec Ideal S4096x2816 .bf16) (w : FVec Ideal S2816x1024 .bf16) (dy : FVec Ideal S4096x1024 .bf16)
    (j : S2x4096x2816.Idx) (d : EReal) (hd : d = ∑ k : Fin 1024, dy (ix2 (j 1) k) * w (ix2 (j 2) k)) :
    val_main_v14 (F := Ideal) a b w dy j
      = if (j 0 : ℕ) = 0 then
          (d * b (ix2 (j 1) (j 2))) * Gate.sigR (a (ix2 (j 1) (j 2)))
            + (a (ix2 (j 1) (j 2)) * (d * b (ix2 (j 1) (j 2)))) * (Gate.sigR (a (ix2 (j 1) (j 2))) * (1 - Gate.sigR (a (ix2 (j 1) (j 2)))))
        else (a (ix2 (j 1) (j 2)) * Gate.sigR (a (ix2 (j 1) (j 2)))) * d := by
  subst hd
  pointwise [val_main_v14, val_main_v13, val_main_v12, val_main_v11, val_main_v10, val_main_v9, val_main_v8, val_main_v7, val_main_v0, val_main_v1, val_main_v2, val_main_v3, val_main_v4_0, val_main_v4_1, val_main_v4_2, val_main_call1_v0, val_main_call1_v1, val_main_call1_v2,
    val_main_call0_v0, val_main_call0_v1, val_main_call0_v2, val_main_call0_v3, val_main_call0_v4, val_main_call0_v6, val_main_call0_v7, val_main_call0_cst, val_main_call0_cst_0, val_main_call0_cst_1, Gate.sigR]
  rcases Nat.eq_zero_or_pos (j 0 : ℕ) with h | h
  · rw [dif_pos (by omega), if_pos h]
  · rw [dif_neg (by omega), if_neg (by omega)]

/-- The kernel's array is the reference's, when the second input, the weights and the cotangent are real. -/
theorem final (m : (ℓ : Loc nD τ sig) → Buf (Elt Ideal) ℓ) (c : Dev nD)
    (hb : ∃ r : S4096x2816.Idx → ℝ, m ((c : Thread nD τ).loc main_arg1) = fun i => ((r i : ℝ) : EReal))
    (hw : ∃ r : S2816x1024.Idx → ℝ, m ((c : Thread nD τ).loc main_arg2) = fun i => ((r i : ℝ) : EReal))
    (hd : ∃ r : S4096x1024.Idx → ℝ, m ((c : Thread nD τ).loc main_arg3) = fun i => ((r i : ℝ) : EReal)) :
    (dats m 0 c).arrAt 4 cfg0.N
      = val_main_v14 (F := Ideal) (m ((c : Thread nD τ).loc main_arg0)) (m ((c : Thread nD τ).loc main_arg1))
          (m ((c : Thread nD τ).loc main_arg2)) (m ((c : Thread nD τ).loc main_arg3)) := by
  obtain ⟨rb, hb⟩ := hb
  obtain ⟨rw', hw⟩ := hw
  obtain ⟨rd, hd⟩ := hd
  refine (dats m 0 c).arrAt_eq_of_covers 4 _ (by decide +kernel) fun t hf y => ?_
  blk_simp
  rw [after0_4]
  refine (out_apply _ _ _ _ y _ rfl).trans ?_
  refine Eq.trans ?_ (ref_apply _ _ _ _ _ _ rfl).symm
  have e0 : ∀ k : Fin 1024, iblk m c 0 t (ix2 (y 1) k) = m ((c : Thread nD τ).loc main_arg3) (ix2 (((win0_4.blk t).view.emb y) 1) k) := by
    intro k; blk_point [iblk, V, idx t]
  have e1 : ∀ k : Fin 1024, iblk m c 1 t (ix2 (y 2) k) = m ((c : Thread nD τ).loc main_arg2) (ix2 (((win0_4.blk t).view.emb y) 2) k) := by
    intro k; blk_point [iblk, V, idx t]
  have e2 : iblk m c 2 t (ix2 (y 1) (y 2))
      = m ((c : Thread nD τ).loc main_arg0) (ix2 (((win0_4.blk t).view.emb y) 1) (((win0_4.blk t).view.emb y) 2)) := by
    blk_point [iblk, V, idx t]
  have e3 : iblk m c 3 t (ix2 (y 1) (y 2))
      = m ((c : Thread nD τ).loc main_arg1) (ix2 (((win0_4.blk t).view.emb y) 1) (((win0_4.blk t).view.emb y) 2)) := by
    blk_point [iblk, V, idx t]
  have e4 : (((win0_4.blk t).view.emb y) 0 : ℕ) = (y 0 : ℕ) := by blk_simp [idx t]
  rw [e2, e3, e4]
  simp only [e0, e1]
  rw [hb, hw, hd]
  simp only [← EReal.coe_mul, sum_coe]
  split
  · rw [EReal.coe_mul, Gate.dgate_eq]
  · rw [Gate.sig_eq, mul_comm]

end Cert.Swiglu

end
-- ==== Proof.Finite.lean ====
/- What the preconditions say of an array: each element is a real number. -/
module

public import proofs.«01_k».proof.Proof.Reals
public import Idealize.ShloMosaic.Lib.ReduceAll

@[expose] public section

noncomputable section

namespace Cert.Finite

open Idealize.ShloMosaic

/-- The shape of rank zero has one index. -/
instance : Subsingleton (Shape.Idx ⟨0, ![]⟩) := ⟨fun _ _ => funext fun a => a.elim0⟩

/-- If "the magnitude is below infinity" holds at every element, the array is one of reals. -/
theorem of_all {s t u : Shape} {axes : List (Fin s.rank)} [Subsingleton t.Idx] {z : Shape} (x : FVec Ideal s .f32)
    (d : Fin z.rank → Fin s.rank) (hd : z.BroadcastsInDim s d)
    (init : u.Idx → BitVec 1) (h : s.ReducesTo axes t) (hu : 0 < u.numel) (j : t.Idx)
    (e : Host.reduce IntOp.andi (cmpf .olt (Host.absf x) (broadcastInDim s d hd (constant z .f32 0x7F800000#32))) init h hu j = 1#1) :
    ∃ r : s.Idx → ℝ, x = fun i => ((r i : ℝ) : EReal) := by
  refine Reals.exists_reals fun i => ?_
  have h1 := Host.reduce_andi_all _ _ _ _ j e i
  have h2 : Ideal.cmp .olt (max (x i) (-(x i))) (Ideal.ofBits .f32 0x7F800000#32) = 1#1 := h1
  rw [Reals.word_top] at h2
  by_contra hc
  simp [Ideal.cmp, hc] at h2

end Cert.Finite

end
-- ==== Proof.SwigluPre.lean ====
/- What the precondition `finite2` says of the arrays. -/
module

public import proofs.«01_k».proof.Proof.Finite
public import proofs.«01_k».proof.Proof.Gen.Pre_finite2

@[expose] public section

noncomputable section

namespace Cert.Finite

open Idealize.ShloMosaic

/-- The precondition of the gated unit's gradient: the second input, the weights and the cotangent are real. -/
theorem of_finite2 (a b : FVec Ideal Pre_finite2.S4096x2816 .bf16) (w : FVec Ideal Pre_finite2.S2816x1024 .bf16)
    (dy : FVec Ideal Pre_finite2.S4096x1024 .bf16) (h : Pre_finite2.fn (F := Ideal) a b w dy = fun _ => 1#1) :
    (∃ r : Pre_finite2.S4096x2816.Idx → ℝ, b = fun i => ((r i : ℝ) : EReal))
    ∧ (∃ r : Pre_finite2.S2816x1024.Idx → ℝ, w = fun i => ((r i : ℝ) : EReal))
    ∧ (∃ r : Pre_finite2.S4096x1024.Idx → ℝ, dy = fun i => ((r i : ℝ) : EReal)) := by
  have e := congrFun h (fun a => a.elim0)
  obtain ⟨e, e3⟩ := IntOp.andi_eq_one.1 e
  obtain ⟨e1, e2⟩ := IntOp.andi_eq_one.1 e
  exact ⟨of_all _ _ _ _ _ _ _ e1, of_all _ _ _ _ _ _ _ e2, of_all _ _ _ _ _ _ _ e3⟩

end Cert.Finite

end
-- ==== Proof.MemPre.lean ====
/- What the precondition `finite3` says of the arrays. -/
module

public import proofs.«01_k».proof.Proof.Finite
public import proofs.«01_k».proof.Proof.Gen.Pre_finite3

@[expose] public section

noncomputable section

namespace Cert.Finite

open Idealize.ShloMosaic

/-- The precondition of the memory attention's gradient: the queries, the keys and values, both gains and the
    cotangent are real. -/
theorem of_finite3 (proj dproj : FVec Ideal Pre_finite3.S4096x13312 .f32) (kv : FVec Ideal Pre_finite3.S256x1024 .f32)
    (gq gk : FVec Ideal Pre_finite3.S1x128 .f32) (dO : FVec Ideal Pre_finite3.S4096x512 .f32)
    (h : Pre_finite3.fn (F := Ideal) proj kv gq gk dO dproj = fun _ => 1#1) :
    (∃ r : Pre_finite3.S4096x512.Idx → ℝ,
      extractStridedSlice Pre_finite3.S4096x512 ![0, 9728] proj Pre_finite3.Facts.slices_S4096x13312_S4096x512_0_9728 = fun i => ((r i : ℝ) : EReal))
    ∧ (∃ r : Pre_finite3.S256x1024.Idx → ℝ, kv = fun i => ((r i : ℝ) : EReal))
    ∧ (∃ r : Pre_finite3.S1x128.Idx → ℝ, gq = fun i => ((r i : ℝ) : EReal))
    ∧ (∃ r : Pre_finite3.S1x128.Idx → ℝ, gk = fun i => ((r i : ℝ) : EReal))
    ∧ (∃ r : Pre_finite3.S4096x512.Idx → ℝ, dO = fun i => ((r i : ℝ) : EReal)) := by
  have e := congrFun h (fun a => a.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨of_all _ _ _ _ _ _ _ e1, of_all _ _ _ _ _ _ _ e2, of_all _ _ _ _ _ _ _ e3, of_all _ _ _ _ _ _ _ e4, of_all _ _ _ _ _ _ _ e5⟩

end Cert.Finite

end
-- ==== Proof.Rms.lean ====
/- The root-mean-square norm of one row and its gradient, over the reals, at any width; and how a matrix of reals sits in
   the extended reals. -/
module

public import proofs.«01_k».proof.Proof.Reals

@[expose] public section

noncomputable section

namespace Cert.Rms

open Cert.Reals Idealize.ShloMosaic

/-- The embedding of an array of reals. -/
abbrev up {S : Shape} (x : S.Idx → ℝ) : S.Idx → EReal := fun i => ((x i : ℝ) : EReal)

/-- Row `i` of a matrix. -/
abbrev row {a n : ℕ} {α : Type} (x : Shape.Idx ⟨2, ![a, n]⟩ → α) (i : Fin a) (j : Fin n) : α := x (ix2 i j)

variable {n : ℕ} (D : ℝ)

/-- The mean square of a row (`D` is the width) plus the small constant. -/
def ms (q : Fin n → ℝ) : ℝ := (∑ k, q k * q k) / D + eps

/-- One over the root of it. -/
def inv (q : Fin n → ℝ) : ℝ := (Real.sqrt (ms D q))⁻¹

/-- The row divided by its root mean square. -/
def hat (q : Fin n → ℝ) (j : Fin n) : ℝ := q j * inv D q

/-- The normed row: with the gain. -/
def nrm (q g : Fin n → ℝ) (j : Fin n) : ℝ := hat D q j * g j

/-- The gradient through the norm: `w` is the gradient of the normed row. -/
def back (q g w : Fin n → ℝ) (j : Fin n) : ℝ :=
  inv D q * (w j * g j - hat D q j * ((∑ i, w i * g i * hat D q i) / D))

variable {D} (hD : 0 < D)
include hD

theorem ms_pos (q : Fin n → ℝ) : 0 < ms D q :=
  add_pos_of_nonneg_of_pos (div_nonneg (Finset.sum_nonneg fun k _ => mul_self_nonneg _) hD.le) eps_pos

theorem inv_pos (q : Fin n → ℝ) : 0 < inv D q := _root_.inv_pos.2 (Real.sqrt_pos.2 (ms_pos hD q))

/-- The square of one over the root, times the mean square, is one. -/
theorem inv_sq (q : Fin n → ℝ) : inv D q * inv D q * ms D q = 1 := by
  have h := Real.mul_self_sqrt (ms_pos hD q).le
  have h0 : Real.sqrt (ms D q) ≠ 0 := (Real.sqrt_pos.2 (ms_pos hD q)).ne'
  unfold inv
  field_simp
  nlinarith [h]

/-- The derivative of the norm, taken through the mean of squares and the reciprocal root. -/
theorem back_eq (q g w : Fin n → ℝ) (j : Fin n) :
    back D q g w j = w j * g j * inv D q
      + q j * ((∑ i, q i * (w i * g i)) * (-(1 / 2) * (inv D q / ms D q)) / D)
      + ((∑ i, q i * (w i * g i)) * (-(1 / 2) * (inv D q / ms D q)) / D) * q j := by
  have h := inv_sq hD q
  have h0 := (ms_pos hD q).ne'
  have e : ∑ i, w i * g i * hat D q i = (∑ i, q i * (w i * g i)) * inv D q := by
    rw [Finset.sum_mul]
    exact Finset.sum_congr rfl fun t _ => by unfold hat; ring
  have e2 : inv D q / ms D q = inv D q * inv D q * inv D q := by
    rw [div_eq_iff h0]; linear_combination (-inv D q) * h
  unfold back
  rw [e, e2]
  unfold hat
  ring

end Cert.Rms

end
-- ==== Proof.MemReal.lean ====
/- The attention to memory tokens for one query row, over the reals: the normed query, the probabilities, and the
   gradients of the scores and of the norms. -/
module

public import proofs.«01_k».proof.Proof.Rms

@[expose] public section

noncomputable section

namespace Cert.Mem

open Cert.Reals

/-- The mean square of a head's row plus the small constant. -/
abbrev ms (q : Fin 128 → ℝ) : ℝ := Rms.ms 128 q

/-- One over the root of it. -/
abbrev inv (q : Fin 128 → ℝ) : ℝ := Rms.inv 128 q

/-- The row divided by its root mean square. -/
abbrev hat (q : Fin 128 → ℝ) (j : Fin 128) : ℝ := Rms.hat 128 q j

/-- The normed row: with the gain. -/
abbrev nrm (q g : Fin 128 → ℝ) (j : Fin 128) : ℝ := Rms.nrm 128 q g j

/-- The score of a query row against memory token `s`. -/
def score (n : Fin 128 → ℝ) (K : Fin 256 → Fin 128 → ℝ) (s : Fin 256) : ℝ := (∑ j, n j * K s j) * scale

/-- The largest score. -/
def top (n : Fin 128 → ℝ) (K : Fin 256 → Fin 128 → ℝ) : ℝ :=
  (Finset.univ : Finset (Fin (255 + 1))).sup' ⟨0, Finset.mem_univ _⟩ (score n K)

/-- The exponential of a score below the largest. -/
def ex (n : Fin 128 → ℝ) (K : Fin 256 → Fin 128 → ℝ) (s : Fin 256) : ℝ := Real.exp (score n K s - top n K)

/-- The sum of the exponentials. -/
def tot (n : Fin 128 → ℝ) (K : Fin 256 → Fin 128 → ℝ) : ℝ := ∑ s, ex n K s

/-- The probability of memory token `s`. -/
def prob (n : Fin 128 → ℝ) (K : Fin 256 → Fin 128 → ℝ) (s : Fin 256) : ℝ := ex n K s / tot n K

/-- The gradient of the probability of token `s`: the output's gradient against the token's value. -/
def dprob (d : Fin 128 → ℝ) (V : Fin 256 → Fin 128 → ℝ) (s : Fin 256) : ℝ := ∑ j, d j * V s j

/-- The gradient of the score of token `s`, before the scale is taken off it. -/
def dscore (n d : Fin 128 → ℝ) (K V : Fin 256 → Fin 128 → ℝ) (s : Fin 256) : ℝ :=
  prob n K s * (dprob d V s - ∑ t, prob n K t * dprob d V t) * scale

/-- The gradient of the normed query. -/
def dnrm (n d : Fin 128 → ℝ) (K V : Fin 256 → Fin 128 → ℝ) (j : Fin 128) : ℝ := ∑ s, dscore n d K V s * K s j

/-- The gradient through the norm: `w` is the gradient of the normed row. -/
abbrev back (q g w : Fin 128 → ℝ) (j : Fin 128) : ℝ := Rms.back 128 q g w j

theorem ms_pos (q : Fin 128 → ℝ) : 0 < ms q := Rms.ms_pos (by norm_num) q

theorem tot_pos (n : Fin 128 → ℝ) (K : Fin 256 → Fin 128 → ℝ) : 0 < tot n K :=
  Finset.sum_pos (fun s _ => Real.exp_pos _) ⟨0, Finset.mem_univ _⟩

/-- The derivative of the softmax as a quotient's derivative: the numerator's part and the sum's part. -/
theorem dscore_eq (n d : Fin 128 → ℝ) (K V : Fin 256 → Fin 128 → ℝ) (s : Fin 256) :
    dscore n d K V s = (dprob d V s / tot n K
      + -(∑ t, dprob d V t * (1 / (tot n K * tot n K)) * ex n K t)) * ex n K s * scale := by
  have h := (tot_pos n K).ne'
  have e : ∑ t, prob n K t * dprob d V t = (∑ t, dprob d V t * (1 / (tot n K * tot n K)) * ex n K t) * tot n K := by
    rw [Finset.sum_mul]
    refine Finset.sum_congr rfl fun t _ => ?_
    unfold prob; field_simp
  unfold dscore
  rw [e]
  unfold prob
  field_simp
  ring

/-- The derivative of the norm, taken through the mean of squares and the reciprocal root. -/
theorem back_eq (q g w : Fin 128 → ℝ) (j : Fin 128) :
    back q g w j = w j * g j * inv q
      + q j * ((∑ i, q i * (w i * g i)) * (-(1 / 2) * (inv q / ms q)) / 128)
      + ((∑ i, q i * (w i * g i)) * (-(1 / 2) * (inv q / ms q)) / 128) * q j := Rms.back_eq (by norm_num) q g w j

end Cert.Mem

end
-- ==== Proof.MemPiece.lean ====
/- The gradient of the attention to memory tokens (`mem_bwd`), one piece of 256 queries: each vector that the kernel
   computes from a piece, over real inputs, is the vector of reals of `MemReal`. -/
module

public import proofs.«01_k».proof.Proof.MemReal
public import proofs.«01_k».proof.Proof.Gen.Kernel3Ideal.Skeleton
public import Idealize.ShloMosaic.Lib.Pipeline.ValueKit

@[expose] public section

set_option maxRecDepth 16384

noncomputable section

namespace Cert.Mem

open Cert.Kernel3Ideal Cert.Kernel3Ideal.Gen Idealize.ShloMosaic Idealize.ShloMosaic.TcCoe Idealize.SL.Sem
open Cert.Reals

/-- Row `i` of a matrix of heads' rows. -/
abbrev row {n : ℕ} {α : Type} (x : Shape.Idx ⟨2, ![n, 128]⟩ → α) (i : Fin n) (j : Fin 128) : α := x (ix2 i j)

/-- The embedding of an array of reals. -/
abbrev up {S : Shape} (x : S.Idx → ℝ) : S.Idx → EReal := fun i => ((x i : ℝ) : EReal)

/-- One over the root mean square of each row of a piece. -/
theorem p_inv (q : S256x128.Idx → ℝ) :
    k0_pay22 (F := Ideal) (up q) = up (S := S256x1) fun y => inv (row q (y 0)) := by
  funext y
  pointwise [k0_pay22]
  simp only [← EReal.coe_mul, sum_coe]
  rw [word_128, word_eps, div_coe (by norm_num), ← EReal.coe_add]
  exact rsqrt_coe (ms_pos _)

/-- Each row of a piece divided by its root mean square. -/
theorem p_hat (q : S256x128.Idx → ℝ) :
    k0_pay23 (F := Ideal) (up q) = up (S := S256x128) fun y => hat (row q (y 0)) (y 1) := by
  funext y
  pointwise [k0_pay23]
  rw [p_inv, ← EReal.coe_mul]
  rw [eq_ix2 y]
  rfl

/-- The normed rows of a piece. -/
theorem p_nrm (g : S1x128.Idx → ℝ) (q : S256x128.Idx → ℝ) :
    k0_pay24 (F := Ideal) (up g) (up q) = up (S := S256x128) fun y => nrm (row q (y 0)) (row g 0) (y 1) := by
  funext y
  pointwise [k0_pay24]
  rw [p_inv, ← EReal.coe_mul, ← EReal.coe_mul]
  rw [eq_ix2 y]
  rfl

/-- The probabilities of a piece of queries. -/
theorem p_prob (g : S1x128.Idx → ℝ) (K q : S256x128.Idx → ℝ) :
    k0_pay25 (F := Ideal) (up g) (up K) (up q)
      = up (S := S256x256) fun y => prob (nrm (row q (y 0)) (row g 0)) (row K) (y 1) := by
  funext y
  pointwise [k0_pay25]
  rw [p_nrm, word_bot, word_scale]
  simp only [up, ix2_0, ix2_1, ← EReal.coe_mul, sum_coe]
  erw [fold_max_coe (n := 255)]
  simp only [← EReal.coe_sub, exp_coe, sum_coe]
  exact div_coe (tot_pos (nrm (row q (y 0)) (row g 0)) (row K)).ne'

/-- The gradient of a piece's scores. -/
theorem p_dscore (g : S1x128.Idx → ℝ) (K V q d : S256x128.Idx → ℝ) :
    k0_pay26 (F := Ideal) (up g) (up K) (up V) (up q) (up d)
      = up (S := S256x256) fun y => dscore (nrm (row q (y 0)) (row g 0)) (row d (y 0)) (row K) (row V) (y 1) := by
  funext y
  pointwise [k0_pay26]
  rw [p_prob, word_scale]
  simp only [up, ix2_0, ix2_1, ← EReal.coe_mul, sum_coe, ← EReal.coe_sub]
  rfl

/-- The gradient of a piece's normed queries. -/
theorem p_dnrm (g : S1x128.Idx → ℝ) (K V q d : S256x128.Idx → ℝ) :
    k0_pay27 (F := Ideal) (up g) (up K) (up V) (up q) (up d)
      = up (S := S256x128) fun y => dnrm (nrm (row q (y 0)) (row g 0)) (row d (y 0)) (row K) (row V) (y 1) := by
  funext y
  pointwise [k0_pay27]
  rw [p_dscore]
  simp only [up, ix2_0, ix2_1, ← EReal.coe_mul, sum_coe]
  rfl

/-- The gradient of the queries: a piece of 256 rows. -/
theorem p_dq (g : S1x128.Idx → ℝ) (K V q d : S256x128.Idx → ℝ) :
    k0_pay30 (F := Ideal) (k0_pay22 (up q)) (k0_pay23 (up q)) (k0_pay28 (up g) (up K) (up V) (up q) (up d)) (k0_pay29 (up g) (up K) (up V) (up q) (up d))
      = up (S := S256x128) fun y => back (row q (y 0)) (row g 0)
          (dnrm (nrm (row q (y 0)) (row g 0)) (row d (y 0)) (row K) (row V)) (y 1) := by
  funext y
  pointwise [k0_pay30, k0_pay29, k0_pay28]
  rw [p_dnrm, p_inv, p_hat, word_128]
  simp only [up, ix2_0, ix2_1, ← EReal.coe_mul, sum_coe, div_coe (b := 128) (by norm_num), ← EReal.coe_sub]
  rfl

/-- The part of the values' gradient that a piece adds. -/
theorem p_dv (g : S1x128.Idx → ℝ) (K q d : S256x128.Idx → ℝ) :
    k0_pay31 (F := Ideal) (k0_pay25 (up g) (up K) (up q)) (up d)
      = up (S := S256x128) fun y => ∑ i, prob (nrm (row q i) (row g 0)) (row K) (y 0) * row d i (y 1) := by
  funext y
  pointwise [k0_pay31]
  rw [p_prob]
  simp only [up, ix2_0, ix2_1, ← EReal.coe_mul, sum_coe]
  rfl

/-- The part of the normed keys' gradient that a piece adds. -/
theorem p_dk (g : S1x128.Idx → ℝ) (K V q d : S256x128.Idx → ℝ) :
    k0_pay32 (F := Ideal) (k0_pay24 (up g) (up q)) (k0_pay26 (up g) (up K) (up V) (up q) (up d))
      = up (S := S256x128) fun y => ∑ i, dscore (nrm (row q i) (row g 0)) (row d i) (row K) (row V) (y 0)
          * nrm (row q i) (row g 0) (y 1) := by
  funext y
  pointwise [k0_pay32]
  rw [p_dscore, p_nrm]
  simp only [up, ix2_0, ix2_1, ← EReal.coe_mul, sum_coe]
  rfl

/-- The part of the query gain's gradient that a piece adds. -/
theorem p_dg (g : S1x128.Idx → ℝ) (K V q d : S256x128.Idx → ℝ) :
    k0_pay33 (F := Ideal) (k0_pay23 (up q)) (k0_pay27 (up g) (up K) (up V) (up q) (up d))
      = up (S := S1x128) fun y => ∑ i, dnrm (nrm (row q i) (row g 0)) (row d i) (row K) (row V) (y 1) * hat (row q i) (y 1) := by
  funext y
  pointwise [k0_pay33]
  rw [p_dnrm, p_hat]
  simp only [up, ix2_0, ix2_1, ← EReal.coe_mul, sum_coe]
  rfl

/-- The keys' gradient, from the normed keys' gradient. -/
theorem p_key (g : S1x128.Idx → ℝ) (k w : S256x128.Idx → ℝ) :
    k0_pay4 (F := Ideal) (up g) (k0_pay7 (up k)) (k0_pay8 (up k)) (up w)
      = up (S := S256x128) fun y => back (row k (y 0)) (row g 0) (row w (y 0)) (y 1) := by
  funext y
  pointwise [k0_pay4]
  rw [show k0_pay7 (F := Ideal) (up k) = _ from p_inv k, show k0_pay8 (F := Ideal) (up k) = _ from p_hat k, word_128]
  simp only [up, ix2_0, ix2_1, ← EReal.coe_mul, sum_coe, div_coe (b := 128) (by norm_num), ← EReal.coe_sub]
  rw [eq_ix2 y]
  rfl

/-- The key gain's gradient for one head. -/
theorem p_gain (k w : S256x128.Idx → ℝ) :
    k0_pay5 (F := Ideal) (k0_pay8 (up k)) (up w)
      = up (S := S1x128) fun y => ∑ i, row w i (y 1) * hat (row k i) (y 1) := by
  funext y
  pointwise [k0_pay5]
  rw [show k0_pay8 (F := Ideal) (up k) = _ from p_hat k]
  simp only [up, ix2_0, ix2_1, ← EReal.coe_mul, sum_coe]
  rfl

end Cert.Mem

end
-- ==== Proof.MemPoint.lean ====
/- The gradient of the attention to memory tokens (`mem_bwd`), one grid point: a block of 1024 queries of one head,
   in four pieces. -/
module

public import proofs.«01_k».proof.Proof.MemPiece
public import proofs.«01_k».proof.Proof.Gen.Kernel3Ideal.Value

@[expose] public section

set_option maxRecDepth 16384

noncomputable section

namespace Cert.Mem

open Cert.Kernel3Ideal Cert.Kernel3Ideal.Gen Idealize.ShloMosaic Idealize.ShloMosaic.TcCoe Idealize.SL.Sem
open Cert.Reals

/-- Row `256 p + i` of a block of 1024 rows. -/
abbrev at4 (p : Fin 4) (i : Fin 256) : Fin 1024 := ⟨256 * p + i, by omega⟩

/-- The rows from `256 p` on of a block of 1024 rows. -/
def cut (p : Fin 4) (x : S1024x128.Idx → ℝ) (y : S256x128.Idx) : ℝ := x (ix2 (at4 p (y 0)) (y 1))

/-- A sum over 1024 rows is the sum over the four pieces. -/
theorem sum_cut (f : Fin 1024 → ℝ) :
    ∑ i, f i = (∑ i, f (at4 0 i)) + (∑ i, f (at4 1 i)) + (∑ i, f (at4 2 i)) + ∑ i, f (at4 3 i) := by
  rw [show (∑ i, f i) = ∑ i : Fin (256 + 256 + 256 + 256), f i from rfl, Fin.sum_univ_add, Fin.sum_univ_add, Fin.sum_univ_add]
  refine congrArg₂ _ (congrArg₂ _ (congrArg₂ _ ?_ ?_) ?_) ?_ <;>
    exact Finset.sum_congr rfl fun i _ => congrArg f (Fin.ext (by simp [add_comm]))

/-- What the kernel loads of a block of 1024 rows from row `o = 256 p` on. -/
theorem ld_cut (p : Fin 4) (o : ℕ) (ho : o = 256 * p) (h : ∀ a, ![o, 0] a + ![256, 128] a ≤ S1024x128.size a) (x : S1024x128.Idx → ℝ) :
    View.ld (Val := Elt Ideal) (e' := .f32) (up x) (Rect.unit (s := S1024x128) ![o, 0] ![256, 128] h) = up (S := S256x128) (cut p x) := by
  funext y
  subst ho
  refine congrArg (up x) ?_
  funext a
  match a with
  | 0 => exact Fin.ext (by simp)
  | 1 => exact Fin.ext (by simp)

/-- The normed keys. -/
def keys (k : S256x128.Idx → ℝ) (gk : S1x128.Idx → ℝ) (y : S256x128.Idx) : ℝ := nrm (row k (y 0)) (row gk 0) (y 1)

theorem p9 (k : S256x128.Idx → ℝ) (gk : S1x128.Idx → ℝ) : k0_pay9 (F := Ideal) (up gk) (up k) = up (keys k gk) := p_nrm gk k

/-- The gradient of a piece's queries, as the second piece writes it. -/
abbrev dqV (gq : FVec Ideal S1x128 .f32) (kn V q d : FVec Ideal S256x128 .f32) : FVec Ideal S256x128 .bf16 :=
  k0_pay30 (F := Ideal) (k0_pay22 q) (k0_pay23 q) (k0_pay28 gq kn V q d) (k0_pay29 gq kn V q d)

theorem dq0 (gq gk : FVec Ideal S1x128 .f32) (k V q d : FVec Ideal S256x128 .f32) :
    k0_pay18 (F := Ideal) gq (k0_pay9 gk k) V (k0_pay10 q) (k0_pay11 q) (k0_pay13 gq gk k q) (k0_pay14 gq gk k q) d = dqV gq (k0_pay9 gk k) V q d := rfl

theorem dq2 (gq : FVec Ideal S1x128 .f32) (kn V q d : FVec Ideal S256x128 .f32) :
    k0_pay42 (F := Ideal) gq kn V (k0_pay34 q) (k0_pay35 q) (k0_pay37 gq kn q) (k0_pay38 gq kn q) d = dqV gq kn V q d := rfl

theorem dq3 (gq : FVec Ideal S1x128 .f32) (kn V q d : FVec Ideal S256x128 .f32) :
    k0_pay54 (F := Ideal) (k0_pay47 (k0_pay46 q) (FloatOps.ofBits FTy.f32 897988541#32)) (k0_pay53 gq kn V q (k0_pay46 q) (FloatOps.ofBits FTy.f32 897988541#32) d) = dqV gq kn V q d := rfl

/-- The five kinds of grid points. -/
theorem kinds (t : Fin cfg0.N) :
    (t.val % 16 = 0 ∧ ¬1 ≤ t.val ∧ t.val % 4 = 0 ∧ ¬1 ≤ t.val % 4 ∧ ¬t.val % 4 = 3)
    ∨ (¬t.val % 16 = 0 ∧ 1 ≤ t.val ∧ ¬t.val % 4 = 0 ∧ 1 ≤ t.val % 4 ∧ ¬t.val % 4 = 3)
    ∨ (¬t.val % 16 = 0 ∧ 1 ≤ t.val ∧ ¬t.val % 4 = 0 ∧ 1 ≤ t.val % 4 ∧ t.val % 4 = 3 ∧ t.val < 4 ∧ ¬4 ≤ t.val)
    ∨ (¬t.val % 16 = 0 ∧ 1 ≤ t.val ∧ t.val % 4 = 0 ∧ ¬1 ≤ t.val % 4 ∧ ¬t.val % 4 = 3)
    ∨ (¬t.val % 16 = 0 ∧ 1 ≤ t.val ∧ ¬t.val % 4 = 0 ∧ 1 ≤ t.val % 4 ∧ t.val % 4 = 3 ∧ ¬t.val < 4 ∧ 4 ≤ t.val) := by
  have ht : t.val < 16 := lt_of_lt_of_eq t.isLt N_0
  omega

theorem dv0 (gq gk : FVec Ideal S1x128 .f32) (k q d : FVec Ideal S256x128 .f32) :
    k0_pay19 (F := Ideal) (k0_pay13 gq gk k q) (k0_pay14 gq gk k q) d = k0_pay31 (k0_pay25 gq (k0_pay9 gk k) q) d := rfl

theorem dv2 (gq : FVec Ideal S1x128 .f32) (kn q d : FVec Ideal S256x128 .f32) :
    k0_pay43 (F := Ideal) (k0_pay37 gq kn q) (k0_pay38 gq kn q) d = k0_pay31 (k0_pay25 gq kn q) d := rfl

theorem dv3 (gq : FVec Ideal S1x128 .f32) (kn q d a b c : FVec Ideal S256x128 .f32) :
    k0_pay55 (F := Ideal) a b c (k0_pay50 gq kn q (k0_pay46 q) (FloatOps.ofBits FTy.f32 897988541#32)) d
      = addf (addf (addf a b) c) (k0_pay31 (k0_pay25 gq kn q) d) := rfl

theorem dk0 (gq gk : FVec Ideal S1x128 .f32) (k V q d : FVec Ideal S256x128 .f32) :
    k0_pay20 (F := Ideal) V (k0_pay12 gq q) (k0_pay13 gq gk k q) (k0_pay14 gq gk k q) d
      = k0_pay32 (k0_pay24 gq q) (k0_pay26 gq (k0_pay9 gk k) V q d) := rfl

theorem dk2 (gq : FVec Ideal S1x128 .f32) (kn V q d : FVec Ideal S256x128 .f32) :
    k0_pay44 (F := Ideal) V (k0_pay36 gq q) (k0_pay37 gq kn q) (k0_pay38 gq kn q) d
      = k0_pay32 (k0_pay24 gq q) (k0_pay26 gq kn V q d) := rfl

theorem dk3 (gq : FVec Ideal S1x128 .f32) (kn V q d a b c : FVec Ideal S256x128 .f32) :
    k0_pay56 (F := Ideal) a b c (k0_pay49 gq q (k0_pay46 q) (FloatOps.ofBits FTy.f32 897988541#32))
        (k0_pay51 gq kn V q (k0_pay46 q) (FloatOps.ofBits FTy.f32 897988541#32) d)
      = addf (addf (addf a b) c) (k0_pay32 (k0_pay24 gq q) (k0_pay26 gq kn V q d)) := rfl

theorem dg0 (gq gk : FVec Ideal S1x128 .f32) (k V q d : FVec Ideal S256x128 .f32) :
    k0_pay21 (F := Ideal) (k0_pay9 gk k) V (k0_pay11 q) (k0_pay13 gq gk k q) (k0_pay14 gq gk k q) d
      = k0_pay33 (k0_pay23 q) (k0_pay27 gq (k0_pay9 gk k) V q d) := rfl

theorem dg2 (gq : FVec Ideal S1x128 .f32) (kn V q d : FVec Ideal S256x128 .f32) :
    k0_pay45 (F := Ideal) kn V (k0_pay35 q) (k0_pay37 gq kn q) (k0_pay38 gq kn q) d
      = k0_pay33 (k0_pay23 q) (k0_pay27 gq kn V q d) := rfl

theorem dg3 (gq : FVec Ideal S1x128 .f32) (kn V q d : FVec Ideal S256x128 .f32) (a b c : FVec Ideal S1x128 .f32) :
    k0_pay57 (F := Ideal) a b c (k0_pay48 q (k0_pay46 q) (FloatOps.ofBits FTy.f32 897988541#32))
        (k0_pay52 gq kn V q (k0_pay46 q) (FloatOps.ofBits FTy.f32 897988541#32) d)
      = addf (addf (addf a b) c) (k0_pay33 (k0_pay23 q) (k0_pay27 gq kn V q d)) := rfl

/-- A row of the queries' gradient depends on its own query and cotangent rows only, so a piece's row is the block's. -/
theorem dq_row (p : Fin 4) (q d : S1024x128.Idx → ℝ) (K V : S256x128.Idx → ℝ) (g : S1x128.Idx → ℝ) (x : S256x128.Idx) (y : S1024x128.Idx)
    (h0 : (y 0 : ℕ) = 256 * p + (x 0 : ℕ)) (h1 : (y 1 : ℕ) = (x 1 : ℕ)) :
    up (S := S256x128) (fun y => back (row (cut p q) (y 0)) (row g 0)
        (dnrm (nrm (row (cut p q) (y 0)) (row g 0)) (row (cut p d) (y 0)) (row K) (row V)) (y 1)) x
      = up (S := S1024x128) (fun y => back (row q (y 0)) (row g 0)
          (dnrm (nrm (row q (y 0)) (row g 0)) (row d (y 0)) (row K) (row V)) (y 1)) y := by
  have e1 : (y 1 : Fin 128) = x 1 := Fin.ext h1
  have e0 : (y 0 : Fin 1024) = at4 p (x 0) := Fin.ext h0
  rw [eq_ix2 y, e0, e1]
  rfl

theorem p58 (a b c g : FVec Ideal S1x128 .f32) (h w : FVec Ideal S256x128 .f32) (y : S1x128.Idx) :
    k0_pay58 (F := Ideal) a b c h w g y = g y + k0_pay57 (F := Ideal) a b c h w y := by
  pointwise [k0_pay58]

/-- The part of the values' gradient that a block of 1024 queries adds. -/
def partV (q d : S1024x128.Idx → ℝ) (K : S256x128.Idx → ℝ) (g : S1x128.Idx → ℝ) (y : S256x128.Idx) : ℝ :=
  ∑ i, prob (nrm (row q i) (row g 0)) (row K) (y 0) * row d i (y 1)

/-- The part of the normed keys' gradient that a block of 1024 queries adds. -/
def partK (q d : S1024x128.Idx → ℝ) (K V : S256x128.Idx → ℝ) (g : S1x128.Idx → ℝ) (y : S256x128.Idx) : ℝ :=
  ∑ i, dscore (nrm (row q i) (row g 0)) (row d i) (row K) (row V) (y 0) * nrm (row q i) (row g 0) (y 1)

/-- The part of the query gain's gradient that a block of 1024 queries adds. -/
def partG (q d : S1024x128.Idx → ℝ) (K V : S256x128.Idx → ℝ) (g : S1x128.Idx → ℝ) (y : S1x128.Idx) : ℝ :=
  ∑ i, dnrm (nrm (row q i) (row g 0)) (row d i) (row K) (row V) (y 1) * hat (row q i) (y 1)

theorem sum4 {S : Shape} (a b c d : S.Idx → ℝ) :
    addf (F := Ideal) (φ := .f32) (addf (addf (up a) (up b)) (up c)) (up d) = up fun y => a y + b y + c y + d y := by
  funext y
  show (a y : EReal) + b y + c y + d y = _
  simp only [← EReal.coe_add]

variable (m : (ℓ : Loc nD τ sig) → Buf (Elt Ideal) ℓ)

section
variable (c : Dev nD) (t : Fin cfg0.N) (q d : S1024x128.Idx → ℝ) (k V : S256x128.Idx → ℝ) (gq gk : S1x128.Idx → ℝ)
  (hq : iblk m c 0 t = up q) (hk : iblk m c 1 t = up k) (hV : iblk m c 2 t = up V) (hgq : iblk m c 3 t = up gq)
  (hgk : iblk m c 4 t = up gk) (hd : iblk m c 5 t = up d)
include hq hk hV hgq hgk hd

/-- The block of the queries' gradient. -/
theorem point6 (y : S1024x128.Idx) :
    (outsAt0 m c t.val t.isLt).1 y = up (S := S1024x128) (fun y => back (row q (y 0)) (row gq 0)
          (dnrm (nrm (row q (y 0)) (row gq 0)) (row d (y 0)) (row (keys k gk)) (row V)) (y 1)) y := by
  rcases kinds t with h | h | h | h | h
  on_goal 1 => rw [outsAt0_A m c t h.1 h.2.1 h.2.2.1 h.2.2.2.1 h.2.2.2.2]
  on_goal 2 => rw [outsAt0_B m c t h.1 h.2.1 h.2.2.1 h.2.2.2.1 h.2.2.2.2]
  on_goal 3 => rw [outsAt0_C m c t h.1 h.2.1 h.2.2.1 h.2.2.2.1 h.2.2.2.2.1 h.2.2.2.2.2.1 h.2.2.2.2.2.2]
  on_goal 4 => rw [outsAt0_D m c t h.1 h.2.1 h.2.2.1 h.2.2.2.1 h.2.2.2.2]
  on_goal 5 => rw [outsAt0_E m c t h.1 h.2.1 h.2.2.1 h.2.2.2.1 h.2.2.2.2.1 h.2.2.2.2.2.1 h.2.2.2.2.2.2]
  all_goals
    frame_out
    rw [hq, hk, hV, hgq, hgk, hd]
    canon_tiles x h
  all_goals first | rw [dq0] | rw [dq2] | rw [dq3] | skip
  all_goals simp only [p9, ld_cut 0 0 rfl, ld_cut 1 256 rfl, ld_cut 2 512 rfl, ld_cut 3 768 rfl]
  all_goals refine (congrFun (p_dq _ _ _ _ _) x).trans ?_
  all_goals exact dq_row _ q d _ _ _ x y (by simpa using h0) h1

/-- The first point of a head starts the values' gradient. -/
theorem reset8 (h : t.val % 4 = 0) (y : S256x128.Idx) :
    (outsAt0 m c t.val t.isLt).2.2.1 y = 0 + up (S := S256x128) (partV q d (keys k gk) gq) y := by
  have hh := kinds t
  rw [zero_add]
  refine congrFun ?_ y
  by_cases h0 : t.val % 16 = 0
  on_goal 1 => rw [outsAt0_A m c t h0 (by omega) h (by omega) (by omega)]
  on_goal 2 => rw [outsAt0_D m c t h0 (by omega) h (by omega) (by omega)]
  all_goals
    frame_out
    rw [hq, hk, hgq, hgk, hd, dv3]
    simp only [dv0, dv2, p9, ld_cut 0 0 rfl, ld_cut 1 256 rfl, ld_cut 2 512 rfl, ld_cut 3 768 rfl, p_dv, sum4]
    funext y
    exact congrArg _ (sum_cut fun i => prob (nrm (row q i) (row gq 0)) (row (keys k gk)) (y 0) * row d i (y 1)).symm

/-- Every other point adds its part. -/
theorem step8 (h : ¬t.val % 4 = 0) (y : S256x128.Idx) :
    (outsAt0 m c t.val t.isLt).2.2.1 y = (outsAt0 m c (t.val - 1) (Nat.lt_of_le_of_lt (Nat.sub_le _ _) t.isLt)).2.2.1 y
      + up (S := S256x128) (partV q d (keys k gk) gq) y := by
  rcases kinds t with h | h | h | h | h
  on_goal 1 => omega
  on_goal 3 => omega
  on_goal 1 => rw [outsAt0_B m c t h.1 h.2.1 h.2.2.1 h.2.2.2.1 h.2.2.2.2]
  on_goal 2 => rw [outsAt0_C m c t h.1 h.2.1 h.2.2.1 h.2.2.2.1 h.2.2.2.2.1 h.2.2.2.2.2.1 h.2.2.2.2.2.2]
  on_goal 3 => rw [outsAt0_E m c t h.1 h.2.1 h.2.2.1 h.2.2.2.1 h.2.2.2.2.1 h.2.2.2.2.2.1 h.2.2.2.2.2.2]
  all_goals
    frame_out
    rw [hq, hk, hgq, hgk, hd, dv3]
    simp only [dv0, dv2, p9, ld_cut 0 0 rfl, ld_cut 1 256 rfl, ld_cut 2 512 rfl, ld_cut 3 768 rfl, p_dv, sum4]
    pointwise [k0_pay2]
    refine congrArg _ (congrArg _ (sum_cut fun i => prob (nrm (row q i) (row gq 0)) (row (keys k gk)) (y 0) * row d i (y 1)).symm)

/-- The first point of a head starts the normed keys' gradient. -/
theorem resetS (h : t.val % 4 = 0) (y : S256x128.Idx) :
    (outsAt0 m c t.val t.isLt).2.2.2.2.2 y = 0 + up (S := S256x128) (partK q d (keys k gk) V gq) y := by
  have hh := kinds t
  rw [zero_add]
  refine congrFun ?_ y
  by_cases h0 : t.val % 16 = 0
  on_goal 1 => rw [outsAt0_A m c t h0 (by omega) h (by omega) (by omega)]
  on_goal 2 => rw [outsAt0_D m c t h0 (by omega) h (by omega) (by omega)]
  all_goals
    frame_out
    rw [hq, hk, hV, hgq, hgk, hd, dk3]
    simp only [dk0, dk2, p9, ld_cut 0 0 rfl, ld_cut 1 256 rfl, ld_cut 2 512 rfl, ld_cut 3 768 rfl, p_dk, sum4]
    funext y
    pointwise [k0_pay1]
    exact congrArg _ (sum_cut fun i => dscore (nrm (row q i) (row gq 0)) (row d i) (row (keys k gk)) (row V) (y 0) * nrm (row q i) (row gq 0) (y 1)).symm

/-- Every other point adds its part. -/
theorem stepS (h : ¬t.val % 4 = 0) (y : S256x128.Idx) :
    (outsAt0 m c t.val t.isLt).2.2.2.2.2 y = (outsAt0 m c (t.val - 1) (Nat.lt_of_le_of_lt (Nat.sub_le _ _) t.isLt)).2.2.2.2.2 y
      + up (S := S256x128) (partK q d (keys k gk) V gq) y := by
  rcases kinds t with h | h | h | h | h
  on_goal 1 => omega
  on_goal 3 => omega
  on_goal 1 => rw [outsAt0_B m c t h.1 h.2.1 h.2.2.1 h.2.2.2.1 h.2.2.2.2]
  on_goal 2 => rw [outsAt0_C m c t h.1 h.2.1 h.2.2.1 h.2.2.2.1 h.2.2.2.2.1 h.2.2.2.2.2.1 h.2.2.2.2.2.2]
  on_goal 3 => rw [outsAt0_E m c t h.1 h.2.1 h.2.2.1 h.2.2.2.1 h.2.2.2.2.1 h.2.2.2.2.2.1 h.2.2.2.2.2.2]
  all_goals
    frame_out
    rw [hq, hk, hV, hgq, hgk, hd, dk3]
    simp only [dk0, dk2, p9, ld_cut 0 0 rfl, ld_cut 1 256 rfl, ld_cut 2 512 rfl, ld_cut 3 768 rfl, p_dk, sum4]
    pointwise [k0_pay3]
    refine congrArg₂ (· + ·) ?_ (congrArg _ (sum_cut fun i => dscore (nrm (row q i) (row gq 0)) (row d i) (row (keys k gk)) (row V) (y 0) * nrm (row q i) (row gq 0) (y 1)).symm)
    exact congrFun (Memref.IsWhole.read_unread _ _) y

/-- The first point starts the query gain's gradient. -/
theorem reset9 (h : t.val % 16 = 0) (y : S1x128.Idx) :
    (outsAt0 m c t.val t.isLt).2.2.2.1 y = 0 + up (S := S1x128) (partG q d (keys k gk) V gq) y := by
  have hh := kinds t
  rw [zero_add]
  refine congrFun ?_ y
  rw [outsAt0_A m c t h (by omega) (by omega) (by omega) (by omega)]
  frame_out
  rw [hq, hk, hV, hgq, hgk, hd, dg3]
  simp only [dg0, dg2]
  simp only [p9, ld_cut 0 0 rfl, ld_cut 1 256 rfl, ld_cut 2 512 rfl, ld_cut 3 768 rfl, p_dg, sum4]
  funext y
  exact congrArg _ (sum_cut fun i => dnrm (nrm (row q i) (row gq 0)) (row d i) (row (keys k gk)) (row V) (y 1) * hat (row q i) (y 1)).symm

/-- Every other point adds its part. -/
theorem step9 (h : ¬t.val % 16 = 0) (y : S1x128.Idx) :
    (outsAt0 m c t.val t.isLt).2.2.2.1 y = (outsAt0 m c (t.val - 1) (Nat.lt_of_le_of_lt (Nat.sub_le _ _) t.isLt)).2.2.2.1 y
      + up (S := S1x128) (partG q d (keys k gk) V gq) y := by
  rcases kinds t with h | h | h | h | h
  on_goal 1 => omega
  on_goal 1 => rw [outsAt0_B m c t h.1 h.2.1 h.2.2.1 h.2.2.2.1 h.2.2.2.2]
  on_goal 2 => rw [outsAt0_C m c t h.1 h.2.1 h.2.2.1 h.2.2.2.1 h.2.2.2.2.1 h.2.2.2.2.2.1 h.2.2.2.2.2.2]
  on_goal 3 => rw [outsAt0_D m c t h.1 h.2.1 h.2.2.1 h.2.2.2.1 h.2.2.2.2]
  on_goal 4 => rw [outsAt0_E m c t h.1 h.2.1 h.2.2.1 h.2.2.2.1 h.2.2.2.2.1 h.2.2.2.2.2.1 h.2.2.2.2.2.2]
  all_goals
    frame_out
    rw [p58, hq, hk, hV, hgq, hgk, hd, dg3]
    simp only [dg0, dg2]
    simp only [p9, ld_cut 0 0 rfl, ld_cut 1 256 rfl, ld_cut 2 512 rfl, ld_cut 3 768 rfl, p_dg, sum4]
    refine congrArg _ (congrArg _ (sum_cut fun i => dnrm (nrm (row q i) (row gq 0)) (row d i) (row (keys k gk)) (row V) (y 1) * hat (row q i) (y 1)).symm)

end

/-- The last point of a head writes the keys' gradient, from the normed keys' gradient that it leaves. -/
theorem point7 (c : Dev nD) (t : Fin cfg0.N) (k w : S256x128.Idx → ℝ) (gk : S1x128.Idx → ℝ)
    (hk : iblk m c 1 t = up k) (hgk : iblk m c 4 t = up gk) (h : t.val % 4 = 3)
    (hw : (outsAt0 m c t.val t.isLt).2.2.2.2.2 = up w) (y : S256x128.Idx) :
    (outsAt0 m c t.val t.isLt).2.1 y = up (S := S256x128) (fun y => back (row k (y 0)) (row gk 0) (row w (y 0)) (y 1)) y := by
  refine congrFun ?_ y
  refine Eq.trans (b := k0_pay4 (F := Ideal) (iblk m c 4 t) (k0_pay7 (iblk m c 1 t)) (k0_pay8 (iblk m c 1 t)) (outsAt0 m c t.val t.isLt).2.2.2.2.2) ?_ ?_
  · rcases kinds t with h | h | h | h | h
    on_goal 1 => omega
    on_goal 1 => omega
    on_goal 2 => omega
    on_goal 1 => rw [outsAt0_C m c t h.1 h.2.1 h.2.2.1 h.2.2.2.1 h.2.2.2.2.1 h.2.2.2.2.2.1 h.2.2.2.2.2.2]
    on_goal 2 => rw [outsAt0_E m c t h.1 h.2.1 h.2.2.1 h.2.2.2.1 h.2.2.2.2.1 h.2.2.2.2.2.1 h.2.2.2.2.2.2]
    all_goals frame_out
  · rw [hk, hgk, hw, p_key]

end Cert.Mem

end
-- ==== Proof.MemRef.lean ====
/- The gradient of the attention to memory tokens (`mem_bwd`), the reference: each stage, over real inputs, is the array
   of reals of `MemReal`, head by head. -/
module

public import proofs.«01_k».proof.Proof.MemPiece
public import proofs.«01_k».proof.Proof.Gen.Reference3Ideal.Read

@[expose] public section

set_option maxRecDepth 16384

noncomputable section

namespace Cert.Mem

open Cert.Reference3Ideal Cert.Reference3Ideal.Gen Idealize.ShloMosaic Idealize.ShloMosaic.TcCoe Idealize.SL.Sem
open Cert.Reference3Ideal.Read Cert.Reals

/-- The query of head `h`, row `i`. -/
abbrev headQ (r : Shape.Idx ⟨2, ![4096, 512]⟩ → ℝ) (h : Fin 4) (i : Fin 4096) (j : Fin 128) : ℝ := r (ix2 i ⟨128 * h + j, by omega⟩)

/-- The key of head `h`, memory token `s`. -/
abbrev headK (r : Shape.Idx ⟨2, ![256, 1024]⟩ → ℝ) (h : Fin 4) (s : Fin 256) (j : Fin 128) : ℝ := r (ix2 s ⟨128 * h + j, by omega⟩)

/-- The value of head `h`, memory token `s`. -/
abbrev headV (r : Shape.Idx ⟨2, ![256, 1024]⟩ → ℝ) (h : Fin 4) (s : Fin 256) (j : Fin 128) : ℝ := r (ix2 s ⟨512 + (128 * h + j), by omega⟩)

section
variable (Q D : Shape.Idx ⟨2, ![4096, 512]⟩ → ℝ) (E : Shape.Idx ⟨2, ![256, 1024]⟩ → ℝ) (gq gk : Shape.Idx ⟨2, ![1, 128]⟩ → ℝ)

/-- The normed query of a head's row. -/
def qn (h : Fin 4) (i : Fin 4096) : Fin 128 → ℝ := nrm (headQ Q h i) (row gq 0)

/-- The normed keys of a head. -/
def kn (h : Fin 4) (s : Fin 256) : Fin 128 → ℝ := nrm (headK E h s) (row gk 0)

/-- The gradient of the values of a head. -/
def gV (h : Fin 4) (s : Fin 256) (j : Fin 128) : ℝ := ∑ i, prob (qn Q gq h i) (kn E gk h) s * headQ D h i j

/-- The gradient of the normed keys of a head. -/
def gKn (h : Fin 4) (s : Fin 256) (j : Fin 128) : ℝ :=
  ∑ i, dscore (qn Q gq h i) (headQ D h i) (kn E gk h) (headV E h) s * qn Q gq h i j

/-- The gradient of the normed queries of a head. -/
def gQn (h : Fin 4) (i : Fin 4096) : Fin 128 → ℝ := dnrm (qn Q gq h i) (headQ D h i) (kn E gk h) (headV E h)

/-- The gradient of the queries' gain. -/
def gGq (j : Fin 128) : ℝ := ∑ h, ∑ i, gQn Q D E gq gk h i j * hat (headQ Q h i) j

/-- The gradient of the keys' gain. -/
def gGk (j : Fin 128) : ℝ := ∑ h, ∑ s, gKn Q D E gq gk h s j * hat (headK E h s) j

end

/-- A host sum over the first two of three axes. -/
theorem sum01 {n a b : ℕ} (h : (⟨3, ![n, a, b]⟩ : Shape).ReducesTo [0, 1] ⟨1, ![b]⟩) (v : Shape.Idx ⟨3, ![n, a, b]⟩ → EReal) (init : EReal)
    (j : Shape.Idx ⟨1, ![b]⟩) : Ideal.hostReduceAdd h v init j = init + ∑ p : Fin n, ∑ q : Fin a, v (ix3 p q (j 0)) := by
  classical
  have fib : ∀ i : Shape.Idx ⟨3, ![n, a, b]⟩, h.drop i = j ↔ ∃ k : Fin n × Fin a, ix3 k.1 k.2 (j 0) = i := by
    intro i
    constructor
    · intro e
      refine ⟨(i 0, i 1), ?_⟩
      funext c
      match c with
      | ⟨0, _⟩ => rfl
      | ⟨1, _⟩ => rfl
      | ⟨2, _⟩ => exact Fin.ext (congrArg Fin.val (congrFun e 0)).symm
    · rintro ⟨k, rfl⟩
      funext c
      match c with
      | ⟨0, _⟩ => rfl
  unfold Ideal.hostReduceAdd
  refine (congrArg (init + ·) (Finset.sum_filter_eq_sum_of_fiber (fun i => h.drop i = j) (fun k : Fin n × Fin a => ix3 k.1 k.2 (j 0))
    (fun x y e => Prod.ext (congrFun e 0) (congrFun e 1)) fib v)).trans ?_
  exact congrArg (init + ·) (Fintype.sum_prod_type _)

/-- A host maximum over the last of three axes. -/
theorem max2 {a b n : ℕ} {t : Shape} (H : (⟨3, ![a, b, n + 1]⟩ : Shape).ReducesTo [2] ⟨2, ![a, b]⟩) (y : FVec Ideal ⟨3, ![a, b, n + 1]⟩ .f32)
    (z : FVec Ideal t .f32) (ht : 0 < t.numel) (hz : z (Shape.Idx.first ht) = (⊥ : EReal)) (p : Fin a) (q : Fin b) (f : Fin (n + 1) → ℝ)
    (hy : ∀ k, y (ix3 p q k) = ((f k : ℝ) : EReal)) :
    Host.reduce FloatOps.maximumf y z H ht (ix2 p q) = ((Finset.univ.sup' Finset.univ_nonempty f : ℝ) : EReal) := by
  rw [Host.reduce_eq_fold, Shape.ReducesTo.fold_fiber_r3_a2, hz]
  refine Eq.trans ?_ (fold_max_coe f)
  refine congrArg (fun g => Finset.univ.fold max (⊥ : EReal) g) (funext fun k => ?_)
  exact hy k

section
variable (x0 : (⟨S4096x13312, .f32⟩ : BufTy).Contents (Elt Ideal)) (Q D : Shape.Idx ⟨2, ![4096, 512]⟩ → ℝ)
  (E : Shape.Idx ⟨2, ![256, 1024]⟩ → ℝ) (gq gk : Shape.Idx ⟨2, ![1, 128]⟩ → ℝ) (h : Fin 4) (i : Fin 4096) (s : Fin 256) (j : Fin 128) (o : Fin 1)

/-! The keys and the values. -/

theorem r_k : val_main_v20 (F := Ideal) (up E) (ix3 s h j) = ((headK E h s j : ℝ) : EReal) := by
  pointwise [val_main_v20, val_main_v0]
  simp only [Nat.mul_comm h.val]

theorem r_v : val_main_v37 (F := Ideal) (up E) (ix3 s h j) = ((headV E h s j : ℝ) : EReal) := by
  pointwise [val_main_v37, val_main_v1]
  simp only [Nat.mul_comm h.val]

theorem r_msk : val_main_v27 (F := Ideal) (up E) (ix3 s h o) = ((ms (headK E h s) : ℝ) : EReal) := by
  pointwise [val_main_v27, val_main_v26, val_main_v25, val_main_v24, val_main_v23, val_main_v22, val_main_v21, val_main_cst_3, val_main_cst_4, val_main_cst_5]
  simp only [r_k, ← EReal.coe_mul, sum_coe, zero_add]
  rw [word_128, word_eps, div_coe (by norm_num), ← EReal.coe_add]
  rfl

theorem r_invk : val_main_v28 (F := Ideal) (up E) (ix3 s h o) = ((inv (headK E h s) : ℝ) : EReal) := by
  pointwise [val_main_v28]
  rw [r_msk]
  exact rsqrt_coe (ms_pos _)

theorem r_hatk : val_main_v33 (F := Ideal) (up E) (ix3 s h j) = ((hat (headK E h s) j : ℝ) : EReal) := by
  pointwise [val_main_v33, val_main_v32]
  rw [r_k, r_invk, ← EReal.coe_mul]
  rfl

theorem r_kn : val_main_v36 (F := Ideal) (up E) (up gk) (ix3 s h j) = ((kn E gk h s j : ℝ) : EReal) := by
  pointwise [val_main_v36, val_main_v35, val_main_v34]
  rw [r_hatk, ← EReal.coe_mul]
  rfl

/-! The queries. -/

variable (hQ : val_main_v2 (F := Ideal) x0 = up Q)
include hQ

theorem r_q : val_main_v3 (F := Ideal) x0 (ix3 i h j) = ((headQ Q h i j : ℝ) : EReal) := by
  rw [val_main_v3_apply, hQ]
  refine congrArg (fun z => ((Q z : ℝ) : EReal)) ?_
  funext a
  match a with
  | ⟨0, _⟩ => exact Fin.ext (by show ((i.val * 4 + h.val) * 128 + j.val) / 512 = i.val; omega)
  | ⟨1, _⟩ => exact Fin.ext (by show ((i.val * 4 + h.val) * 128 + j.val) % 512 = 128 * h.val + j.val; omega)

theorem r_msq : val_main_v10 (F := Ideal) x0 (ix3 i h o) = ((ms (headQ Q h i) : ℝ) : EReal) := by
  pointwise [val_main_v10, val_main_v9, val_main_v8, val_main_v7, val_main_v6, val_main_v5, val_main_v4, val_main_cst, val_main_cst_0, val_main_cst_1]
  simp only [r_q x0 Q (hQ := hQ), ← EReal.coe_mul, sum_coe, zero_add]
  rw [word_128, word_eps, div_coe (by norm_num), ← EReal.coe_add]
  rfl

theorem r_invq : val_main_v11 (F := Ideal) x0 (ix3 i h o) = ((inv (headQ Q h i) : ℝ) : EReal) := by
  pointwise [val_main_v11]
  rw [r_msq x0 Q (hQ := hQ)]
  exact rsqrt_coe (ms_pos _)

theorem r_hatq : val_main_v16 (F := Ideal) x0 (ix3 i h j) = ((hat (headQ Q h i) j : ℝ) : EReal) := by
  pointwise [val_main_v16, val_main_v15]
  rw [r_q x0 Q (hQ := hQ), r_invq x0 Q (hQ := hQ), ← EReal.coe_mul]
  rfl

theorem r_qn : val_main_v19 (F := Ideal) x0 (up gq) (ix3 i h j) = ((qn Q gq h i j : ℝ) : EReal) := by
  pointwise [val_main_v19, val_main_v18, val_main_v17]
  rw [r_hatq x0 Q (hQ := hQ), ← EReal.coe_mul]
  rfl

/-! The attention. -/

theorem r_score : val_main_v40 (F := Ideal) x0 (up E) (up gq) (up gk) (ix3 h i s) = ((score (qn Q gq h i) (kn E gk h) s : ℝ) : EReal) := by
  pointwise [val_main_v40, val_main_v39, val_main_v38, val_main_cst_7]
  simp only [r_qn x0 Q (hQ := hQ), r_kn, ← EReal.coe_mul, sum_coe]
  rw [word_scale, ← EReal.coe_mul]
  rfl

theorem r_top0 : val_main_v41 (F := Ideal) x0 (up E) (up gq) (up gk) (ix2 h i) = ((top (qn Q gq h i) (kn E gk h) : ℝ) : EReal) := by
  unfold val_main_v41
  exact max2 (n := 255) _ _ _ _ word_bot h i (score (qn Q gq h i) (kn E gk h)) fun k => r_score x0 Q E gq gk h i k hQ

theorem r_top : val_main_v48 (F := Ideal) x0 (up E) (up gq) (up gk) (ix2 h i) = ((top (qn Q gq h i) (kn E gk h) : ℝ) : EReal) := by
  have e : val_main_v47 (F := Ideal) (ix2 h i) = (⊥ : EReal) := (val_main_v47_apply _).trans word_bot
  rw [val_main_v48_apply, r_top0 x0 Q E gq gk (hQ := hQ), e]
  exact max_eq_right bot_le

theorem r_ex : val_main_v61 (F := Ideal) x0 (up E) (up gq) (up gk) (ix3 h i s) = ((ex (qn Q gq h i) (kn E gk h) s : ℝ) : EReal) := by
  pointwise [val_main_v61, val_main_v60, val_main_v59, val_main_v58]
  rw [r_score x0 Q E gq gk (hQ := hQ), r_top x0 Q E gq gk (hQ := hQ), ← EReal.coe_sub, exp_coe]
  rfl

theorem r_tot : val_main_v63 (F := Ideal) x0 (up E) (up gq) (up gk) (ix3 h i o) = ((tot (qn Q gq h i) (kn E gk h) : ℝ) : EReal) := by
  pointwise [val_main_v63, val_main_v62, val_main_cst_16]
  simp only [r_ex x0 Q E gq gk (hQ := hQ), sum_coe, zero_add]
  rfl

theorem r_prob : val_main_v65 (F := Ideal) x0 (up E) (up gq) (up gk) (ix3 h i s) = ((prob (qn Q gq h i) (kn E gk h) s : ℝ) : EReal) := by
  pointwise [val_main_v65, val_main_v64]
  rw [r_ex x0 Q E gq gk (hQ := hQ), r_tot x0 Q E gq gk (hQ := hQ), div_coe (tot_pos _ _).ne']
  rfl

/-! The gradients. -/

omit hQ in
theorem r_d : val_main_v73 (F := Ideal) (up D) (ix3 h j i) = ((headQ D h i j : ℝ) : EReal) := by
  pointwise [val_main_v73, val_main_v72]
  simp only [Nat.mul_comm h.val]

omit hQ in
theorem r_dprob : val_main_v74 (F := Ideal) (up E) (up D) (ix3 h i s) = ((dprob (headQ D h i) (headV E h) s : ℝ) : EReal) := by
  pointwise [val_main_v74]
  simp only [r_d, r_v, ← EReal.coe_mul, sum_coe]
  rfl

theorem r_gV : val_main_v76 (F := Ideal) x0 (up E) (up gq) (up gk) (up D) (ix3 s h j) = ((gV Q D E gq gk h s j : ℝ) : EReal) := by
  pointwise [val_main_v76, val_main_v75]
  simp only [r_d, r_prob x0 Q E gq gk (hQ := hQ), ← EReal.coe_mul, sum_coe]
  exact congrArg _ (Finset.sum_congr rfl fun i _ => mul_comm _ _)

theorem r_gsum : val_main_v85 (F := Ideal) x0 (up E) (up gq) (up gk) (up D) (ix2 h i)
    = ((-(∑ t, dprob (headQ D h i) (headV E h) t * (1 / (tot (qn Q gq h i) (kn E gk h) * tot (qn Q gq h i) (kn E gk h))) * ex (qn Q gq h i) (kn E gk h) t) : ℝ) : EReal) := by
  have h0 := (tot_pos (qn Q gq h i) (kn E gk h)).ne'
  pointwise [val_main_v85, val_main_v82, val_main_v81, val_main_v80, val_main_v79, val_main_v78, val_main_v77, val_main_v68, val_main_v67, val_main_v66, val_main_cst_17, val_main_cst_18, val_main_cst_19]
  simp only [r_dprob, r_tot x0 Q E gq gk (hQ := hQ), r_ex x0 Q E gq gk (hQ := hQ), ← EReal.coe_mul]
  rw [← EReal.coe_one, div_coe (mul_ne_zero h0 h0)]
  simp only [← EReal.coe_mul, sum_coe, zero_add, Fin.sum_univ_one]
  rw [← EReal.coe_neg]

theorem r_dscore : val_main_v90 (F := Ideal) x0 (up E) (up gq) (up gk) (up D) (ix3 h i s)
    = ((dscore (qn Q gq h i) (headQ D h i) (kn E gk h) (headV E h) s : ℝ) : EReal) := by
  have h0 := (tot_pos (qn Q gq h i) (kn E gk h)).ne'
  pointwise [val_main_v90, val_main_v89, val_main_v88, val_main_v87, val_main_v86, val_main_v84, val_main_v83, val_main_cst_20]
  rw [r_dprob, r_gsum x0 Q D E gq gk (hQ := hQ), r_tot x0 Q E gq gk (hQ := hQ), r_ex x0 Q E gq gk (hQ := hQ), div_coe h0, word_scale, ← EReal.coe_add, ← EReal.coe_mul, ← EReal.coe_mul, dscore_eq]

theorem r_gKn : val_main_v92 (F := Ideal) x0 (up E) (up gq) (up gk) (up D) (ix3 s h j) = ((gKn Q D E gq gk h s j : ℝ) : EReal) := by
  pointwise [val_main_v92, val_main_v91]
  simp only [r_dscore x0 Q D E gq gk (hQ := hQ), r_qn x0 Q (hQ := hQ), ← EReal.coe_mul, sum_coe]
  rfl

theorem r_gQn : val_main_v94 (F := Ideal) x0 (up E) (up gq) (up gk) (up D) (ix3 i h j) = ((gQn Q D E gq gk h i j : ℝ) : EReal) := by
  pointwise [val_main_v94, val_main_v93]
  simp only [r_dscore x0 Q D E gq gk (hQ := hQ), r_kn, ← EReal.coe_mul, sum_coe]
  rfl

theorem r_bk : val_main_v116 (F := Ideal) x0 (up E) (up gq) (up gk) (up D) (ix3 s h j)
    = ((back (headK E h s) (row gk 0) (gKn Q D E gq gk h s) j : ℝ) : EReal) := by
  pointwise [val_main_v116, val_main_v115, val_main_v114, val_main_v113, val_main_v112, val_main_v111, val_main_v110, val_main_v109, val_main_v108, val_main_v107, val_main_v106, val_main_v105, val_main_v104, val_main_v103, val_main_v100, val_main_v99, val_main_v34, val_main_v31, val_main_v30, val_main_v29, val_main_cst_23, val_main_cst_24, val_main_cst_25, val_main_cst_6]
  simp only [r_gKn x0 Q D E gq gk (hQ := hQ), r_k, r_invk, r_msk, ← EReal.coe_mul, sum_coe, zero_add, Fin.sum_univ_one]
  rw [word_128, word_neg_half, div_coe (ms_pos _).ne']
  simp only [← EReal.coe_mul]
  rw [div_coe (by norm_num)]
  simp only [← EReal.coe_mul, ← EReal.coe_add]
  rw [back_eq]

theorem r_bq : val_main_v138 (F := Ideal) x0 (up E) (up gq) (up gk) (up D) (ix3 i h j)
    = ((back (headQ Q h i) (row gq 0) (gQn Q D E gq gk h i) j : ℝ) : EReal) := by
  pointwise [val_main_v138, val_main_v137, val_main_v136, val_main_v135, val_main_v134, val_main_v133, val_main_v132, val_main_v131, val_main_v130, val_main_v129, val_main_v128, val_main_v127, val_main_v126, val_main_v125, val_main_v122, val_main_v121, val_main_v17, val_main_v14, val_main_v13, val_main_v12, val_main_cst_28, val_main_cst_29, val_main_cst_30, val_main_cst_2]
  simp only [r_gQn x0 Q D E gq gk (hQ := hQ), r_q x0 Q (hQ := hQ), r_invq x0 Q (hQ := hQ), r_msq x0 Q (hQ := hQ), ← EReal.coe_mul, sum_coe, zero_add, Fin.sum_univ_one]
  rw [word_128, word_neg_half, div_coe (ms_pos _).ne']
  simp only [← EReal.coe_mul]
  rw [div_coe (by norm_num)]
  simp only [← EReal.coe_mul, ← EReal.coe_add]
  rw [back_eq]

/-! The results. -/

/-- The gradient of the values, as an array. -/
theorem r_dv (y : S256x512.Idx) (hs : (y 0 : ℕ) = s) (hy : (y 1 : ℕ) = 128 * h + j) :
    val_main_v95 (F := Ideal) x0 (up E) (up gq) (up gk) (up D) y = ((gV Q D E gq gk h s j : ℝ) : EReal) := by
  rw [val_main_v95_apply]
  refine Eq.trans (congrArg _ ?_) (r_gV x0 Q D E gq gk (hQ := hQ) h s j)
  funext a
  match a with
  | ⟨0, _⟩ => exact Fin.ext (by show ((y 0).val * 512 + (y 1).val) / 512 = s.val; omega)
  | ⟨1, _⟩ => exact Fin.ext (by show ((y 0).val * 512 + (y 1).val) / 128 % 4 = h.val; omega)
  | ⟨2, _⟩ => exact Fin.ext (by show ((y 0).val * 512 + (y 1).val) % 128 = j.val; omega)

/-- The gradient of the keys, as an array. -/
theorem r_dk (y : S256x512.Idx) (hs : (y 0 : ℕ) = s) (hy : (y 1 : ℕ) = 128 * h + j) :
    val_main_v117 (F := Ideal) x0 (up E) (up gq) (up gk) (up D) y = ((back (headK E h s) (row gk 0) (gKn Q D E gq gk h s) j : ℝ) : EReal) := by
  rw [val_main_v117_apply]
  refine Eq.trans (congrArg _ ?_) (r_bk x0 Q D E gq gk (hQ := hQ) h s j)
  funext a
  match a with
  | ⟨0, _⟩ => exact Fin.ext (by show ((y 0).val * 512 + (y 1).val) / 512 = s.val; omega)
  | ⟨1, _⟩ => exact Fin.ext (by show ((y 0).val * 512 + (y 1).val) / 128 % 4 = h.val; omega)
  | ⟨2, _⟩ => exact Fin.ext (by show ((y 0).val * 512 + (y 1).val) % 128 = j.val; omega)

/-- The gradient of the keys' gain. -/
theorem r_dgk : val_main_v102 (F := Ideal) x0 (up E) (up gq) (up gk) (up D) (ix2 o j) = ((gGk Q D E gq gk j : ℝ) : EReal) := by
  pointwise [val_main_v102]
  unfold val_main_v101
  refine (sum01 _ _ _ _).trans ?_
  pointwise [val_main_v98, val_main_cst_22]
  unfold val_main_v97
  simp only [Fin.sum_univ_one, zero_add]
  refine (sum01 _ _ _ _).trans ?_
  pointwise [val_main_v96, val_main_cst_21]
  simp only [r_gKn x0 Q D E gq gk (hQ := hQ), r_hatk, ← EReal.coe_mul, sum_coe, zero_add]
  rw [Finset.sum_comm]
  exact congrArg _ (Finset.sum_congr rfl fun h _ => Finset.sum_congr rfl fun s _ => mul_comm _ _)

/-- The gradient of the queries' gain. -/
theorem r_dgq : val_main_v124 (F := Ideal) x0 (up E) (up gq) (up gk) (up D) (ix2 o j) = ((gGq Q D E gq gk j : ℝ) : EReal) := by
  pointwise [val_main_v124]
  unfold val_main_v123
  refine (sum01 _ _ _ _).trans ?_
  pointwise [val_main_v120, val_main_cst_27]
  unfold val_main_v119
  simp only [Fin.sum_univ_one, zero_add]
  refine (sum01 _ _ _ _).trans ?_
  pointwise [val_main_v118, val_main_cst_26]
  simp only [r_gQn x0 Q D E gq gk (hQ := hQ), r_hatq x0 Q (hQ := hQ), ← EReal.coe_mul, sum_coe, zero_add]
  rw [Finset.sum_comm]
  exact congrArg _ (Finset.sum_congr rfl fun h _ => Finset.sum_congr rfl fun s _ => mul_comm _ _)

/-- The gradient of the projection, in the queries' columns. -/
theorem r_dq (x5 : (⟨S4096x13312, .bf16⟩ : BufTy).Contents (Elt Ideal)) (y : S4096x13312.Idx) (hi : (y 0 : ℕ) = i) (hy : (y 1 : ℕ) = 9728 + (128 * h + j)) :
    val_main_v143 (F := Ideal) x0 (up E) (up gq) (up gk) (up D) x5 y = ((back (headQ Q h i) (row gq 0) (gQn Q D E gq gk h i) j : ℝ) : EReal) := by
  pointwise [val_main_v143, val_main_v141]
  rw [dif_neg (by omega), dif_pos (by omega)]
  refine (val_main_v139_apply _ _ _ _ _ _).trans ?_
  refine Eq.trans (congrArg _ ?_) (r_bq x0 Q D E gq gk (hQ := hQ) h i j)
  funext a
  match a with
  | ⟨0, _⟩ => exact Fin.ext (by show ((y 0).val * 512 + ((y 1).val - 9728)) / 512 = i.val; omega)
  | ⟨1, _⟩ => exact Fin.ext (by show ((y 0).val * 512 + ((y 1).val - 9728)) / 128 % 4 = h.val; omega)
  | ⟨2, _⟩ => exact Fin.ext (by show ((y 0).val * 512 + ((y 1).val - 9728)) % 128 = j.val; omega)

omit hQ in
/-- The other columns are those of the array that came in. -/
theorem r_dq0 (x1 : (⟨S256x1024, .f32⟩ : BufTy).Contents (Elt Ideal)) (x2 x3 : (⟨S1x128, .f32⟩ : BufTy).Contents (Elt Ideal)) (x4 : (⟨S4096x512, .f32⟩ : BufTy).Contents (Elt Ideal))
    (x5 : (⟨S4096x13312, .bf16⟩ : BufTy).Contents (Elt Ideal)) (y : S4096x13312.Idx) (hy : ¬(9728 ≤ (y 1 : ℕ) ∧ (y 1 : ℕ) < 10240)) :
    val_main_v143 (F := Ideal) x0 x1 x2 x3 x4 x5 y = x5 y := by
  pointwise [val_main_v143, val_main_v140, val_main_v142]
  by_cases h1 : (y 1 : ℕ) < 9728
  · rw [dif_pos h1]
  · rw [dif_neg h1, dif_neg (by omega)]
    refine congrArg x5 (funext fun a => ?_)
    match a with
    | ⟨0, _⟩ => rfl
    | ⟨1, _⟩ => exact Fin.ext (by show 10240 + ((y 1).val - 9728 - 512) = (y 1).val; omega)

end

end Cert.Mem

end
-- ==== Proof.Mem.lean ====
/- The gradient of the attention to memory tokens (`mem_bwd`): the arrays the kernel leaves are the reference's. -/
module

public import proofs.«01_k».proof.Proof.MemPoint
public import proofs.«01_k».proof.Proof.MemRef

@[expose] public section

set_option maxRecDepth 16384

noncomputable section

namespace Cert.Mem

open Cert.Kernel3Ideal Cert.Kernel3Ideal.Gen Idealize.ShloMosaic Idealize.ShloMosaic.TcCoe Idealize.SL.Sem
open Idealize.ShloMosaic.Pipeline (Dat)
open Cert.Reference3Ideal.Read Cert.Reals

/-- The blocks that grid point `t` names: its head is `t / 4`, its block of queries `t % 4`. -/
theorem idx : ∀ t : Fin cfg0.N, win0_0.index t = ![t.val % 4, 76 + t.val / 4] ∧ win0_1.index t = ![0, t.val / 4]
    ∧ win0_2.index t = ![0, 4 + t.val / 4] ∧ win0_3.index t = ![0, 0] ∧ win0_4.index t = ![0, 0]
    ∧ win0_5.index t = ![t.val % 4, t.val / 4] ∧ win0_6.index t = ![t.val % 4, 76 + t.val / 4] ∧ win0_7.index t = ![0, t.val / 4]
    ∧ win0_8.index t = ![0, t.val / 4] ∧ win0_9.index t = ![0, 0] ∧ win0_10.index t = ![0, 0] :=
  (by decide +kernel : ∀ t : Fin grid0.N, _)

theorem lt16 (t : Fin cfg0.N) : t.val < 16 := lt_of_lt_of_eq t.isLt N_0

/-- The head of a grid point. -/
abbrev hd (t : Fin cfg0.N) : Fin 4 := ⟨t.val / 4, by have := lt16 t; omega⟩

/-- The query that row `i` of a grid point's block is. -/
abbrev qr (t : Fin cfg0.N) (i : Fin 1024) : Fin 4096 := ⟨1024 * (t.val % 4) + i, by omega⟩

variable (m : (ℓ : Loc nD τ sig) → Buf (Elt Ideal) ℓ) (c : Dev nD) (Q D : Shape.Idx ⟨2, ![4096, 512]⟩ → ℝ)
  (E : Shape.Idx ⟨2, ![256, 1024]⟩ → ℝ) (gq gk : Shape.Idx ⟨2, ![1, 128]⟩ → ℝ)
  (h0 : val_main_v2 (F := Ideal) (m ((c : Thread nD τ).loc main_arg0)) = up Q)
  (h1 : m ((c : Thread nD τ).loc main_arg1) = up E) (h2 : m ((c : Thread nD τ).loc main_arg2) = up gq)
  (h3 : m ((c : Thread nD τ).loc main_arg3) = up gk) (h4 : m ((c : Thread nD τ).loc main_arg4) = up D)

section
variable (t : Fin cfg0.N)

include h0 in
theorem b0 : iblk m c 0 t = up (S := S1024x128) fun y => headQ Q (hd t) (qr t (y 0)) (y 1) := by
  funext y
  refine Eq.trans ?_ (congrFun h0 (ix2 (qr t (y 0)) ⟨128 * hd t + (y 1).val, by have := lt16 t; have : (y 1 : ℕ) < 128 := (y 1).isLt; show 128 * (t.val / 4) + (y 1).val < 512; omega⟩))
  rw [val_main_v2_apply]
  blk_point [iblk, V, idx t]

include h1 in
theorem b1 : iblk m c 1 t = up (S := S256x128) fun y => headK E (hd t) (y 0) (y 1) := by
  funext y
  refine Eq.trans ?_ (congrFun h1 (ix2 (y 0) ⟨128 * hd t + (y 1).val, by have := lt16 t; have : (y 1 : ℕ) < 128 := (y 1).isLt; show 128 * (t.val / 4) + (y 1).val < 1024; omega⟩))
  blk_point [iblk, V, idx t]

include h1 in
theorem b2 : iblk m c 2 t = up (S := S256x128) fun y => headV E (hd t) (y 0) (y 1) := by
  funext y
  refine Eq.trans ?_ (congrFun h1 (ix2 (y 0) ⟨512 + (128 * hd t + (y 1).val), by have := lt16 t; have : (y 1 : ℕ) < 128 := (y 1).isLt; show 512 + (128 * (t.val / 4) + (y 1).val) < 1024; omega⟩))
  blk_point [iblk, V, idx t]

include h2 in
theorem b3 : iblk m c 3 t = up gq := by
  funext y
  refine Eq.trans ?_ (congrFun h2 y)
  blk_point [iblk, V, idx t]

include h3 in
theorem b4 : iblk m c 4 t = up gk := by
  funext y
  refine Eq.trans ?_ (congrFun h3 y)
  blk_point [iblk, V, idx t]

include h4 in
theorem b5 : iblk m c 5 t = up (S := S1024x128) fun y => headQ D (hd t) (qr t (y 0)) (y 1) := by
  funext y
  refine Eq.trans ?_ (congrFun h4 (ix2 (qr t (y 0)) ⟨128 * hd t + (y 1).val, by have := lt16 t; have : (y 1 : ℕ) < 128 := (y 1).isLt; show 128 * (t.val / 4) + (y 1).val < 512; omega⟩))
  blk_point [iblk, V, idx t]

/-! The keys' gain's gradient: only the last point of a head changes it. -/

/-- Every other point hands it on. -/
theorem pass10 (hn : ¬t.val % 4 = 3) (hz : ¬t.val % 16 = 0) :
    (outsAt0 m c t.val t.isLt).2.2.2.2.1 = (outsAt0 m c (t.val - 1) (Nat.lt_of_le_of_lt (Nat.sub_le _ _) t.isLt)).2.2.2.2.1 := by
  rcases kinds t with h | h | h | h | h
  on_goal 1 => omega
  on_goal 2 => omega
  on_goal 3 => omega
  · rw [outsAt0_B m c t h.1 h.2.1 h.2.2.1 h.2.2.2.1 h.2.2.2.2]; rfl
  · rw [outsAt0_D m c t h.1 h.2.1 h.2.2.1 h.2.2.2.1 h.2.2.2.2]; rfl

/-- The first head starts it. -/
theorem first10 (h : t.val = 3) :
    (outsAt0 m c t.val t.isLt).2.2.2.2.1 = k0_pay5 (F := Ideal) (k0_pay8 (iblk m c 1 t)) (outsAt0 m c t.val t.isLt).2.2.2.2.2 := by
  rw [outsAt0_C m c t (by omega) (by omega) (by omega) (by omega) (by omega) (by omega) (by omega)]
  frame_out

/-- Every other head adds its part. -/
theorem step10 (h : t.val % 4 = 3) (hg : 4 ≤ t.val) (y : S1x128.Idx) :
    (outsAt0 m c t.val t.isLt).2.2.2.2.1 y = (outsAt0 m c (t.val - 1) (Nat.lt_of_le_of_lt (Nat.sub_le _ _) t.isLt)).2.2.2.2.1 y
      + k0_pay5 (F := Ideal) (k0_pay8 (iblk m c 1 t)) (outsAt0 m c t.val t.isLt).2.2.2.2.2 y := by
  rw [outsAt0_E m c t (by omega) (by omega) (by omega) (by omega) (by omega) (by omega) (by omega)]
  frame_out
  pointwise [k0_pay6]

end

/-! The sums over the grid points. -/

/-- Point `s` of a head, and the query of its row `i`. -/
theorem point_of (t : Fin cfg0.N) (s : Fin 4) (u : Fin cfg0.N) (hu : u.val = 4 * (t.val / 4) + s.val) (i : Fin 1024)
    (hl : s.val * 1024 + i.val < 4096) : hd u = hd t ∧ qr u i = ⟨s.val * 1024 + i.val, hl⟩ :=
  ⟨Fin.ext (by show u.val / 4 = t.val / 4; omega), Fin.ext (by show 1024 * (u.val % 4) + i.val = s.val * 1024 + i.val; omega)⟩

include h0 h1 h2 h3 h4

/-- What is left of the values' gradient after a head's last point. -/
theorem left8 (t : Fin cfg0.N) (ht : t.val % 4 = 3) (y : S256x128.Idx) :
    (outsAt0 m c t.val t.isLt).2.2.1 y = ((gV Q D E gq gk (hd t) (y 0) (y 1) : ℝ) : EReal) := by
  rw [Pipeline.eq_sum_fin_of_reset_step_apply_of_flush (fun n hn => (outsAt0 m c n hn).2.2.1) 4 (fun _ => 0) _
    (fun t h y => reset8 m c t _ _ _ _ gq gk (b0 m c Q h0 t) (b1 m c E h1 t) (b2 m c E h1 t) (b3 m c gq h2 t) (b4 m c gk h3 t) (b5 m c D h4 t) h y)
    (fun t h y => step8 m c t _ _ _ _ gq gk (b0 m c Q h0 t) (b1 m c E h1 t) (b2 m c E h1 t) (b3 m c gq h2 t) (b4 m c gk h3 t) (b5 m c D h4 t) h y) t ht y,
    zero_add]
  simp only [up, sum_coe]
  refine congrArg _ (Fin.sum_mul_add_congr fun s i hl => ?_)
  obtain ⟨e1, e2⟩ := point_of t s ⟨4 * (t.val / 4) + s.val, Pipeline.run_point_lt_of_flush t ht s⟩ rfl i hl
  rw [← e1, ← e2]
  rfl

/-- What is left of the normed keys' gradient after a head's last point. -/
theorem leftS (t : Fin cfg0.N) (ht : t.val % 4 = 3) :
    (outsAt0 m c t.val t.isLt).2.2.2.2.2 = up (S := S256x128) fun y => gKn Q D E gq gk (hd t) (y 0) (y 1) := by
  funext y
  rw [Pipeline.eq_sum_fin_of_reset_step_apply_of_flush (fun n hn => (outsAt0 m c n hn).2.2.2.2.2) 4 (fun _ => 0) _
    (fun t h y => resetS m c t _ _ _ _ gq gk (b0 m c Q h0 t) (b1 m c E h1 t) (b2 m c E h1 t) (b3 m c gq h2 t) (b4 m c gk h3 t) (b5 m c D h4 t) h y)
    (fun t h y => stepS m c t _ _ _ _ gq gk (b0 m c Q h0 t) (b1 m c E h1 t) (b2 m c E h1 t) (b3 m c gq h2 t) (b4 m c gk h3 t) (b5 m c D h4 t) h y) t ht y,
    zero_add]
  simp only [up, sum_coe]
  refine congrArg _ (Fin.sum_mul_add_congr fun s i hl => ?_)
  obtain ⟨e1, e2⟩ := point_of t s ⟨4 * (t.val / 4) + s.val, Pipeline.run_point_lt_of_flush t ht s⟩ rfl i hl
  rw [← e1, ← e2]
  rfl

/-- What is left of the query gain's gradient after the last point. -/
theorem left9 (t : Fin cfg0.N) (ht : t.val % 16 = 15) (y : S1x128.Idx) :
    (outsAt0 m c t.val t.isLt).2.2.2.1 y = ((gGq Q D E gq gk (y 1) : ℝ) : EReal) := by
  have hl := lt16 t
  rw [Pipeline.eq_sum_fin_of_reset_step_apply_last (fun n hn => (outsAt0 m c n hn).2.2.2.1) 16 (fun _ => 0) _
    (fun t h y => reset9 m c t _ _ _ _ gq gk (b0 m c Q h0 t) (b1 m c E h1 t) (b2 m c E h1 t) (b3 m c gq h2 t) (b4 m c gk h3 t) (b5 m c D h4 t) h y)
    (fun t h y => step9 m c t _ _ _ _ gq gk (b0 m c Q h0 t) (b1 m c E h1 t) (b2 m c E h1 t) (b3 m c gq h2 t) (b4 m c gk h3 t) (b5 m c D h4 t) h y)
    (le_of_eq N_0) t (by have e : cfg0.N = 16 := N_0; omega) y, zero_add]
  simp only [up, sum_coe]
  refine congrArg _ (Fin.sum_points_lanes_congr 4 (fun t i ha hl => ?_) N_0)
  have e : (⟨t.val % 4 * 1024 + i.val, hl⟩ : Fin 4096) = qr t i := Fin.ext (by show t.val % 4 * 1024 + i.val = 1024 * (t.val % 4) + i.val; omega)
  rw [e]
  rfl

/-- What a head adds to the keys' gain's gradient. -/
theorem add10 (t : Fin cfg0.N) (ht : t.val % 4 = 3) (y : S1x128.Idx) :
    k0_pay5 (F := Ideal) (k0_pay8 (iblk m c 1 t)) (outsAt0 m c t.val t.isLt).2.2.2.2.2 y
      = ((∑ s, gKn Q D E gq gk (hd t) s (y 1) * hat (headK E (hd t) s) (y 1) : ℝ) : EReal) := by
  rw [leftS m c Q D E gq gk h0 h1 h2 h3 h4 t ht, b1 m c E h1 t]
  exact congrFun (p_gain _ _) y

/-- One head further back. -/
theorem back10 (n : ℕ) (hn : n < cfg0.N) (k : ℕ) (hk : n = 4 * k + 7) (y : S1x128.Idx) :
    (outsAt0 m c n hn).2.2.2.2.1 y = (outsAt0 m c (n - 4) (Nat.lt_of_le_of_lt (Nat.sub_le _ _) hn)).2.2.2.2.1 y
      + ((∑ s, gKn Q D E gq gk (hd ⟨n, hn⟩) s (y 1) * hat (headK E (hd ⟨n, hn⟩) s) (y 1) : ℝ) : EReal) := by
  have hl : n < 16 := lt16 ⟨n, hn⟩
  have p : ∀ j, 1 ≤ j → j ≤ 3 → (outsAt0 m c (n - j) (Nat.lt_of_le_of_lt (Nat.sub_le _ _) hn)).2.2.2.2.1
      = (outsAt0 m c (n - j - 1) (Nat.lt_of_le_of_lt (Nat.sub_le _ _) (Nat.lt_of_le_of_lt (Nat.sub_le _ _) hn))).2.2.2.2.1 := fun j h h' =>
    pass10 m c ⟨n - j, Nat.lt_of_le_of_lt (Nat.sub_le _ _) hn⟩ (by show ¬(n - j) % 4 = 3; omega) (by show ¬(n - j) % 16 = 0; omega)
  refine (step10 m c ⟨n, hn⟩ (by show n % 4 = 3; omega) (by show 4 ≤ n; omega) y).trans ?_
  refine congrArg₂ (· + ·) ?_ (add10 m c Q D E gq gk h0 h1 h2 h3 h4 ⟨n, hn⟩ (by show n % 4 = 3; omega) y)
  exact congrFun ((p 1 (by omega) (by omega)).trans ((p 2 (by omega) (by omega)).trans (p 3 (by omega) (by omega)))) y

/-- What is left of the keys' gain's gradient after the last point. -/
theorem left10 (t : Fin cfg0.N) (ht : t.val % 16 = 15) (y : S1x128.Idx) :
    (outsAt0 m c t.val t.isLt).2.2.2.2.1 y = ((gGk Q D E gq gk (y 1) : ℝ) : EReal) := by
  have hl := lt16 t
  obtain ⟨n, hn⟩ := t
  obtain rfl : n = 15 := by simp only at ht hl; omega
  rw [back10 m c Q D E gq gk h0 h1 h2 h3 h4 15 hn 2 rfl y, back10 m c Q D E gq gk h0 h1 h2 h3 h4 11 _ 1 rfl y,
    back10 m c Q D E gq gk h0 h1 h2 h3 h4 7 _ 0 rfl y]
  rw [show (outsAt0 m c (7 - 4) _).2.2.2.2.1 y = _ from (congrFun (first10 m c ⟨3, Nat.lt_of_le_of_lt (by omega) hn⟩ rfl) y).trans
    (add10 m c Q D E gq gk h0 h1 h2 h3 h4 ⟨3, Nat.lt_of_le_of_lt (by omega) hn⟩ rfl y)]
  simp only [← EReal.coe_add]
  refine congrArg _ ?_
  unfold gGk
  have e : ∀ (n : ℕ) (hn : n < cfg0.N) (k : Fin 4), n / 4 = k.val → hd ⟨n, hn⟩ = k := fun n hn k h => Fin.ext h
  rw [Fin.sum_univ_four, e 3 _ 0 rfl, e 7 _ 1 rfl, e 11 _ 2 rfl, e 15 _ 3 rfl]

/-! The arrays. -/

/-- The queries' gradient, in its columns of the array that is handed on. -/
theorem final6 : (dats m 0 c).arrAt 6 cfg0.N = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hV : V m c (Pipeline.arrRef spec0 6) = m ((c : Thread nD τ).loc main_arg5) := by unfold V; after_results; try rfl
  rw [(dats m 0 c).arrAt_eq_of_coversWhere 6 (val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (P := fun i => 9728 ≤ (i 1 : ℕ) ∧ (i 1 : ℕ) < 10240)
    (fun β => 76 ≤ β 1 ∧ β 1 < 80) (by decide +kernel) (fun t hf y => ?_) (fun j => by blk_simp [Pipeline.Window.cell_apply]; omega)]
  · funext i
    split
    · rfl
    · next h => exact (congrFun hV i).trans (r_dq0 _ _ _ _ _ _ i h).symm
  · blk_simp
    rw [after0_6, h1, h2, h3, h4]
    refine (point6 m c t _ _ _ _ gq gk (b0 m c Q h0 t) (b1 m c E h1 t) (b2 m c E h1 t) (b3 m c gq h2 t) (b4 m c gk h3 t) (b5 m c D h4 t) y).trans
      (r_dq _ Q D E gq gk (hd t) (qr t (y 0)) (y 1) h0 _ _ ?_ ?_).symm
    · blk_simp [idx t]; show _ = 1024 * (t.val % 4) + (y 0).val; omega
    · blk_simp [idx t]; show _ = 9728 + (128 * (t.val / 4) + (y 1).val); omega

/-- The keys' gradient. -/
theorem final7 : (dats m 0 c).arrAt 7 cfg0.N = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht := (flush0_7 t).mp hf
  blk_simp
  rw [after0_7, h1, h2, h3, h4]
  refine (point7 m c t _ _ gk (b1 m c E h1 t) (b4 m c gk h3 t) ht (leftS m c Q D E gq gk h0 h1 h2 h3 h4 t ht) y).trans ?_
  refine (r_dk _ Q D E gq gk (hd t) (y 0) (y 1) h0 _ ?_ ?_).symm
  · blk_simp [idx t]
  · blk_simp [idx t]
    exact congrArg (· + _) (Nat.mul_comm _ _)

/-- The values' gradient. -/
theorem final8 : (dats m 0 c).arrAt 8 cfg0.N = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht := (flush0_8 t).mp hf
  blk_simp
  rw [after0_8, h1, h2, h3, h4]
  refine (left8 m c Q D E gq gk h0 h1 h2 h3 h4 t ht y).trans (r_dv _ Q D E gq gk (hd t) (y 0) (y 1) h0 _ ?_ ?_).symm
  · blk_simp [idx t]
  · blk_simp [idx t]
    exact congrArg (· + _) (Nat.mul_comm _ _)

/-- The query gain's gradient. -/
theorem final9 : (dats m 0 c).arrAt 9 cfg0.N = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht := (flush0_9 t).mp hf
  blk_simp
  rw [after0_9, h1, h2, h3, h4]
  have e : ((cfg0.win 9).blk t).view.emb y = ix2 (y 0) (y 1) := by blk_point [idx t]
  refine (left9 m c Q D E gq gk h0 h1 h2 h3 h4 t ht y).trans ((congrArg _ e).trans (r_dgq _ Q D E gq gk (y 1) (y 0) h0)).symm

/-- The key gain's gradient. -/
theorem final10 : (dats m 0 c).arrAt 10 cfg0.N = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  have ht := (flush0_10 t).mp hf
  blk_simp
  rw [after0_10, h1, h2, h3, h4]
  have e : ((cfg0.win 10).blk t).view.emb y = ix2 (y 0) (y 1) := by blk_point [idx t]
  refine (left10 m c Q D E gq gk h0 h1 h2 h3 h4 t ht y).trans ((congrArg _ e).trans (r_dgk _ Q D E gq gk (y 1) (y 0) h0)).symm

end Cert.Mem

end
-- ==== Proof.NormPre.lean ====
/- What the precondition `finite4` says of the arrays. -/
module

public import proofs.«01_k».proof.Proof.Finite
public import proofs.«01_k».proof.Proof.Gen.Pre_finite4

@[expose] public section

noncomputable section

namespace Cert.Finite

open Idealize.ShloMosaic

/-- The precondition of the gradient of a product after a norm: the product's two operands, the norm's input and its gain
    are real. -/
theorem of_finite4 (dab : FVec Ideal Pre_finite4.S2x4096x2816 .bf16) (w : FVec Ideal Pre_finite4.S1024x5632 .bf16)
    (x dy : FVec Ideal Pre_finite4.S4096x1024 .f32) (g : FVec Ideal Pre_finite4.S1x1024 .f32)
    (h : Pre_finite4.fn (F := Ideal) dab w x dy g = fun _ => 1#1) :
    (∃ r : Pre_finite4.S2x4096x2816.Idx → ℝ, dab = fun i => ((r i : ℝ) : EReal))
    ∧ (∃ r : Pre_finite4.S1024x5632.Idx → ℝ, w = fun i => ((r i : ℝ) : EReal))
    ∧ (∃ r : Pre_finite4.S4096x1024.Idx → ℝ, x = fun i => ((r i : ℝ) : EReal))
    ∧ (∃ r : Pre_finite4.S1x1024.Idx → ℝ, g = fun i => ((r i : ℝ) : EReal)) := by
  have e := congrFun h (fun a => a.elim0)
  obtain ⟨e, e4⟩ := IntOp.andi_eq_one.1 e
  obtain ⟨e, e3⟩ := IntOp.andi_eq_one.1 e
  obtain ⟨e1, e2⟩ := IntOp.andi_eq_one.1 e
  exact ⟨of_all _ _ _ _ _ _ _ e1, of_all _ _ _ _ _ _ _ e2, of_all _ _ _ _ _ _ _ e3, of_all _ _ _ _ _ _ _ e4⟩

end Cert.Finite

end
-- ==== Proof.FfnNormRef.lean ====
/- The gradient of the gated unit's input product and of the norm before it (`ffn_in_bwd_act_norm`): the gradient over
   the reals, and that the reference computes it. -/
module

public import proofs.«01_k».proof.Proof.Rms
public import proofs.«01_k».proof.Proof.Gen.Reference4Ideal.Read
public import Idealize.ShloMosaic.Lib.Pipeline.ValueKit

@[expose] public section

set_option maxRecDepth 16384

noncomputable section

namespace Cert.FfnNorm

open Cert.Reference4Ideal Idealize.ShloMosaic Idealize.ShloMosaic.TcCoe Idealize.SL.Sem
open Cert.Reference4Ideal.Read Cert.Reals Cert.Rms

/-! The gradient, over the reals. -/

section
variable (C : Shape.Idx ⟨3, ![2, 4096, 2816]⟩ → ℝ) (W : Shape.Idx ⟨2, ![1024, 5632]⟩ → ℝ) (X : Shape.Idx ⟨2, ![4096, 1024]⟩ → ℝ)
  (G : Shape.Idx ⟨2, ![1, 1024]⟩ → ℝ) (i : Fin 4096) (j : Fin 1024)

/-- The gradient of the normed input: the part that half `s` of the product gives. -/
def part (s : Fin 2) : ℝ := ∑ k : Fin 2816, C (ix3 s i k) * W (ix2 j ⟨s * 2816 + k, by omega⟩)

/-- The gradient of the normed input. -/
def dn : ℝ := part C W i j 0 + part C W i j 1

/-- The gradient of the norm's input. -/
def dx : ℝ := back 1024 (row X i) (row G 0) (dn C W i) j

/-- The gradient of the gain: what row `i` adds. -/
def dgRow : ℝ := dn C W i j * hat 1024 (row X i) j

/-- The gradient of the gain. -/
def dg : ℝ := ∑ i, dgRow C W X i j

/-- The two halves of the cotangent of the product, side by side. -/
def ct (k : Fin 5632) : ℝ :=
  if h : k.val < 2816 then C (ix3 0 i ⟨k, h⟩) else C (ix3 1 i ⟨k - 2816, by omega⟩)

theorem dn_eq : dn C W i j = ∑ k : Fin 5632, ct C i k * W (ix2 j k) := by
  rw [show (∑ k : Fin 5632, ct C i k * W (ix2 j k)) = ∑ k : Fin (2816 + 2816), ct C i k * W (ix2 j k) from rfl, Fin.sum_univ_add]
  refine congrArg₂ (· + ·) (Finset.sum_congr rfl fun k _ => congrArg₂ (· * ·) ?_ (congrArg (fun a => W (ix2 j a)) (Fin.ext ?_)))
    (Finset.sum_congr rfl fun k _ => congrArg₂ (· * ·) ?_ (congrArg (fun a => W (ix2 j a)) (Fin.ext ?_)))
  · unfold ct
    rw [dif_pos (show (Fin.castAdd 2816 k).val < 2816 from k.isLt)]
    rfl
  · simp
  · unfold ct
    rw [dif_neg (show ¬(Fin.natAdd 2816 k).val < 2816 by simp)]
    exact congrArg (fun a => C (ix3 1 i a)) (Fin.ext (by simp))
  · simp [Nat.add_comm]

end

/-! The reference's arrays. -/

section
variable (C : Shape.Idx ⟨3, ![2, 4096, 2816]⟩ → ℝ) (W : Shape.Idx ⟨2, ![1024, 5632]⟩ → ℝ) (X : Shape.Idx ⟨2, ![4096, 1024]⟩ → ℝ)
  (G : Shape.Idx ⟨2, ![1, 1024]⟩ → ℝ) (dy : FVec Ideal S4096x1024 .f32) (i : Fin 4096) (j : Fin 1024) (o : Fin 1)

theorem r_ms : val_main_v14 (F := Ideal) (up X) (ix2 i o) = ((ms 1024 (row X i) : ℝ) : EReal) := by
  pointwise [val_main_v14, val_main_v13, val_main_v12, val_main_v11, val_main_v10, val_main_v9, val_main_v8, val_main_cst, val_main_cst_0, val_main_cst_1]
  simp only [← EReal.coe_mul, sum_coe, zero_add]
  rw [word_1024, word_eps, div_coe (by norm_num), ← EReal.coe_add]
  rfl

theorem r_inv : val_main_v15 (F := Ideal) (up X) (ix2 i o) = ((inv 1024 (row X i) : ℝ) : EReal) := by
  pointwise [val_main_v15]
  rw [r_ms]
  exact rsqrt_coe (ms_pos (by norm_num) _)

theorem r_fac : val_main_v18 (F := Ideal) (up X) (ix2 i o) = ((-(1 / 2) * (inv 1024 (row X i) / ms 1024 (row X i)) : ℝ) : EReal) := by
  pointwise [val_main_v18, val_main_v17, val_main_v16, val_main_cst_2]
  rw [r_ms, r_inv, word_neg_half, div_coe (ms_pos (by norm_num) _).ne', ← EReal.coe_mul]

theorem r_hat : val_main_v20 (F := Ideal) (up X) (ix2 i j) = ((hat 1024 (row X i) j : ℝ) : EReal) := by
  pointwise [val_main_v20, val_main_v19]
  rw [r_inv, ← EReal.coe_mul]
  rfl

theorem r_ct (k : Fin 5632) : val_main_v7 (F := Ideal) (up C) (ix2 i k) = ((ct C i k : ℝ) : EReal) := by
  pointwise [val_main_v7, val_main_v6, val_main_v5, val_main_v4, val_main_v3, val_main_v2, val_main_v1]
  unfold ct
  by_cases h : k.val < 2816
  · rw [dif_pos (by omega), dif_pos h]
  · rw [dif_neg (by omega), dif_neg h]

theorem r_dn : val_main_v24 (F := Ideal) (up C) (up W) (ix2 i j) = ((dn C W i j : ℝ) : EReal) := by
  rw [dn_eq]
  refine Eq.trans (b := ∑ k, val_main_v7 (F := Ideal) (up C) (ix2 i k) * up W (ix2 j k)) (by pointwise [val_main_v24, val_main_v0]) ?_
  rw [← sum_coe]
  exact Finset.sum_congr rfl fun k _ => (congrArg (· * up W (ix2 j k)) (r_ct C i k)).trans (EReal.coe_mul _ _).symm

theorem r_gain : val_main_v28 (F := Ideal) (up G) (ix2 i j) = ((row G 0 j : ℝ) : EReal) := by
  pointwise [val_main_v28]

theorem r_dng : val_main_v29 (F := Ideal) (up C) (up W) (up G) (ix2 i j) = ((dn C W i j * row G 0 j : ℝ) : EReal) := by
  rw [val_main_v29_apply, r_dn, r_gain]
  rfl

theorem r_xdn : val_main_v30 (F := Ideal) (up C) (up W) (up X) (up G) (ix2 i j) = ((row X i j * (dn C W i j * row G 0 j) : ℝ) : EReal) := by
  rw [val_main_v30_apply, r_dng]
  rfl

theorem r_sum : val_main_v31 (F := Ideal) (up C) (up W) (up X) (up G) (ix1 i)
    = ((∑ k, row X i k * (dn C W i k * row G 0 k) : ℝ) : EReal) := by
  pointwise [val_main_v31, val_main_cst_4]
  simp only [r_xdn, sum_coe, zero_add]

theorem r_1024 : val_main_v36 (F := Ideal) (ix2 i o) = ((1024 : ℝ) : EReal) := by
  pointwise [val_main_v36, val_main_cst_5]
  exact word_1024

/-- The part of the gradient that goes through the mean of the squares, but for the factor `x`. -/
def thru : ℝ := (∑ k, row X i k * (dn C W i k * row G 0 k)) * (-(1 / 2) * (inv 1024 (row X i) / ms 1024 (row X i))) / 1024

theorem r_div : val_main_v37 (F := Ideal) (up C) (up W) (up X) (up G) (ix2 i o) = ((thru C W X G i : ℝ) : EReal) := by
  rw [val_main_v37_apply, val_main_v35_apply, r_fac, r_1024, val_main_v32_apply]
  refine Eq.trans ?_ (div_coe (show (1024 : ℝ) ≠ 0 by norm_num))
  refine congrArg (fun z : EReal => Ideal.div (z * _) _) (Eq.trans (congrArg _ ?_) (r_sum C W X G i))
  funext a
  match a with
  | ⟨0, _⟩ => exact Fin.ext (by show i.val * 1 + o.val = i.val; omega)

theorem r_thru : val_main_v39 (F := Ideal) (up C) (up W) (up X) (up G) (ix2 i j) = ((thru C W X G i : ℝ) : EReal) := by
  pointwise [val_main_v39, val_main_v38, val_main_cst_6]
  simp only [r_div, Fin.sum_univ_one, zero_add]

theorem r_invs : val_main_v33 (F := Ideal) (up X) (ix2 i j) = ((inv 1024 (row X i) : ℝ) : EReal) := by
  pointwise [val_main_v33]
  exact r_inv X i 0

theorem r_back : val_main_v43 (F := Ideal) (up C) (up W) (up X) (up G) (ix2 i j) = ((dx C W X G i j : ℝ) : EReal) := by
  rw [val_main_v43_apply, val_main_v42_apply, val_main_v41_apply, val_main_v40_apply, val_main_v34_apply, r_dng, r_invs, r_thru]
  unfold dx
  rw [back_eq (by norm_num)]
  rfl

theorem r_dx : val_main_v44 (F := Ideal) (up C) (up W) (up X) dy (up G) (ix2 i j) = dy (ix2 i j) + ((dx C W X G i j : ℝ) : EReal) := by
  rw [val_main_v44_apply, r_back]
  rfl

theorem r_dxb : val_main_v45 (F := Ideal) (up C) (up W) (up X) dy (up G) (ix2 i j) = dy (ix2 i j) + ((dx C W X G i j : ℝ) : EReal) := by
  rw [val_main_v45_apply, r_dx]
  rfl

theorem r_dgRow : val_main_v25 (F := Ideal) (up C) (up W) (up X) (ix2 i j) = ((dgRow C W X i j : ℝ) : EReal) := by
  rw [val_main_v25_apply, r_dn, r_hat]
  exact ((EReal.coe_mul _ _).trans (mul_comm _ _)).symm

theorem r_dg : val_main_v27 (F := Ideal) (up C) (up W) (up X) (ix2 o j) = ((dg C W X j : ℝ) : EReal) := by
  rw [val_main_v27_apply]
  refine Eq.trans (congrArg _ (?_ : _ = ix1 j)) ?_
  · funext a
    match a with
    | ⟨0, _⟩ => exact Fin.ext (by show o.val * 1024 + j.val = j.val; omega)
  · pointwise [val_main_v26, val_main_cst_3]
    simp only [r_dgRow, sum_coe, zero_add]
    rfl

end

end Cert.FfnNorm

end
-- ==== Proof.FfnNorm.lean ====
/- The gradient of the gated unit's input product and of the norm before it (`ffn_in_bwd_act_norm`): the arrays the
   kernel leaves are the reference's. -/
module

public import proofs.«01_k».proof.Proof.FfnNormRef
public import proofs.«01_k».proof.Proof.Gen.Kernel4Ideal.Value
public import Idealize.ShloMosaic.Lib.Pipeline.ValueKit

@[expose] public section

set_option maxRecDepth 16384

noncomputable section

namespace Cert.FfnNorm

open Cert.Kernel4Ideal Cert.Kernel4Ideal.Gen Idealize.ShloMosaic Idealize.ShloMosaic.TcCoe Idealize.SL.Sem
open Idealize.ShloMosaic.Pipeline (Dat)
open Cert.Reference4Ideal.Read Cert.Reals Cert.Rms

/-! The kernel's vectors. -/

section
variable (a : S1x512x2816.Idx → ℝ) (w : S1024x2816.Idx → ℝ) (d x : S512x1024.Idx → ℝ) (s p : S512x1024.Idx → ℝ) (g : S1x1024.Idx → ℝ)
  (dy : FVec Ideal S512x1024 .f32)

/-- A block's part of the product. -/
theorem p_part : k0_pay1 (F := Ideal) (up a) (up w) = up (S := S512x1024) fun y => ∑ k : Fin 2816, a (ix3 0 (y 0) k) * w (ix2 (y 1) k) := by
  funext y
  pointwise [k0_pay1]
  simp only [← EReal.coe_mul, sum_coe]

theorem p_inv : k0_pay6 (F := Ideal) (up x) = up (S := S512x1) fun y => inv 1024 (row x (y 0)) := by
  funext y
  pointwise [k0_pay6]
  simp only [← EReal.coe_mul, sum_coe]
  rw [word_1024, word_eps, div_coe (by norm_num), ← EReal.coe_add]
  exact rsqrt_coe (ms_pos (by norm_num) _)

theorem p_hat : k0_pay7 (F := Ideal) (up x) = up (S := S512x1024) fun y => hat 1024 (row x (y 0)) (y 1) := by
  funext y
  pointwise [k0_pay7]
  rw [p_inv, ← EReal.coe_mul, eq_ix2 y]
  rfl

theorem p_dn : k0_pay5 (F := Ideal) (up p) (up s) = up (S := S512x1024) fun y => s y + p y := by
  funext y
  pointwise [k0_pay5]
  exact (EReal.coe_add _ _).symm

theorem p_dx (y : S512x1024.Idx) : k0_pay8 (F := Ideal) (up p) (up s) (up x) (up g) dy y
    = dy y + ((back 1024 (row x (y 0)) (row g 0) (row (n := 1024) (fun y => s y + p y) (y 0)) (y 1) : ℝ) : EReal) := by
  pointwise [k0_pay8]
  rw [p_dn, p_hat, p_inv]
  simp only [← EReal.coe_mul, sum_coe, word_1024, div_coe (show (1024 : ℝ) ≠ 0 by norm_num), ← EReal.coe_sub]
  rw [eq_ix2 y]
  rfl

theorem p_dg (y : S1x1024.Idx) : k0_pay10 (F := Ideal) (up p) (up s) (up x) y
    = ((∑ i : Fin 512, (s (ix2 i (y 1)) + p (ix2 i (y 1))) * hat 1024 (row x i) (y 1) : ℝ) : EReal) := by
  pointwise [k0_pay10]
  rw [p_dn, p_hat]
  simp only [← EReal.coe_mul, sum_coe]
  rfl

end

/-! The points. -/

/-- The blocks that grid point `t` names: its row block is `t / 2`, its half of the product `t % 2`. -/
theorem idx : ∀ t : Fin cfg0.N, win0_0.index t = ![t.val % 2, t.val / 2, 0] ∧ win0_1.index t = ![0, t.val % 2]
    ∧ win0_2.index t = ![t.val / 2, 0] ∧ win0_3.index t = ![t.val / 2, 0] ∧ win0_4.index t = ![0, 0] ∧ win0_5.index t = ![t.val / 2, 0]
    ∧ win0_6.index t = ![t.val / 2, 0] ∧ win0_7.index t = ![0, 0] :=
  (by decide +kernel : ∀ t : Fin grid0.N, _)

theorem lt16 (t : Fin cfg0.N) : t.val < 16 := lt_of_lt_of_eq t.isLt N_0

/-- The row that row `i` of row block `b` is. -/
abbrev rowAt (b : ℕ) (hb : b < 8) (i : Fin 512) : Fin 4096 := ⟨512 * b + i, by omega⟩

variable (m : (ℓ : Loc nD τ sig) → Buf (Elt Ideal) ℓ) (c : Dev nD) (C : Shape.Idx ⟨3, ![2, 4096, 2816]⟩ → ℝ) (W : Shape.Idx ⟨2, ![1024, 5632]⟩ → ℝ)
  (X : Shape.Idx ⟨2, ![4096, 1024]⟩ → ℝ) (G : Shape.Idx ⟨2, ![1, 1024]⟩ → ℝ)
  (h0 : m ((c : Thread nD τ).loc main_arg0) = up C) (h1 : m ((c : Thread nD τ).loc main_arg1) = up W)
  (h2 : m ((c : Thread nD τ).loc main_arg2) = up X) (h4 : m ((c : Thread nD τ).loc main_arg4) = up G)

section
variable (t : Fin cfg0.N)

/-- The rows of a grid point's block. -/
abbrev rr (i : Fin 512) : Fin 4096 := rowAt (t.val / 2) (by have := lt16 t; omega) i

/-- The half of the product of a grid point. -/
abbrev hf (t : Fin cfg0.N) : Fin 2 := ⟨t.val % 2, by omega⟩

include h0 in
theorem b0 : iblk m c 0 t = up (S := S1x512x2816) fun y => C (ix3 (hf t) (rr t (y 1)) (y 2)) := by
  funext y
  refine Eq.trans ?_ (congrFun h0 (ix3 (hf t) (rr t (y 1)) (y 2)))
  blk_point [iblk, V, idx t]

include h1 in
theorem b1 : iblk m c 1 t = up (S := S1024x2816) fun y => W (ix2 (y 0) ⟨(hf t).val * 2816 + (y 1).val, by have : (y 1 : ℕ) < 2816 := (y 1).isLt; have := (hf t).isLt; omega⟩) := by
  funext y
  refine Eq.trans ?_ (congrFun h1 (ix2 (y 0) ⟨(hf t).val * 2816 + (y 1).val, by have : (y 1 : ℕ) < 2816 := (y 1).isLt; have := (hf t).isLt; omega⟩))
  blk_point [iblk, V, idx t]

include h2 in
theorem b2 : iblk m c 2 t = up (S := S512x1024) fun y => X (ix2 (rr t (y 0)) (y 1)) := by
  funext y
  refine Eq.trans ?_ (congrFun h2 (ix2 (rr t (y 0)) (y 1)))
  blk_point [iblk, V, idx t]

theorem b3 (y : S512x1024.Idx) : iblk m c 3 t y = m ((c : Thread nD τ).loc main_arg3) (ix2 (rr t (y 0)) (y 1)) := by
  blk_point [iblk, V, idx t]

include h4 in
theorem b4 : iblk m c 4 t = up G := by
  funext y
  refine Eq.trans ?_ (congrFun h4 y)
  blk_point [iblk, V, idx t]

include h0 h1 in
/-- A grid point's part of the product. -/
theorem pt_part : k0_pay1 (F := Ideal) (iblk m c 0 t) (iblk m c 1 t) = up (S := S512x1024) fun y => part C W (rr t (y 0)) (y 1) (hf t) := by
  rw [b0 m c C h0 t, b1 m c W h1 t, p_part]
  rfl

include h0 h1 in
/-- A block's first point leaves its part in the scratch. -/
theorem first (h : t.val % 2 = 0) : (outsAt0 m c t.val t.isLt).2.2.2 = up (S := S512x1024) fun y => part C W (rr t (y 0)) (y 1) 0 := by
  rw [outsAt0_A m c t h (by omega)]
  frame_out
  refine Eq.trans (funext fun y => by pointwise [k0_pay2]) ((pt_part m c C W h0 h1 t).trans ?_)
  have e : hf t = 0 := Fin.ext h
  rw [e]

include h0 h1 in
/-- What its second point finds there. -/
theorem found (h : t.val % 2 = 1) : (outsAt0 m c (t.val - 1) (Nat.lt_of_le_of_lt (Nat.sub_le _ _) t.isLt)).2.2.2
    = up (S := S512x1024) fun y => part C W (rr t (y 0)) (y 1) 0 := by
  refine (first m c C W h0 h1 ⟨t.val - 1, Nat.lt_of_le_of_lt (Nat.sub_le _ _) t.isLt⟩ (by show (t.val - 1) % 2 = 0; omega)).trans ?_
  have e (i : Fin 512) : rr ⟨t.val - 1, Nat.lt_of_le_of_lt (Nat.sub_le _ _) t.isLt⟩ i = rr t i :=
    Fin.ext (by show 512 * ((t.val - 1) / 2) + i.val = 512 * (t.val / 2) + i.val; omega)
  funext y
  exact congrArg (fun r => ((part C W r (y 1) 0 : ℝ) : EReal)) (e (y 0))

/-- The two kinds of second points. -/
theorem kinds (h : t.val % 2 = 1) : (¬t.val % 2 = 0 ∧ t.val % 2 = 1 ∧ t.val < 2 ∧ ¬2 ≤ t.val) ∨ (¬t.val % 2 = 0 ∧ t.val % 2 = 1 ∧ ¬t.val < 2 ∧ 2 ≤ t.val) := by
  omega

theorem out5 (h : t.val % 2 = 1) : (outsAt0 m c t.val t.isLt).1 = k0_pay8 (F := Ideal) (k0_pay1 (iblk m c 0 t) (iblk m c 1 t))
    (outsAt0 m c (t.val - 1) (Nat.lt_of_le_of_lt (Nat.sub_le _ _) t.isLt)).2.2.2 (iblk m c 2 t) (iblk m c 4 t) (iblk m c 3 t) := by
  rcases kinds t h with h | h
  · rw [outsAt0_B m c t h.1 h.2.1 h.2.2.1 h.2.2.2]; frame_out; exact congrArg (fun z => k0_pay8 (F := Ideal) _ z (iblk m c 2 t) (iblk m c 4 t) (iblk m c 3 t)) (Memref.IsWhole.read_unread _ _)
  · rw [outsAt0_C m c t h.1 h.2.1 h.2.2.1 h.2.2.2]; frame_out; exact congrArg (fun z => k0_pay8 (F := Ideal) _ z (iblk m c 2 t) (iblk m c 4 t) (iblk m c 3 t)) (Memref.IsWhole.read_unread _ _)

theorem out6 (h : t.val % 2 = 1) : (outsAt0 m c t.val t.isLt).2.1 = k0_pay9 (F := Ideal) (k0_pay1 (iblk m c 0 t) (iblk m c 1 t))
    (outsAt0 m c (t.val - 1) (Nat.lt_of_le_of_lt (Nat.sub_le _ _) t.isLt)).2.2.2 (iblk m c 2 t) (iblk m c 4 t) (iblk m c 3 t) := by
  rcases kinds t h with h | h
  · rw [outsAt0_B m c t h.1 h.2.1 h.2.2.1 h.2.2.2]; frame_out; exact congrArg (fun z => k0_pay9 (F := Ideal) _ z (iblk m c 2 t) (iblk m c 4 t) (iblk m c 3 t)) (Memref.IsWhole.read_unread _ _)
  · rw [outsAt0_C m c t h.1 h.2.1 h.2.2.1 h.2.2.2]; frame_out; exact congrArg (fun z => k0_pay9 (F := Ideal) _ z (iblk m c 2 t) (iblk m c 4 t) (iblk m c 3 t)) (Memref.IsWhole.read_unread _ _)

include h0 h1 h2 h4 in
/-- The gradient that a block's second point writes. -/
theorem pt_dx (h : t.val % 2 = 1) (y : S512x1024.Idx) : k0_pay8 (F := Ideal) (k0_pay1 (iblk m c 0 t) (iblk m c 1 t))
    (outsAt0 m c (t.val - 1) (Nat.lt_of_le_of_lt (Nat.sub_le _ _) t.isLt)).2.2.2 (iblk m c 2 t) (iblk m c 4 t) (iblk m c 3 t) y
      = @HAdd.hAdd EReal EReal EReal _ (iblk m c 3 t y) ((dx C W X G (rr t (y 0)) (y 1) : ℝ) : EReal) := by
  rw [pt_part m c C W h0 h1 t, found m c C W h0 h1 t h, b2 m c X h2 t, b4 m c G h4 t, p_dx]
  have e : hf t = 1 := Fin.ext h
  rw [e]
  rfl

include h0 h1 h2 in
/-- What a block's second point adds to the gain's gradient. -/
theorem pt_dg (h : t.val % 2 = 1) (y : S1x1024.Idx) : k0_pay10 (F := Ideal) (k0_pay1 (iblk m c 0 t) (iblk m c 1 t))
    (outsAt0 m c (t.val - 1) (Nat.lt_of_le_of_lt (Nat.sub_le _ _) t.isLt)).2.2.2 (iblk m c 2 t) y
      = ((∑ i, dgRow C W X (rr t i) (y 1) : ℝ) : EReal) := by
  rw [pt_part m c C W h0 h1 t, found m c C W h0 h1 t h, b2 m c X h2 t, p_dg]
  have e : hf t = 1 := Fin.ext h
  rw [e]
  rfl

/-- A block's first point hands the gain's gradient on. -/
theorem pass7 (h : t.val % 2 = 0) (hz : 0 < t.val) :
    (outsAt0 m c t.val t.isLt).2.2.1 = (outsAt0 m c (t.val - 1) (Nat.lt_of_le_of_lt (Nat.sub_le _ _) t.isLt)).2.2.1 := by
  rw [outsAt0_A m c t h (by omega)]
  rfl

/-- The first block's second point starts it. -/
theorem first7 (h : t.val = 1) : (outsAt0 m c t.val t.isLt).2.2.1 = k0_pay10 (F := Ideal) (k0_pay1 (iblk m c 0 t) (iblk m c 1 t))
    (outsAt0 m c (t.val - 1) (Nat.lt_of_le_of_lt (Nat.sub_le _ _) t.isLt)).2.2.2 (iblk m c 2 t) := by
  rw [outsAt0_B m c t (by omega) (by omega) (by omega) (by omega)]
  frame_out
  exact congrArg (fun z => k0_pay10 (F := Ideal) _ z (iblk m c 2 t)) (Memref.IsWhole.read_unread _ _)

/-- Every other block's second point adds its part. -/
theorem step7 (h : t.val % 2 = 1) (hg : 2 ≤ t.val) (y : S1x1024.Idx) : (outsAt0 m c t.val t.isLt).2.2.1 y
    = (outsAt0 m c (t.val - 1) (Nat.lt_of_le_of_lt (Nat.sub_le _ _) t.isLt)).2.2.1 y + k0_pay10 (F := Ideal) (k0_pay1 (iblk m c 0 t) (iblk m c 1 t))
    (outsAt0 m c (t.val - 1) (Nat.lt_of_le_of_lt (Nat.sub_le _ _) t.isLt)).2.2.2 (iblk m c 2 t) y := by
  rw [outsAt0_C m c t (by omega) (by omega) (by omega) (by omega)]
  frame_out
  refine (congrArg (fun z => k0_pay4 (F := Ideal) (k0_pay10 (F := Ideal) (k0_pay1 (iblk m c 0 t) (iblk m c 1 t)) z (iblk m c 2 t))
    (outsAt0 m c (t.val - 1) (Nat.lt_of_le_of_lt (Nat.sub_le _ _) t.isLt)).2.2.1 y) (Memref.IsWhole.read_unread _ _)).trans ?_
  pointwise [k0_pay4]

end

include h0 h1 h2

/-- The gain's gradient after `b + 1` row blocks. -/
theorem left7 (b : ℕ) (hb : b < 8) (n : ℕ) (hn : n < cfg0.N) (e : n = 2 * b + 1) (y : S1x1024.Idx) :
    (outsAt0 m c n hn).2.2.1 y = ((∑ s : Fin (b + 1), ∑ i, dgRow C W X (rowAt s (by omega) i) (y 1) : ℝ) : EReal) := by
  have er (b n : ℕ) (hn : n < cfg0.N) (hb : b < 8) (e : n = 2 * b + 1) (i : Fin 512) : rr ⟨n, hn⟩ i = rowAt b hb i :=
    Fin.ext (by show 512 * (n / 2) + i.val = 512 * b + i.val; omega)
  induction b generalizing n with
  | zero =>
    refine (congrFun (first7 m c ⟨n, hn⟩ e) y).trans ((pt_dg m c C W X h0 h1 h2 ⟨n, hn⟩ (by show n % 2 = 1; omega) y).trans ?_)
    simp only [er 0 n hn (by omega) e]
    exact congrArg _ (Fin.sum_univ_one fun s : Fin (0 + 1) => ∑ i, dgRow C W X (rowAt s (by omega) i) (y 1)).symm
  | succ b ih =>
    have hp : (outsAt0 m c (n - 1) (Nat.lt_of_le_of_lt (Nat.sub_le _ _) hn)).2.2.1 y = _ :=
      (congrFun (pass7 m c ⟨n - 1, Nat.lt_of_le_of_lt (Nat.sub_le _ _) hn⟩ (by show (n - 1) % 2 = 0; omega) (by show 0 < n - 1; omega)) y).trans
        (ih (by omega) (n - 1 - 1) _ (by omega))
    rw [Fin.sum_univ_castSucc, EReal.coe_add]
    refine (step7 m c ⟨n, hn⟩ (by show n % 2 = 1; omega) (by show 2 ≤ n; omega) y).trans (congrArg₂ (· + ·) hp ?_)
    refine (pt_dg m c C W X h0 h1 h2 ⟨n, hn⟩ (by show n % 2 = 1; omega) y).trans ?_
    simp only [er (b + 1) n hn (by omega) e]
    rfl

/-! The arrays. -/

/-- The gain's gradient. -/
theorem final7 : (dats m 0 c).arrAt 7 cfg0.N = val_main_v27 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht := (flush0_7 t).mp hf
  have hl := lt16 t
  blk_simp
  rw [after0_7, h0, h1, h2]
  have e : ((cfg0.win 7).blk t).view.emb y = ix2 (y 0) (y 1) := by blk_point [idx t]
  refine (left7 m c C W X h0 h1 h2 7 (by omega) t.val t.isLt (by omega) y).trans (Eq.trans ?_ ((congrArg _ e).trans (r_dg C W X (y 1) (y 0))).symm)
  refine congrArg _ (Fin.sum_mul_add_congr fun s i hl => ?_)
  have e : (⟨s.val * 512 + i.val, hl⟩ : Fin 4096) = rowAt s (by omega) i := Fin.ext (by show s.val * 512 + i.val = 512 * s.val + i.val; omega)
  rw [e]

include h4

/-- The gradient of the norm's input, added to the residual's. -/
theorem final5 : (dats m 0 c).arrAt 5 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  rw [after0_5, out5 m c t ht, h0, h1, h2, h4]
  have e : ((cfg0.win 5).blk t).view.emb y = ix2 (rr t (y 0)) (y 1) := by blk_point [idx t]
  refine (pt_dx m c C W X G h0 h1 h2 h4 t ht y).trans (Eq.trans (congrArg (· + _) ?_) ((congrArg _ e).trans (r_dx C W X G _ _ _)).symm)
  exact b3 m c t y

/-- The same gradient in the other format. -/
theorem final6 : (dats m 0 c).arrAt 6 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6, out6 m c t ht, h0, h1, h2, h4]
  have e : ((cfg0.win 6).blk t).view.emb y = ix2 (rr t (y 0)) (y 1) := by blk_point [idx t]
  refine (pt_dx m c C W X G h0 h1 h2 h4 t ht y).trans (Eq.trans (congrArg (· + _) ?_) ((congrArg _ e).trans (r_dxb C W X G _ _ _)).symm)
  exact b3 m c t y

end Cert.FfnNorm

end
-- ==== Proof.Loss.lean ====
/- The loss and its gradient (`ffn_out_loss_head`): the arrays the kernel leaves are the reference's. -/
module

public import proofs.«01_k».proof.Proof.Reals
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Loss

open Cert.Kernel5Ideal Cert.Kernel5Ideal.Gen Idealize.ShloMosaic Idealize.ShloMosaic.TcCoe Idealize.SL.Sem
open Idealize.ShloMosaic.Pipeline (Dat)
open Cert.Reference5Ideal.Read Cert.Reals

/-- The blocks that grid point `t` names: row block `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem lt8 (t : Fin cfg0.N) : t.val < 8 := lt_of_lt_of_eq t.isLt N_0

/-- The row of the step's output that row `i` of a grid point's block is. -/
abbrev rw_ (t : Fin cfg0.N) (i : Fin 512) : Fin 4096 := ⟨512 * t.val + i, by have := lt8 t; omega⟩

/-- The step's output less the target, at row `i` and column `j`. -/
def diff {n : ℕ} (x tg : Shape.Idx ⟨2, ![n, 1024]⟩ → EReal) (a : Shape.Idx ⟨2, ![n, 2816]⟩ → EReal)
    (w : Shape.Idx ⟨2, ![2816, 1024]⟩ → EReal) (i : Fin n) (j : Fin 1024) : EReal :=
  x (ix2 i j) + (∑ k : Fin 2816, a (ix2 i k) * w (ix2 k j)) - tg (ix2 i j)

/-! The words. -/

theorem word_two : Ideal.ofBits .f32 0x40000000#32 = ((2 : ℝ) : EReal) := by
  simp [Ideal.ofBits, Ideal.ieee, -EReal.coe_mul]; norm_num

theorem word_1024th : Ideal.ofBits .f32 0x3A800000#32 = ((1 / 1024 : ℝ) : EReal) := by
  simp [Ideal.ofBits, Ideal.ieee, -EReal.coe_mul]; norm_num

theorem word_2048th : Ideal.ofBits .f32 0x3A000000#32 = ((1 / 2048 : ℝ) : EReal) := by
  simp [Ideal.ofBits, Ideal.ieee, -EReal.coe_mul]; norm_num

/-! Sums of numbers that are not negative. -/

theorem sq_nonneg (x : EReal) : 0 ≤ x * x := by
  induction x with
  | bot => simp
  | top => simp
  | coe r => exact_mod_cast mul_self_nonneg r

/-- A factor comes out of a sum of numbers that are not negative. -/
theorem sum_mul {ι : Type} (s : Finset ι) (f : ι → EReal) (c : EReal) (h : ∀ i, 0 ≤ f i) : ∑ i ∈ s, f i * c = (∑ i ∈ s, f i) * c := by
  classical
  induction s using Finset.induction_on with
  | empty => simp
  | insert a s ha ih =>
    rw [Finset.sum_insert ha, Finset.sum_insert ha, ih, EReal.right_distrib_of_nonneg (h a) (Finset.sum_nonneg fun i _ => h i)]

/-- A quotient by a positive real is a product with its inverse. -/
theorem div_real (x : EReal) {r : ℝ} (hr : r ≠ 0) : Ideal.div x (r : EReal) = x * ((r⁻¹ : ℝ) : EReal) := by
  unfold Ideal.div
  rw [if_neg (by exact_mod_cast hr), EReal.coe_inv]

/-! The kernel's vectors. -/

section
variable (x tg : FVec Ideal S512x1024 .f32) (a : FVec Ideal S512x2816 .bf16) (w : FVec Ideal S2816x1024 .bf16)

theorem p_dy (y : S512x1024.Idx) : k0_pay2 (F := Ideal) x a w tg y = diff x tg a w (y 0) (y 1) * ((1 / 1024 : ℝ) : EReal) := by
  pointwise [k0_pay2, k0_pay1]
  rw [word_1024th, eq_ix2 y]
  rfl

theorem p_dyb (y : S512x1024.Idx) : k0_pay3 (F := Ideal) x a w tg y = diff x tg a w (y 0) (y 1) * ((1 / 1024 : ℝ) : EReal) := p_dy x tg a w y

theorem p_sum (y : S1x1024.Idx) : k0_pay4 (F := Ideal) x a w tg y = ∑ i, diff x tg a w i (y 1) * diff x tg a w i (y 1) := by
  pointwise [k0_pay4, k0_pay1]
  rfl

end

/-- The last point's loss: the sum over the columns, scaled. -/
theorem p_loss (s : FVec Ideal S1x1024 .f32) (y : S1x128.Idx) :
    k0_pay7 (F := Ideal) s y = (∑ j : Fin 1024, s (ix2 0 j)) * ((1 / 2048 : ℝ) : EReal) := by
  pointwise [k0_pay7]
  rw [word_2048th]

/-! The reference's arrays. -/

section
variable (x tg : FVec Ideal S4096x1024 .f32) (a : FVec Ideal S4096x2816 .bf16) (w : FVec Ideal S2816x1024 .bf16)

theorem r_diff (i : Fin 4096) (j : Fin 1024) : val_main_v4 (F := Ideal) x a w tg (ix2 i j) = diff x tg a w i j := by
  pointwise [val_main_v4, val_main_v3, val_main_v2, val_main_v1, val_main_v0]
  rfl

/-- The gradient with respect to the step's output. -/
theorem r_dy (i : Fin 4096) (j : Fin 1024) : val_main_v18 (F := Ideal) x a w tg (ix2 i j) = diff x tg a w i j * ((1 / 1024 : ℝ) : EReal) := by
  pointwise [val_main_v18, val_main_v17, val_main_v16, val_main_v15, val_main_v14, val_main_v13, val_main_v7, val_main_v6, val_main_cst,
    val_main_cst_4, val_main_cst_5, val_main_cst_6]
  rw [r_diff, word_half, word_two, word_1024, div_coe (by norm_num), ← mul_assoc, ← EReal.coe_mul, mul_comm]
  norm_num

theorem r_dyb (i : Fin 4096) (j : Fin 1024) : val_main_v19 (F := Ideal) x a w tg (ix2 i j) = diff x tg a w i j * ((1 / 1024 : ℝ) : EReal) :=
  r_dy x tg a w i j

/-- The loss. -/
theorem r_loss (y : S1x128.Idx) : val_main_v20 (F := Ideal) x a w tg y
    = (∑ j, ∑ i, diff x tg a w i j * diff x tg a w i j) * ((1 / 2048 : ℝ) : EReal) := by
  have n (i : Fin 4096) : 0 ≤ ∑ j, diff x tg a w i j * diff x tg a w i j := Finset.sum_nonneg fun j _ => sq_nonneg _
  pointwise [val_main_v20, val_main_v12, val_main_v11, val_main_v10, val_main_v9, val_main_v8, val_main_v5, val_main_cst_0, val_main_cst_1,
    val_main_cst_2, val_main_cst_3]
  simp only [r_diff, zero_add]
  rw [word_half, word_1024]
  simp only [div_real _ (show (1024 : ℝ) ≠ 0 by norm_num)]
  rw [sum_mul _ _ _ n, mul_comm, mul_assoc, ← EReal.coe_mul, Finset.sum_comm]
  norm_num

end

/-! The points. -/

variable (m : (ℓ : Loc nD τ sig) → Buf (Elt Ideal) ℓ) (c : Dev nD)

/-- The step's output less the target, as the kernel's arguments give it. -/
abbrev D (i : Fin 4096) (j : Fin 1024) : EReal :=
  diff (n := 4096) (m ((c : Thread nD τ).loc main_arg0)) (m ((c : Thread nD τ).loc main_arg3)) (m ((c : Thread nD τ).loc main_arg1)) (m ((c : Thread nD τ).loc main_arg2)) i j

theorem blk (t : Fin cfg0.N) (i : Fin 512) (j : Fin 1024) :
    diff (n := 512) (iblk m c 0 t) (iblk m c 3 t) (iblk m c 1 t) (iblk m c 2 t) i j = D m c (rw_ t i) j := by
  have e0 : iblk m c 0 t (ix2 i j) = m ((c : Thread nD τ).loc main_arg0) (ix2 (rw_ t i) j) := by blk_point [iblk, V, idx t]
  have e1 (k : Fin 2816) : iblk m c 1 t (ix2 i k) = m ((c : Thread nD τ).loc main_arg1) (ix2 (rw_ t i) k) := by blk_point [iblk, V, idx t]
  have e2 (k : Fin 2816) : iblk m c 2 t (ix2 k j) = m ((c : Thread nD τ).loc main_arg2) (ix2 k j) := by blk_point [iblk, V, idx t]
  have e3 : iblk m c 3 t (ix2 i j) = m ((c : Thread nD τ).loc main_arg3) (ix2 (rw_ t i) j) := by blk_point [iblk, V, idx t]
  unfold D diff
  rw [e0, e3]
  simp only [e1, e2]

/-- The three kinds of grid points. -/
theorem kinds (t : Fin cfg0.N) : (t.val % 8 = 0 ∧ ¬1 ≤ t.val ∧ ¬t.val % 8 = 7) ∨ (¬t.val % 8 = 0 ∧ 1 ≤ t.val ∧ ¬t.val % 8 = 7)
    ∨ (¬t.val % 8 = 0 ∧ 1 ≤ t.val ∧ t.val % 8 = 7) := by
  have := lt8 t
  omega

theorem out4 (t : Fin cfg0.N) : (outsAt0 m c t.val t.isLt).1 = k0_pay2 (F := Ideal) (iblk m c 0 t) (iblk m c 1 t) (iblk m c 2 t) (iblk m c 3 t) := by
  rcases kinds t with h | h | h
  · rw [outsAt0_A m c t h.1 h.2.1 h.2.2]; frame_out
  · rw [outsAt0_B m c t h.1 h.2.1 h.2.2]; frame_out
  · rw [outsAt0_C m c t h.1 h.2.1 h.2.2]; frame_out

theorem out5 (t : Fin cfg0.N) : (outsAt0 m c t.val t.isLt).2.1 = k0_pay3 (F := Ideal) (iblk m c 0 t) (iblk m c 1 t) (iblk m c 2 t) (iblk m c 3 t) := by
  rcases kinds t with h | h | h
  · rw [outsAt0_A m c t h.1 h.2.1 h.2.2]; frame_out
  · rw [outsAt0_B m c t h.1 h.2.1 h.2.2]; frame_out
  · rw [outsAt0_C m c t h.1 h.2.1 h.2.2]; frame_out

/-- The first point starts the columns' sums. -/
theorem reset (t : Fin cfg0.N) (h : t.val % 8 = 0) (y : S1x1024.Idx) :
    (outsAt0 m c t.val t.isLt).2.2.2 y = 0 + ∑ i, D m c (rw_ t i) (y 1) * D m c (rw_ t i) (y 1) := by
  have := lt8 t
  rw [outsAt0_A m c t h (by omega) (by omega), zero_add]
  frame_out
  refine Eq.trans (by pointwise [k0_pay5]) ((p_sum (iblk m c 0 t) (iblk m c 3 t) (iblk m c 1 t) (iblk m c 2 t) y).trans ?_)
  exact Finset.sum_congr rfl fun i _ => congrArg₂ (· * ·) (blk m c t i _) (blk m c t i _)

/-- Every other point adds its rows. -/
theorem step (t : Fin cfg0.N) (h : ¬t.val % 8 = 0) (y : S1x1024.Idx) :
    (outsAt0 m c t.val t.isLt).2.2.2 y = (outsAt0 m c (t.val - 1) (Nat.lt_of_le_of_lt (Nat.sub_le _ _) t.isLt)).2.2.2 y
      + ∑ i, D m c (rw_ t i) (y 1) * D m c (rw_ t i) (y 1) := by
  have := lt8 t
  have e (z : FVec Ideal S1x1024 .f32) : k0_pay6 (F := Ideal) (iblk m c 0 t) (iblk m c 1 t) (iblk m c 2 t) (iblk m c 3 t) z y
      = z y + ∑ i, D m c (rw_ t i) (y 1) * D m c (rw_ t i) (y 1) := by
    refine Eq.trans (b := z y + k0_pay4 (F := Ideal) (iblk m c 0 t) (iblk m c 1 t) (iblk m c 2 t) (iblk m c 3 t) y) (by pointwise [k0_pay6]) ?_
    rw [p_sum (iblk m c 0 t) (iblk m c 3 t) (iblk m c 1 t) (iblk m c 2 t) y]
    exact congrArg (z y + ·) (Finset.sum_congr rfl fun i _ => congrArg₂ (· * ·) (blk m c t i _) (blk m c t i _))
  rcases kinds t with h | h | h
  · omega
  · rw [outsAt0_B m c t h.1 h.2.1 h.2.2]; frame_out; exact (congrArg (fun z => k0_pay6 (F := Ideal) (iblk m c 0 t) (iblk m c 1 t) (iblk m c 2 t) (iblk m c 3 t) z y) (Memref.IsWhole.read_unread _ _)).trans (e _)
  · rw [outsAt0_C m c t h.1 h.2.1 h.2.2]; frame_out; exact (congrArg (fun z => k0_pay6 (F := Ideal) (iblk m c 0 t) (iblk m c 1 t) (iblk m c 2 t) (iblk m c 3 t) z y) (Memref.IsWhole.read_unread _ _)).trans (e _)

/-- The last point's loss is of the columns' sums it leaves. -/
theorem out6 (t : Fin cfg0.N) (h : t.val % 8 = 7) :
    (outsAt0 m c t.val t.isLt).2.2.1 = k0_pay7 (F := Ideal) (outsAt0 m c t.val t.isLt).2.2.2 := by
  have := lt8 t
  rw [outsAt0_C m c t (by omega) (by omega) h]
  frame_out

/-- The columns' sums after the last point. -/
theorem left (t : Fin cfg0.N) (h : t.val % 8 = 7) (y : S1x1024.Idx) :
    (outsAt0 m c t.val t.isLt).2.2.2 y = ∑ i, D m c i (y 1) * D m c i (y 1) := by
  have := lt8 t
  rw [Pipeline.eq_sum_fin_of_reset_step_apply_last (fun n hn => (outsAt0 m c n hn).2.2.2) 8 (fun _ => 0) _
    (fun t h y => reset m c t h y) (fun t h y => step m c t h y) (le_of_eq N_0) t (by have e : cfg0.N = 8 := N_0; omega) y, zero_add]
  refine Fin.sum_mul_add_congr (fun s i hl => ?_) (by rw [show cfg0.N = 8 from N_0])
  have e : (⟨s.val * 512 + i.val, hl⟩ : Fin 4096) = rw_ s i := Fin.ext (by show s.val * 512 + i.val = 512 * s.val + i.val; omega)
  rw [e]

/-! The arrays. -/

/-- The gradient with respect to the step's output. -/
theorem final4 : (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  have e : ((cfg0.win 4).blk t).view.emb y = ix2 (rw_ t (y 0)) (y 1) := by blk_point [idx t]
  refine (p_dy _ _ _ _ y).trans (Eq.trans ?_ ((congrArg _ e).trans (r_dy _ _ _ _ _ _)).symm)
  exact congrArg (· * _) (blk m c t _ _)

/-- The same gradient in the other format. -/
theorem final5 : (dats m 0 c).arrAt 5 cfg0.N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out5]
  have e : ((cfg0.win 5).blk t).view.emb y = ix2 (rw_ t (y 0)) (y 1) := by blk_point [idx t]
  refine (p_dyb _ _ _ _ y).trans (Eq.trans ?_ ((congrArg _ e).trans (r_dyb _ _ _ _ _ _)).symm)
  exact congrArg (· * _) (blk m c t _ _)

/-- The loss, in every lane. -/
theorem final6 : (dats m 0 c).arrAt 6 cfg0.N = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  rw [after0_6, out6 m c t ht]
  refine (p_loss _ y).trans (Eq.trans ?_ (r_loss _ _ _ _ _).symm)
  refine congrArg (· * _) (Finset.sum_congr rfl fun j _ => ?_)
  exact left m c t ht _

end Cert.Loss

end
-- ==== Proof.ProjNormRef.lean ====
/- The gradient of the input projections' product and of the norm before it, on the rows of the second part
   (`proj_bwd_act_norm_bottom`): the gradient over the reals, and that the reference computes it. -/
module

public import proofs.«01_k».proof.Proof.Rms
public import proofs.«01_k».proof.Proof.Gen.Reference7Ideal.Read
public import Idealize.ShloMosaic.Lib.Pipeline.ValueKit

@[expose] public section

set_option maxRecDepth 16384

noncomputable section

namespace Cert.ProjNorm

open Cert.Reference7Ideal Idealize.ShloMosaic Idealize.ShloMosaic.TcCoe Idealize.SL.Sem
open Cert.Reference7Ideal.Read Cert.Reals Cert.Rms

/-- The row of the whole array that is row `i` of the second part. -/
abbrev lo (i : Fin 3072) : Fin 4096 := ⟨1024 + i, by omega⟩

/-! The gradient, over the reals: `C` the cotangent's rows, `X` the norm's, `n` of them. -/

section
variable {n : ℕ} (C : Shape.Idx ⟨2, ![n, 13312]⟩ → ℝ) (W : Shape.Idx ⟨2, ![1024, 13312]⟩ → ℝ) (X : Shape.Idx ⟨2, ![n, 1024]⟩ → ℝ)
  (G : Shape.Idx ⟨2, ![1, 1024]⟩ → ℝ) (i : Fin n) (j : Fin 1024)

/-- The gradient of the normed input: the part that piece `s` of the product gives. -/
def part (s : Fin 8) : ℝ := ∑ k : Fin 1664, C (ix2 i ⟨s * 1664 + k, by omega⟩) * W (ix2 j ⟨s * 1664 + k, by omega⟩)

/-- The gradient of the normed input. -/
def dn : ℝ := ∑ k : Fin 13312, C (ix2 i k) * W (ix2 j k)

theorem dn_eq : ∑ s, part C W i j s = dn C W i j :=
  Fin.sum_mul_add_congr fun _ _ _ => rfl

/-- The gradient of the norm's input. -/
def dx : ℝ := back 1024 (row X i) (row G 0) (dn C W i) j

/-- The gradient of the gain: what row `i` adds. -/
def dgRow : ℝ := dn C W i j * hat 1024 (row X i) j

/-- The gradient of the gain. -/
def dg : ℝ := ∑ i, dgRow C W X i j

end

/-! The reference's arrays. -/

section
variable (d : FVec Ideal S4096x13312 .bf16) (x y z : FVec Ideal S4096x1024 .f32)
  (C : Shape.Idx ⟨2, ![3072, 13312]⟩ → ℝ) (W : Shape.Idx ⟨2, ![1024, 13312]⟩ → ℝ) (X : Shape.Idx ⟨2, ![3072, 1024]⟩ → ℝ)
  (G : Shape.Idx ⟨2, ![1, 1024]⟩ → ℝ) (i : Fin 3072) (j : Fin 1024) (o : Fin 1)
  (hd : ∀ i k, d (ix2 (lo i) k) = ((C (ix2 i k) : ℝ) : EReal)) (hx : ∀ i k, x (ix2 (lo i) k) = ((X (ix2 i k) : ℝ) : EReal))

include hx

theorem r_x : val_main_v1 (F := Ideal) x (ix2 i j) = ((row X i j : ℝ) : EReal) := by
  pointwise [val_main_v1]
  exact hx i j

theorem r_ms : val_main_v10 (F := Ideal) x (ix2 i o) = ((ms 1024 (row X i) : ℝ) : EReal) := by
  pointwise [val_main_v10, val_main_v9, val_main_v8, val_main_v7, val_main_v6, val_main_v5, val_main_v4, val_main_cst, val_main_cst_0, val_main_cst_1]
  simp only [r_x x X _ _ hx, ← EReal.coe_mul, sum_coe, zero_add]
  rw [word_1024, word_eps, div_coe (by norm_num), ← EReal.coe_add]
  rfl

theorem r_inv : val_main_v11 (F := Ideal) x (ix2 i o) = ((inv 1024 (row X i) : ℝ) : EReal) := by
  rw [val_main_v11_apply, r_ms x X i o hx]
  exact rsqrt_coe (ms_pos (by norm_num) _)

theorem r_half : val_main_v13 (F := Ideal) (ix2 i o) = ((-(1 / 2) : ℝ) : EReal) := by
  pointwise [val_main_v13, val_main_cst_2]
  exact word_neg_half

theorem r_fac : val_main_v14 (F := Ideal) x (ix2 i o) = ((-(1 / 2) * (inv 1024 (row X i) / ms 1024 (row X i)) : ℝ) : EReal) := by
  rw [val_main_v14_apply, val_main_v12_apply, r_ms x X i o hx, r_inv x X i o hx, r_half x X i o hx]
  exact congrArg (fun z : EReal => ((-(1 / 2) : ℝ) : EReal) * z) (div_coe (ms_pos (by norm_num) _).ne')

theorem r_invs : val_main_v15 (F := Ideal) x (ix2 i j) = ((inv 1024 (row X i) : ℝ) : EReal) := by
  pointwise [val_main_v15]
  exact r_inv x X i 0 hx

theorem r_invs' : val_main_v30 (F := Ideal) x (ix2 i j) = ((inv 1024 (row X i) : ℝ) : EReal) := by
  pointwise [val_main_v30]
  exact r_inv x X i 0 hx

theorem r_hat : val_main_v16 (F := Ideal) x (ix2 i j) = ((hat 1024 (row X i) j : ℝ) : EReal) := by
  rw [val_main_v16_apply, r_x x X i j hx, r_invs x X i j hx]
  rfl

omit hx
include hd

theorem r_ct (k : Fin 13312) : val_main_v20 (F := Ideal) d (ix2 i k) = ((C (ix2 i k) : ℝ) : EReal) := by
  pointwise [val_main_v20, val_main_v0]
  exact hd i k

theorem r_dn : val_main_v21 (F := Ideal) d (up W) (ix2 i j) = ((dn C W i j : ℝ) : EReal) := by
  refine Eq.trans (b := ∑ k, val_main_v20 (F := Ideal) d (ix2 i k) * up W (ix2 j k)) (by pointwise [val_main_v21, val_main_v3]) ?_
  unfold dn
  rw [← sum_coe]
  exact Finset.sum_congr rfl fun k _ => (congrArg (· * up W (ix2 j k)) (r_ct d C i hd k)).trans (EReal.coe_mul _ _).symm

theorem r_gain : val_main_v25 (F := Ideal) (up G) (ix2 i j) = ((row G 0 j : ℝ) : EReal) := by
  pointwise [val_main_v25]

theorem r_dng : val_main_v26 (F := Ideal) d (up W) (up G) (ix2 i j) = ((dn C W i j * row G 0 j : ℝ) : EReal) := by
  rw [val_main_v26_apply, r_dn d C W i j hd, r_gain d C G i j hd]
  rfl

include hx

theorem r_xdn : val_main_v27 (F := Ideal) d (up W) x (up G) (ix2 i j) = ((row X i j * (dn C W i j * row G 0 j) : ℝ) : EReal) := by
  rw [val_main_v27_apply, r_dng d C W G i j hd, r_x x X i j hx]
  rfl

theorem r_sum : val_main_v28 (F := Ideal) d (up W) x (up G) (ix1 i)
    = ((∑ k, row X i k * (dn C W i k * row G 0 k) : ℝ) : EReal) := by
  pointwise [val_main_v28, val_main_cst_4]
  simp only [r_xdn d x C W X G _ _ hd hx, sum_coe, zero_add]

theorem r_1024 : val_main_v33 (F := Ideal) (ix2 i o) = ((1024 : ℝ) : EReal) := by
  pointwise [val_main_v33, val_main_cst_5]
  exact word_1024

/-- The part of the gradient that goes through the mean of the squares, but for the factor `x`. -/
def thru : ℝ := (∑ k, row X i k * (dn C W i k * row G 0 k)) * (-(1 / 2) * (inv 1024 (row X i) / ms 1024 (row X i))) / 1024

theorem r_div : val_main_v34 (F := Ideal) d (up W) x (up G) (ix2 i o) = ((thru C W X G i : ℝ) : EReal) := by
  rw [val_main_v34_apply, val_main_v32_apply, r_fac x X i o hx, r_1024 d x C X i o hd hx, val_main_v29_apply]
  refine Eq.trans ?_ (div_coe (show (1024 : ℝ) ≠ 0 by norm_num))
  refine congrArg (fun z : EReal => Ideal.div (z * _) _) (Eq.trans (congrArg _ ?_) (r_sum d x C W X G i hd hx))
  funext a
  match a with
  | ⟨0, _⟩ => exact Fin.ext (by show i.val * 1 + o.val = i.val; omega)

theorem r_thru : val_main_v36 (F := Ideal) d (up W) x (up G) (ix2 i j) = ((thru C W X G i : ℝ) : EReal) := by
  pointwise [val_main_v36, val_main_v35, val_main_cst_6]
  simp only [r_div d x C W X G _ _ hd hx, Fin.sum_univ_one, zero_add]

theorem r_back : val_main_v40 (F := Ideal) d (up W) x (up G) (ix2 i j) = ((dx C W X G i j : ℝ) : EReal) := by
  rw [val_main_v40_apply, val_main_v39_apply, val_main_v38_apply, val_main_v37_apply, val_main_v31_apply, r_dng d C W G i j hd,
    r_invs' x X i j hx, r_thru d x C W X G i j hd hx, r_x x X i j hx]
  unfold dx
  rw [back_eq (by norm_num)]
  rfl

theorem r_y : val_main_v2 (F := Ideal) y (ix2 i j) = y (ix2 (lo i) j) := by
  pointwise [val_main_v2]

theorem r_dx : val_main_v41 (F := Ideal) d (up W) x y (up G) (ix2 i j) = y (ix2 (lo i) j) + ((dx C W X G i j : ℝ) : EReal) := by
  rw [val_main_v41_apply, r_back d x C W X G i j hd hx, r_y d x y C X i j hd hx]
  rfl

/-- The array handed on: its rows of the second part are the gradient. -/
theorem r_low (k : S4096x1024.Idx) (e0 : (k 0 : ℕ) = 1024 + i.val) (e1 : (k 1 : ℕ) = j.val) :
    val_main_v43 (F := Ideal) d (up W) x y (up G) z k = y (ix2 (lo i) j) + ((dx C W X G i j : ℝ) : EReal) := by
  refine Eq.trans ?_ (r_dx d x y C W X G i j hd hx)
  unfold val_main_v43
  generalize val_main_v41 (F := Ideal) d (up W) x y (up G) = v
  pointwise [val_main_v42]
  rw [dif_neg (by omega)]
  refine congrArg v ?_
  funext a
  match a with
  | ⟨0, _⟩ => exact Fin.ext (by show (k 0 : ℕ) - 1024 = i.val; omega)
  | ⟨1, _⟩ => exact Fin.ext e1

theorem r_dgRow : val_main_v22 (F := Ideal) d (up W) x (ix2 i j) = ((dgRow C W X i j : ℝ) : EReal) := by
  rw [val_main_v22_apply, r_dn d C W i j hd, r_hat x X i j hx]
  exact ((EReal.coe_mul _ _).trans (mul_comm _ _)).symm

theorem r_dg : val_main_v24 (F := Ideal) d (up W) x (ix2 o j) = ((dg C W X j : ℝ) : EReal) := by
  rw [val_main_v24_apply]
  refine Eq.trans (congrArg _ (?_ : _ = ix1 j)) ?_
  · funext a
    match a with
    | ⟨0, _⟩ => exact Fin.ext (by show o.val * 1024 + j.val = j.val; omega)
  · pointwise [val_main_v23, val_main_cst_3]
    simp only [r_dgRow d x C W X _ _ hd hx, sum_coe, zero_add]
    rfl

end

/-- The array handed on: its other rows stay. -/
theorem r_top (d : FVec Ideal S4096x13312 .bf16) (w : FVec Ideal S1024x13312 .bf16) (x y z : FVec Ideal S4096x1024 .f32) (g : FVec Ideal S1x1024 .f32)
    (k : S4096x1024.Idx) (h : (k 0 : ℕ) < 1024) : val_main_v43 (F := Ideal) d w x y g z k = z k := by
  unfold val_main_v43
  generalize val_main_v41 (F := Ideal) d w x y g = v
  pointwise [val_main_v42]
  rw [dif_pos h]

end Cert.ProjNorm

end
-- ==== Proof.ProjPre.lean ====
/- What the precondition `finite7` says of the arrays. -/
module

public import proofs.«01_k».proof.Proof.Finite
public import proofs.«01_k».proof.Proof.ProjNormRef
public import proofs.«01_k».proof.Proof.Gen.Pre_finite7

@[expose] public section

noncomputable section

namespace Cert.Finite

open Idealize.ShloMosaic Cert.Reference7Ideal Cert.Reference7Ideal.Read Cert.ProjNorm

/-- The precondition of the gradient of a product after a norm, on the second part's rows: the product's two operands, the
    norm's input and its gain are real there. -/
theorem of_finite7 (d : FVec Ideal S4096x13312 .bf16) (w : FVec Ideal S1024x13312 .bf16) (x dy : FVec Ideal S4096x1024 .f32)
    (g : FVec Ideal S1x1024 .f32) (z : FVec Ideal S4096x1024 .f32)
    (h : Pre_finite7.fn (F := Ideal) d w x dy g z = fun _ => 1#1) :
    (∃ r : Shape.Idx ⟨2, ![3072, 13312]⟩ → ℝ, ∀ i k, d (ix2 (lo i) k) = ((r (ix2 i k) : ℝ) : EReal))
    ∧ (∃ r : S1024x13312.Idx → ℝ, w = fun i => ((r i : ℝ) : EReal))
    ∧ (∃ r : Shape.Idx ⟨2, ![3072, 1024]⟩ → ℝ, ∀ i k, x (ix2 (lo i) k) = ((r (ix2 i k) : ℝ) : EReal))
    ∧ (∃ r : S1x1024.Idx → ℝ, g = fun i => ((r i : ℝ) : EReal)) := by
  have e := congrFun h (fun a => a.elim0)
  obtain ⟨e, e4⟩ := IntOp.andi_eq_one.1 e
  obtain ⟨e, e3⟩ := IntOp.andi_eq_one.1 e
  obtain ⟨e1, e2⟩ := IntOp.andi_eq_one.1 e
  have hd : ∃ r : Shape.Idx ⟨2, ![3072, 13312]⟩ → ℝ, val_main_v0 (F := Ideal) d = fun i => ((r i : ℝ) : EReal) := of_all _ _ _ _ _ _ _ e1
  have hx : ∃ r : Shape.Idx ⟨2, ![3072, 1024]⟩ → ℝ, val_main_v1 (F := Ideal) x = fun i => ((r i : ℝ) : EReal) := of_all _ _ _ _ _ _ _ e3
  obtain ⟨r, hr⟩ := hd
  obtain ⟨s, hs⟩ := hx
  exact ⟨⟨r, fun i k => Eq.trans (by pointwise [val_main_v0]) (congrFun hr (ix2 i k))⟩, of_all _ _ _ _ _ _ _ e2,
    ⟨s, fun i k => Eq.trans (by pointwise [val_main_v1]) (congrFun hs (ix2 i k))⟩, of_all _ _ _ _ _ _ _ e4⟩

end Cert.Finite

end
-- ==== Proof.ProjNorm.lean ====
/- The gradient of the input projections' product and of the norm before it, on the rows of the second part
   (`proj_bwd_act_norm_bottom`): the arrays the kernel leaves are the reference's. -/
module

public import proofs.«01_k».proof.Proof.ProjNormRef
public import proofs.«01_k».proof.Proof.Gen.Kernel7Ideal.Value
public import Idealize.ShloMosaic.Lib.Pipeline.ValueKit

@[expose] public section

set_option maxRecDepth 16384

noncomputable section

namespace Cert.ProjNorm

open Cert.Kernel7Ideal Cert.Kernel7Ideal.Gen Idealize.ShloMosaic Idealize.ShloMosaic.TcCoe Idealize.SL.Sem
open Idealize.ShloMosaic.Pipeline (Dat)
open Cert.Reference7Ideal.Read Cert.Reals Cert.Rms

/-! The kernel's vectors. -/

section
variable (a : S1024x1664.Idx → ℝ) (w : S1x1024x1664.Idx → ℝ) (x s p : S1024x1024.Idx → ℝ) (g : S1x1024.Idx → ℝ)
  (dy : FVec Ideal S1024x1024 .f32)

/-- A block's part of the product. -/
theorem p_part : k0_pay1 (F := Ideal) (up a) (up w) = up (S := S1024x1024) fun y => ∑ k : Fin 1664, a (ix2 (y 0) k) * w (ix3 0 (y 1) k) := by
  funext y
  pointwise [k0_pay1]
  simp only [← EReal.coe_mul, sum_coe]

theorem p_inv : k0_pay6 (F := Ideal) (up x) = up (S := S1024x1) fun y => inv 1024 (row x (y 0)) := by
  funext y
  pointwise [k0_pay6]
  simp only [← EReal.coe_mul, sum_coe]
  rw [word_1024, word_eps, div_coe (by norm_num), ← EReal.coe_add]
  exact rsqrt_coe (ms_pos (by norm_num) _)

theorem p_hat : k0_pay7 (F := Ideal) (up x) = up (S := S1024x1024) fun y => hat 1024 (row x (y 0)) (y 1) := by
  funext y
  pointwise [k0_pay7]
  rw [p_inv, ← EReal.coe_mul, eq_ix2 y]
  rfl

theorem p_dn : k0_pay5 (F := Ideal) (up p) (up s) = up (S := S1024x1024) fun y => s y + p y := by
  funext y
  pointwise [k0_pay5]
  exact (EReal.coe_add _ _).symm

theorem p_dx (y : S1024x1024.Idx) : k0_pay8 (F := Ideal) (up p) (up s) (up x) (up g) dy y
    = dy y + ((back 1024 (row x (y 0)) (row g 0) (row (n := 1024) (fun y => s y + p y) (y 0)) (y 1) : ℝ) : EReal) := by
  pointwise [k0_pay8]
  rw [p_dn, p_hat, p_inv]
  simp only [← EReal.coe_mul, sum_coe, word_1024, div_coe (show (1024 : ℝ) ≠ 0 by norm_num), ← EReal.coe_sub]
  rw [eq_ix2 y]
  rfl

theorem p_dg (y : S1x1024.Idx) : k0_pay9 (F := Ideal) (up p) (up s) (up x) y
    = ((∑ i : Fin 1024, (s (ix2 i (y 1)) + p (ix2 i (y 1))) * hat 1024 (row x i) (y 1) : ℝ) : EReal) := by
  pointwise [k0_pay9]
  rw [p_dn, p_hat]
  simp only [← EReal.coe_mul, sum_coe]
  rfl

end

/-! The points. -/

/-- The blocks that grid point `t` names: its row block is `t / 8 + 1`, its piece of the product `t % 8`. -/
theorem idx : ∀ t : Fin cfg0.N, win0_0.index t = ![t.val / 8 + 1, t.val % 8] ∧ win0_1.index t = ![t.val % 8, 0, 0]
    ∧ win0_2.index t = ![t.val / 8 + 1, 0] ∧ win0_3.index t = ![t.val / 8 + 1, 0] ∧ win0_4.index t = ![0, 0]
    ∧ win0_5.index t = ![t.val / 8 + 1, 0] ∧ win0_6.index t = ![0, 0] :=
  (by decide +kernel : ∀ t : Fin grid0.N, _)

theorem lt24 (t : Fin cfg0.N) : t.val < 24 := lt_of_lt_of_eq t.isLt N_0

/-- The row that row `i` of row block `b` is. -/
abbrev rowAt (b : ℕ) (hb : b < 3) (i : Fin 1024) : Fin 3072 := ⟨1024 * b + i, by omega⟩

variable (m : (ℓ : Loc nD τ sig) → Buf (Elt Ideal) ℓ) (c : Dev nD) (C : Shape.Idx ⟨2, ![3072, 13312]⟩ → ℝ) (W : Shape.Idx ⟨2, ![1024, 13312]⟩ → ℝ)
  (X : Shape.Idx ⟨2, ![3072, 1024]⟩ → ℝ) (G : Shape.Idx ⟨2, ![1, 1024]⟩ → ℝ)
  (h0 : ∀ i k, m ((c : Thread nD τ).loc main_arg0) (ix2 (lo i) k) = ((C (ix2 i k) : ℝ) : EReal)) (h1 : m ((c : Thread nD τ).loc main_arg1) = up W)
  (h2 : ∀ i k, m ((c : Thread nD τ).loc main_arg2) (ix2 (lo i) k) = ((X (ix2 i k) : ℝ) : EReal)) (h4 : m ((c : Thread nD τ).loc main_arg4) = up G)

section
variable (t : Fin cfg0.N)

/-- The rows of a grid point's block. -/
abbrev rr (i : Fin 1024) : Fin 3072 := rowAt (t.val / 8) (by have := lt24 t; omega) i

/-- The piece of the product of a grid point. -/
abbrev pc (t : Fin cfg0.N) : Fin 8 := ⟨t.val % 8, by omega⟩

/-- The column that column `k` of piece `s` is. -/
abbrev cl (s : Fin 8) (k : Fin 1664) : Fin 13312 := ⟨s * 1664 + k, by omega⟩

include h0 in
theorem b0 : iblk m c 0 t = up (S := S1024x1664) fun y => C (ix2 (rr t (y 0)) (cl (pc t) (y 1))) := by
  funext y
  refine Eq.trans ?_ (h0 (rr t (y 0)) (cl (pc t) (y 1)))
  blk_point [iblk, V, idx t]

include h1 in
theorem b1 : iblk m c 1 t = up (S := S1x1024x1664) fun y => W (ix2 (y 1) (cl (pc t) (y 2))) := by
  funext y
  refine Eq.trans ?_ (congrFun h1 (ix2 (y 1) (cl (pc t) (y 2))))
  blk_point [iblk, V, idx t]

include h2 in
theorem b2 : iblk m c 2 t = up (S := S1024x1024) fun y => X (ix2 (rr t (y 0)) (y 1)) := by
  funext y
  refine Eq.trans ?_ (h2 (rr t (y 0)) (y 1))
  blk_point [iblk, V, idx t]

theorem b3 (y : S1024x1024.Idx) : iblk m c 3 t y = m ((c : Thread nD τ).loc main_arg3) (ix2 (lo (rr t (y 0))) (y 1)) := by
  blk_point [iblk, V, idx t]

include h4 in
theorem b4 : iblk m c 4 t = up G := by
  funext y
  refine Eq.trans ?_ (congrFun h4 y)
  blk_point [iblk, V, idx t]

include h0 h1 in
/-- A grid point's part of the product. -/
theorem pt_part : k0_pay1 (F := Ideal) (iblk m c 0 t) (iblk m c 1 t) = up (S := S1024x1024) fun y => part C W (rr t (y 0)) (y 1) (pc t) := by
  rw [b0 m c C h0 t, b1 m c W h1 t, p_part]
  rfl

/-- What the point before `t` left. -/
abbrev prev := outsAt0 m c (t.val - 1) (Nat.lt_of_le_of_lt (Nat.sub_le _ _) t.isLt)

theorem firstS (h : t.val % 8 = 0) : (outsAt0 m c t.val t.isLt).2.2 = k0_pay1 (F := Ideal) (iblk m c 0 t) (iblk m c 1 t) := by
  rw [outsAt0_A m c t h (by omega) (by omega)]
  frame_out
  funext y
  pointwise [k0_pay2]

theorem stepS (h : 1 ≤ t.val % 8 ∧ t.val % 8 ≤ 6) : (outsAt0 m c t.val t.isLt).2.2
    = k0_pay5 (F := Ideal) (k0_pay1 (iblk m c 0 t) (iblk m c 1 t)) (prev m c t).2.2 := by
  rw [outsAt0_B m c t (by omega) h (by omega)]
  frame_out
  refine (congrArg (fun z => k0_pay3 (F := Ideal) (iblk m c 0 t) (iblk m c 1 t) z) (Memref.IsWhole.read_unread _ _)).trans ?_
  funext y
  pointwise [k0_pay3, k0_pay5]

end

section
include h0 h1

/-- The parts summed so far. -/
theorem sums (b : ℕ) (hb : b < 3) (s : ℕ) (hs : s < 7) (n : ℕ) (hn : n < cfg0.N) (e : n = 8 * b + s) :
    (outsAt0 m c n hn).2.2 = up (S := S1024x1024) fun y => ∑ r : Fin (s + 1), part C W (rowAt b hb (y 0)) (y 1) ⟨r, by omega⟩ := by
  have er (i : Fin 1024) : rr ⟨n, hn⟩ i = rowAt b hb i := Fin.ext (by show 1024 * (n / 8) + i.val = 1024 * b + i.val; omega)
  have ep : pc ⟨n, hn⟩ = ⟨s, by omega⟩ := Fin.ext (by show n % 8 = s; omega)
  induction s generalizing n with
  | zero =>
    refine (firstS m c ⟨n, hn⟩ (by show n % 8 = 0; omega)).trans ((pt_part m c C W h0 h1 ⟨n, hn⟩).trans ?_)
    funext y
    rw [ep]
    refine congrArg _ ((congrArg (fun r => part C W r (y 1) _) (er (y 0))).trans ?_)
    exact (Fin.sum_univ_one fun r : Fin (0 + 1) => part C W (rowAt b hb (y 0)) (y 1) ⟨r, by omega⟩).symm
  | succ s ih =>
    refine (stepS m c ⟨n, hn⟩ (by show 1 ≤ n % 8 ∧ n % 8 ≤ 6; omega)).trans ?_
    rw [pt_part m c C W h0 h1 ⟨n, hn⟩, ih (by omega) (n - 1) (Nat.lt_of_le_of_lt (Nat.sub_le _ _) hn) (by omega)
      (fun i => Fin.ext (by show 1024 * ((n - 1) / 8) + i.val = 1024 * b + i.val; omega)) (Fin.ext (by show (n - 1) % 8 = s; omega)), p_dn]
    funext y
    rw [ep]
    refine congrArg _ (Eq.trans (congrArg (_ + ·) (congrArg (fun r => part C W r (y 1) _) (er (y 0)))) ?_)
    exact (Fin.sum_univ_castSucc fun r : Fin (s + 1 + 1) => part C W (rowAt b hb (y 0)) (y 1) ⟨r, by omega⟩).symm

/-- What a block's last point finds in the scratch. -/
theorem found (t : Fin cfg0.N) (h : t.val % 8 = 7) : (prev m c t).2.2
    = up (S := S1024x1024) fun y => ∑ r : Fin 7, part C W (rr t (y 0)) (y 1) ⟨r, by omega⟩ :=
  sums m c C W h0 h1 (t.val / 8) (by have := lt24 t; omega) 6 (by omega) (t.val - 1) _ (by omega)

omit h0 h1
/-- The last piece completes the gradient of the normed input. -/
theorem total (t : Fin cfg0.N) (h : t.val % 8 = 7) (i : Fin 1024) (j : Fin 1024) :
    (∑ r : Fin 7, part C W (rr t i) j ⟨r, by omega⟩) + part C W (rr t i) j (pc t) = dn C W (rr t i) j := by
  refine Eq.trans (congrArg (_ + ·) ?_) ((Fin.sum_univ_castSucc fun s : Fin (7 + 1) => part C W (rr t i) j s).symm.trans (dn_eq C W (rr t i) j))
  exact congrArg (part C W (rr t i) j) (show pc t = Fin.last 7 from Fin.ext h)

end

section
variable (t : Fin cfg0.N)

/-- The two kinds of last points. -/
theorem kinds (h : t.val % 8 = 7) : (t.val < 8 ∧ ¬8 ≤ t.val) ∨ (¬t.val < 8 ∧ 8 ≤ t.val) := by
  omega

theorem out5 (h : t.val % 8 = 7) : (outsAt0 m c t.val t.isLt).1 = k0_pay8 (F := Ideal) (k0_pay1 (iblk m c 0 t) (iblk m c 1 t))
    (prev m c t).2.2 (iblk m c 2 t) (iblk m c 4 t) (iblk m c 3 t) := by
  rcases kinds t h with k | k
  · rw [outsAt0_C m c t (by omega) (by omega) h k.1 k.2]; frame_out; exact congrArg (fun z => k0_pay8 (F := Ideal) _ z (iblk m c 2 t) (iblk m c 4 t) (iblk m c 3 t)) (Memref.IsWhole.read_unread _ _)
  · rw [outsAt0_D m c t (by omega) (by omega) h k.1 k.2]; frame_out; exact congrArg (fun z => k0_pay8 (F := Ideal) _ z (iblk m c 2 t) (iblk m c 4 t) (iblk m c 3 t)) (Memref.IsWhole.read_unread _ _)

/-- A point that completes no block hands the gain's gradient on. -/
theorem pass6 (h : ¬t.val % 8 = 7) (hz : 0 < t.val) : (outsAt0 m c t.val t.isLt).2.1 = (prev m c t).2.1 := by
  by_cases k : t.val % 8 = 0
  · rw [outsAt0_A m c t k (by omega) h]; rfl
  · rw [outsAt0_B m c t k (by omega) h]; rfl

/-- The first block starts it. -/
theorem first6 (h : t.val = 7) : (outsAt0 m c t.val t.isLt).2.1
    = k0_pay9 (F := Ideal) (k0_pay1 (iblk m c 0 t) (iblk m c 1 t)) (prev m c t).2.2 (iblk m c 2 t) := by
  rw [outsAt0_C m c t (by omega) (by omega) (by omega) (by omega) (by omega)]
  frame_out
  exact congrArg (fun z => k0_pay9 (F := Ideal) _ z (iblk m c 2 t)) (Memref.IsWhole.read_unread _ _)

/-- Every other block adds its part. -/
theorem step6 (h : t.val % 8 = 7) (hg : 8 ≤ t.val) (y : S1x1024.Idx) : (outsAt0 m c t.val t.isLt).2.1 y
    = (prev m c t).2.1 y + k0_pay9 (F := Ideal) (k0_pay1 (iblk m c 0 t) (iblk m c 1 t)) (prev m c t).2.2 (iblk m c 2 t) y := by
  rw [outsAt0_D m c t (by omega) (by omega) h (by omega) hg]
  frame_out
  refine (congrArg (fun z => k0_pay4 (F := Ideal) (k0_pay9 (F := Ideal) (k0_pay1 (iblk m c 0 t) (iblk m c 1 t)) z (iblk m c 2 t))
    (prev m c t).2.1 y) (Memref.IsWhole.read_unread _ _)).trans ?_
  pointwise [k0_pay4]

include h0 h1 h2 in
/-- What a block's last point adds to the gain's gradient. -/
theorem pt_dg (h : t.val % 8 = 7) (y : S1x1024.Idx) : k0_pay9 (F := Ideal) (k0_pay1 (iblk m c 0 t) (iblk m c 1 t)) (prev m c t).2.2 (iblk m c 2 t) y
    = ((∑ i, dgRow C W X (rr t i) (y 1) : ℝ) : EReal) := by
  rw [pt_part m c C W h0 h1 t, found m c C W h0 h1 t h, b2 m c X h2 t, p_dg]
  exact congrArg _ (Finset.sum_congr rfl fun i _ => congrArg (· * _) (total C W t h i (y 1)))

include h0 h1 h2 h4 in
/-- The gradient that a block's last point writes. -/
theorem pt_dx (h : t.val % 8 = 7) (y : S1024x1024.Idx) : k0_pay8 (F := Ideal) (k0_pay1 (iblk m c 0 t) (iblk m c 1 t))
    (prev m c t).2.2 (iblk m c 2 t) (iblk m c 4 t) (iblk m c 3 t) y
      = @HAdd.hAdd EReal EReal EReal _ (iblk m c 3 t y) ((dx C W X G (rr t (y 0)) (y 1) : ℝ) : EReal) := by
  rw [pt_part m c C W h0 h1 t, found m c C W h0 h1 t h, b2 m c X h2 t, b4 m c G h4 t, p_dx]
  refine congrArg (fun w => _ + ((back 1024 (row X (rr t (y 0))) (row G 0) w (y 1) : ℝ) : EReal)) ?_
  exact funext fun j => total C W t h (y 0) j

end

section
include h0 h1 h2

/-- The points between two blocks' last points hand the gain's gradient on. -/
theorem between (b j n : ℕ) (hj : j < 8) (hn : n < cfg0.N) (e : n = 8 * b + 7 + j) :
    (outsAt0 m c n hn).2.1 = (outsAt0 m c (8 * b + 7) (by omega)).2.1 := by
  induction j generalizing n with
  | zero => subst e; rfl
  | succ j ih =>
    exact (pass6 m c ⟨n, hn⟩ (by show ¬n % 8 = 7; omega) (by show 0 < n; omega)).trans (ih (n - 1) (by omega) (by omega) (by omega))

/-- The gain's gradient after `b + 1` row blocks. -/
theorem left6 (b : ℕ) (hb : b < 3) (n : ℕ) (hn : n < cfg0.N) (e : n = 8 * b + 7) (y : S1x1024.Idx) :
    (outsAt0 m c n hn).2.1 y = ((∑ s : Fin (b + 1), ∑ i, dgRow C W X (rowAt s (by omega) i) (y 1) : ℝ) : EReal) := by
  have er (b n : ℕ) (hn : n < cfg0.N) (hb : b < 3) (e : n = 8 * b + 7) (i : Fin 1024) : rr ⟨n, hn⟩ i = rowAt b hb i :=
    Fin.ext (by show 1024 * (n / 8) + i.val = 1024 * b + i.val; omega)
  induction b generalizing n with
  | zero =>
    refine (congrFun (first6 m c ⟨n, hn⟩ e) y).trans ((pt_dg m c C W X h0 h1 h2 ⟨n, hn⟩ (by show n % 8 = 7; omega) y).trans ?_)
    simp only [er 0 n hn (by omega) e]
    exact congrArg _ (Fin.sum_univ_one fun s : Fin (0 + 1) => ∑ i, dgRow C W X (rowAt s (by omega) i) (y 1)).symm
  | succ b ih =>
    have hp : (outsAt0 m c (n - 1) (Nat.lt_of_le_of_lt (Nat.sub_le _ _) hn)).2.1 y = _ :=
      (congrFun (between m c C W X h0 h1 h2 b 7 (n - 1) (by omega) _ (by omega)) y).trans (ih (by omega) (8 * b + 7) _ rfl)
    rw [Fin.sum_univ_castSucc, EReal.coe_add]
    refine (step6 m c ⟨n, hn⟩ (by show n % 8 = 7; omega) (by show 8 ≤ n; omega) y).trans (congrArg₂ (· + ·) hp ?_)
    refine (pt_dg m c C W X h0 h1 h2 ⟨n, hn⟩ (by show n % 8 = 7; omega) y).trans ?_
    simp only [er (b + 1) n hn (by omega) e]
    rfl

/-! The arrays. -/

/-- The gain's gradient. -/
theorem final6 : (dats m 0 c).arrAt 6 cfg0.N = val_main_v24 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := (flush0_6 t).mp hf
  have hl := lt24 t
  blk_simp
  rw [after0_6, h1]
  have e : ((cfg0.win 6).blk t).view.emb y = ix2 (y 0) (y 1) := by blk_point [idx t]
  refine (left6 m c C W X h0 h1 h2 2 (by omega) t.val t.isLt (by omega) y).trans (Eq.trans ?_ ((congrArg _ e).trans (r_dg _ _ C W X (y 1) (y 0) h0 h2)).symm)
  refine congrArg _ (Fin.sum_mul_add_congr fun s i hl => ?_)
  have e : (⟨s.val * 1024 + i.val, hl⟩ : Fin 3072) = rowAt s (by omega) i := Fin.ext (by show s.val * 1024 + i.val = 1024 * s.val + i.val; omega)
  rw [e]

include h4

/-- The gradient of the norm's input, added to the residual's, in the second part's rows of the array that is handed on. -/
theorem final5 : (dats m 0 c).arrAt 5 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hV : V m c (Pipeline.arrRef spec0 5) = m ((c : Thread nD τ).loc main_arg5) := by unfold V; after_results; try rfl
  rw [(dats m 0 c).arrAt_eq_of_coversWhere 5 (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (P := fun i => 1024 ≤ (i 0 : ℕ))
    (fun β => 1 ≤ β 0) (by decide +kernel) (fun t hf y => ?_) (fun j => by blk_simp [Pipeline.Window.cell_apply]; omega)]
  · funext i
    split
    · rfl
    · next h => exact (congrFun hV i).trans (r_top _ _ _ _ _ _ i (by omega)).symm
  · have ht := (flush0_5 t).mp hf
    blk_simp
    rw [after0_5, out5 m c t ht, h1, h4]
    refine (pt_dx m c C W X G h0 h1 h2 h4 t ht y).trans ((congrArg (fun z : EReal => z + _) (b3 m c t y)).trans
      (r_low _ _ _ _ C W X G (rr t (y 0)) (y 1) h0 h2 _ ?_ ?_).symm)
    · blk_simp [idx t]; show _ = 1024 + (1024 * (t.val / 8) + (y 0).val); omega
    · blk_simp [idx t]

end

end Cert.ProjNorm

end
-- ==== Proof.ProjTop.lean ====
/- The gradient of the input norm's gain on the rows of the first part (`proj_bwd_act_norm_top`): the array the kernel
   leaves is the reference's. -/
module

public import proofs.«01_k».proof.Proof.Finite
public import proofs.«01_k».proof.Proof.ProjNorm
public import proofs.«01_k».proof.Proof.Gen.Reference6Ideal.Read
public import proofs.«01_k».proof.Proof.Gen.Kernel6Ideal.Value
public import proofs.«01_k».proof.Proof.Gen.Pre_finite6

@[expose] public section

set_option maxRecDepth 16384

noncomputable section

namespace Cert.ProjTop

open Cert.Kernel6Ideal Cert.Kernel6Ideal.Gen Idealize.ShloMosaic Idealize.ShloMosaic.TcCoe Idealize.SL.Sem
open Idealize.ShloMosaic.Pipeline (Dat)
open Cert.Reference6Ideal.Read Cert.Reals Cert.Rms
open Cert.ProjNorm (part dn dn_eq dgRow dg cl)

/-- The row of the whole array that is row `i` of the first part. -/
abbrev hi (i : Fin 1024) : Fin 4096 := ⟨i, by omega⟩

/-! The reference's array. -/

section
variable (d : FVec Ideal S4096x13312 .bf16) (x : FVec Ideal S4096x1024 .f32)
  (C : Shape.Idx ⟨2, ![1024, 13312]⟩ → ℝ) (W : Shape.Idx ⟨2, ![1024, 13312]⟩ → ℝ) (X : Shape.Idx ⟨2, ![1024, 1024]⟩ → ℝ)
  (i j : Fin 1024) (o : Fin 1)
  (hd : ∀ i k, d (ix2 (hi i) k) = ((C (ix2 i k) : ℝ) : EReal)) (hx : ∀ i k, x (ix2 (hi i) k) = ((X (ix2 i k) : ℝ) : EReal))

include hx

theorem r_x : val_main_v1 (F := Ideal) x (ix2 i j) = ((row X i j : ℝ) : EReal) := by
  pointwise [val_main_v1]
  exact hx i j

theorem r_inv : val_main_v11 (F := Ideal) x (ix2 i o) = ((inv 1024 (row X i) : ℝ) : EReal) := by
  rw [val_main_v11_apply]
  refine Eq.trans (congrArg _ (?_ : _ = ((ms 1024 (row X i) : ℝ) : EReal))) (rsqrt_coe (ms_pos (by norm_num) _))
  pointwise [val_main_v10, val_main_v9, val_main_v8, val_main_v7, val_main_v6, val_main_v5, val_main_v4, val_main_cst, val_main_cst_0, val_main_cst_1]
  simp only [r_x x X _ _ hx, ← EReal.coe_mul, sum_coe, zero_add]
  rw [word_1024, word_eps, div_coe (by norm_num), ← EReal.coe_add]
  rfl

theorem r_hat : val_main_v16 (F := Ideal) x (ix2 i j) = ((hat 1024 (row X i) j : ℝ) : EReal) := by
  have e : val_main_v15 (F := Ideal) x (ix2 i j) = val_main_v11 (F := Ideal) x (ix2 i 0) := by pointwise [val_main_v15]
  rw [val_main_v16_apply, r_x x X i j hx, e, r_inv x X i 0 hx]
  rfl

omit hx
include hd

theorem r_dn : val_main_v21 (F := Ideal) d (up W) (ix2 i j) = ((dn C W i j : ℝ) : EReal) := by
  refine Eq.trans (b := ∑ k, val_main_v20 (F := Ideal) d (ix2 i k) * up W (ix2 j k)) (by pointwise [val_main_v21, val_main_v3]) ?_
  unfold dn
  rw [← sum_coe]
  refine Finset.sum_congr rfl fun k _ => (congrArg (· * up W (ix2 j k)) ?_).trans (EReal.coe_mul _ _).symm
  pointwise [val_main_v20, val_main_v0]
  exact hd i k

include hx

theorem r_dg : val_main_v24 (F := Ideal) d (up W) x (ix2 o j) = ((dg C W X j : ℝ) : EReal) := by
  have e (i : Fin 1024) : val_main_v22 (F := Ideal) d (up W) x (ix2 i j) = ((dgRow C W X i j : ℝ) : EReal) := by
    rw [val_main_v22_apply, r_dn d C W i j hd, r_hat x X i j hx]
    exact ((EReal.coe_mul _ _).trans (mul_comm _ _)).symm
  rw [val_main_v24_apply]
  refine Eq.trans (congrArg _ (?_ : _ = ix1 j)) ?_
  · funext a
    match a with
    | ⟨0, _⟩ => exact Fin.ext (by show o.val * 1024 + j.val = j.val; omega)
  · pointwise [val_main_v23, val_main_cst_3]
    simp only [e, sum_coe, zero_add]
    rfl

end

/-! The kernel: one row block, its product in eight pieces. -/

/-- The blocks that grid point `t` names. -/
theorem idx : ∀ t : Fin cfg0.N, win0_0.index t = ![0, t.val] ∧ win0_1.index t = ![t.val, 0, 0]
    ∧ win0_2.index t = ![0, 0] ∧ win0_6.index t = ![0, 0] :=
  (by decide +kernel : ∀ t : Fin grid0.N, _)

theorem lt8 (t : Fin cfg0.N) : t.val < 8 := lt_of_lt_of_eq t.isLt N_0

variable (m : (ℓ : Loc nD τ sig) → Buf (Elt Ideal) ℓ) (c : Dev nD) (C : Shape.Idx ⟨2, ![1024, 13312]⟩ → ℝ) (W : Shape.Idx ⟨2, ![1024, 13312]⟩ → ℝ)
  (X : Shape.Idx ⟨2, ![1024, 1024]⟩ → ℝ)
  (h0 : ∀ i k, m ((c : Thread nD τ).loc main_arg0) (ix2 (hi i) k) = ((C (ix2 i k) : ℝ) : EReal)) (h1 : m ((c : Thread nD τ).loc main_arg1) = up W)
  (h2 : ∀ i k, m ((c : Thread nD τ).loc main_arg2) (ix2 (hi i) k) = ((X (ix2 i k) : ℝ) : EReal))

section
variable (t : Fin cfg0.N)

/-- The piece of the product of a grid point. -/
abbrev pc : Fin 8 := ⟨t.val, lt8 t⟩

include h0 in
theorem b0 : iblk m c 0 t = up (S := S1024x1664) fun y => C (ix2 (y 0) (cl (pc t) (y 1))) := by
  funext y
  refine Eq.trans ?_ (h0 (y 0) (cl (pc t) (y 1)))
  blk_point [iblk, V, idx t]

include h1 in
theorem b1 : iblk m c 1 t = up (S := S1x1024x1664) fun y => W (ix2 (y 1) (cl (pc t) (y 2))) := by
  funext y
  refine Eq.trans ?_ (congrFun h1 (ix2 (y 1) (cl (pc t) (y 2))))
  blk_point [iblk, V, idx t]

include h2 in
theorem b2 : iblk m c 2 t = up (S := S1024x1024) fun y => X (ix2 (y 0) (y 1)) := by
  funext y
  refine Eq.trans ?_ (h2 (y 0) (y 1))
  blk_point [iblk, V, idx t]

include h0 h1 in
/-- A grid point's part of the product. -/
theorem pt_part : k0_pay1 (F := Ideal) (iblk m c 0 t) (iblk m c 1 t) = up (S := S1024x1024) fun y => part C W (y 0) (y 1) (pc t) := by
  rw [b0 m c C h0 t, b1 m c W h1 t]
  exact Cert.ProjNorm.p_part _ _

/-- What the point before `t` left. -/
abbrev prev := outsAt0 m c (t.val - 1) (Nat.lt_of_le_of_lt (Nat.sub_le _ _) t.isLt)

theorem firstS (h : t.val = 0) : (outsAt0 m c t.val t.isLt).2.2 = k0_pay1 (F := Ideal) (iblk m c 0 t) (iblk m c 1 t) := by
  rw [outsAt0_A m c t (by omega) (by omega) (by omega)]
  frame_out
  funext y
  pointwise [k0_pay2]

theorem stepS (h : 1 ≤ t.val % 8 ∧ t.val % 8 ≤ 6) : (outsAt0 m c t.val t.isLt).2.2
    = k0_pay5 (F := Ideal) (k0_pay1 (iblk m c 0 t) (iblk m c 1 t)) (prev m c t).2.2 := by
  rw [outsAt0_B m c t (by omega) h (by omega)]
  frame_out
  refine (congrArg (fun z => k0_pay3 (F := Ideal) (iblk m c 0 t) (iblk m c 1 t) z) (Memref.IsWhole.read_unread _ _)).trans ?_
  funext y
  pointwise [k0_pay3, k0_pay5]

/-- The last point writes the gain's gradient. -/
theorem last6 (h : t.val = 7) : (outsAt0 m c t.val t.isLt).2.1
    = k0_pay9 (F := Ideal) (k0_pay1 (iblk m c 0 t) (iblk m c 1 t)) (prev m c t).2.2 (iblk m c 2 t) := by
  rw [outsAt0_C m c t (by omega) (by omega) (by omega)]
  frame_out
  exact congrArg (fun z => k0_pay9 (F := Ideal) _ z (iblk m c 2 t)) (Memref.IsWhole.read_unread _ _)

end

include h0 h1

/-- The parts summed so far. -/
theorem sums (s : ℕ) (hs : s < 7) (hn : s < cfg0.N) :
    (outsAt0 m c s hn).2.2 = up (S := S1024x1024) fun y => ∑ r : Fin (s + 1), part C W (y 0) (y 1) ⟨r, by omega⟩ := by
  induction s with
  | zero =>
    refine (firstS m c ⟨0, hn⟩ rfl).trans ((pt_part m c C W h0 h1 ⟨0, hn⟩).trans ?_)
    funext y
    exact congrArg _ (Fin.sum_univ_one fun r : Fin (0 + 1) => part C W (y 0) (y 1) ⟨r, by omega⟩).symm
  | succ s ih =>
    refine (stepS m c ⟨s + 1, hn⟩ (by show 1 ≤ (s + 1) % 8 ∧ (s + 1) % 8 ≤ 6; omega)).trans ?_
    rw [pt_part m c C W h0 h1 ⟨s + 1, hn⟩]
    refine (congrArg _ (ih (by omega) (by omega))).trans ((Cert.ProjNorm.p_dn _ _).trans ?_)
    funext y
    exact congrArg _ (Fin.sum_univ_castSucc fun r : Fin (s + 1 + 1) => part C W (y 0) (y 1) ⟨r, by omega⟩).symm

include h2

/-- The gain's gradient. -/
theorem final6 : (dats m 0 c).arrAt 6 cfg0.N = val_main_v24 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val = 7 := by have := (flush0_6 t).mp hf; have := lt8 t; omega
  have hp : (prev m c t).2.2 = _ := sums m c C W h0 h1 (t.val - 1) (by omega) _
  blk_simp
  rw [after0_6, h1, last6 m c t ht, pt_part m c C W h0 h1 t, hp, b2 m c X h2 t]
  have e : ((cfg0.win 6).blk t).view.emb y = ix2 (y 0) (y 1) := by blk_point [idx t]
  refine (Cert.ProjNorm.p_dg _ _ _ y).trans (Eq.trans ?_ ((congrArg _ e).trans (r_dg _ _ C W X (y 1) (y 0) h0 h2)).symm)
  obtain ⟨n, hn⟩ := t
  obtain rfl : n = 7 := ht
  refine congrArg _ (Finset.sum_congr rfl fun i _ => congrArg (· * _) ?_)
  exact (Fin.sum_univ_castSucc fun s : Fin (7 + 1) => part C W i (y 1) s).symm.trans (dn_eq C W i (y 1))

end Cert.ProjTop

namespace Cert.Finite

open Idealize.ShloMosaic Cert.Reference6Ideal Cert.Reference6Ideal.Read Cert.ProjTop

/-- The precondition of the gain's gradient on the first part's rows: the product's two operands and the norm's input are
    real there. -/
theorem of_finite6 (d : FVec Ideal S4096x13312 .bf16) (w : FVec Ideal S1024x13312 .bf16) (x dy : FVec Ideal S4096x1024 .f32)
    (g : FVec Ideal S1x1024 .f32)
    (h : Pre_finite6.fn (F := Ideal) d w x dy g = fun _ => 1#1) :
    (∃ r : Shape.Idx ⟨2, ![1024, 13312]⟩ → ℝ, ∀ i k, d (ix2 (hi i) k) = ((r (ix2 i k) : ℝ) : EReal))
    ∧ (∃ r : S1024x13312.Idx → ℝ, w = fun i => ((r i : ℝ) : EReal))
    ∧ (∃ r : Shape.Idx ⟨2, ![1024, 1024]⟩ → ℝ, ∀ i k, x (ix2 (hi i) k) = ((r (ix2 i k) : ℝ) : EReal)) := by
  have e := congrFun h (fun a => a.elim0)
  obtain ⟨e, e3⟩ := IntOp.andi_eq_one.1 e
  obtain ⟨e1, e2⟩ := IntOp.andi_eq_one.1 e
  have hd : ∃ r : Shape.Idx ⟨2, ![1024, 13312]⟩ → ℝ, val_main_v0 (F := Ideal) d = fun i => ((r i : ℝ) : EReal) := of_all _ _ _ _ _ _ _ e1
  have hx : ∃ r : Shape.Idx ⟨2, ![1024, 1024]⟩ → ℝ, val_main_v1 (F := Ideal) x = fun i => ((r i : ℝ) : EReal) := of_all _ _ _ _ _ _ _ e3
  obtain ⟨r, hr⟩ := hd
  obtain ⟨s, hs⟩ := hx
  exact ⟨⟨r, fun i k => Eq.trans (by pointwise [val_main_v0]) (congrFun hr (ix2 i k))⟩, of_all _ _ _ _ _ _ _ e2,
    ⟨s, fun i k => Eq.trans (by pointwise [val_main_v1]) (congrFun hs (ix2 i k))⟩⟩

end Cert.Finite

end
-- ==== Proof.MemFwd.lean ====
/- The attention to memory tokens, forward (`mem_fwd`). What the precondition says of the arrays, and that the array the
   kernel leaves is the reference's. The mathematics of a head is that of its gradient (`MemReal`). -/
module

public import proofs.«01_k».proof.Proof.Finite
public import proofs.«01_k».proof.Proof.MemPoint
public import proofs.«01_k».proof.Proof.MemRef
public import proofs.«01_k».proof.Proof.Gen.Pre_finite13
public import proofs.«01_k».proof.Proof.Gen.Kernel13Ideal.Value
public import proofs.«01_k».proof.Proof.Gen.Reference13Ideal.Read

@[expose] public section

set_option maxRecDepth 16384

noncomputable section

namespace Cert.Finite

open Idealize.ShloMosaic

/-- The precondition of the memory attention: the queries, the keys and values and both gains are real. -/
theorem of_finite13 (proj : FVec Ideal Pre_finite13.S4096x13312 .f32) (kv : FVec Ideal Pre_finite13.S256x1024 .f32)
    (gq gk : FVec Ideal Pre_finite13.S1x128 .f32) (h : Pre_finite13.fn (F := Ideal) proj kv gq gk = fun _ => 1#1) :
    (∃ r : Pre_finite13.S4096x512.Idx → ℝ,
      extractStridedSlice Pre_finite13.S4096x512 ![0, 9728] proj Pre_finite13.Facts.slices_S4096x13312_S4096x512_0_9728 = fun i => ((r i : ℝ) : EReal))
    ∧ (∃ r : Pre_finite13.S256x1024.Idx → ℝ, kv = fun i => ((r i : ℝ) : EReal))
    ∧ (∃ r : Pre_finite13.S1x128.Idx → ℝ, gq = fun i => ((r i : ℝ) : EReal))
    ∧ (∃ r : Pre_finite13.S1x128.Idx → ℝ, gk = fun i => ((r i : ℝ) : EReal)) := by
  have e := congrFun h (fun a => a.elim0)
  obtain ⟨e, e4⟩ := IntOp.andi_eq_one.1 e
  obtain ⟨e, e3⟩ := IntOp.andi_eq_one.1 e
  obtain ⟨e1, e2⟩ := IntOp.andi_eq_one.1 e
  exact ⟨of_all _ _ _ _ _ _ _ e1, of_all _ _ _ _ _ _ _ e2, of_all _ _ _ _ _ _ _ e3, of_all _ _ _ _ _ _ _ e4⟩

end Cert.Finite

namespace Cert.MemFwd

open Cert.Kernel13Ideal Cert.Kernel13Ideal.Gen Idealize.ShloMosaic Idealize.ShloMosaic.TcCoe Idealize.SL.Sem
open Idealize.ShloMosaic.Pipeline (Dat)
open Cert.Reals Cert.Mem

/-- The output of a query's row: the values weighed by the probabilities. -/
def mix (n : Fin 128 → ℝ) (K V : Fin 256 → Fin 128 → ℝ) (j : Fin 128) : ℝ := ∑ s, prob n K s * V s j

/-! The kernel. -/

/-- One piece of 256 queries. -/
theorem p_mix (g : S1x128.Idx → ℝ) (K V q : S256x128.Idx → ℝ) :
    k0_pay8 (F := Ideal) (up K) (up V) (up g) (up q)
      = up (S := S256x128) fun y => mix (nrm (row q (y 0)) (row g 0)) (row K) (row V) (y 1) := by
  funext y
  have hp := p_prob g K q
  refine Eq.trans (b := matmul (F := Ideal) (φ₁ := .bf16) (φ₂ := .bf16) dot_S256x256_S256x128_S256x128_1_0_0_1_n_n none
    (Kernel3Ideal.Gen.k0_pay25 (F := Ideal) (up g) (up K) (up q)) (up V) (constant S256x128 .f32 0x00000000#32) y) rfl ?_
  rw [hp]
  pointwise []
  simp only [up, ix2_0, ix2_1, ← EReal.coe_mul, sum_coe]
  rfl

/-- A row of the output depends on its own query only, so a piece's row is the block's. -/
theorem mix_row (p : Fin 4) (q : S1024x128.Idx → ℝ) (K V : S256x128.Idx → ℝ) (g : S1x128.Idx → ℝ) (x : S256x128.Idx) (y : S1024x128.Idx)
    (h0 : (y 0 : ℕ) = 256 * p + (x 0 : ℕ)) (h1 : (y 1 : ℕ) = (x 1 : ℕ)) :
    up (S := S256x128) (fun y => mix (nrm (row (cut p q) (y 0)) (row g 0)) (row K) (row V) (y 1)) x
      = up (S := S1024x128) (fun y => mix (nrm (row q (y 0)) (row g 0)) (row K) (row V) (y 1)) y := by
  have e1 : (y 1 : Fin 128) = x 1 := Fin.ext h1
  have e0 : (y 0 : Fin 1024) = at4 p (x 0) := Fin.ext h0
  rw [eq_ix2 y, e0, e1]
  rfl

theorem zero2 : ∀ a : Fin 2, (![0, 0] : Fin 2 → ℕ) a = 0 := by decide

theorem p5 (k : S256x128.Idx → ℝ) (gk : S1x128.Idx → ℝ) : k0_pay5 (F := Ideal) (up k) (up gk) = up (keys k gk) := p9 k gk

theorem out5 (q : S1024x128.Idx → ℝ) (k V : S256x128.Idx → ℝ) (gq gk : S1x128.Idx → ℝ) (y : S1024x128.Idx) :
    out0_5 (F := Ideal) (up q) (up k) (up V) (up gq) (up gk) y
      = up (S := S1024x128) (fun y => mix (nrm (row q (y 0)) (row gq 0)) (row (keys k gk)) (row V) (y 1)) y := by
  unfold_out out0_5
  rw [View.ld_unit_lit _ _ zero2, View.ld_unit_lit _ _ zero2, View.ld_unit_lit _ _ zero2, View.ld_unit_lit _ _ zero2]
  canon_tiles x h
  on_goal 1 => rw [ld_cut 3 768 rfl, p5]; refine (congrFun (p_mix gq (keys k gk) V (cut 3 q)) x).trans (mix_row 3 q _ _ _ x y ?_ ?_)
  on_goal 3 => rw [ld_cut 2 512 rfl, p5]; refine (congrFun (p_mix gq (keys k gk) V (cut 2 q)) x).trans (mix_row 2 q _ _ _ x y ?_ ?_)
  on_goal 5 => rw [ld_cut 1 256 rfl, p5]; refine (congrFun (p_mix gq (keys k gk) V (cut 1 q)) x).trans (mix_row 1 q _ _ _ x y ?_ ?_)
  on_goal 7 =>
    rw [ld_cut 0 0 rfl]
    refine Eq.trans (b := k0_pay8 (F := Ideal) (k0_pay5 (up k) (up gk)) (up V) (up gq) (up (cut 0 q)) x) rfl ?_
    rw [p5]
    refine (congrFun (p_mix gq (keys k gk) V (cut 0 q)) x).trans (mix_row 0 q _ _ _ x y ?_ ?_)
  all_goals first | assumption | (simpa using by assumption)

/-- The blocks that grid point `t` names: its head is `t / 4`, its block of queries `t % 4`. -/
theorem idx : ∀ t : Fin cfg0.N, win0_0.index t = ![t.val % 4, 76 + t.val / 4] ∧ win0_1.index t = ![0, t.val / 4]
    ∧ win0_2.index t = ![0, 4 + t.val / 4] ∧ win0_3.index t = ![0, 0] ∧ win0_4.index t = ![0, 0]
    ∧ win0_5.index t = ![t.val % 4, t.val / 4] :=
  (by decide +kernel : ∀ t : Fin grid0.N, _)

/-! The reference. -/

theorem val45 (x0 : (⟨S4096x13312, .f32⟩ : BufTy).Contents (Elt Ideal)) (x1 : (⟨S256x1024, .f32⟩ : BufTy).Contents (Elt Ideal))
    (x2 x3 : (⟨S1x128, .f32⟩ : BufTy).Contents (Elt Ideal)) :
    Reference13Ideal.Read.val_main_v45 (F := Ideal) x0 x1 x2 x3 = Reference3Ideal.Read.val_main_v65 (F := Ideal) x0 x1 x2 x3 := rfl

variable (m : (ℓ : Loc nD τ sig) → Buf (Elt Ideal) ℓ) (c : Dev nD) (Q : Shape.Idx ⟨2, ![4096, 512]⟩ → ℝ)
  (E : Shape.Idx ⟨2, ![256, 1024]⟩ → ℝ) (gq gk : Shape.Idx ⟨2, ![1, 128]⟩ → ℝ)
  (h0 : Reference3Ideal.Read.val_main_v2 (F := Ideal) (m ((c : Thread nD τ).loc main_arg0)) = up Q)
  (h1 : m ((c : Thread nD τ).loc main_arg1) = up E) (h2 : m ((c : Thread nD τ).loc main_arg2) = up gq)
  (h3 : m ((c : Thread nD τ).loc main_arg3) = up gk)

section
variable (x0 : (⟨S4096x13312, .f32⟩ : BufTy).Contents (Elt Ideal)) (hQ : Reference3Ideal.Read.val_main_v2 (F := Ideal) x0 = up Q)
include hQ

/-- The reference's output of head `h`, row `i`. -/
theorem r_mix (h : Fin 4) (i : Fin 4096) (j : Fin 128) :
    Reference13Ideal.Read.val_main_v46 (F := Ideal) x0 (up E) (up gq) (up gk) (ix3 h j i)
      = ((mix (qn Q gq h i) (kn E gk h) (headV E h) j : ℝ) : EReal) := by
  refine Eq.trans (b := ∑ s : Fin 256, Reference3Ideal.Read.val_main_v37 (F := Ideal) (up E) (ix3 s h j)
    * Reference3Ideal.Read.val_main_v65 (F := Ideal) x0 (up E) (up gq) (up gk) (ix3 h i s)) ?_ ?_
  · rw [← val45]
    pointwise [Reference13Ideal.Read.val_main_v46]
    rfl
  simp only [r_v, r_prob x0 Q E gq gk (hQ := hQ), ← EReal.coe_mul, sum_coe]
  exact congrArg _ (Finset.sum_congr rfl fun s _ => mul_comm _ _)

theorem r_out (h : Fin 4) (i : Fin 4096) (j : Fin 128) (y : Shape.Idx ⟨2, ![4096, 512]⟩) (hi : (y 0 : ℕ) = i) (hj : (y 1 : ℕ) = 128 * h + j) :
    Reference13Ideal.Read.val_main_v49 (F := Ideal) x0 (up E) (up gq) (up gk) y
      = ((mix (qn Q gq h i) (kn E gk h) (headV E h) j : ℝ) : EReal) := by
  rw [Reference13Ideal.Read.val_main_v49_apply, Reference13Ideal.Read.val_main_v48_apply, Reference13Ideal.Read.val_main_v47_apply]
  refine Eq.trans (congrArg (Reference13Ideal.Read.val_main_v46 (F := Ideal) x0 (up E) (up gq) (up gk)) ?_) (r_mix Q E gq gk x0 hQ h i j)
  funext a
  match a with
  | ⟨0, _⟩ => exact Fin.ext (by show ((y 0).val * 512 + (y 1).val) / 128 % 4 = h.val; omega)
  | ⟨1, _⟩ => exact Fin.ext (by show ((y 0).val * 512 + (y 1).val) % 128 = j.val; omega)
  | ⟨2, _⟩ => exact Fin.ext (by show ((y 0).val * 512 + (y 1).val) / 512 = i.val; omega)

end

include h0 h1 h2 h3

/-- The kernel's array is the reference's. -/
theorem final5 : (dats m 0 c).arrAt 5 cfg0.N = Reference13Ideal.Read.val_main_v49 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 16 := lt_of_lt_of_eq t.isLt N_0
  have b0 : iblk m c 0 t = up (S := S1024x128) fun y => headQ Q ⟨t.val / 4, by omega⟩ ⟨1024 * (t.val % 4) + (y 0).val, by have : (y 0 : ℕ) < 1024 := (y 0).isLt; omega⟩ (y 1) := by
    funext y
    have : (y 1 : ℕ) < 128 := (y 1).isLt
    have : (y 0 : ℕ) < 1024 := (y 0).isLt
    refine Eq.trans ?_ (congrFun h0 (ix2 ⟨1024 * (t.val % 4) + (y 0).val, by omega⟩ ⟨128 * (t.val / 4) + (y 1).val, by omega⟩))
    rw [Reference3Ideal.Read.val_main_v2_apply]
    blk_point [iblk, V, idx t]
  have b1 : iblk m c 1 t = up (S := S256x128) fun y => headK E ⟨t.val / 4, by omega⟩ (y 0) (y 1) := by
    funext y
    have : (y 1 : ℕ) < 128 := (y 1).isLt
    refine Eq.trans ?_ (congrFun h1 (ix2 (y 0) ⟨128 * (t.val / 4) + (y 1).val, by omega⟩))
    blk_point [iblk, V, idx t]
  have b2 : iblk m c 2 t = up (S := S256x128) fun y => headV E ⟨t.val / 4, by omega⟩ (y 0) (y 1) := by
    funext y
    have : (y 1 : ℕ) < 128 := (y 1).isLt
    refine Eq.trans ?_ (congrFun h1 (ix2 (y 0) ⟨512 + (128 * (t.val / 4) + (y 1).val), by omega⟩))
    blk_point [iblk, V, idx t]
  have b3 : iblk m c 3 t = up gq := by
    funext y
    refine Eq.trans ?_ (congrFun h2 y)
    blk_point [iblk, V, idx t]
  have b4 : iblk m c 4 t = up gk := by
    funext y
    refine Eq.trans ?_ (congrFun h3 y)
    blk_point [iblk, V, idx t]
  blk_simp
  rw [after0_5, b0, b1, b2, b3, b4, h1, h2, h3]
  refine (out5 _ _ _ _ _ y).trans ?_
  have e0 : ((((win0_5.blk t).view.emb y) 0 : Fin _) : ℕ) = 1024 * (t.val % 4) + (y 0).val := by
    blk_simp [idx t]
    exact congrArg (· + _) (Nat.mul_comm _ _)
  have e1 : ((((win0_5.blk t).view.emb y) 1 : Fin _) : ℕ) = 128 * (t.val / 4) + (y 1).val := by
    blk_simp [idx t]
    exact congrArg (· + _) (Nat.mul_comm _ _)
  exact (r_out Q E gq gk _ h0 ⟨t.val / 4, by omega⟩ ⟨_, e0 ▸ (((win0_5.blk t).view.emb y) 0).isLt⟩ (y 1) _ e0 e1).symm

end Cert.MemFwd

end
-- ==== Proof.FfnIn.lean ====
/- The first product of the feed-forward and its gate (`ffn_in_swiglu`): the two halves of the product, the gated unit, and
   the gated unit laid out transposed. The kernel's logistic function is half a hyperbolic tangent plus one half, the
   reference's is one over one plus an exponential; they agree at every extended real, so nothing is asked of the arguments. -/
module

public import proofs.«01_k».proof.Proof.Gate
public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Cert.FfnIn

open Cert.Kernel16Ideal Cert.Kernel16Ideal.Gen Idealize.ShloMosaic Idealize.ShloMosaic.TcCoe Idealize.SL.Sem
open Idealize.ShloMosaic.Pipeline (Dat)
open Cert.Reference16Ideal.Read

/-- The blocks that grid point `t` names: its column block is `t / 4`, its row block `t % 4`; the second half's columns
    begin two blocks later. -/
theorem idx : ∀ t : Fin cfg0.N, win0_0.index t = ![t.val % 4, 0] ∧ win0_1.index t = ![0, t.val / 4]
    ∧ win0_2.index t = ![0, 2 + t.val / 4] ∧ win0_3.index t = ![t.val % 4, t.val / 4]
    ∧ win0_4.index t = ![t.val % 4, t.val / 4] ∧ win0_5.index t = ![t.val % 4, t.val / 4]
    ∧ win0_6.index t = ![t.val / 4, t.val % 4] :=
  (by decide +kernel : ∀ t : Fin grid0.N, _)

/-- A row times a column. -/
def dot (x w : Fin 1024 → EReal) : EReal := ∑ k, x k * w k

/-- The gated unit at one element of the two halves. -/
def act (a b : EReal) : EReal := (a * Gate.sigR a) * b

/-- A column of the first half, as a column of the whole product. -/
def colA (j : Fin 2816) : Fin 5632 := ⟨j.val, by omega⟩

/-- A column of the second half, as a column of the whole product. -/
def colB (j : Fin 2816) : Fin 5632 := ⟨2816 + j.val, by omega⟩

/-- What the body leaves in the first half's block. -/
theorem out3 (x : FVec Ideal S1024x1024 .bf16) (w v : FVec Ideal S1024x1408 .bf16) (y : S1024x1408.Idx) :
    (out0_3 (F := Ideal) x w v y : EReal) = dot (fun k => x (ix2 (y 0) k)) (fun k => w (ix2 k (y 1))) := by
  unfold out0_3 dot
  canon_tiles z h
  open_payloads
  pointwise []
  obtain rfl : y = z := by funext a; fin_cases a <;> exact Fin.ext (by assumption)
  rfl

/-- What the body leaves in the second half's block. -/
theorem out4 (x : FVec Ideal S1024x1024 .bf16) (w v : FVec Ideal S1024x1408 .bf16) (y : S1024x1408.Idx) :
    (out0_4 (F := Ideal) x w v y : EReal) = dot (fun k => x (ix2 (y 0) k)) (fun k => v (ix2 k (y 1))) := by
  unfold out0_4 dot
  canon_tiles z h
  open_payloads
  pointwise []
  obtain rfl : y = z := by funext a; fin_cases a <;> exact Fin.ext (by assumption)
  rfl

/-- What the body leaves in the gated unit's block. -/
theorem out5 (x : FVec Ideal S1024x1024 .bf16) (w v : FVec Ideal S1024x1408 .bf16) (y : S1024x1408.Idx) :
    (out0_5 (F := Ideal) x w v y : EReal)
      = act (dot (fun k => x (ix2 (y 0) k)) (fun k => w (ix2 k (y 1)))) (dot (fun k => x (ix2 (y 0) k)) (fun k => v (ix2 k (y 1)))) := by
  unfold act
  rw [← Gate.sig_eq]
  unfold out0_5 dot Gate.sigK
  canon_tiles z h
  open_payloads
  pointwise []
  obtain rfl : y = z := by funext a; fin_cases a <;> exact Fin.ext (by assumption)
  rfl

/-- What the body leaves in the block of the gated unit laid out transposed. -/
theorem out6 (x : FVec Ideal S1024x1024 .bf16) (w v : FVec Ideal S1024x1408 .bf16) (y : S1408x1024.Idx) :
    (out0_6 (F := Ideal) x w v y : EReal)
      = act (dot (fun k => x (ix2 (y 1) k)) (fun k => w (ix2 k (y 0)))) (dot (fun k => x (ix2 (y 1) k)) (fun k => v (ix2 k (y 0)))) := by
  unfold act
  rw [← Gate.sig_eq]
  unfold out0_6 dot Gate.sigK
  canon_tiles z h
  open_payloads
  pointwise []
  obtain rfl : y = z := by funext a; fin_cases a <;> exact Fin.ext (by assumption)
  rfl

/-- The reference's first half at an element. -/
theorem r_a (x : FVec Ideal S4096x1024 .bf16) (w : FVec Ideal S1024x5632 .bf16) (i : Cert.Reference16Ideal.S4096x2816.Idx) :
    (val_main_v3 (F := Ideal) x w i : EReal) = dot (fun k => x (ix2 (i 0) k)) (fun k => w (ix2 k (colA (i 1)))) := by
  pointwise [dot, colA, val_main_v3, val_main_v2, val_main_v1, val_main_v0]

/-- The reference's second half at an element. -/
theorem r_b (x : FVec Ideal S4096x1024 .bf16) (w : FVec Ideal S1024x5632 .bf16) (i : Cert.Reference16Ideal.S4096x2816.Idx) :
    (val_main_v4 (F := Ideal) x w i : EReal) = dot (fun k => x (ix2 (i 0) k)) (fun k => w (ix2 k (colB (i 1)))) := by
  pointwise [dot, colB, val_main_v4, val_main_v2, val_main_v1, val_main_v0]

/-- The reference's gated unit at an element. -/
theorem r_act (x : FVec Ideal S4096x1024 .bf16) (w : FVec Ideal S1024x5632 .bf16) (i : Cert.Reference16Ideal.S4096x2816.Idx) :
    (val_main_v7 (F := Ideal) x w i : EReal) = act (val_main_v3 (F := Ideal) x w i) (val_main_v4 (F := Ideal) x w i) := by
  rw [val_main_v7_apply, val_main_v6_apply, val_main_v5_apply, val_main_call0_v5_apply, val_main_call0_v4_apply, val_main_call0_v3_apply,
    val_main_call0_v2_apply, val_main_call0_v1_apply, val_main_call0_v0_apply, val_main_call0_cst_apply, val_main_call0_cst_0_apply]
  generalize val_main_v3 (F := Ideal) x w i = a
  generalize val_main_v4 (F := Ideal) x w i = b
  unfold act Gate.sigR
  refine Eq.trans (b := (a * Ideal.div (Ideal.ofBits .f32 0x3F800000#32) (Ideal.ofBits .f32 0x3F800000#32 + Ideal.exp (-a))) * b) rfl ?_
  rw [Ideal.ofBits_one_f32]

/-- The reference's gated unit at an element, from the arguments. -/
theorem r_gate (x : FVec Ideal S4096x1024 .bf16) (w : FVec Ideal S1024x5632 .bf16) (i : Cert.Reference16Ideal.S4096x2816.Idx) :
    (val_main_v7 (F := Ideal) x w i : EReal)
      = act (dot (fun k => x (ix2 (i 0) k)) (fun k => w (ix2 k (colA (i 1))))) (dot (fun k => x (ix2 (i 0) k)) (fun k => w (ix2 k (colB (i 1))))) := by
  rw [r_act, r_a, r_b]

/-- The reference's transposed array at an element. -/
theorem r_gateT (x : FVec Ideal S4096x1024 .bf16) (w : FVec Ideal S1024x5632 .bf16) (i : Cert.Reference16Ideal.S2816x4096.Idx) :
    (val_main_v10 (F := Ideal) x w i : EReal)
      = act (dot (fun k => x (ix2 (i 1) k)) (fun k => w (ix2 k (colA (i 0))))) (dot (fun k => x (ix2 (i 1) k)) (fun k => w (ix2 k (colB (i 0))))) :=
  (val_main_v10_apply _ _ _).trans (r_gate _ _ _)

variable (m : (ℓ : Loc nD τ sig) → Buf (Elt Ideal) ℓ) (c : Dev nD)

/-- The first half's array is the reference's. -/
theorem final3 :
    (dats m 0 c).arrAt 3 cfg0.N
      = val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (out3 _ _ _ y).trans (Eq.trans ?_ ((val_main_v8_apply _ _ _).trans (r_a _ _ _)).symm)
  have e0 : ∀ k : Fin 1024, iblk m c 0 t (ix2 (y 0) k) = m ((c : Thread nD τ).loc main_arg0) (ix2 (((win0_3.blk t).view.emb y) 0) k) := by
    intro k; blk_point [iblk, V, idx t]
  have e1 : ∀ k : Fin 1024, iblk m c 1 t (ix2 k (y 1)) = m ((c : Thread nD τ).loc main_arg1) (ix2 k (colA (((win0_3.blk t).view.emb y) 1))) := by
    intro k; blk_point [iblk, V, idx t, colA]
  simp only [e0, e1]

/-- The second half's array is the reference's. -/
theorem final4 :
    (dats m 0 c).arrAt 4 cfg0.N
      = val_main_v9 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  refine (out4 _ _ _ y).trans (Eq.trans ?_ ((val_main_v9_apply _ _ _).trans (r_b _ _ _)).symm)
  have e0 : ∀ k : Fin 1024, iblk m c 0 t (ix2 (y 0) k) = m ((c : Thread nD τ).loc main_arg0) (ix2 (((win0_4.blk t).view.emb y) 0) k) := by
    intro k; blk_point [iblk, V, idx t]
  have e2 : ∀ k : Fin 1024, iblk m c 2 t (ix2 k (y 1)) = m ((c : Thread nD τ).loc main_arg1) (ix2 k (colB (((win0_4.blk t).view.emb y) 1))) := by
    intro k; blk_point [iblk, V, idx t, colB]
  simp only [e0, e2]

/-- The gated unit's array is the reference's. -/
theorem final5 :
    (dats m 0 c).arrAt 5 cfg0.N
      = val_main_v7 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  refine (out5 _ _ _ y).trans (Eq.trans ?_ (r_gate _ _ _).symm)
  have e0 : ∀ k : Fin 1024, iblk m c 0 t (ix2 (y 0) k) = m ((c : Thread nD τ).loc main_arg0) (ix2 (((win0_5.blk t).view.emb y) 0) k) := by
    intro k; blk_point [iblk, V, idx t]
  have e1 : ∀ k : Fin 1024, iblk m c 1 t (ix2 k (y 1)) = m ((c : Thread nD τ).loc main_arg1) (ix2 k (colA (((win0_5.blk t).view.emb y) 1))) := by
    intro k; blk_point [iblk, V, idx t, colA]
  have e2 : ∀ k : Fin 1024, iblk m c 2 t (ix2 k (y 1)) = m ((c : Thread nD τ).loc main_arg1) (ix2 k (colB (((win0_5.blk t).view.emb y) 1))) := by
    intro k; blk_point [iblk, V, idx t, colB]
  simp only [e0, e1, e2]

/-- The transposed array is the reference's. -/
theorem final6 :
    (dats m 0 c).arrAt 6 cfg0.N
      = val_main_v10 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  refine (out6 _ _ _ y).trans (Eq.trans ?_ (r_gateT _ _ _).symm)
  have e0 : ∀ k : Fin 1024, iblk m c 0 t (ix2 (y 1) k) = m ((c : Thread nD τ).loc main_arg0) (ix2 (((win0_6.blk t).view.emb y) 1) k) := by
    intro k; blk_point [iblk, V, idx t]
  have e1 : ∀ k : Fin 1024, iblk m c 1 t (ix2 k (y 0)) = m ((c : Thread nD τ).loc main_arg1) (ix2 k (colA (((win0_6.blk t).view.emb y) 0))) := by
    intro k; blk_point [iblk, V, idx t, colA]
  have e2 : ∀ k : Fin 1024, iblk m c 2 t (ix2 k (y 0)) = m ((c : Thread nD τ).loc main_arg1) (ix2 k (colB (((win0_6.blk t).view.emb y) 0))) := by
    intro k; blk_point [iblk, V, idx t, colB]
  simp only [e0, e1, e2]

end Cert.FfnIn

end
-- ==== Proof.Norms.lean ====
/- The forward norms (`norm_mix_fwd`, `norm_mem_fwd`): a row over the root of its mean square plus a constant, times the
   gain. Kernel and reference write the same expression at every element, so nothing is asked of the arguments. -/
module

public import proofs.«01_k».proof.Proof.Reals
public import proofs.«01_k».proof.Proof.Gen.Kernel17Ideal.Value
public import proofs.«01_k».proof.Proof.Gen.Kernel18Ideal.Value
public import proofs.«01_k».proof.Proof.Gen.Reference17Ideal.Read
public import proofs.«01_k».proof.Proof.Gen.Reference18Ideal.Read
public import Idealize.ShloMosaic.Lib.Pipeline.ValueKit

@[expose] public section

set_option maxRecDepth 16384

noncomputable section

namespace Cert.Norms

open Idealize.ShloMosaic Idealize.ShloMosaic.TcCoe Idealize.SL.Sem
open Idealize.ShloMosaic.Pipeline (Dat)

/-- One element of the normed row: the element over the root of the row's mean square plus the constant, times its gain. -/
def unit (x : Fin 1024 → EReal) (a g : EReal) : EReal :=
  (a * Ideal.rsqrt (Ideal.div (∑ k, x k * x k) (Ideal.ofBits .f32 0x44800000#32) + Ideal.ofBits .f32 0x358637BD#32)) * g

section Mix

open Cert.Kernel17Ideal Cert.Kernel17Ideal.Gen
open Cert.Reference17Ideal.Read

/-- The blocks that grid point `t` names: row block `t` of the rows, the whole gain. -/
theorem idx17 : ∀ t : Fin cfg0.N, win0_0.index t = ![t.val, 0] ∧ win0_1.index t = ![0, 0]
    ∧ win0_2.index t = ![t.val, 0] ∧ win0_3.index t = ![0, t.val] :=
  (by decide +kernel : ∀ t : Fin grid0.N, _)

/-- What the body leaves in the block of normed rows. -/
theorem out17 (x : FVec Ideal S512x1024 .f32) (g : FVec Ideal S1x1024 .f32) (y : S512x1024.Idx) :
    (out0_2 (F := Ideal) x g y : EReal) = unit (fun k => x (ix2 (y 0) k)) (x (ix2 (y 0) (y 1))) (g (ix2 0 (y 1))) := by
  unfold out0_2 unit
  canon_tiles z h
  open_payloads
  pointwise []
  obtain rfl : y = z := by funext a; fin_cases a <;> exact Fin.ext (by assumption)
  rfl

/-- What the body leaves in the block of normed rows laid out transposed. -/
theorem out17T (x : FVec Ideal S512x1024 .f32) (g : FVec Ideal S1x1024 .f32) (y : S1024x512.Idx) :
    (out0_3 (F := Ideal) x g y : EReal) = unit (fun k => x (ix2 (y 1) k)) (x (ix2 (y 1) (y 0))) (g (ix2 0 (y 0))) := by
  unfold out0_3 unit
  canon_tiles z h
  open_payloads
  pointwise []
  obtain rfl : y = z := by funext a; fin_cases a <;> exact Fin.ext (by assumption)
  rfl

/-- The reference's normed rows at an element. -/
theorem ref17 (x : FVec Ideal S4096x1024 .f32) (g : FVec Ideal S1x1024 .f32) (i : S4096x1024.Idx) :
    (val_main_v12 (F := Ideal) x g i : EReal) = unit (fun k => x (ix2 (i 0) k)) (x (ix2 (i 0) (i 1))) (g (ix2 0 (i 1))) := by
  pointwise [unit, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's transposed array at an element. -/
theorem ref17T (x : FVec Ideal S4096x1024 .f32) (g : FVec Ideal S1x1024 .f32) (i : S1024x4096.Idx) :
    (val_main_v13 (F := Ideal) x g i : EReal) = unit (fun k => x (ix2 (i 1) k)) (x (ix2 (i 1) (i 0))) (g (ix2 0 (i 0))) :=
  (val_main_v13_apply _ _ _).trans (ref17 _ _ _)

/-- The kernel's array of normed rows is the reference's. -/
theorem final17 (m : (ℓ : Loc nD τ sig) → Buf (Elt Ideal) ℓ) (c : Dev nD) :
    (dats m 0 c).arrAt 2 cfg0.N
      = val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out17 _ _ y).trans (Eq.trans ?_ (ref17 _ _ _).symm)
  have e0 : ∀ k : Fin 1024, iblk m c 0 t (ix2 (y 0) k) = m ((c : Thread nD τ).loc main_arg0) (ix2 (((win0_2.blk t).view.emb y) 0) k) := by
    intro k; blk_point [iblk, V, idx17 t]
  have e1 : iblk m c 1 t (ix2 0 (y 1)) = m ((c : Thread nD τ).loc main_arg1) (ix2 0 (((win0_2.blk t).view.emb y) 1)) := by
    blk_point [iblk, V, idx17 t]
  have e2 : iblk m c 0 t (ix2 (y 0) (y 1)) = m ((c : Thread nD τ).loc main_arg0) (ix2 (((win0_2.blk t).view.emb y) 0) (((win0_2.blk t).view.emb y) 1)) := by
    blk_point [iblk, V, idx17 t]
  simp only [e0, e1]
  rw [e2]

/-- The kernel's transposed array is the reference's. -/
theorem final17T (m : (ℓ : Loc nD τ sig) → Buf (Elt Ideal) ℓ) (c : Dev nD) :
    (dats m 0 c).arrAt 3 cfg0.N
      = val_main_v13 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (out17T _ _ y).trans (Eq.trans ?_ (ref17T _ _ _).symm)
  have e0 : ∀ k : Fin 1024, iblk m c 0 t (ix2 (y 1) k)
      = m ((c : Thread nD τ).loc main_arg0) (ix2 (((win0_3.blk t).view.emb y) 1) k) := by
    intro k; blk_point [iblk, V, idx17 t]
  have e1 : iblk m c 1 t (ix2 0 (y 0)) = m ((c : Thread nD τ).loc main_arg1) (ix2 0 (((win0_3.blk t).view.emb y) 0)) := by
    blk_point [iblk, V, idx17 t]
  have e2 : iblk m c 0 t (ix2 (y 1) (y 0)) = m ((c : Thread nD τ).loc main_arg0) (ix2 (((win0_3.blk t).view.emb y) 1) (((win0_3.blk t).view.emb y) 0)) := by
    blk_point [iblk, V, idx17 t]
  simp only [e0, e1]
  rw [e2]

end Mix

section Memory

open Cert.Kernel18Ideal Cert.Kernel18Ideal.Gen
open Cert.Reference18Ideal.Read

/-- The one grid point names every array whole. -/
theorem idx18 : ∀ t : Fin cfg0.N, win0_0.index t = ![0, 0] ∧ win0_1.index t = ![0, 0] ∧ win0_2.index t = ![0, 0] :=
  (by decide +kernel : ∀ t : Fin grid0.N, _)

/-- What the body leaves in the block of normed rows. -/
theorem out18 (x : FVec Ideal S256x1024 .f32) (g : FVec Ideal S1x1024 .f32) (y : S256x1024.Idx) :
    (out0_2 (F := Ideal) x g y : EReal) = unit (fun k => x (ix2 (y 0) k)) (x (ix2 (y 0) (y 1))) (g (ix2 0 (y 1))) := by
  unfold out0_2 unit
  canon_tiles z h
  open_payloads
  pointwise []
  obtain rfl : y = z := by funext a; fin_cases a <;> exact Fin.ext (by assumption)
  rfl

/-- The reference's normed rows at an element. -/
theorem ref18 (x : FVec Ideal S256x1024 .f32) (g : FVec Ideal S1x1024 .f32) (i : S256x1024.Idx) :
    (val_main_v12 (F := Ideal) x g i : EReal) = unit (fun k => x (ix2 (i 0) k)) (x (ix2 (i 0) (i 1))) (g (ix2 0 (i 1))) := by
  pointwise [unit, val_main_v12, val_main_v11, val_main_v10, val_main_v9, val_main_v8, val_main_v7, val_main_v6, val_main_v5, val_main_v4, val_main_v3, val_main_v2, val_main_v1, val_main_v0, val_main_cst, val_main_cst_0, val_main_cst_1]

/-- The kernel's array of normed rows is the reference's. -/
theorem final18 (m : (ℓ : Loc nD τ sig) → Buf (Elt Ideal) ℓ) (c : Dev nD) :
    (dats m 0 c).arrAt 2 cfg0.N
      = val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out18 _ _ y).trans (Eq.trans ?_ (ref18 _ _ _).symm)
  have e0 : ∀ k : Fin 1024, iblk m c 0 t (ix2 (y 0) k) = m ((c : Thread nD τ).loc main_arg0) (ix2 (((win0_2.blk t).view.emb y) 0) k) := by
    intro k; blk_point [iblk, V, idx18 t]
  have e1 : iblk m c 1 t (ix2 0 (y 1)) = m ((c : Thread nD τ).loc main_arg1) (ix2 0 (((win0_2.blk t).view.emb y) 1)) := by
    blk_point [iblk, V, idx18 t]
  have e2 : iblk m c 0 t (ix2 (y 0) (y 1)) = m ((c : Thread nD τ).loc main_arg0) (ix2 (((win0_2.blk t).view.emb y) 0) (((win0_2.blk t).view.emb y) 1)) := by
    blk_point [iblk, V, idx18 t]
  simp only [e0, e1]
  rw [e2]

end Memory

end Cert.Norms

end
-- ==== Proof.ResNorm.lean ====
/- The norm before the feed-forward (`out_norm_ffn_fwd`): the merged branches times the output weights, added to the
   residual; that sum's row over the root of its mean square plus a constant, times the gain; and the same transposed. Kernel
   and reference write the same expression at every element, so nothing is asked of the arguments. -/
module

public import proofs.«01_k».proof.Proof.Norms
public import proofs.«01_k».proof.Proof.Gen.Kernel19Ideal.Value
public import proofs.«01_k».proof.Proof.Gen.Reference19Ideal.Read

@[expose] public section

set_option maxRecDepth 16384

noncomputable section

namespace Cert.ResNorm

open Cert.Kernel19Ideal Cert.Kernel19Ideal.Gen Idealize.ShloMosaic Idealize.ShloMosaic.TcCoe Idealize.SL.Sem
open Idealize.ShloMosaic.Pipeline (Dat)
open Cert.Reference19Ideal.Read

/-- The blocks that grid point `t` names: row block `t` of the rows, the weights and the gain whole. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, t.val] :=
  (by decide +kernel : ∀ t : Fin grid0.N, _)

/-- The residual plus a row times a column. -/
def res (r : EReal) (x w : Fin 1024 → EReal) : EReal := r + ∑ k, x k * w k

variable (x0 : FVec Ideal S512x1024 .f32) (x1 : FVec Ideal S512x1024 .bf16) (x2 : FVec Ideal S1024x1024 .bf16) (x3 : FVec Ideal S1x1024 .f32)

/-- The new residual at an element of the block. -/
theorem pay1 (i : Fin 512) (j : Fin 1024) :
    (k0_pay1 (F := Ideal) x0 x1 x2 (ix2 i j) : EReal) = res (x0 (ix2 i j)) (fun k => x1 (ix2 i k)) (fun k => x2 (ix2 k j)) := by
  pointwise [k0_pay1, res]

/-- The normed row at an element of the block, from the new residual. -/
theorem pay2 (i : Fin 512) (j : Fin 1024) :
    (k0_pay2 (F := Ideal) x0 x1 x2 x3 (ix2 i j) : EReal)
      = Norms.unit (fun k => k0_pay1 (F := Ideal) x0 x1 x2 (ix2 i k)) (k0_pay1 (F := Ideal) x0 x1 x2 (ix2 i j)) (x3 (ix2 0 j)) := by
  unfold Norms.unit
  pointwise [k0_pay2]

/-- Offsets of zero on two axes. -/
theorem zero2 : ∀ a : Fin 2, (![0, 0] : Fin 2 → ℕ) a = 0 := by decide

/-- A row of the new residual in the block. -/
def rows (i : Fin 512) (j : Fin 1024) : EReal := res (x0 (ix2 i j)) (fun k => x1 (ix2 i k)) (fun k => x2 (ix2 k j))

/-- What the body leaves in the block of the new residual. -/
theorem out4 (p : Fin 512) (q : Fin 1024) :
    (out0_4 (F := Ideal) x0 x1 x2 x3 (ix2 p q) : EReal) = rows x0 x1 x2 p q := by
  refine Eq.trans ?_ (pay1 x0 x1 x2 p q)
  unfold out0_4
  rw [View.canon_cons_unit_lit _ _ _ zero2, View.ld_unit_lit _ _ zero2, View.ld_unit_lit _ _ zero2, View.ld_unit_lit _ _ zero2]

/-- What the body leaves in the block of normed rows. -/
theorem out5 (p : Fin 512) (q : Fin 1024) :
    (out0_5 (F := Ideal) x0 x1 x2 x3 (ix2 p q) : EReal) = Norms.unit (rows x0 x1 x2 p) (rows x0 x1 x2 p q) (x3 (ix2 0 q)) := by
  refine Eq.trans (b := (k0_pay2 (F := Ideal) x0 x1 x2 x3 (ix2 p q) : EReal)) ?_ ?_
  · unfold out0_5
    rw [View.canon_cons_unit_lit _ _ _ zero2, View.ld_unit_lit _ _ zero2, View.ld_unit_lit _ _ zero2, View.ld_unit_lit _ _ zero2, View.ld_unit_lit _ _ zero2]
    rfl
  · rw [pay2]
    simp only [pay1]
    rfl

/-- What the body leaves in the block of normed rows laid out transposed. -/
theorem out6 (p : Fin 512) (q : Fin 1024) :
    (out0_6 (F := Ideal) x0 x1 x2 x3 (ix2 q p) : EReal) = Norms.unit (rows x0 x1 x2 p) (rows x0 x1 x2 p q) (x3 (ix2 0 q)) := by
  refine Eq.trans (b := (k0_pay2 (F := Ideal) x0 x1 x2 x3 (ix2 p q) : EReal)) ?_ ?_
  · unfold out0_6
    rw [View.canon_cons_unit_lit _ _ _ zero2, View.ld_unit_lit _ _ zero2, View.ld_unit_lit _ _ zero2, View.ld_unit_lit _ _ zero2, View.ld_unit_lit _ _ zero2]
    pointwise [k0_pay4]
  · rw [pay2]
    simp only [pay1]
    rfl

section
variable (a : FVec Ideal S4096x1024 .f32) (b : FVec Ideal S4096x1024 .bf16) (w : FVec Ideal S1024x1024 .bf16) (g : FVec Ideal S1x1024 .f32)

/-- The reference's product at an element. -/
theorem r_dot (i : S4096x1024.Idx) :
    (val_main_v2 (F := Ideal) b w i : EReal) = ∑ k : Fin 1024, b (ix2 (i 0) k) * w (ix2 k (i 1)) := by
  pointwise [val_main_v2, val_main_v1, val_main_v0]

/-- The reference's new residual at an element. -/
theorem r_res (i : S4096x1024.Idx) :
    (val_main_v3 (F := Ideal) a b w i : EReal) = res (a (ix2 (i 0) (i 1))) (fun k => b (ix2 (i 0) k)) (fun k => w (ix2 k (i 1))) := by
  rw [val_main_v3_apply, r_dot]
  exact congrArg (fun z => a z + _) (by funext q; fin_cases q <;> rfl)

/-- The reference's sum of squares of a row. -/
theorem r_sq (i : Fin 4096) :
    (val_main_v5 (F := Ideal) a b w (ix1 i) : EReal) = ∑ k : Fin 1024, val_main_v3 (F := Ideal) a b w (ix2 i k) * val_main_v3 (F := Ideal) a b w (ix2 i k) := by
  pointwise [val_main_v5, val_main_cst, val_main_v4]

/-- The reference's normed rows at an element, from its new residual. -/
theorem r_unit (i : Fin 4096) (j : Fin 1024) :
    (val_main_v16 (F := Ideal) a b w g (ix2 i j) : EReal)
      = Norms.unit (fun k => val_main_v3 (F := Ideal) a b w (ix2 i k)) (val_main_v3 (F := Ideal) a b w (ix2 i j)) (g (ix2 0 j)) := by
  unfold Norms.unit
  rw [← r_sq]
  have e : (idx_main_v6 (idx_main_v12 (ix2 i j))) = ix1 i := by funext q; fin_cases q; rfl
  have e' : idx_main_v14 (ix2 i j) = ix2 0 j := by funext q; fin_cases q <;> rfl
  rw [val_main_v16_apply, val_main_v15_apply, val_main_v14_apply, val_main_v13_apply, val_main_v12_apply, val_main_v11_apply, val_main_v10_apply,
    val_main_v9_apply, val_main_v8_apply, val_main_v7_apply, val_main_v6_apply, val_main_cst_0_apply, val_main_cst_1_apply, e, e']
  rfl

/-- The reference's normed rows at an element. -/
theorem r_norm (i : S4096x1024.Idx) :
    (val_main_v16 (F := Ideal) a b w g i : EReal)
      = Norms.unit (fun j => res (a (ix2 (i 0) j)) (fun k => b (ix2 (i 0) k)) (fun k => w (ix2 k j)))
          (res (a (ix2 (i 0) (i 1))) (fun k => b (ix2 (i 0) k)) (fun k => w (ix2 k (i 1)))) (g (ix2 0 (i 1))) := by
  obtain ⟨p, q, rfl⟩ : ∃ (p : Fin 4096) (q : Fin 1024), i = ix2 p q := ⟨i 0, i 1, by funext z; fin_cases z <;> rfl⟩
  rw [r_unit]
  simp only [r_res]
  rfl

/-- The reference's transposed array at an element. -/
theorem r_normT (i : S1024x4096.Idx) :
    (val_main_v17 (F := Ideal) a b w g i : EReal)
      = Norms.unit (fun j => res (a (ix2 (i 1) j)) (fun k => b (ix2 (i 1) k)) (fun k => w (ix2 k j)))
          (res (a (ix2 (i 1) (i 0))) (fun k => b (ix2 (i 1) k)) (fun k => w (ix2 k (i 0)))) (g (ix2 0 (i 0))) :=
  (val_main_v17_apply _ _ _ _ _).trans (r_norm _ _ _ _ _)
end

variable (m : (ℓ : Loc nD τ sig) → Buf (Elt Ideal) ℓ) (c : Dev nD)

/-- The array of the new residual is the reference's. -/
theorem final4 :
    (dats m 0 c).arrAt 4 cfg0.N
      = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨p, q, rfl⟩ : ∃ (p : Fin 512) (q : Fin 1024), y = ix2 p q := ⟨y 0, y 1, by funext z; fin_cases z <;> rfl⟩
  refine (out4 _ _ _ _ p q).trans (Eq.trans ?_ (r_res _ _ _ _).symm)
  have e0 : ∀ j : Fin 1024, iblk m c 0 t (ix2 p j) = m ((c : Thread nD τ).loc main_arg0) (ix2 (((win0_4.blk t).view.emb (ix2 p q)) 0) j) := by
    intro j; blk_point [iblk, V, idx t]
  have e1 : ∀ k : Fin 1024, iblk m c 1 t (ix2 p k) = m ((c : Thread nD τ).loc main_arg1) (ix2 (((win0_4.blk t).view.emb (ix2 p q)) 0) k) := by
    intro k; blk_point [iblk, V, idx t]
  have e2 : ∀ k j : Fin 1024, iblk m c 2 t (ix2 k j) = m ((c : Thread nD τ).loc main_arg2) (ix2 k j) := by
    intro k j; blk_point [iblk, V, idx t]
  have e4 : ((win0_4.blk t).view.emb (ix2 p q)) 1 = q := Fin.ext (by blk_simp [idx t])
  unfold rows
  simp only [e0, e1, e2]
  rw [e4]

/-- The array of the normed rows is the reference's. -/
theorem final5 :
    (dats m 0 c).arrAt 5 cfg0.N
      = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨p, q, rfl⟩ : ∃ (p : Fin 512) (q : Fin 1024), y = ix2 p q := ⟨y 0, y 1, by funext z; fin_cases z <;> rfl⟩
  refine (out5 _ _ _ _ p q).trans (Eq.trans ?_ (r_norm _ _ _ _ _).symm)
  have e0 : ∀ j : Fin 1024, iblk m c 0 t (ix2 p j) = m ((c : Thread nD τ).loc main_arg0) (ix2 (((win0_5.blk t).view.emb (ix2 p q)) 0) j) := by
    intro j; blk_point [iblk, V, idx t]
  have e1 : ∀ k : Fin 1024, iblk m c 1 t (ix2 p k) = m ((c : Thread nD τ).loc main_arg1) (ix2 (((win0_5.blk t).view.emb (ix2 p q)) 0) k) := by
    intro k; blk_point [iblk, V, idx t]
  have e2 : ∀ k j : Fin 1024, iblk m c 2 t (ix2 k j) = m ((c : Thread nD τ).loc main_arg2) (ix2 k j) := by
    intro k j; blk_point [iblk, V, idx t]
  have e4 : ((win0_5.blk t).view.emb (ix2 p q)) 1 = q := Fin.ext (by blk_simp [idx t])
  have e3 : ∀ j : Fin 1024, iblk m c 3 t (ix2 0 j) = m ((c : Thread nD τ).loc main_arg3) (ix2 0 j) := by
    intro j; blk_point [iblk, V, idx t]
  unfold rows
  simp only [e0, e1, e2, e3]
  rw [e4]

/-- The array of the transposed rows is the reference's. -/
theorem final6 :
    (dats m 0 c).arrAt 6 cfg0.N
      = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  obtain ⟨p, q, rfl⟩ : ∃ (p : Fin 512) (q : Fin 1024), y = ix2 q p := ⟨y 1, y 0, by funext z; fin_cases z <;> rfl⟩
  refine (out6 _ _ _ _ p q).trans (Eq.trans ?_ (r_normT _ _ _ _ _).symm)
  have e0 : ∀ j : Fin 1024, iblk m c 0 t (ix2 p j) = m ((c : Thread nD τ).loc main_arg0) (ix2 (((win0_6.blk t).view.emb (ix2 q p)) 1) j) := by
    intro j; blk_point [iblk, V, idx t]
  have e1 : ∀ k : Fin 1024, iblk m c 1 t (ix2 p k) = m ((c : Thread nD τ).loc main_arg1) (ix2 (((win0_6.blk t).view.emb (ix2 q p)) 1) k) := by
    intro k; blk_point [iblk, V, idx t]
  have e2 : ∀ k j : Fin 1024, iblk m c 2 t (ix2 k j) = m ((c : Thread nD τ).loc main_arg2) (ix2 k j) := by
    intro k j; blk_point [iblk, V, idx t]
  have e4 : ((win0_6.blk t).view.emb (ix2 q p)) 0 = q := Fin.ext (by blk_simp [idx t])
  have e3 : ∀ j : Fin 1024, iblk m c 3 t (ix2 0 j) = m ((c : Thread nD τ).loc main_arg3) (ix2 0 j) := by
    intro j; blk_point [iblk, V, idx t]
  unfold rows
  simp only [e0, e1, e2, e3]
  rw [e4]

end Cert.ResNorm

end
-- ==== Proof.Merge.lean ====
/- The merge of the three branches (`branch_merge_fwd`): each branch's product, and the sum of the products times the
   logistic function of their gates. The kernel's logistic function is half a hyperbolic tangent plus one half, the
   reference's is one over one plus an exponential; they agree at every extended real, so nothing is asked of the arguments. -/
module

public import proofs.«01_k».proof.Proof.Gate
public import proofs.«01_k».proof.Proof.Gen.Kernel20Ideal.Value
public import proofs.«01_k».proof.Proof.Gen.Reference20Ideal.Read
public import Idealize.ShloMosaic.Lib.Pipeline.ValueKit

@[expose] public section

set_option maxRecDepth 16384

noncomputable section

namespace Cert.Merge

open Cert.Kernel20Ideal Cert.Kernel20Ideal.Gen Idealize.ShloMosaic Idealize.ShloMosaic.TcCoe Idealize.SL.Sem
open Idealize.ShloMosaic.Pipeline (Dat)
open Cert.Reference20Ideal.Read

/-- The blocks that grid point `t` names: row block `t`; the gates' columns are the blocks 10, 11 and 12; the weights whole. -/
theorem idx : ∀ t : Fin cfg0.N, win0_0.index t = ![t.val, 10] ∧ win0_1.index t = ![t.val, 11] ∧ win0_2.index t = ![t.val, 12]
    ∧ win0_3.index t = ![t.val, 0] ∧ win0_4.index t = ![t.val, 0] ∧ win0_5.index t = ![t.val, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] :=
  (by decide +kernel : ∀ t : Fin grid0.N, _)

/-- A row times a column. -/
def dot {n : ℕ} (x w : Fin n → EReal) : EReal := ∑ k, x k * w k

/-- The column of the projection that holds the gate of branch `b` at column `j`. -/
def gcol (b : Fin 3) (j : Fin 1024) : Fin 13312 := ⟨10240 + 1024 * b.val + j.val, by omega⟩

/-- The gated sum of three branches at one element. -/
def mix (g0 g1 g2 t0 t1 t2 : EReal) : EReal := Gate.sigR g0 * t0 + Gate.sigR g1 * t1 + Gate.sigR g2 * t2

variable (x0 x1 x2 : FVec Ideal S512x1024 .f32) (x3 : FVec Ideal S512x1024 .bf16) (x4 x5 : FVec Ideal S512x512 .bf16)
  (x6 : FVec Ideal S1024x1024 .bf16) (x7 x8 : FVec Ideal S512x1024 .bf16) (y : S512x1024.Idx)

/-- What the body leaves in the block of the first branch's product. -/
theorem out10 : (out0_10 (F := Ideal) x0 x1 x2 x3 x4 x5 x6 x7 x8 y : EReal) = dot (fun k => x3 (ix2 (y 0) k)) (fun k => x6 (ix2 k (y 1))) := by
  unfold out0_10 dot
  canon_tiles z h
  open_payloads
  pointwise []
  obtain rfl : y = z := by funext a; fin_cases a <;> exact Fin.ext (by assumption)
  rfl

/-- What the body leaves in the block of the second branch's product. -/
theorem out11 : (out0_11 (F := Ideal) x0 x1 x2 x3 x4 x5 x6 x7 x8 y : EReal) = dot (fun k => x4 (ix2 (y 0) k)) (fun k => x7 (ix2 k (y 1))) := by
  unfold out0_11 dot
  canon_tiles z h
  open_payloads
  pointwise []
  obtain rfl : y = z := by funext a; fin_cases a <;> exact Fin.ext (by assumption)
  rfl

/-- What the body leaves in the block of the third branch's product. -/
theorem out12 : (out0_12 (F := Ideal) x0 x1 x2 x3 x4 x5 x6 x7 x8 y : EReal) = dot (fun k => x5 (ix2 (y 0) k)) (fun k => x8 (ix2 k (y 1))) := by
  unfold out0_12 dot
  canon_tiles z h
  open_payloads
  pointwise []
  obtain rfl : y = z := by funext a; fin_cases a <;> exact Fin.ext (by assumption)
  rfl

/-- What the body leaves in the block of the gated sum. -/
theorem out9 : (out0_9 (F := Ideal) x0 x1 x2 x3 x4 x5 x6 x7 x8 y : EReal)
    = mix (x0 (ix2 (y 0) (y 1))) (x1 (ix2 (y 0) (y 1))) (x2 (ix2 (y 0) (y 1))) (dot (fun k => x3 (ix2 (y 0) k)) (fun k => x6 (ix2 k (y 1))))
        (dot (fun k => x4 (ix2 (y 0) k)) (fun k => x7 (ix2 k (y 1)))) (dot (fun k => x5 (ix2 (y 0) k)) (fun k => x8 (ix2 k (y 1)))) := by
  unfold mix
  rw [← Gate.sig_eq, ← Gate.sig_eq, ← Gate.sig_eq]
  unfold out0_9 dot Gate.sigK
  canon_tiles z h
  open_payloads
  pointwise []
  obtain rfl : y = z := by funext a; fin_cases a <;> exact Fin.ext (by assumption)
  rfl

section
variable (p : FVec Ideal Cert.Reference20Ideal.S4096x13312 .f32) (a : FVec Ideal S4096x1024 .bf16) (b d : FVec Ideal Cert.Reference20Ideal.S4096x512 .bf16)
  (u : FVec Ideal S1024x1024 .bf16) (v w : FVec Ideal S512x1024 .bf16) (i : S4096x1024.Idx)

/-- The reference's first product at an element. -/
theorem r0 : (val_main_v2 (F := Ideal) a u i : EReal) = dot (fun k => a (ix2 (i 0) k)) (fun k => u (ix2 k (i 1))) := by
  pointwise [dot, val_main_v2, val_main_v1, val_main_v0]

/-- The reference's second product at an element. -/
theorem r1 : (val_main_v5 (F := Ideal) b v i : EReal) = dot (fun k => b (ix2 (i 0) k)) (fun k => v (ix2 k (i 1))) := by
  pointwise [dot, val_main_v5, val_main_v4, val_main_v3]

/-- The reference's third product at an element. -/
theorem r2 : (val_main_v8 (F := Ideal) d w i : EReal) = dot (fun k => d (ix2 (i 0) k)) (fun k => w (ix2 k (i 1))) := by
  pointwise [dot, val_main_v8, val_main_v7, val_main_v6]

/-- The reference's first gate at an element. -/
theorem r_g0 : (val_main_v17 (F := Ideal) p i : EReal) = Gate.sigR (p (ix2 (i 0) (gcol 0 (i 1)))) := by
  pointwise [Gate.sigR, gcol, val_main_v17, val_main_v16, val_main_v15, val_main_v14, val_main_v13, val_main_v12, val_main_v9, val_main_cst, val_main_cst_0]

/-- The reference's second gate at an element. -/
theorem r_g1 : (val_main_v26 (F := Ideal) p i : EReal) = Gate.sigR (p (ix2 (i 0) (gcol 1 (i 1)))) := by
  pointwise [Gate.sigR, gcol, val_main_v26, val_main_v25, val_main_v24, val_main_v23, val_main_v22, val_main_v21, val_main_v10, val_main_cst_2, val_main_cst_3]

/-- The reference's third gate at an element. -/
theorem r_g2 : (val_main_v34 (F := Ideal) p i : EReal) = Gate.sigR (p (ix2 (i 0) (gcol 2 (i 1)))) := by
  pointwise [Gate.sigR, gcol, val_main_v34, val_main_v33, val_main_v32, val_main_v31, val_main_v30, val_main_v29, val_main_v11, val_main_cst_4, val_main_cst_5]

/-- The reference's gated sum at an element. -/
theorem r_mix : (val_main_v37 (F := Ideal) p a b d u v w i : EReal)
    = mix (p (ix2 (i 0) (gcol 0 (i 1)))) (p (ix2 (i 0) (gcol 1 (i 1)))) (p (ix2 (i 0) (gcol 2 (i 1))))
        (dot (fun k => a (ix2 (i 0) k)) (fun k => u (ix2 k (i 1)))) (dot (fun k => b (ix2 (i 0) k)) (fun k => v (ix2 k (i 1))))
        (dot (fun k => d (ix2 (i 0) k)) (fun k => w (ix2 k (i 1)))) := by
  rw [val_main_v37_apply, val_main_v36_apply, val_main_v35_apply, val_main_v28_apply, val_main_v27_apply, val_main_v20_apply, val_main_v18_apply,
    val_main_v19_apply, val_main_cst_1_apply, r0, r1, r2, r_g0, r_g1, r_g2]
  unfold mix
  generalize dot (fun k => a (ix2 (i 0) k)) (fun k => u (ix2 k (i 1))) = t0
  generalize dot (fun k => b (ix2 (i 0) k)) (fun k => v (ix2 k (i 1))) = t1
  generalize dot (fun k => d (ix2 (i 0) k)) (fun k => w (ix2 k (i 1))) = t2
  generalize Gate.sigR _ = s0
  generalize Gate.sigR (p (ix2 (i 0) (gcol 1 (i 1)))) = s1
  generalize Gate.sigR (p (ix2 (i 0) (gcol 2 (i 1)))) = s2
  refine Eq.trans (b := (Ideal.ofBits .f32 0x00000000#32 + s0 * t0) + s1 * t1 + s2 * t2) rfl ?_
  rw [Ideal.ofBits_zero_f32, zero_add]
end

variable (m : (ℓ : Loc nD τ sig) → Buf (Elt Ideal) ℓ) (c : Dev nD)

/-- The array of the first branch's product is the reference's. -/
theorem final10 :
    (dats m 0 c).arrAt 10 cfg0.N
      = val_main_v38 (F := Ideal) (m ((c : Thread nD τ).loc main_arg1)) (m ((c : Thread nD τ).loc main_arg4)) := by
  refine (dats m 0 c).arrAt_eq_of_covers 10 _ (by decide +kernel) fun t hf y => ?_
  blk_simp
  rw [after0_10]
  refine (out10 _ _ _ _ _ _ _ _ _ y).trans (Eq.trans ?_ ((val_main_v38_apply _ _ _).trans (r0 _ _ _)).symm)
  have e0 : ∀ k : Fin 1024, iblk m c 3 t (ix2 (y 0) k) = m ((c : Thread nD τ).loc main_arg1) (ix2 (((win0_10.blk t).view.emb y) 0) k) := by
    intro k; blk_point [iblk, V, idx t]
  have e1 : ∀ k : Fin 1024, iblk m c 6 t (ix2 k (y 1)) = m ((c : Thread nD τ).loc main_arg4) (ix2 k (((win0_10.blk t).view.emb y) 1)) := by
    intro k; blk_point [iblk, V, idx t]
  simp only [e0, e1]

/-- The array of the second branch's product is the reference's. -/
theorem final11 :
    (dats m 0 c).arrAt 11 cfg0.N
      = val_main_v39 (F := Ideal) (m ((c : Thread nD τ).loc main_arg2)) (m ((c : Thread nD τ).loc main_arg5)) := by
  refine (dats m 0 c).arrAt_eq_of_covers 11 _ (by decide +kernel) fun t hf y => ?_
  blk_simp
  rw [after0_11]
  refine (out11 _ _ _ _ _ _ _ _ _ y).trans (Eq.trans ?_ ((val_main_v39_apply _ _ _).trans (r1 _ _ _)).symm)
  have e0 : ∀ k : Fin 512, iblk m c 4 t (ix2 (y 0) k) = m ((c : Thread nD τ).loc main_arg2) (ix2 (((win0_11.blk t).view.emb y) 0) k) := by
    intro k; blk_point [iblk, V, idx t]
  have e1 : ∀ k : Fin 512, iblk m c 7 t (ix2 k (y 1)) = m ((c : Thread nD τ).loc main_arg5) (ix2 k (((win0_11.blk t).view.emb y) 1)) := by
    intro k; blk_point [iblk, V, idx t]
  simp only [e0, e1]

/-- The array of the third branch's product is the reference's. -/
theorem final12 :
    (dats m 0 c).arrAt 12 cfg0.N
      = val_main_v40 (F := Ideal) (m ((c : Thread nD τ).loc main_arg3)) (m ((c : Thread nD τ).loc main_arg6)) := by
  refine (dats m 0 c).arrAt_eq_of_covers 12 _ (by decide +kernel) fun t hf y => ?_
  blk_simp
  rw [after0_12]
  refine (out12 _ _ _ _ _ _ _ _ _ y).trans (Eq.trans ?_ ((val_main_v40_apply _ _ _).trans (r2 _ _ _)).symm)
  have e0 : ∀ k : Fin 512, iblk m c 5 t (ix2 (y 0) k) = m ((c : Thread nD τ).loc main_arg3) (ix2 (((win0_12.blk t).view.emb y) 0) k) := by
    intro k; blk_point [iblk, V, idx t]
  have e1 : ∀ k : Fin 512, iblk m c 8 t (ix2 k (y 1)) = m ((c : Thread nD τ).loc main_arg6) (ix2 k (((win0_12.blk t).view.emb y) 1)) := by
    intro k; blk_point [iblk, V, idx t]
  simp only [e0, e1]

/-- The array of the gated sum is the reference's. -/
theorem final9 :
    (dats m 0 c).arrAt 9 cfg0.N
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  refine (out9 _ _ _ _ _ _ _ _ _ y).trans (Eq.trans ?_ (r_mix _ _ _ _ _ _ _ _).symm)
  have l0 : ∀ k : Fin 1024, iblk m c 3 t (ix2 (y 0) k) = m ((c : Thread nD τ).loc main_arg1) (ix2 (((win0_9.blk t).view.emb y) 0) k) := by
    intro k; blk_point [iblk, V, idx t]
  have w0 : ∀ k : Fin 1024, iblk m c 6 t (ix2 k (y 1)) = m ((c : Thread nD τ).loc main_arg4) (ix2 k (((win0_9.blk t).view.emb y) 1)) := by
    intro k; blk_point [iblk, V, idx t]
  have l1 : ∀ k : Fin 512, iblk m c 4 t (ix2 (y 0) k) = m ((c : Thread nD τ).loc main_arg2) (ix2 (((win0_9.blk t).view.emb y) 0) k) := by
    intro k; blk_point [iblk, V, idx t]
  have w1 : ∀ k : Fin 512, iblk m c 7 t (ix2 k (y 1)) = m ((c : Thread nD τ).loc main_arg5) (ix2 k (((win0_9.blk t).view.emb y) 1)) := by
    intro k; blk_point [iblk, V, idx t]
  have l2 : ∀ k : Fin 512, iblk m c 5 t (ix2 (y 0) k) = m ((c : Thread nD τ).loc main_arg3) (ix2 (((win0_9.blk t).view.emb y) 0) k) := by
    intro k; blk_point [iblk, V, idx t]
  have w2 : ∀ k : Fin 512, iblk m c 8 t (ix2 k (y 1)) = m ((c : Thread nD τ).loc main_arg6) (ix2 k (((win0_9.blk t).view.emb y) 1)) := by
    intro k; blk_point [iblk, V, idx t]
  have g0 : iblk m c 0 t (ix2 (y 0) (y 1)) = m ((c : Thread nD τ).loc main_arg0) (ix2 (((win0_9.blk t).view.emb y) 0) (gcol 0 (((win0_9.blk t).view.emb y) 1))) := by
    blk_point [iblk, V, idx t, gcol]
  have g1 : iblk m c 1 t (ix2 (y 0) (y 1)) = m ((c : Thread nD τ).loc main_arg0) (ix2 (((win0_9.blk t).view.emb y) 0) (gcol 1 (((win0_9.blk t).view.emb y) 1))) := by
    blk_point [iblk, V, idx t, gcol]
  have g2 : iblk m c 2 t (ix2 (y 0) (y 1)) = m ((c : Thread nD τ).loc main_arg0) (ix2 (((win0_9.blk t).view.emb y) 0) (gcol 2 (((win0_9.blk t).view.emb y) 1))) := by
    blk_point [iblk, V, idx t, gcol]
  simp only [l0, w0, l1, w1, l2, w2]
  rw [g0, g1, g2]
end Cert.Merge

end
-- ==== Proof.Table.lean ====
/- The table of lower bounds (`lb_table`): the first of two rows after a softmax over the rows. -/
module

public import proofs.«01_k».proof.Proof.MemRef
public import proofs.«01_k».proof.Proof.Gen.Kernel21Ideal.Value
public import proofs.«01_k».proof.Proof.Gen.Reference21Ideal.Read

@[expose] public section

set_option maxRecDepth 16384

noncomputable section

namespace Cert.Table

open Cert.Kernel21Ideal Cert.Kernel21Ideal.Gen Idealize.ShloMosaic Idealize.ShloMosaic.TcCoe Idealize.SL.Sem
open Idealize.ShloMosaic.Pipeline (Dat)
open Cert.Reference21Ideal.Read

/-- The one grid point names both arrays whole. -/
theorem idx : ∀ t : Fin cfg0.N, win0_0.index t = ![0, 0] ∧ win0_1.index t = ![0, 0] :=
  (by decide +kernel : ∀ t : Fin grid0.N, _)

/-- The first of two shares of a softmax, the larger of the two and minus infinity taken off both. -/
def share (x : Fin 2 → EReal) : EReal :=
  Ideal.div (Ideal.exp (x 0 - Finset.univ.fold max (⊥ : EReal) x)) (∑ k, Ideal.exp (x k - Finset.univ.fold max (⊥ : EReal) x))

/-- What the body leaves in the block. -/
theorem out1 (x : FVec Ideal S2x1024 .f32) (y : S1x1024.Idx) :
    (out0_1 (F := Ideal) x y : EReal) = share (fun k => x (ix2 k (y 1))) := by
  unfold out0_1 share
  canon_tiles z h
  open_payloads
  pointwise []
  obtain rfl : y = z := by funext a; fin_cases a <;> exact Fin.ext (by assumption)
  rfl

/-- The reference's largest of a column. -/
theorem r_max (x : FVec Ideal S2x1024 .f32) (j : Fin 1024) :
    (val_main_v2 (F := Ideal) x (ix1 j) : EReal) = Finset.univ.fold max (⊥ : EReal) (fun k => x (ix2 k j)) := by
  have e : val_main_v1 (F := Ideal) (ix1 j) = (⊥ : EReal) := (val_main_v1_apply _).trans Reals.word_bot
  rw [val_main_v2_apply, e]
  refine (max_eq_right bot_le).trans ?_
  unfold val_main_v0
  rw [Host.reduce_eq_fold, Shape.ReducesTo.fold_fiber_r2_a0]
  exact congrArg (fun z => Finset.univ.fold max z (fun k => x (ix2 k j))) Reals.word_bot

/-- The reference's array at an element. -/
theorem ref (x : FVec Ideal S2x1024 .f32) (i : S1x1024.Idx) :
    (val_main_v11 (F := Ideal) x i : EReal) = share (fun k => x (ix2 k (i 1))) := by
  obtain ⟨p, q, rfl⟩ : ∃ (p : Fin 1) (q : Fin 1024), i = ix2 p q := ⟨i 0, i 1, by funext z; fin_cases z <;> rfl⟩
  have e := r_max x q
  unfold share
  refine Eq.trans ?_ (congrArg (fun t => Ideal.div (Ideal.exp (x (ix2 0 q) - t)) (∑ k : Fin 2, Ideal.exp (x (ix2 k q) - t))) e)
  pointwise [val_main_v11, val_main_v10, val_main_v9, val_main_v8, val_main_v7, val_main_v6, val_main_v5, val_main_v4, val_main_v3, val_main_cst_1]

/-- The kernel's array is the reference's. -/
theorem final1 (m : (ℓ : Loc nD τ sig) → Buf (Elt Ideal) ℓ) (c : Dev nD) :
    (dats m 0 c).arrAt 1 cfg0.N = val_main_v11 (F := Ideal) (m ((c : Thread nD τ).loc main_arg0)) := by
  refine (dats m 0 c).arrAt_eq_of_covers 1 _ (by decide +kernel) fun t hf y => ?_
  blk_simp
  rw [after0_1]
  refine (out1 _ y).trans (Eq.trans ?_ (ref _ _).symm)
  have e0 : ∀ k : Fin 2, iblk m c 0 t (ix2 k (y 1)) = m ((c : Thread nD τ).loc main_arg0) (ix2 k (((win0_1.blk t).view.emb y) 1)) := by
    intro k; blk_point [iblk, V, idx t]
  simp only [e0]

end Cert.Table

end
-- ==== Proof.GlaRun.lean ====
module
public import proofs.«01_k».proof.Proof.Gen.Kernel15Ideal.Loops
public import proofs.«01_k».proof.Proof.Gen.Kernel15Ideal.Frame
public import Idealize.ShloMosaic.Lib.Claim

@[expose] public section

set_option maxRecDepth 16384

noncomputable section

namespace Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Cert.Kernel15Ideal Cert.Kernel15Ideal.Gen

variable {F : FTy → Type} [FloatOps F]

local notation "𝕄" => MT nD τ sig Unit (Elt F) ℕ (UR sig nD τ) ℕ

/-- The body's branch condition on the first direction. -/
abbrev onFirst (i : grid0.Coords) : Prop := (Scalar.cmpi .ne (Scalar.extui (Scalar.cmpi .eq (BitVec.ofNat 32 (i 1).val) 0#32)) 0#32) = 1#1
/-- The body's branch condition on the second direction. -/
abbrev onSecond (i : grid0.Coords) : Prop := (Scalar.cmpi .ne (Scalar.extui (Scalar.cmpi .eq (BitVec.ofNat 32 (i 1).val) 1#32)) 0#32) = 1#1

/-- What the body is given and gives back: its inputs at their contents, its outputs and its scratch at these. -/
abbrev held (c : Dev nD) (arg2 : Memref sig .tc .vmem S4096x128 .f32) (arg3 : Memref sig .tc .vmem S4096x128 .f32) (arg4 : Memref sig .tc .vmem S4096x128 .f32) (arg5 : Memref sig .tc .vmem S4096x128 .f32) (arg6 : Memref sig .tc .vmem S1x1x1x128 .f32) (arg7 : Memref sig .tc .vmem S1x128 .f32) (arg8 : Memref sig .tc .vmem S1x4096x128 .f32) (arg9 : Memref sig .tc .vmem S4096x128 .bf16) (arg10 : Memref sig .tc .vmem S4096x128 .f32) (arg11 : Memref sig .tc .vmem S1x1x64x128x128 .f32) (arg12 : Memref sig .tc .vmem S1x4096x128 .bf16) (arg13 : Memref sig .tc .vmem S1x1x64x8x128 .f32) (arg14 : Memref sig .tc .vmem S64x128x128 .f32)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

set_option maxHeartbeats 4000000 in
/-- The whole body on the first direction: what it leaves in each output and in the scratch is what the run finds. -/
noncomputable def first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x1x128 .f32) (harg6 : arg6.IsWhole) (arg7 : Memref sig .tc .vmem S1x128 .f32) (harg7 : arg7.IsWhole) (arg8 : Memref sig .tc .vmem S1x4096x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S1x1x64x128x128 .f32) (harg11 : arg11.IsWhole) (arg12 : Memref sig .tc .vmem S1x4096x128 .bf16) (harg12 : arg12.IsWhole) (arg13 : Memref sig .tc .vmem S1x1x64x8x128 .f32) (harg13 : arg13.IsWhole) (arg14 : Memref sig .tc .vmem S64x128x128 .f32) (harg14 : arg14.IsWhole) (hc0 : onFirst i) (hc1 : ¬onSecond i) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) :
    Σ' (N9 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg9.view.ty) (N10 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty) (N11 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty) (N12 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg12.view.ty) (N13 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg13.view.ty) (N14 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty), ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      iprop(held c arg2 arg3 arg4 arg5 arg6 arg7 arg8 arg9 arg10 arg11 arg12 arg13 arg14 x2 x3 x4 x5 x6 x7 x8 f9 f10 f11 f12 f13 f14
        ∗ (held c arg2 arg3 arg4 arg5 arg6 arg7 arg8 arg9 arg10 arg11 arg12 arg13 arg14 x2 x3 x4 x5 x6 x7 x8 (N9 f9 f10 f11 f12 f13 f14) (N10 f9 f10 f11 f12 f13 f14) (N11 f9 f10 f11 f12 f13 f14) (N12 f9 f10 f11 f12 f13 f14) (N13 f9 f10 f11 f12 f13 f14) (N14 f9 f10 f11 f12 f13 f14) -∗ K ⟨⟩))
      ⊢ wp frame (wpE (defs₀ (F := F)) Variants.none c none) E (cc0_gla_fwd i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, ?_, ?_, ?_, fun E f9 f10 f11 f12 f13 f14 K => ?run⟩
  case run =>
    simp only [cc0_gla_fwd_eq_skeleton]; unfold cc0_gla_fwd_skel
    iintro ⟨⟨H2, H3, H4, H5, H6, H7, H8, H9, H10, H11, H12, H13, H14⟩, Hk⟩
    sl_exec (disch := first | sl_exact hc0 | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The whole body on the second direction: what it leaves in each output and in the scratch is what the run finds. -/
noncomputable def second (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x1x128 .f32) (harg6 : arg6.IsWhole) (arg7 : Memref sig .tc .vmem S1x128 .f32) (harg7 : arg7.IsWhole) (arg8 : Memref sig .tc .vmem S1x4096x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S1x1x64x128x128 .f32) (harg11 : arg11.IsWhole) (arg12 : Memref sig .tc .vmem S1x4096x128 .bf16) (harg12 : arg12.IsWhole) (arg13 : Memref sig .tc .vmem S1x1x64x8x128 .f32) (harg13 : arg13.IsWhole) (arg14 : Memref sig .tc .vmem S64x128x128 .f32) (harg14 : arg14.IsWhole) (hc0 : ¬onFirst i) (hc1 : onSecond i) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) :
    Σ' (N9 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg9.view.ty) (N10 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty) (N11 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty) (N12 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg12.view.ty) (N13 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg13.view.ty) (N14 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty), ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      iprop(held c arg2 arg3 arg4 arg5 arg6 arg7 arg8 arg9 arg10 arg11 arg12 arg13 arg14 x2 x3 x4 x5 x6 x7 x8 f9 f10 f11 f12 f13 f14
        ∗ (held c arg2 arg3 arg4 arg5 arg6 arg7 arg8 arg9 arg10 arg11 arg12 arg13 arg14 x2 x3 x4 x5 x6 x7 x8 (N9 f9 f10 f11 f12 f13 f14) (N10 f9 f10 f11 f12 f13 f14) (N11 f9 f10 f11 f12 f13 f14) (N12 f9 f10 f11 f12 f13 f14) (N13 f9 f10 f11 f12 f13 f14) (N14 f9 f10 f11 f12 f13 f14) -∗ K ⟨⟩))
      ⊢ wp frame (wpE (defs₀ (F := F)) Variants.none c none) E (cc0_gla_fwd i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, ?_, ?_, ?_, fun E f9 f10 f11 f12 f13 f14 K => ?run⟩
  case run =>
    simp only [cc0_gla_fwd_eq_skeleton]; unfold cc0_gla_fwd_skel
    iintro ⟨⟨H2, H3, H4, H5, H6, H7, H8, H9, H10, H11, H12, H13, H14⟩, Hk⟩
    sl_exec (disch := first | sl_exact hc0 | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Gla

end
-- ==== Proof.GlaBlock.lean ====
/- One block of 256 rows of the gated recurrence, as the kernel's body computes it: what each stored value is, at one element. -/
module

public import proofs.«01_k».proof.Proof.Gate
public import proofs.«01_k».proof.Proof.MemPiece
public import proofs.«01_k».proof.Proof.GlaRun

@[expose] public section

set_option maxRecDepth 16384

noncomputable section

namespace Gla

open Idealize.ShloMosaic Idealize.ShloMosaic.TcCoe
open Cert.Kernel15Ideal Cert.Kernel15Ideal.Gen Cert.Reals

/-- A query after its gate, scaled. -/
def gated (q : EReal) : EReal := q * Cert.Gate.sigK q * Ideal.ofBits .f32 0x3DB504F3#32

/-- A key, from the forget gate's logit and its lower bound. -/
def kept (l f : EReal) : EReal := 1 - (l + (1 - l) * Cert.Gate.sigK f)

theorem p_q (q : FVec Ideal S256x128 .f32) (r : Fin 256) (l : Fin 128) : k0_pay25 (F := Ideal) q (ix2 r l) = gated (q (ix2 r l)) := by
  pointwise [k0_pay25]
  rfl

theorem p_k (lb : FVec Ideal S1x1x1x128 .f32) (f : FVec Ideal S256x128 .f32) (r : Fin 256) (l : Fin 128) :
    k0_pay26 (F := Ideal) (k0_pay2 lb) f (ix2 r l) = kept (lb (ix4 0 0 0 l)) (f (ix2 r l)) := by
  pointwise [k0_pay26, k0_pay2]
  rfl

/-- The row of a block of 256 whose running sum is its chunk's whole sum: the chunk's last row, or its first when time
    runs backwards. -/
def endRow (d : Fin 2) (r : Fin 256) : Fin 256 := if d = 0 then ⟨64 * (r.val / 64) + 63, by omega⟩ else ⟨64 * (r.val / 64), by omega⟩

/-- The sums of the chunks, as the body lays them over a block. -/
abbrev sums (d : Fin 2) (b : FVec Ideal S256x128 .f32) : FVec Ideal S256x128 .f32 :=
  k0_pay30 (F := Ideal) (BitVec.ofNat 32 d) b (k0_pay27 (BitVec.ofNat 32 d) b) (k0_pay28 (BitVec.ofNat 32 d) b) (k0_pay29 (BitVec.ofNat 32 d) b)

theorem p_sums (d : Fin 2) (b : FVec Ideal S256x128 .f32) (r : Fin 256) (l : Fin 128) :
    sums d b (ix2 r l) = b (ix2 (endRow d r) l) := by
  have hr : r.val < 64 ∨ (64 ≤ r.val ∧ r.val < 128) ∨ (128 ≤ r.val ∧ r.val < 192) ∨ (192 ≤ r.val ∧ r.val < 256) := by omega
  unfold sums endRow
  fin_cases d <;>
  · pointwise [k0_pay30, k0_pay27, k0_pay28, k0_pay29]
    rcases hr with h | h | h | h
    · rw [dif_pos (by omega)]
      exact congrArg b (congrArg (ix2 · l) (Fin.ext (by simp; omega)))
    · rw [dif_neg (by omega), dif_pos (by omega)]
      exact congrArg b (congrArg (ix2 · l) (Fin.ext (by simp; omega)))
    · rw [dif_neg (by omega), dif_neg (by omega), dif_pos (by omega)]
      exact congrArg b (congrArg (ix2 · l) (Fin.ext (by simp; omega)))
    · rw [dif_neg (by omega), dif_neg (by omega), dif_neg (by omega)]
      exact congrArg b (congrArg (ix2 · l) (Fin.ext (by simp; omega)))

/-- The rows that a row attends to: those of its chunk that are not later in time. -/
def live (d : Fin 2) (r s : Fin 256) : Prop := r.val / 64 = s.val / 64 ∧ if d = 0 then s ≤ r else r ≤ s

instance (d : Fin 2) (r s : Fin 256) : Decidable (live d r s) := by unfold live; infer_instance

/-- The mask the body compares row numbers for. -/
abbrev mask (d : Fin 2) : IVec S256x256 1 :=
  k0_pay1 (BitVec.ofNat 32 d) first.sl.v0 first.sl.v1 first.sl.v25 (divsi first.sl.v1 first.sl.v2) first.sl.v41 (remsi first.sl.v1 first.sl.v2) first.sl.v4

/-- Division of a row number by 64, as the body spells it for signed numbers. -/
theorem div64 : ∀ r : Fin 256, Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32))) 1#32)
      (IntOp.cmpi CmpIPredicate.ne (IntOp.remsi ArithUnit.vector (BitVec.ofNat 32 r) 64#32) 0#32))
    (IntOp.subi (IntOp.divsi ArithUnit.vector (BitVec.ofNat 32 r) 64#32) 1#32)
    (IntOp.divsi ArithUnit.vector (BitVec.ofNat 32 r) 64#32) = BitVec.ofNat 32 (r / 64) := by decide +kernel

theorem same64 : ∀ a b : Fin 4, IntOp.cmpi CmpIPredicate.eq (BitVec.ofNat 32 a) (BitVec.ofNat 32 b) = if a = b then 1#1 else 0#1 := by decide +kernel

theorem sub_sge (r s : Fin 256) : IntOp.cmpi CmpIPredicate.sge (IntOp.subi (BitVec.ofNat 32 r) (BitVec.ofNat 32 s)) 0#32 = if s ≤ r then 1#1 else 0#1 := by
  revert r s
  decide +kernel

theorem p_mask (d : Fin 2) (r s : Fin 256) : mask d (ix2 r s) = if live d r s then 1#1 else 0#1 := by
  have hs := same64 ⟨r / 64, by omega⟩ ⟨s / 64, by omega⟩
  simp only [Fin.mk.injEq] at hs
  unfold mask live
  fin_cases d <;>
  · pointwise [k0_pay1, first.sl.v0, first.sl.v1, first.sl.v25, first.sl.v2, first.sl.v41, first.sl.v4, first.sl.v17, first.sl.v21, first.sl.v24, first.sl.v30, first.sl.v33, first.sl.v16, first.sl.v6, first.sl.v9]
    rw [div64, div64, hs]
    first
    | rw [sub_sge]
    | (rw [show (Scalar.cmpi CmpIPredicate.eq 1#32 0#32) = 0#1 from rfl]
       show IntOp.andi _ (IntOp.cmpi CmpIPredicate.sge (IntOp.subi (BitVec.ofNat 32 s) (BitVec.ofNat 32 r)) 0#32) = _
       rw [sub_sge])
    by_cases h1 : r.val / 64 = s.val / 64 <;> simp [h1] <;> split_ifs <;> rfl

/-- The keys' part of a chunk's new state. -/
abbrev rest (d : Fin 2) (b k : FVec Ideal S256x128 .f32) : FVec Ideal S256x128 .f32 :=
  k0_pay32 (F := Ideal) (BitVec.ofNat 32 d) b k (k0_pay27 (BitVec.ofNat 32 d) b) (k0_pay28 (BitVec.ofNat 32 d) b) (k0_pay29 (BitVec.ofNat 32 d) b)

theorem p_rest (d : Fin 2) (b k : FVec Ideal S256x128 .f32) (r : Fin 256) (l : Fin 128) :
    rest d b k (ix2 r l) = k (ix2 r l) * Ideal.exp (b (ix2 (endRow d r) l) - b (ix2 r l)) := by
  rw [← p_sums d b r l]
  unfold rest
  pointwise [k0_pay32]

theorem p_qt (b q : FVec Ideal S256x128 .f32) (r : Fin 256) (l : Fin 128) :
    k0_pay42 (F := Ideal) (k0_pay31 b q) (ix2 r l) = q (ix2 r l) * Ideal.exp (b (ix2 r l)) := by
  pointwise [k0_pay42, k0_pay31]

/-- The part of the output that comes from a row's own chunk, added to what stood there. -/
theorem p_o (d : Fin 2) (v o b q k : FVec Ideal S256x128 .f32) (r : Fin 256) (l : Fin 128) :
    k0_pay33 (F := Ideal) (mask d) v o b q k (ix2 r l)
      = o (ix2 r l) + ∑ s : Fin 256, if live d r s then (∑ j : Fin 128, q (ix2 r j) * Ideal.exp (b (ix2 r j)) * (k (ix2 s j) * Ideal.exp (0 - b (ix2 s j)))) * v (ix2 s l) else 0 := by
  pointwise [k0_pay33, k0_pay31]
  simp only [p_mask]
  refine congrArg _ (Finset.sum_congr rfl fun s _ => ?_)
  by_cases h : live d r s <;> simp [h, Scalar.select]

/-- A chunk's row in its block. -/
abbrev chunkRow (j : Fin 4) (s : Fin 64) : Fin 256 := ⟨64 * j + s, by omega⟩

/-- What a chunk adds to the state: the products of its values and its keys. -/
def adds (d : Fin 2) (v b k : FVec Ideal S256x128 .f32) (j : Fin 4) (a l : Fin 128) : EReal :=
  ∑ s : Fin 64, v (ix2 (chunkRow j s) a) * rest d b k (ix2 (chunkRow j s) l)

theorem p_c0 (d : Fin 2) (v b k : FVec Ideal S256x128 .f32) (a l : Fin 128) :
    k0_pay34 (F := Ideal) (BitVec.ofNat 32 d) v b k (k0_pay27 (BitVec.ofNat 32 d) b) (k0_pay28 (BitVec.ofNat 32 d) b) (k0_pay29 (BitVec.ofNat 32 d) b) (ix2 a l)
      = adds d v b k 0 a l := by
  unfold adds rest
  pointwise [k0_pay34]
  simp [chunkRow]

theorem p_c1 (d : Fin 2) (v b k : FVec Ideal S256x128 .f32) (a l : Fin 128) :
    k0_pay35 (F := Ideal) (BitVec.ofNat 32 d) v b k (k0_pay27 (BitVec.ofNat 32 d) b) (k0_pay28 (BitVec.ofNat 32 d) b) (k0_pay29 (BitVec.ofNat 32 d) b) (ix2 a l)
      = adds d v b k 1 a l := by
  unfold adds rest
  pointwise [k0_pay35]
  simp [chunkRow]

theorem p_c2 (d : Fin 2) (v b k : FVec Ideal S256x128 .f32) (a l : Fin 128) :
    k0_pay36 (F := Ideal) (BitVec.ofNat 32 d) v b k (k0_pay27 (BitVec.ofNat 32 d) b) (k0_pay28 (BitVec.ofNat 32 d) b) (k0_pay29 (BitVec.ofNat 32 d) b) (ix2 a l)
      = adds d v b k 2 a l := by
  unfold adds rest
  pointwise [k0_pay36]
  simp [chunkRow]

theorem p_c3 (d : Fin 2) (v b k : FVec Ideal S256x128 .f32) (a l : Fin 128) :
    k0_pay37 (F := Ideal) (BitVec.ofNat 32 d) v b k (k0_pay27 (BitVec.ofNat 32 d) b) (k0_pay28 (BitVec.ofNat 32 d) b) (k0_pay29 (BitVec.ofNat 32 d) b) (ix2 a l)
      = adds d v b k 3 a l := by
  unfold adds rest
  pointwise [k0_pay37]
  simp [chunkRow]

theorem p_d0 (d : Fin 2) (b : FVec Ideal S256x128 .f32) (a : Fin 8) (l : Fin 128) :
    k0_pay38 (F := Ideal) (BitVec.ofNat 32 d) b (k0_pay27 (BitVec.ofNat 32 d) b) (k0_pay28 (BitVec.ofNat 32 d) b) (k0_pay29 (BitVec.ofNat 32 d) b) (ix2 a l)
      = Ideal.exp (b (ix2 (endRow d (chunkRow 0 ⟨a, by omega⟩)) l)) := by
  rw [← p_sums d b (chunkRow 0 ⟨a, by omega⟩) l]
  unfold sums
  pointwise [k0_pay38]
  simp [chunkRow]

theorem p_d1 (d : Fin 2) (b : FVec Ideal S256x128 .f32) (a : Fin 8) (l : Fin 128) :
    k0_pay39 (F := Ideal) (BitVec.ofNat 32 d) b (k0_pay27 (BitVec.ofNat 32 d) b) (k0_pay28 (BitVec.ofNat 32 d) b) (k0_pay29 (BitVec.ofNat 32 d) b) (ix2 a l)
      = Ideal.exp (b (ix2 (endRow d (chunkRow 1 ⟨a, by omega⟩)) l)) := by
  rw [← p_sums d b (chunkRow 1 ⟨a, by omega⟩) l]
  unfold sums
  pointwise [k0_pay39]
  simp [chunkRow]

theorem p_d2 (d : Fin 2) (b : FVec Ideal S256x128 .f32) (a : Fin 8) (l : Fin 128) :
    k0_pay40 (F := Ideal) (BitVec.ofNat 32 d) b (k0_pay27 (BitVec.ofNat 32 d) b) (k0_pay28 (BitVec.ofNat 32 d) b) (k0_pay29 (BitVec.ofNat 32 d) b) (ix2 a l)
      = Ideal.exp (b (ix2 (endRow d (chunkRow 2 ⟨a, by omega⟩)) l)) := by
  rw [← p_sums d b (chunkRow 2 ⟨a, by omega⟩) l]
  unfold sums
  pointwise [k0_pay40]
  simp [chunkRow]

theorem p_d3 (d : Fin 2) (b : FVec Ideal S256x128 .f32) (a : Fin 8) (l : Fin 128) :
    k0_pay41 (F := Ideal) (sums d b) (ix2 a l)
      = Ideal.exp (b (ix2 (endRow d (chunkRow 3 ⟨a, by omega⟩)) l)) := by
  rw [← p_sums d b (chunkRow 3 ⟨a, by omega⟩) l]
  unfold sums
  pointwise [k0_pay41]
  simp [chunkRow]

theorem p_inter (o : FVec Ideal S64x128 .f32) (q : FVec Ideal S64x128 .bf16) (st : FVec Ideal S128x128 .f32) (r : Fin 64) (l : Fin 128) :
    k0_pay331 (F := Ideal) o q st (ix2 r l) = o (ix2 r l) + ∑ j : Fin 128, q (ix2 r j) * st (ix2 l j) := by
  pointwise [k0_pay331]

theorem p_next (st : FVec Ideal S128x128 .f32) (e : FVec Ideal S1x1x1x8x128 .f32) (cs : FVec Ideal S1x128x128 .f32) (a l : Fin 128) :
    k0_pay7 (F := Ideal) st e cs (ix2 a l) = st (ix2 a l) * e (ix5 0 0 0 0 l) + cs (ix3 0 a l) := by
  pointwise [k0_pay7]

end Gla
-- ==== Proof.DecayBlock.lean ====
/- The running sums of the logarithms over a chunk, of one block of four chunks. -/
module

public import proofs.«01_k».proof.Proof.GlaBlock
public import proofs.«01_k».proof.Proof.Gate
public import proofs.«01_k».proof.Proof.Gen.Kernel14Ideal.Frame

@[expose] public section

set_option maxRecDepth 16384

noncomputable section

namespace Decay

open Idealize.ShloMosaic Idealize.ShloMosaic.TcCoe
open Cert.Kernel14Ideal Cert.Kernel14Ideal.Gen Cert.Reals

/-- The logarithm of what a row keeps of the state, of a lower bound and the row's gate. -/
def lg (b f : EReal) : EReal := Ideal.log (b + (1 - b) * Cert.Gate.sigR f)

theorem sig_real (f : EReal) : ∃ s : ℝ, Cert.Gate.sigR f = (s : EReal) ∧ 0 ≤ s ∧ s ≤ 1 := by
  induction f with
  | bot => exact ⟨0, by rw [Cert.Gate.sigR_bot]; rfl, le_refl _, zero_le_one⟩
  | top => exact ⟨1, by rw [Cert.Gate.sigR_top]; rfl, zero_le_one, le_refl _⟩
  | coe a =>
    have e := Real.exp_pos (-a)
    exact ⟨_, Cert.Gate.sigR_coe a, by positivity, by rw [div_le_one (by positivity)]; linarith⟩

/-- It is below infinity where the lower bound is. -/
theorem lg_lt (b f : EReal) (h : b < ⊤) : lg b f ≠ ⊤ := by
  obtain ⟨s, hs, p, q⟩ := sig_real f
  unfold lg
  rw [hs]
  induction b with
  | bot => rw [EReal.bot_add, Ideal.log_bot]; exact bot_ne_top
  | top => exact absurd h (by simp)
  | coe β =>
    have : ((β : EReal) + (1 - (β : EReal)) * (s : EReal)) = ((β + (1 - β) * s : ℝ) : EReal) := by push_cast; rfl
    rw [this, Ideal.log_coe]
    split_ifs
    · exact bot_ne_top
    · exact EReal.coe_ne_top _

/-- The mask of a block: which rows a row's sum takes. -/
abbrev mask (d : Fin 2) : FVec Ideal S256x256 .bf16 :=
  k0_pay1 (F := Ideal) (BitVec.ofNat 32 d) (iota .tc S256x256 32 [0] iota_S256x256_d0_w32) (iota .tc S256x256 32 [1] iota_S256x256_d1_w32) k0_pay28 k0_pay29 k0_pay30 k0_pay31 k0_pay32

theorem p_mask (d : Fin 2) (r s : Fin 256) : mask d (ix2 r s) = if Gla.live d r s then 1 else 0 := by
  have hs := Gla.same64 ⟨r / 64, by omega⟩ ⟨s / 64, by omega⟩
  simp only [Fin.mk.injEq] at hs
  unfold mask Gla.live
  fin_cases d <;>
  · pointwise [k0_pay1, k0_pay28, k0_pay29, k0_pay30, k0_pay31, k0_pay32]
    rw [show Scalar.subi (Scalar.extui (Scalar.cmpi CmpIPredicate.sgt 64#32 0#32)) (Scalar.extui (Scalar.cmpi CmpIPredicate.slt 64#32 0#32)) = 1#32 from rfl, Gla.div64, Gla.div64, hs]
    first
    | rw [Gla.sub_sge]
    | (rw [show (Scalar.cmpi CmpIPredicate.eq 1#32 0#32) = 0#1 from rfl]
       show Scalar.select (IntOp.andi _ (IntOp.cmpi CmpIPredicate.sge (IntOp.subi (BitVec.ofNat 32 s) (BitVec.ofNat 32 r)) 0#32)) _ _ = _
       rw [Gla.sub_sge])
    by_cases h1 : r.val / 64 = s.val / 64 <;> simp [h1] <;> split_ifs <;> rfl

/-- A sum with no summand at infinity and one at minus infinity is minus infinity. -/
theorem sum_bot {n : ℕ} (x : Fin n → EReal) (i : Fin n) (hi : x i = ⊥) : (∑ j, x j) = ⊥ := by
  rw [← Finset.add_sum_erase _ _ (Finset.mem_univ i), hi, EReal.bot_add]

/-- The three terms add up to the sum, of numbers below infinity. -/
theorem three {n : ℕ} (p : Fin n → Prop) [DecidablePred p] (x : Fin n → EReal) (hx : ∀ i, x i ≠ ⊤) :
    (∑ i, (if p i then (1 : EReal) else 0) * (x i - x i - (x i - x i))) + (∑ i, (if p i then (1 : EReal) else 0) * (x i - x i)) + (∑ i, (if p i then (1 : EReal) else 0) * x i)
      = ∑ i, (if p i then (1 : EReal) else 0) * x i := by
  by_cases h : ∃ i, p i ∧ x i = ⊥
  · obtain ⟨i, hp, hi⟩ := h
    rw [sum_bot (fun i => (if p i then (1 : EReal) else 0) * x i) i (by simp [hp, hi]), EReal.add_bot]
  · have z : ∀ i, p i → x i - x i = 0 := fun i hp => EReal.sub_self (hx i) fun e => h ⟨i, hp, e⟩
    have a : ∀ i, (if p i then (1 : EReal) else 0) * (x i - x i) = 0 := fun i => by
      by_cases hp : p i
      · simp [z i hp]
      · simp [hp]
    have b : ∀ i, (if p i then (1 : EReal) else 0) * (x i - x i - (x i - x i)) = 0 := fun i => by
      by_cases hp : p i
      · simp [z i hp]
      · simp [hp]
    simp [a, b]

theorem p_sum (d : Fin 2) (lb : FVec Ideal S1x1x1x256 .f32) (f : FVec Ideal S256x256 .f32) (h : ∀ l : Fin 256, lb (ix4 0 0 0 l) < ⊤) (r l : Fin 256) :
    k0_pay7 (F := Ideal) (mask d) (k0_pay2 lb) f (ix2 r l) = ∑ s : Fin 256, if Gla.live d r s then lg (lb (ix4 0 0 0 l)) (f (ix2 s l)) else 0 := by
  have e : ∀ s : Fin 256, (if Gla.live d r s then lg (lb (ix4 0 0 0 l)) (f (ix2 s l)) else 0) = (if Gla.live d r s then (1 : EReal) else 0) * lg (lb (ix4 0 0 0 l)) (f (ix2 s l)) := fun s => by
    split_ifs <;> simp
  rw [Finset.sum_congr rfl fun s _ => e s, ← three _ _ fun s => lg_lt _ _ (h l)]
  simp only [← p_mask]
  unfold lg
  simp only [← Cert.Gate.sig_eq]
  generalize mask d = w
  pointwise [k0_pay7, k0_pay2]
  rfl

end Decay
-- ==== Proof.GlaTrip.lean ====
/- The first loop of the gated recurrence: two trips of eight blocks of 256 rows. Every piece that a trip stores is the
   restriction of one array, named here, to the piece's rows. -/
module

public import proofs.«01_k».proof.Proof.GlaBlock

@[expose] public section

set_option maxRecDepth 16384

noncomputable section

namespace Gla

open Idealize.ShloMosaic Idealize.ShloMosaic.TcCoe
open Cert.Kernel15Ideal Cert.Kernel15Ideal.Gen Cert.Reals

/-- What one head's recurrence in one direction runs over: gated queries, keys, values and the running sums of the
    logarithms within each chunk. -/
structure Inp where
  q : Fin 4096 → Fin 128 → EReal
  k : Fin 4096 → Fin 128 → EReal
  v : Fin 4096 → Fin 128 → EReal
  b : Fin 4096 → Fin 128 → EReal

/-- Row `s` of block `b`. -/
abbrev rowOf (b : Fin 16) (s : Fin 256) : Fin 4096 := ⟨256 * b + s, by omega⟩

/-- Row `s` of chunk `c`. -/
abbrev rowIn (c : Fin 64) (s : Fin 64) : Fin 4096 := ⟨64 * c + s, by omega⟩

/-- The row of a chunk that holds the chunk's whole sum. -/
def endOf (d : Fin 2) (c : Fin 64) : Fin 4096 := if d = 0 then rowIn c 63 else rowIn c 0

/-- The chunk of a row, and its block. -/
abbrev chunkOf (r : Fin 4096) : Fin 64 := ⟨r / 64, by omega⟩
abbrev blockOf (r : Fin 4096) : Fin 16 := ⟨r / 256, by omega⟩

/-- A query with its decay from the chunk's start; a key with its decay taken back; a key with its decay to the chunk's end. -/
def Inp.qt (X : Inp) (r : Fin 4096) (l : Fin 128) : EReal := X.q r l * Ideal.exp (X.b r l)
def Inp.kt (X : Inp) (r : Fin 4096) (l : Fin 128) : EReal := X.k r l * Ideal.exp (0 - X.b r l)
def Inp.kh (X : Inp) (d : Fin 2) (r : Fin 4096) (l : Fin 128) : EReal := X.k r l * Ideal.exp (X.b (endOf d (chunkOf r)) l - X.b r l)

/-- What a row receives from the rows of its block. -/
def Inp.intra (X : Inp) (d : Fin 2) (r : Fin 4096) (l : Fin 128) : EReal :=
  ∑ s : Fin 256, if live d ⟨r % 256, by omega⟩ s then (∑ j : Fin 128, X.qt r j * X.kt (rowOf (blockOf r) s) j) * X.v (rowOf (blockOf r) s) l else 0

/-- What a chunk adds to the state, and the decay over a chunk. -/
def Inp.add (X : Inp) (d : Fin 2) (c : Fin 64) (a l : Fin 128) : EReal := ∑ s : Fin 64, X.v (rowIn c s) a * X.kh d (rowIn c s) l
def Inp.dec (X : Inp) (d : Fin 2) (c : Fin 64) (l : Fin 128) : EReal := Ideal.exp (X.b (endOf d c) l)

/-- The rows of a block, of an array of rows and of one with a leading axis. -/
def blk (b : Fin 16) (X : S4096x128.Idx → EReal) : FVec Ideal S256x128 .f32 := fun y => X (ix2 (rowOf b (y 0)) (y 1))
def blk3 (b : Fin 16) (X : S1x4096x128.Idx → EReal) : FVec Ideal S256x128 .f32 := fun y => X (ix3 0 (rowOf b (y 0)) (y 1))

theorem read_blk (a : Memref sig .tc .vmem S4096x128 .f32) (x : BufTy.Contents (Elt Ideal) a.view.ty) (b : Fin 16) (off : Fin 2 → ℕ) (ho : off = ![256 * (b : ℕ), 0])
    (h : ∀ a, off a + S256x128.size a ≤ S4096x128.size a) :
    View.readAt (Elt Ideal) a.view (Rect.unit (s := S4096x128) off S256x128.size h).toLoadRect x = blk b (a.view.read (Elt Ideal) x) := by
  subst ho
  funext y
  refine congrArg (a.view.read (Elt Ideal) x) ?_
  funext j
  match j with
  | 0 => exact Fin.ext (by simp)
  | 1 => exact Fin.ext (by simp)

theorem cast2 (X : FVec Ideal S256x128 .f32) (hs : S256x128.ShapeCasts S256x128) : shapeCast S256x128 X hs = X := by
  funext y
  obtain ⟨r, l, rfl⟩ : ∃ (r : Fin 256) (l : Fin 128), y = ix2 r l := ⟨y 0, y 1, eq_ix2 y⟩
  pointwise []

theorem cast3 (X : FVec Ideal S1x256x128 .f32) (hs : S1x256x128.ShapeCasts S256x128) : shapeCast S256x128 X hs = fun y => X (ix3 0 (y 0) (y 1)) := by
  funext y
  obtain ⟨r, l, rfl⟩ : ∃ (r : Fin 256) (l : Fin 128), y = ix2 r l := ⟨y 0, y 1, eq_ix2 y⟩
  pointwise []

theorem read_blk3 (a : Memref sig .tc .vmem S1x4096x128 .f32) (x : BufTy.Contents (Elt Ideal) a.view.ty) (b : Fin 16) (off : Fin 3 → ℕ) (ho : off = ![0, 256 * (b : ℕ), 0])
    (h : ∀ a, off a + S1x256x128.size a ≤ S1x4096x128.size a) (hs : S1x256x128.ShapeCasts S256x128) :
    shapeCast S256x128 (View.readAt (Elt Ideal) a.view (Rect.unit (s := S1x4096x128) off S1x256x128.size h).toLoadRect x : FVec Ideal S1x256x128 .f32) hs = blk3 b (a.view.read (Elt Ideal) x) := by
  subst ho
  refine (cast3 _ hs).trans ?_
  funext y
  refine congrArg (a.view.read (Elt Ideal) x) ?_
  funext j
  match j with
  | 0 => exact Fin.ext (by simp)
  | 1 => exact Fin.ext (by simp)
  | 2 => exact Fin.ext (by simp)

/-- The recurrence that a grid point runs, from the blocks it reads. -/
abbrev inp (lb : S1x1x1x128.Idx → EReal) (Q F V : S4096x128.Idx → EReal) (B : S1x4096x128.Idx → EReal) : Inp where
  q r l := gated (Q (ix2 r l))
  k r l := kept (lb (ix4 0 0 0 l)) (F (ix2 r l))
  v r l := V (ix2 r l)
  b r l := B (ix3 0 r l)

/-- The output's rows after a block: what stood there and what the row receives from its block. -/
theorem piece_o (d : Fin 2) (mk : IVec S256x256 1) (hm : mk = mask d) (lb : FVec Ideal S1x1x1x128 .f32) (Q F V O : S4096x128.Idx → EReal)
    (B : S1x4096x128.Idx → EReal) (b : Fin 16) (r : Fin 256) (l : Fin 128) :
    k0_pay33 (F := Ideal) mk (blk b V) (blk b O) (blk3 b B) (k0_pay25 (blk b Q)) (k0_pay26 (k0_pay2 lb) (blk b F)) (ix2 r l)
      = O (ix2 (rowOf b r) l) + (inp lb Q F V B).intra d (rowOf b r) l := by
  subst hm
  rw [p_o]
  refine congrArg _ ?_
  unfold Inp.intra
  have e1 : (⟨(rowOf b r).val % 256, by omega⟩ : Fin 256) = r := Fin.ext (by simp [rowOf])
  have e2 : blockOf (rowOf b r) = b := Fin.ext (by simp [rowOf]; omega)
  rw [e2]
  refine Finset.sum_congr rfl fun s _ => ?_
  simp only [e1, p_q, p_k]
  rfl

/-- The sums of the chunks of a block are those of the array's chunks. -/
theorem end_eq (d : Fin 2) (b : Fin 16) (j : Fin 4) (s : Fin 64) : rowOf b (endRow d (chunkRow j s)) = endOf d ⟨4 * b + j, by omega⟩ := by
  unfold endRow endOf
  refine Fin.ext ?_
  split_ifs <;> simp [rowOf, rowIn, chunkRow] <;> omega

theorem piece_c (d : Fin 2) (lb : FVec Ideal S1x1x1x128 .f32) (Q F V : S4096x128.Idx → EReal) (B : S1x4096x128.Idx → EReal) (b : Fin 16) (j : Fin 4) (a l : Fin 128) :
    adds d (blk b V) (blk3 b B) (k0_pay26 (k0_pay2 lb) (blk b F)) j a l = (inp lb Q F V B).add d ⟨4 * b + j, by omega⟩ a l := by
  unfold adds Inp.add Inp.kh
  refine Finset.sum_congr rfl fun s _ => ?_
  have e1 : rowOf b (chunkRow j s) = rowIn ⟨4 * b + j, by omega⟩ s := Fin.ext (by simp [rowOf, rowIn, chunkRow]; omega)
  have e2 : chunkOf (rowIn ⟨4 * b + j, by omega⟩ s) = ⟨4 * b + j, by omega⟩ := Fin.ext (by simp [rowIn]; omega)
  rw [p_rest, p_k, e2, ← e1, ← end_eq d b j s]
  rfl

/-- The arrays after the first loop. The output: what stood there and what each row receives from its block. -/
def outO (X : Inp) (d : Fin 2) (O : S4096x128.Idx → EReal) (y : S4096x128.Idx) : EReal := O (ix2 (y 0) (y 1)) + X.intra d (y 0) (y 1)
/-- The queries with their decay. -/
def outQ (X : Inp) (y : S1x4096x128.Idx) : EReal := X.qt (y 1) (y 2)
/-- The decay over each chunk. -/
def outD (X : Inp) (d : Fin 2) (y : S1x1x64x8x128.Idx) : EReal := X.dec d (y 2) (y 4)
/-- What each chunk adds to the state. -/
def outC (X : Inp) (d : Fin 2) (y : S64x128x128.Idx) : EReal := X.add d (y 0) (y 1) (y 2)

/-- The block that way `w` of trip `k` takes. -/
abbrev wayOf (k : Fin k0_t1_loop.trips) (w : Fin 8) : Fin 16 := ⟨k.val + 2 * w, by have : k.val < 2 := lt_of_lt_of_eq k.isLt rfl; omega⟩

theorem off1_eq : ∀ (k : Fin k0_t1_loop.trips) (w : Fin 8), k0_off1 k (BitVec.ofNat 32 (2 * w.val)) = ![256 * (wayOf k w).val, 0] := by decide +kernel
theorem off2_eq : ∀ (k : Fin k0_t1_loop.trips) (w : Fin 8), k0_off2 k (BitVec.ofNat 32 (2 * w.val)) = ![0, 256 * (wayOf k w).val, 0] := by decide +kernel
theorem off3_eq : ∀ (k : Fin k0_t1_loop.trips) (w : Fin 8) (j : Fin 4), k0_off3 k (BitVec.ofNat 32 (2 * w.val)) (BitVec.ofNat 32 j.val) = ![4 * (wayOf k w).val + j.val, 0, 0] := by decide +kernel
theorem off4_eq : ∀ (k : Fin k0_t1_loop.trips) (w : Fin 8) (j : Fin 4), k0_off4 k (BitVec.ofNat 32 (2 * w.val)) (BitVec.ofNat 32 j.val) = ![0, 0, 4 * (wayOf k w).val + j.val, 0, 0] := by decide +kernel

/-- The rows of a way, as the body loads them. -/
abbrev rows (a : Memref sig .tc .vmem S4096x128 .f32) (x : BufTy.Contents (Elt Ideal) a.view.ty) (k : Fin k0_t1_loop.trips) (w : Fin 8) : FVec Ideal S256x128 .f32 :=
  View.readAt (Elt Ideal) a.view (Rect.unit (s := S4096x128) (k0_off1 k (BitVec.ofNat 32 (2 * w.val))) S256x128.size (k0_off1_inb k w)).toLoadRect x
abbrev rows3 (a : Memref sig .tc .vmem S1x4096x128 .f32) (x : BufTy.Contents (Elt Ideal) a.view.ty) (k : Fin k0_t1_loop.trips) (w : Fin 8) : FVec Ideal S256x128 .f32 :=
  shapeCast S256x128 (View.readAt (Elt Ideal) a.view (Rect.unit (s := S1x4096x128) (k0_off2 k (BitVec.ofNat 32 (2 * w.val))) S1x256x128.size (k0_off2_inb k w)).toLoadRect x : FVec Ideal S1x256x128 .f32) shapeCasts_S1x256x128_S256x128

theorem rows_eq (a : Memref sig .tc .vmem S4096x128 .f32) (x) (k) (w : Fin 8) : rows a x k w = blk (wayOf k w) (a.view.read (Elt Ideal) x) :=
  read_blk a x (wayOf k w) _ (off1_eq k w) _
theorem rows3_eq (a : Memref sig .tc .vmem S1x4096x128 .f32) (x) (k) (w : Fin 8) : rows3 a x k w = blk3 (wayOf k w) (a.view.read (Elt Ideal) x) :=
  read_blk3 a x (wayOf k w) _ (off2_eq k w) _ _

section
variable {a2 a3 a4 a10 : Memref sig .tc .vmem S4096x128 .f32} {a8 : Memref sig .tc .vmem S1x4096x128 .f32}
  (x2 : BufTy.Contents (Elt Ideal) a2.view.ty) (x3 : BufTy.Contents (Elt Ideal) a3.view.ty) (x4 : BufTy.Contents (Elt Ideal) a4.view.ty) (x8 : BufTy.Contents (Elt Ideal) a8.view.ty) (d : Fin 2) (v58 : FVec Ideal S1x1x1x128 .f32) (k : Fin k0_t1_loop.trips) (w : Fin 8)

/-- The recurrence that the blocks a grid point holds make up. -/
abbrev runs : Inp := inp v58 (a2.view.read (Elt Ideal) x2) (a3.view.read (Elt Ideal) x3) (a4.view.read (Elt Ideal) x4) (a8.view.read (Elt Ideal) x8)

theorem one_o (f10 : BufTy.Contents (Elt Ideal) a10.view.ty) (O : S4096x128.Idx → EReal)
    (hO : ∀ b : Fin 16, b.val % 2 = k.val → blk b (a10.view.read (Elt Ideal) f10) = blk b O) (x : S256x128.Idx) :
    k0_pay33 (F := Ideal) (mask d) (rows a4 x4 k w) (shapeCast S256x128 (rows a10 f10 k w) shapeCasts_S256x128_S256x128) (rows3 a8 x8 k w) (k0_pay25 (rows a2 x2 k w)) (k0_pay26 (k0_pay2 v58) (rows a3 x3 k w)) x
      = outO (runs x2 x3 x4 x8 v58) d O ((Rect.unit (s := S4096x128) (k0_off1 k (BitVec.ofNat 32 (2 * w.val))) S256x128.size (k0_off1_inb k w)).emb x) := by
  have hk : k.val < 2 := lt_of_lt_of_eq k.isLt rfl
  obtain ⟨r, l, rfl⟩ : ∃ (r : Fin 256) (l : Fin 128), x = ix2 r l := ⟨x 0, x 1, eq_ix2 x⟩
  have e : (Rect.unit (s := S4096x128) (k0_off1 k (BitVec.ofNat 32 (2 * w.val))) S256x128.size (k0_off1_inb k w)).emb (ix2 r l) = ix2 (rowOf (wayOf k w) r) l := by
    funext j
    match j with
    | 0 => exact Fin.ext (by simp [off1_eq])
    | 1 => exact Fin.ext (by simp [off1_eq])
  rw [e, cast2, rows_eq, rows_eq, rows_eq, rows_eq, rows3_eq, hO _ (by simp [wayOf]; omega)]
  exact piece_o d _ rfl v58 _ _ _ O _ (wayOf k w) r l

theorem one_q (x : S1x256x128.Idx) :
    shapeCast S1x256x128 (k0_pay42 (F := Ideal) (k0_pay31 (rows3 a8 x8 k w) (k0_pay25 (rows a2 x2 k w)))) shapeCasts_S256x128_S1x256x128 x
      = outQ (runs x2 x3 x4 x8 v58) ((Rect.unit (s := S1x4096x128) (k0_off2 k (BitVec.ofNat 32 (2 * w.val))) S1x256x128.size (k0_off2_inb k w)).emb x) := by
  obtain ⟨r, l, rfl⟩ : ∃ (r : Fin 256) (l : Fin 128), x = ix3 0 r l := ⟨x 1, x 2, by rw [eq_ix3 x]; congr 1; exact Subsingleton.elim _ _⟩
  have e : (Rect.unit (s := S1x4096x128) (k0_off2 k (BitVec.ofNat 32 (2 * w.val))) S1x256x128.size (k0_off2_inb k w)).emb (ix3 0 r l) = ix3 0 (rowOf (wayOf k w) r) l := by
    funext j
    match j with
    | 0 => exact Fin.ext (by simp [off2_eq])
    | 1 => exact Fin.ext (by simp [off2_eq])
    | 2 => exact Fin.ext (by simp [off2_eq])
  rw [e, rows_eq, rows3_eq]
  refine Eq.trans (b := k0_pay42 (F := Ideal) (k0_pay31 (blk3 (wayOf k w) (a8.view.read (Elt Ideal) x8)) (k0_pay25 (blk (wayOf k w) (a2.view.read (Elt Ideal) x2)))) (ix2 r l)) (by pointwise []) ?_
  rw [p_qt, p_q]
  rfl

theorem one_d (j : Fin 4) (p : FVec Ideal S8x128 .f32)
    (hp : ∀ (a : Fin 8) (l : Fin 128), p (ix2 a l) = Ideal.exp (rows3 a8 x8 k w (ix2 (endRow d (chunkRow j ⟨a, by omega⟩)) l))) (x : S1x1x1x8x128.Idx) :
    shapeCast S1x1x1x8x128 p shapeCasts_S8x128_S1x1x1x8x128 x
      = outD (runs x2 x3 x4 x8 v58) d ((Rect.unit (s := S1x1x64x8x128) (k0_off4 k (BitVec.ofNat 32 (2 * w.val)) (BitVec.ofNat 32 j.val)) S1x1x1x8x128.size (k0_off4_inb k w j)).emb x) := by
  obtain ⟨a, l, rfl⟩ : ∃ (a : Fin 8) (l : Fin 128), x = ix5 0 0 0 a l := ⟨x 3, x 4, by rw [eq_ix5 x]; congr 1 <;> exact Subsingleton.elim _ _⟩
  have e : (Rect.unit (s := S1x1x64x8x128) (k0_off4 k (BitVec.ofNat 32 (2 * w.val)) (BitVec.ofNat 32 j.val)) S1x1x1x8x128.size (k0_off4_inb k w j)).emb (ix5 0 0 0 a l) = ix5 0 0 ⟨4 * (wayOf k w).val + j.val, by omega⟩ a l := by
    funext j
    match j with
    | 0 => exact Fin.ext (by simp [off4_eq])
    | 1 => exact Fin.ext (by simp [off4_eq])
    | 2 => exact Fin.ext (by simp [off4_eq])
    | 3 => exact Fin.ext (by simp [off4_eq])
    | 4 => exact Fin.ext (by simp [off4_eq])
  rw [e]
  refine Eq.trans (b := p (ix2 a l)) (by pointwise []) ?_
  rw [hp, rows3_eq]
  unfold outD Inp.dec
  show Ideal.exp (a8.view.read (Elt Ideal) x8 (ix3 0 (rowOf (wayOf k w) (endRow d (chunkRow j ⟨a, by omega⟩))) l)) = _
  rw [end_eq]
  rfl

theorem one_c (j : Fin 4) (p : FVec Ideal S128x128 .f32)
    (hp : ∀ (a l : Fin 128), p (ix2 a l) = adds d (rows a4 x4 k w) (rows3 a8 x8 k w) (k0_pay26 (k0_pay2 v58) (rows a3 x3 k w)) j a l) (x : S1x128x128.Idx) :
    shapeCast S1x128x128 p shapeCasts_S128x128_S1x128x128 x
      = outC (runs x2 x3 x4 x8 v58) d ((Rect.unit (s := S64x128x128) (k0_off3 k (BitVec.ofNat 32 (2 * w.val)) (BitVec.ofNat 32 j.val)) S1x128x128.size (k0_off3_inb k w j)).emb x) := by
  obtain ⟨a, l, rfl⟩ : ∃ (a : Fin 128) (l : Fin 128), x = ix3 0 a l := ⟨x 1, x 2, by rw [eq_ix3 x]; congr 1; exact Subsingleton.elim _ _⟩
  have e : (Rect.unit (s := S64x128x128) (k0_off3 k (BitVec.ofNat 32 (2 * w.val)) (BitVec.ofNat 32 j.val)) S1x128x128.size (k0_off3_inb k w j)).emb (ix3 0 a l) = ix3 ⟨4 * (wayOf k w).val + j.val, by omega⟩ a l := by
    funext j
    match j with
    | 0 => exact Fin.ext (by simp [off3_eq])
    | 1 => exact Fin.ext (by simp [off3_eq])
    | 2 => exact Fin.ext (by simp [off3_eq])
  rw [e]
  refine Eq.trans (b := p (ix2 a l)) (by pointwise []) ?_
  rw [hp, rows_eq, rows_eq, rows3_eq]
  exact piece_c d v58 _ _ _ _ (wayOf k w) j a l

end

end Gla
-- ==== Proof.GlaLoop.lean ====
/- What one trip of the first loop stores, array by array: every piece is the restriction of one array to its rows. -/
module

public import proofs.«01_k».proof.Proof.GlaTrip

@[expose] public section

set_option maxRecDepth 16384

noncomputable section

namespace Gla

open Idealize.ShloMosaic Idealize.ShloMosaic.TcCoe
open Cert.Kernel15Ideal Cert.Kernel15Ideal.Gen Cert.Reals

variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (d : Fin 2) (v58 : FVec Ideal S1x1x1x128 .f32) (x2 : BufTy.Contents (Elt Ideal) a2.view.ty) (x3 : BufTy.Contents (Elt Ideal) a3.view.ty) (x4 : BufTy.Contents (Elt Ideal) a4.view.ty) (x8 : BufTy.Contents (Elt Ideal) a8.view.ty) (k : Fin k0_t1_loop.trips) (f10 : BufTy.Contents (Elt Ideal) a10.view.ty) (f12 : BufTy.Contents (Elt Ideal) a12.view.ty) (f13 : BufTy.Contents (Elt Ideal) a13.view.ty) (f14 : BufTy.Contents (Elt Ideal) a14.view.ty)

theorem trip_o (O : S4096x128.Idx → EReal) (hO : ∀ b : Fin 16, b.val % 2 = k.val → blk b (a10.view.read (Elt Ideal) f10) = blk b O) :
    ∀ p ∈ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).1 f10 f12 f13 f14, ∀ x, p.2 x = outO (runs x2 x3 x4 x8 v58) d O (p.1.emb x) := by
  unfold trip_k0_t1
  dsimp only
  simp only [List.forall_mem_cons, List.not_mem_nil, false_imp_iff, implies_true, and_true]
  exact ⟨one_o x2 x3 x4 x8 d v58 k 7 f10 O hO, one_o x2 x3 x4 x8 d v58 k 6 f10 O hO, one_o x2 x3 x4 x8 d v58 k 5 f10 O hO, one_o x2 x3 x4 x8 d v58 k 4 f10 O hO, one_o x2 x3 x4 x8 d v58 k 3 f10 O hO, one_o x2 x3 x4 x8 d v58 k 2 f10 O hO, one_o x2 x3 x4 x8 d v58 k 1 f10 O hO, one_o x2 x3 x4 x8 d v58 k 0 f10 O hO⟩

theorem trip_q :
    ∀ p ∈ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.1 f10 f12 f13 f14, ∀ x, p.2 x = outQ (runs x2 x3 x4 x8 v58) (p.1.emb x) := by
  unfold trip_k0_t1
  dsimp only
  simp only [List.forall_mem_cons, List.not_mem_nil, false_imp_iff, implies_true, and_true]
  exact ⟨one_q x2 x3 x4 x8 v58 k 7, one_q x2 x3 x4 x8 v58 k 6, one_q x2 x3 x4 x8 v58 k 5, one_q x2 x3 x4 x8 v58 k 4, one_q x2 x3 x4 x8 v58 k 3, one_q x2 x3 x4 x8 v58 k 2, one_q x2 x3 x4 x8 v58 k 1, one_q x2 x3 x4 x8 v58 k 0⟩

theorem trip_d :
    ∀ p ∈ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.2.1 f10 f12 f13 f14, ∀ x, p.2 x = outD (runs x2 x3 x4 x8 v58) d (p.1.emb x) := by
  unfold trip_k0_t1
  dsimp only
  simp only [List.forall_mem_cons, List.not_mem_nil, false_imp_iff, implies_true, and_true]
  exact ⟨one_d x2 x3 x4 x8 d v58 k 7 3 _ (p_d3 d (rows3 a8 x8 k 7)), one_d x2 x3 x4 x8 d v58 k 7 2 _ (p_d2 d (rows3 a8 x8 k 7)), one_d x2 x3 x4 x8 d v58 k 7 1 _ (p_d1 d (rows3 a8 x8 k 7)), one_d x2 x3 x4 x8 d v58 k 7 0 _ (p_d0 d (rows3 a8 x8 k 7)), one_d x2 x3 x4 x8 d v58 k 6 3 _ (p_d3 d (rows3 a8 x8 k 6)), one_d x2 x3 x4 x8 d v58 k 6 2 _ (p_d2 d (rows3 a8 x8 k 6)), one_d x2 x3 x4 x8 d v58 k 6 1 _ (p_d1 d (rows3 a8 x8 k 6)), one_d x2 x3 x4 x8 d v58 k 6 0 _ (p_d0 d (rows3 a8 x8 k 6)), one_d x2 x3 x4 x8 d v58 k 5 3 _ (p_d3 d (rows3 a8 x8 k 5)), one_d x2 x3 x4 x8 d v58 k 5 2 _ (p_d2 d (rows3 a8 x8 k 5)), one_d x2 x3 x4 x8 d v58 k 5 1 _ (p_d1 d (rows3 a8 x8 k 5)), one_d x2 x3 x4 x8 d v58 k 5 0 _ (p_d0 d (rows3 a8 x8 k 5)), one_d x2 x3 x4 x8 d v58 k 4 3 _ (p_d3 d (rows3 a8 x8 k 4)), one_d x2 x3 x4 x8 d v58 k 4 2 _ (p_d2 d (rows3 a8 x8 k 4)), one_d x2 x3 x4 x8 d v58 k 4 1 _ (p_d1 d (rows3 a8 x8 k 4)), one_d x2 x3 x4 x8 d v58 k 4 0 _ (p_d0 d (rows3 a8 x8 k 4)), one_d x2 x3 x4 x8 d v58 k 3 3 _ (p_d3 d (rows3 a8 x8 k 3)), one_d x2 x3 x4 x8 d v58 k 3 2 _ (p_d2 d (rows3 a8 x8 k 3)), one_d x2 x3 x4 x8 d v58 k 3 1 _ (p_d1 d (rows3 a8 x8 k 3)), one_d x2 x3 x4 x8 d v58 k 3 0 _ (p_d0 d (rows3 a8 x8 k 3)), one_d x2 x3 x4 x8 d v58 k 2 3 _ (p_d3 d (rows3 a8 x8 k 2)), one_d x2 x3 x4 x8 d v58 k 2 2 _ (p_d2 d (rows3 a8 x8 k 2)), one_d x2 x3 x4 x8 d v58 k 2 1 _ (p_d1 d (rows3 a8 x8 k 2)), one_d x2 x3 x4 x8 d v58 k 2 0 _ (p_d0 d (rows3 a8 x8 k 2)), one_d x2 x3 x4 x8 d v58 k 1 3 _ (p_d3 d (rows3 a8 x8 k 1)), one_d x2 x3 x4 x8 d v58 k 1 2 _ (p_d2 d (rows3 a8 x8 k 1)), one_d x2 x3 x4 x8 d v58 k 1 1 _ (p_d1 d (rows3 a8 x8 k 1)), one_d x2 x3 x4 x8 d v58 k 1 0 _ (p_d0 d (rows3 a8 x8 k 1)), one_d x2 x3 x4 x8 d v58 k 0 3 _ (p_d3 d (rows3 a8 x8 k 0)), one_d x2 x3 x4 x8 d v58 k 0 2 _ (p_d2 d (rows3 a8 x8 k 0)), one_d x2 x3 x4 x8 d v58 k 0 1 _ (p_d1 d (rows3 a8 x8 k 0)), one_d x2 x3 x4 x8 d v58 k 0 0 _ (p_d0 d (rows3 a8 x8 k 0))⟩

theorem trip_c :
    ∀ p ∈ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.2.2.1 f10 f12 f13 f14, ∀ x, p.2 x = outC (runs x2 x3 x4 x8 v58) d (p.1.emb x) := by
  unfold trip_k0_t1
  dsimp only
  simp only [List.forall_mem_cons, List.not_mem_nil, false_imp_iff, implies_true, and_true]
  exact ⟨one_c x2 x3 x4 x8 d v58 k 7 3 _ (p_c3 d (rows a4 x4 k 7) (rows3 a8 x8 k 7) (k0_pay26 (k0_pay2 v58) (rows a3 x3 k 7))), one_c x2 x3 x4 x8 d v58 k 7 2 _ (p_c2 d (rows a4 x4 k 7) (rows3 a8 x8 k 7) (k0_pay26 (k0_pay2 v58) (rows a3 x3 k 7))), one_c x2 x3 x4 x8 d v58 k 7 1 _ (p_c1 d (rows a4 x4 k 7) (rows3 a8 x8 k 7) (k0_pay26 (k0_pay2 v58) (rows a3 x3 k 7))), one_c x2 x3 x4 x8 d v58 k 7 0 _ (p_c0 d (rows a4 x4 k 7) (rows3 a8 x8 k 7) (k0_pay26 (k0_pay2 v58) (rows a3 x3 k 7))), one_c x2 x3 x4 x8 d v58 k 6 3 _ (p_c3 d (rows a4 x4 k 6) (rows3 a8 x8 k 6) (k0_pay26 (k0_pay2 v58) (rows a3 x3 k 6))), one_c x2 x3 x4 x8 d v58 k 6 2 _ (p_c2 d (rows a4 x4 k 6) (rows3 a8 x8 k 6) (k0_pay26 (k0_pay2 v58) (rows a3 x3 k 6))), one_c x2 x3 x4 x8 d v58 k 6 1 _ (p_c1 d (rows a4 x4 k 6) (rows3 a8 x8 k 6) (k0_pay26 (k0_pay2 v58) (rows a3 x3 k 6))), one_c x2 x3 x4 x8 d v58 k 6 0 _ (p_c0 d (rows a4 x4 k 6) (rows3 a8 x8 k 6) (k0_pay26 (k0_pay2 v58) (rows a3 x3 k 6))), one_c x2 x3 x4 x8 d v58 k 5 3 _ (p_c3 d (rows a4 x4 k 5) (rows3 a8 x8 k 5) (k0_pay26 (k0_pay2 v58) (rows a3 x3 k 5))), one_c x2 x3 x4 x8 d v58 k 5 2 _ (p_c2 d (rows a4 x4 k 5) (rows3 a8 x8 k 5) (k0_pay26 (k0_pay2 v58) (rows a3 x3 k 5))), one_c x2 x3 x4 x8 d v58 k 5 1 _ (p_c1 d (rows a4 x4 k 5) (rows3 a8 x8 k 5) (k0_pay26 (k0_pay2 v58) (rows a3 x3 k 5))), one_c x2 x3 x4 x8 d v58 k 5 0 _ (p_c0 d (rows a4 x4 k 5) (rows3 a8 x8 k 5) (k0_pay26 (k0_pay2 v58) (rows a3 x3 k 5))), one_c x2 x3 x4 x8 d v58 k 4 3 _ (p_c3 d (rows a4 x4 k 4) (rows3 a8 x8 k 4) (k0_pay26 (k0_pay2 v58) (rows a3 x3 k 4))), one_c x2 x3 x4 x8 d v58 k 4 2 _ (p_c2 d (rows a4 x4 k 4) (rows3 a8 x8 k 4) (k0_pay26 (k0_pay2 v58) (rows a3 x3 k 4))), one_c x2 x3 x4 x8 d v58 k 4 1 _ (p_c1 d (rows a4 x4 k 4) (rows3 a8 x8 k 4) (k0_pay26 (k0_pay2 v58) (rows a3 x3 k 4))), one_c x2 x3 x4 x8 d v58 k 4 0 _ (p_c0 d (rows a4 x4 k 4) (rows3 a8 x8 k 4) (k0_pay26 (k0_pay2 v58) (rows a3 x3 k 4))), one_c x2 x3 x4 x8 d v58 k 3 3 _ (p_c3 d (rows a4 x4 k 3) (rows3 a8 x8 k 3) (k0_pay26 (k0_pay2 v58) (rows a3 x3 k 3))), one_c x2 x3 x4 x8 d v58 k 3 2 _ (p_c2 d (rows a4 x4 k 3) (rows3 a8 x8 k 3) (k0_pay26 (k0_pay2 v58) (rows a3 x3 k 3))), one_c x2 x3 x4 x8 d v58 k 3 1 _ (p_c1 d (rows a4 x4 k 3) (rows3 a8 x8 k 3) (k0_pay26 (k0_pay2 v58) (rows a3 x3 k 3))), one_c x2 x3 x4 x8 d v58 k 3 0 _ (p_c0 d (rows a4 x4 k 3) (rows3 a8 x8 k 3) (k0_pay26 (k0_pay2 v58) (rows a3 x3 k 3))), one_c x2 x3 x4 x8 d v58 k 2 3 _ (p_c3 d (rows a4 x4 k 2) (rows3 a8 x8 k 2) (k0_pay26 (k0_pay2 v58) (rows a3 x3 k 2))), one_c x2 x3 x4 x8 d v58 k 2 2 _ (p_c2 d (rows a4 x4 k 2) (rows3 a8 x8 k 2) (k0_pay26 (k0_pay2 v58) (rows a3 x3 k 2))), one_c x2 x3 x4 x8 d v58 k 2 1 _ (p_c1 d (rows a4 x4 k 2) (rows3 a8 x8 k 2) (k0_pay26 (k0_pay2 v58) (rows a3 x3 k 2))), one_c x2 x3 x4 x8 d v58 k 2 0 _ (p_c0 d (rows a4 x4 k 2) (rows3 a8 x8 k 2) (k0_pay26 (k0_pay2 v58) (rows a3 x3 k 2))), one_c x2 x3 x4 x8 d v58 k 1 3 _ (p_c3 d (rows a4 x4 k 1) (rows3 a8 x8 k 1) (k0_pay26 (k0_pay2 v58) (rows a3 x3 k 1))), one_c x2 x3 x4 x8 d v58 k 1 2 _ (p_c2 d (rows a4 x4 k 1) (rows3 a8 x8 k 1) (k0_pay26 (k0_pay2 v58) (rows a3 x3 k 1))), one_c x2 x3 x4 x8 d v58 k 1 1 _ (p_c1 d (rows a4 x4 k 1) (rows3 a8 x8 k 1) (k0_pay26 (k0_pay2 v58) (rows a3 x3 k 1))), one_c x2 x3 x4 x8 d v58 k 1 0 _ (p_c0 d (rows a4 x4 k 1) (rows3 a8 x8 k 1) (k0_pay26 (k0_pay2 v58) (rows a3 x3 k 1))), one_c x2 x3 x4 x8 d v58 k 0 3 _ (p_c3 d (rows a4 x4 k 0) (rows3 a8 x8 k 0) (k0_pay26 (k0_pay2 v58) (rows a3 x3 k 0))), one_c x2 x3 x4 x8 d v58 k 0 2 _ (p_c2 d (rows a4 x4 k 0) (rows3 a8 x8 k 0) (k0_pay26 (k0_pay2 v58) (rows a3 x3 k 0))), one_c x2 x3 x4 x8 d v58 k 0 1 _ (p_c1 d (rows a4 x4 k 0) (rows3 a8 x8 k 0) (k0_pay26 (k0_pay2 v58) (rows a3 x3 k 0))), one_c x2 x3 x4 x8 d v58 k 0 0 _ (p_c0 d (rows a4 x4 k 0) (rows3 a8 x8 k 0) (k0_pay26 (k0_pay2 v58) (rows a3 x3 k 0)))⟩

end Gla
-- ==== Proof.GlaCover.lean ====
/- The arrays after the first loop: its two trips together store every row once. -/
module

public import proofs.«01_k».proof.Proof.GlaLoop

@[expose] public section

set_option maxRecDepth 16384

noncomputable section

namespace Gla

open Idealize.ShloMosaic Idealize.ShloMosaic.TcCoe
open Cert.Kernel15Ideal Cert.Kernel15Ideal.Gen Cert.Reals

/-- The rectangles that a trip stores to, array by array. -/
abbrev rectO (k : Fin k0_t1_loop.trips) (w : Fin 8) : Rect S4096x128 := Rect.unit (s := S4096x128) (k0_off1 k (BitVec.ofNat 32 (2 * w.val))) S256x128.size (k0_off1_inb k w)
abbrev rectQ (k : Fin k0_t1_loop.trips) (w : Fin 8) : Rect S1x4096x128 := Rect.unit (s := S1x4096x128) (k0_off2 k (BitVec.ofNat 32 (2 * w.val))) S1x256x128.size (k0_off2_inb k w)
abbrev rectC (k : Fin k0_t1_loop.trips) (w : Fin 8) (j : Fin 4) : Rect S64x128x128 := Rect.unit (s := S64x128x128) (k0_off3 k (BitVec.ofNat 32 (2 * w.val)) (BitVec.ofNat 32 j.val)) S1x128x128.size (k0_off3_inb k w j)
abbrev rectD (k : Fin k0_t1_loop.trips) (w : Fin 8) (j : Fin 4) : Rect S1x1x64x8x128 := Rect.unit (s := S1x1x64x8x128) (k0_off4 k (BitVec.ofNat 32 (2 * w.val)) (BitVec.ofNat 32 j.val)) S1x1x1x8x128.size (k0_off4_inb k w j)

/-- The ways from the last to the first, and the chunks of each from the last to the first. -/
abbrev ways : List (Fin 8) := [7, 6, 5, 4, 3, 2, 1, 0]
abbrev chunks : List (Fin 8 × Fin 4) := ways.flatMap fun w => [(w, 3), (w, 2), (w, 1), (w, 0)]

theorem mem_ways (w : Fin 8) : w ∈ ways := by revert w; decide
theorem mem_chunks (w : Fin 8) (j : Fin 4) : (w, j) ∈ chunks := by revert w j; decide

section
variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (d : Fin 2) (v58 : FVec Ideal S1x1x1x128 .f32) (x2 : BufTy.Contents (Elt Ideal) a2.view.ty) (x3 : BufTy.Contents (Elt Ideal) a3.view.ty) (x4 : BufTy.Contents (Elt Ideal) a4.view.ty) (x8 : BufTy.Contents (Elt Ideal) a8.view.ty) (k : Fin k0_t1_loop.trips) (f10 : BufTy.Contents (Elt Ideal) a10.view.ty) (f12 : BufTy.Contents (Elt Ideal) a12.view.ty) (f13 : BufTy.Contents (Elt Ideal) a13.view.ty) (f14 : BufTy.Contents (Elt Ideal) a14.view.ty)

theorem rects_o : ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).1 f10 f12 f13 f14).map (·.1) = ways.map (rectO k) := by unfold trip_k0_t1; rfl
theorem rects_q : ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.1 f10 f12 f13 f14).map (·.1) = ways.map (rectQ k) := by unfold trip_k0_t1; rfl
theorem rects_d : ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.2.1 f10 f12 f13 f14).map (·.1) = chunks.map fun p => rectD k p.1 p.2 := by unfold trip_k0_t1; rfl
theorem rects_c : ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 k).2.2.2.1 f10 f12 f13 f14).map (·.1) = chunks.map fun p => rectC k p.1 p.2 := by unfold trip_k0_t1; rfl
end

theorem mem_unit {s : Shape} (off size : Fin s.rank → ℕ) (inb : ∀ a, off a + size a ≤ s.size a) (y : s.Idx) (h : ∀ a, off a ≤ (y a).val ∧ (y a).val < off a + size a) :
    y ∈ (Rect.unit off size inb).set := (Rect.unit off size inb).mem_set.2 fun a => ⟨(y a).val - off a, by have := h a; simp; omega, by have := h a; simp; omega⟩

theorem mem_o (k : Fin k0_t1_loop.trips) (w : Fin 8) (y : S4096x128.Idx) (h : (y 0).val / 256 = (wayOf k w).val) : y ∈ (rectO k w).set := by
  refine mem_unit _ _ _ y ?_
  rw [off1_eq]
  exact fun j => match j with
    | 0 => ⟨by show 256 * (wayOf k w).val ≤ _; omega, by show _ < 256 * (wayOf k w).val + 256; omega⟩
    | 1 => ⟨Nat.zero_le _, lt_of_lt_of_eq (y 1).isLt (Nat.zero_add _).symm⟩

theorem mem_q (k : Fin k0_t1_loop.trips) (w : Fin 8) (y : S1x4096x128.Idx) (h : (y 1).val / 256 = (wayOf k w).val) : y ∈ (rectQ k w).set := by
  refine mem_unit _ _ _ y ?_
  rw [off2_eq]
  exact fun j => match j with
    | 0 => ⟨Nat.zero_le _, lt_of_lt_of_eq (y 0).isLt (Nat.zero_add _).symm⟩
    | 1 => ⟨by show 256 * (wayOf k w).val ≤ _; omega, by show _ < 256 * (wayOf k w).val + 256; omega⟩
    | 2 => ⟨Nat.zero_le _, lt_of_lt_of_eq (y 2).isLt (Nat.zero_add _).symm⟩

theorem mem_c (k : Fin k0_t1_loop.trips) (w : Fin 8) (j : Fin 4) (y : S64x128x128.Idx) (h : (y 0).val = 4 * (wayOf k w).val + j.val) : y ∈ (rectC k w j).set := by
  refine mem_unit _ _ _ y ?_
  rw [off3_eq]
  exact fun a => match a with
    | 0 => ⟨h.ge, by rw [h]; exact Nat.lt_succ_self _⟩
    | 1 => ⟨Nat.zero_le _, lt_of_lt_of_eq (y 1).isLt (Nat.zero_add _).symm⟩
    | 2 => ⟨Nat.zero_le _, lt_of_lt_of_eq (y 2).isLt (Nat.zero_add _).symm⟩

theorem mem_d (k : Fin k0_t1_loop.trips) (w : Fin 8) (j : Fin 4) (y : S1x1x64x8x128.Idx) (h : (y 2).val = 4 * (wayOf k w).val + j.val) : y ∈ (rectD k w j).set := by
  refine mem_unit _ _ _ y ?_
  rw [off4_eq]
  exact fun a => match a with
    | 0 => ⟨Nat.zero_le _, lt_of_lt_of_eq (y 0).isLt (Nat.zero_add _).symm⟩
    | 1 => ⟨Nat.zero_le _, lt_of_lt_of_eq (y 1).isLt (Nat.zero_add _).symm⟩
    | 2 => ⟨h.ge, by rw [h]; exact Nat.lt_succ_self _⟩
    | 3 => ⟨Nat.zero_le _, lt_of_lt_of_eq (y 3).isLt (Nat.zero_add _).symm⟩
    | 4 => ⟨Nat.zero_le _, lt_of_lt_of_eq (y 4).isLt (Nat.zero_add _).symm⟩

/-- The rows of a block that a trip does not take are in none of its rectangles. -/
theorem not_mem_o (k : Fin k0_t1_loop.trips) (w : Fin 8) (y : S4096x128.Idx) (h : (y 0).val / 256 % 2 ≠ k.val) : y ∉ (rectO k w).set := by
  have hk : k.val < 2 := lt_of_lt_of_eq k.isLt rfl
  refine Rect.not_mem_set_of_axis _ y 0 (256 * (wayOf k w).val) 256 (by show k0_off1 k _ 0 = _; rw [off1_eq]; rfl) rfl rfl ?_
  simp only [wayOf]
  omega

/-- A block is taken by one way of one trip. -/
theorem taken (b : ℕ) (hb : b < 16) : ∃ (k : Fin k0_t1_loop.trips) (w : Fin 8), b = (wayOf k w).val :=
  ⟨⟨b % 2, lt_of_lt_of_eq (Nat.mod_lt _ (by omega)) rfl⟩, ⟨b / 2, by omega⟩, by simp [wayOf]; omega⟩

/-- A list of pieces holds a place if one of its rectangles does. -/
theorem ofRects {Val : EltTy → Type} {s : Shape} {e : EltTy} {L : List (View.Piece Val s e)} {R : List (Rect s)} (h : L.map (·.1) = R) {r : Rect s} (hr : r ∈ R) {y : s.Idx} (hy : y ∈ r.set) :
    ∃ p ∈ L, y ∈ p.1.set := by
  rw [← h] at hr
  obtain ⟨p, hp, rfl⟩ := List.mem_map.1 hr
  exact ⟨p, hp, hy⟩

theorem ofRects_not {Val : EltTy → Type} {s : Shape} {e : EltTy} {L : List (View.Piece Val s e)} {R : List (Rect s)} (h : L.map (·.1) = R) {y : s.Idx} (hy : ∀ r ∈ R, y ∉ r.set) :
    ∀ p ∈ L, y ∉ p.1.set := fun p hp => hy p.1 (h ▸ List.mem_map_of_mem hp)

section
variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (d : Fin 2) (v58 : FVec Ideal S1x1x1x128 .f32) (x2 : BufTy.Contents (Elt Ideal) a2.view.ty) (x3 : BufTy.Contents (Elt Ideal) a3.view.ty) (x4 : BufTy.Contents (Elt Ideal) a4.view.ty) (x8 : BufTy.Contents (Elt Ideal) a8.view.ty) (f10 : BufTy.Contents (Elt Ideal) a10.view.ty) (f12 : BufTy.Contents (Elt Ideal) a12.view.ty) (f13 : BufTy.Contents (Elt Ideal) a13.view.ty) (f14 : BufTy.Contents (Elt Ideal) a14.view.ty)

/-- The two trips, and the list of pieces they leave. -/
abbrev trip0 : Fin k0_t1_loop.trips := ⟨0, by decide⟩
abbrev trip1 : Fin k0_t1_loop.trips := ⟨1, by decide⟩

theorem trip_cases (k : Fin k0_t1_loop.trips) : k = trip0 ∨ k = trip1 := by
  have hk : k.val < 2 := lt_of_lt_of_eq k.isLt rfl
  rcases (show k.val = 0 ∨ k.val = 1 by omega) with h | h
  · exact Or.inl (Fin.ext h)
  · exact Or.inr (Fin.ext h)

theorem both_eq : ∃ g10 g12 g13 g14, g10 = a10.view.writes (Elt Ideal) f10 ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).1 f10 f12 f13 f14) ∧
    pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 k0_t1_loop.trips = ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip1).1 g10 g12 g13 g14 ++ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).1 f10 f12 f13 f14,
      (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip1).2.1 g10 g12 g13 g14 ++ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.1 f10 f12 f13 f14,
      (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip1).2.2.1 g10 g12 g13 g14 ++ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.1 f10 f12 f13 f14,
      (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip1).2.2.2.1 g10 g12 g13 g14 ++ (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.2.1 f10 f12 f13 f14) := by
  have h1 := pb_k0_t1_succ (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 trip1
  have h0 := pb_k0_t1_succ (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 trip0
  have h0' : pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 trip1.val = ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).1 f10 f12 f13 f14, (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.1 f10 f12 f13 f14, (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.1 f10 f12 f13 f14, (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.2.1 f10 f12 f13 f14) := by
    refine h0.trans ?_
    show ((trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).1 f10 f12 f13 f14 ++ [], (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.1 f10 f12 f13 f14 ++ [], (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.1 f10 f12 f13 f14 ++ [], (trip_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 trip0).2.2.2.1 f10 f12 f13 f14 ++ []) = _
    simp only [List.append_nil]
  rw [h0'] at h1
  exact ⟨_, _, _, _, rfl, h1⟩

/-- THE OUTPUT AFTER THE FIRST LOOP. -/
theorem loop_o (y : S4096x128.Idx) :
    a10.view.read (Elt Ideal) (a10.view.writes (Elt Ideal) f10 (pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 k0_t1_loop.trips).1) y = outO (runs x2 x3 x4 x8 v58) d (a10.view.read (Elt Ideal) f10) y := by
  obtain ⟨g10, g12, g13, g14, hg, h⟩ := both_eq c i (h2 := h2) (h3 := h3) (h4 := h4) (h5 := h5) (h6 := h6) (h7 := h7) (h8 := h8) (h9 := h9) (h10 := h10) (h11 := h11) (h12 := h12) (h13 := h13) (h14 := h14) d v58 x2 x3 x4 x8 f10 f12 f13 f14
  rw [h]
  refine View.read_writes_apply_of_pieces _ _ _ _ ?_ y ?_
  · intro p hp
    rcases List.mem_append.1 hp with hp | hp
    · refine trip_o c i d v58 x2 x3 x4 x8 trip1 g10 g12 g13 g14 _ ?_ p hp
      intro b hb
      funext z
      rw [hg]
      refine View.read_writes_apply_of_forall_not_mem _ _ _ _ (ofRects_not (rects_o c i d v58 x2 x3 x4 x8 trip0 f10 f12 f13 f14) fun r hr => ?_)
      obtain ⟨w, -, rfl⟩ := List.mem_map.1 hr
      refine not_mem_o _ _ _ ?_
      have h1 : b.val % 2 = 1 := hb
      have h2 : (z 0).val < 256 := (z 0).isLt
      show (256 * b.val + (z 0).val) / 256 % 2 ≠ 0
      omega
    · exact trip_o c i d v58 x2 x3 x4 x8 trip0 f10 f12 f13 f14 _ (fun _ _ => rfl) p hp
  · have h0 : (y 0).val < 4096 := (y 0).isLt
    obtain ⟨k, w, e⟩ := taken ((y 0).val / 256) (by omega)
    rcases trip_cases k with rfl | rfl
    · obtain ⟨p, hp, hy⟩ := ofRects (rects_o c i d v58 x2 x3 x4 x8 trip0 f10 f12 f13 f14) (List.mem_map_of_mem (mem_ways w)) (mem_o _ w y e)
      exact ⟨p, List.mem_append_right _ hp, hy⟩
    · obtain ⟨p, hp, hy⟩ := ofRects (rects_o c i d v58 x2 x3 x4 x8 trip1 g10 g12 g13 g14) (List.mem_map_of_mem (mem_ways w)) (mem_o _ w y e)
      exact ⟨p, List.mem_append_left _ hp, hy⟩

/-- THE QUERIES WITH THEIR DECAY. -/
theorem loop_q (y : S1x4096x128.Idx) :
    a12.view.read (Elt Ideal) (a12.view.writes (Elt Ideal) f12 (pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 k0_t1_loop.trips).2.1) y = outQ (runs x2 x3 x4 x8 v58) y := by
  obtain ⟨g10, g12, g13, g14, -, h⟩ := both_eq c i (h2 := h2) (h3 := h3) (h4 := h4) (h5 := h5) (h6 := h6) (h7 := h7) (h8 := h8) (h9 := h9) (h10 := h10) (h11 := h11) (h12 := h12) (h13 := h13) (h14 := h14) d v58 x2 x3 x4 x8 f10 f12 f13 f14
  rw [h]
  refine View.read_writes_apply_of_pieces _ _ _ _ ?_ y ?_
  · intro p hp
    rcases List.mem_append.1 hp with hp | hp
    · exact trip_q c i d v58 x2 x3 x4 x8 trip1 g10 g12 g13 g14 p hp
    · exact trip_q c i d v58 x2 x3 x4 x8 trip0 f10 f12 f13 f14 p hp
  · have h0 : (y 1).val < 4096 := (y 1).isLt
    obtain ⟨k, w, e⟩ := taken ((y 1).val / 256) (by omega)
    rcases trip_cases k with rfl | rfl
    · obtain ⟨p, hp, hy⟩ := ofRects (rects_q c i d v58 x2 x3 x4 x8 trip0 f10 f12 f13 f14) (List.mem_map_of_mem (mem_ways w)) (mem_q _ w y e)
      exact ⟨p, List.mem_append_right _ hp, hy⟩
    · obtain ⟨p, hp, hy⟩ := ofRects (rects_q c i d v58 x2 x3 x4 x8 trip1 g10 g12 g13 g14) (List.mem_map_of_mem (mem_ways w)) (mem_q _ w y e)
      exact ⟨p, List.mem_append_left _ hp, hy⟩

/-- THE DECAY OVER EACH CHUNK. -/
theorem loop_d (y : S1x1x64x8x128.Idx) :
    a13.view.read (Elt Ideal) (a13.view.writes (Elt Ideal) f13 (pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 k0_t1_loop.trips).2.2.1) y = outD (runs x2 x3 x4 x8 v58) d y := by
  obtain ⟨g10, g12, g13, g14, -, h⟩ := both_eq c i (h2 := h2) (h3 := h3) (h4 := h4) (h5 := h5) (h6 := h6) (h7 := h7) (h8 := h8) (h9 := h9) (h10 := h10) (h11 := h11) (h12 := h12) (h13 := h13) (h14 := h14) d v58 x2 x3 x4 x8 f10 f12 f13 f14
  rw [h]
  refine View.read_writes_apply_of_pieces _ _ _ _ ?_ y ?_
  · intro p hp
    rcases List.mem_append.1 hp with hp | hp
    · exact trip_d c i d v58 x2 x3 x4 x8 trip1 g10 g12 g13 g14 p hp
    · exact trip_d c i d v58 x2 x3 x4 x8 trip0 f10 f12 f13 f14 p hp
  · have h0 : (y 2).val < 64 := (y 2).isLt
    obtain ⟨k, w, e⟩ := taken ((y 2).val / 4) (by omega)
    obtain ⟨j, hj⟩ : ∃ j : Fin 4, (y 2).val = 4 * (wayOf k w).val + j.val := ⟨⟨(y 2).val % 4, by omega⟩, by rw [← e]; show _ = 4 * ((y 2).val / 4) + (y 2).val % 4; omega⟩
    rcases trip_cases k with rfl | rfl
    · obtain ⟨p, hp, hy⟩ := ofRects (rects_d c i d v58 x2 x3 x4 x8 trip0 f10 f12 f13 f14) (List.mem_map_of_mem (mem_chunks w j)) (mem_d _ w j y hj)
      exact ⟨p, List.mem_append_right _ hp, hy⟩
    · obtain ⟨p, hp, hy⟩ := ofRects (rects_d c i d v58 x2 x3 x4 x8 trip1 g10 g12 g13 g14) (List.mem_map_of_mem (mem_chunks w j)) (mem_d _ w j y hj)
      exact ⟨p, List.mem_append_left _ hp, hy⟩

/-- WHAT EACH CHUNK ADDS TO THE STATE. -/
theorem loop_c (y : S64x128x128.Idx) :
    a14.view.read (Elt Ideal) (a14.view.writes (Elt Ideal) f14 (pb_k0_t1 (F := Ideal) Variants.none c none i a2 h2 a3 h3 a4 h4 a5 h5 a6 h6 a7 h7 a8 h8 a9 h9 a10 h10 a11 h11 a12 h12 a13 h13 a14 h14 (BitVec.ofNat 32 d.val) first.sl.v0 first.sl.v1 first.sl.v25 (divsi first.sl.v1 first.sl.v2) first.sl.v41 (remsi first.sl.v1 first.sl.v2) first.sl.v4 v58 x2 x3 x4 x8 f10 f12 f13 f14 k0_t1_loop.trips).2.2.2) y = outC (runs x2 x3 x4 x8 v58) d y := by
  obtain ⟨g10, g12, g13, g14, -, h⟩ := both_eq c i (h2 := h2) (h3 := h3) (h4 := h4) (h5 := h5) (h6 := h6) (h7 := h7) (h8 := h8) (h9 := h9) (h10 := h10) (h11 := h11) (h12 := h12) (h13 := h13) (h14 := h14) d v58 x2 x3 x4 x8 f10 f12 f13 f14
  rw [h]
  refine View.read_writes_apply_of_pieces _ _ _ _ ?_ y ?_
  · intro p hp
    rcases List.mem_append.1 hp with hp | hp
    · exact trip_c c i d v58 x2 x3 x4 x8 trip1 g10 g12 g13 g14 p hp
    · exact trip_c c i d v58 x2 x3 x4 x8 trip0 f10 f12 f13 f14 p hp
  · have h0 : (y 0).val < 64 := (y 0).isLt
    obtain ⟨k, w, e⟩ := taken ((y 0).val / 4) (by omega)
    obtain ⟨j, hj⟩ : ∃ j : Fin 4, (y 0).val = 4 * (wayOf k w).val + j.val := ⟨⟨(y 0).val % 4, by omega⟩, by rw [← e]; show _ = 4 * ((y 0).val / 4) + (y 0).val % 4; omega⟩
    rcases trip_cases k with rfl | rfl
    · obtain ⟨p, hp, hy⟩ := ofRects (rects_c c i d v58 x2 x3 x4 x8 trip0 f10 f12 f13 f14) (List.mem_map_of_mem (mem_chunks w j)) (mem_c _ w j y hj)
      exact ⟨p, List.mem_append_right _ hp, hy⟩
    · obtain ⟨p, hp, hy⟩ := ofRects (rects_c c i d v58 x2 x3 x4 x8 trip1 g10 g12 g13 g14) (List.mem_map_of_mem (mem_chunks w j)) (mem_c _ w j y hj)
      exact ⟨p, List.mem_append_left _ hp, hy⟩

end

end Gla
-- ==== Proof.GlaScan.lean ====
/- The second loop of the gated recurrence: the state before each chunk, in the order of the direction. -/
module

public import proofs.«01_k».proof.Proof.GlaCover

@[expose] public section

set_option maxRecDepth 16384

noncomputable section

namespace Gla

open Idealize.ShloMosaic Idealize.ShloMosaic.TcCoe
open Cert.Kernel15Ideal Cert.Kernel15Ideal.Gen Cert.Reals

/-- The chunk that step `n` meets. -/
def met (d : Fin 2) (n : ℕ) : Fin 64 := if d = 0 then ⟨n % 64, by omega⟩ else ⟨63 - n % 64, by omega⟩

/-- The steps before chunk `c`. -/
def turn (d : Fin 2) (c : Fin 64) : Fin 64 := if d = 0 then c else ⟨63 - c, by omega⟩

theorem met_turn (d : Fin 2) (c : Fin 64) : met d (turn d c).val = c := by
  refine Fin.ext ?_
  unfold met turn
  split_ifs <;> simp <;> omega

theorem met_inj (d : Fin 2) {m n : ℕ} (hm : m < 64) (hn : n < 64) (h : (met d m).val = (met d n).val) : m = n := by
  unfold met at h
  split_ifs at h <;> simp at h <;> omega

/-- The state before step `n`. -/
def Inp.state (X : Inp) (d : Fin 2) : ℕ → Fin 128 → Fin 128 → EReal
  | 0 => fun _ _ => 0
  | n + 1 => fun a l => X.state d n a l * X.dec d (met d n) l + X.add d (met d n) a l

theorem off5_eq (i : grid0.Coords) (k : Fin k0_t2_loop.trips) : k0_off5 i k = ![0, 0, (met (i 1) k.val).val, 0, 0] := by
  have h : ∀ (e : Fin 2) (k : Fin k0_t2_loop.trips), k0_off5 (fun a => match a with | 0 => (0 : Fin 8) | 1 => e) k = ![0, 0, (met e k.val).val, 0, 0] := by decide +kernel
  exact h (i 1) k
theorem off6_eq (i : grid0.Coords) (k : Fin k0_t2_loop.trips) : k0_off6 i k = ![0, 0, (met (i 1) k.val).val, 0, 0] := off5_eq i k
theorem off7_eq (i : grid0.Coords) (k : Fin k0_t2_loop.trips) : k0_off7 i k = ![(met (i 1) k.val).val, 0, 0] := by
  have h : ∀ (e : Fin 2) (k : Fin k0_t2_loop.trips), k0_off7 (fun a => match a with | 0 => (0 : Fin 8) | 1 => e) k = ![(met e k.val).val, 0, 0] := by decide +kernel
  exact h (i 1) k

theorem p_keep (st : FVec Ideal S128x128 .f32) (a l : Fin 128) : k0_pay6 (F := Ideal) st (ix5 0 0 0 a l) = st (ix2 a l) := by
  pointwise [k0_pay6]
theorem p_none (a l : Fin 128) : k0_pay5 (F := Ideal) (ix2 a l) = 0 := by
  pointwise [k0_pay5]

variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (x13 : BufTy.Contents (Elt Ideal) a13.view.ty) (x14 : BufTy.Contents (Elt Ideal) a14.view.ty) (X : Inp)
  (hd : ∀ y, a13.view.read (Elt Ideal) x13 y = outD X (i 1) y) (hc : ∀ y, a14.view.read (Elt Ideal) x14 y = outC X (i 1) y)

include hd hc in
theorem trip_next (k : Fin k0_t2_loop.trips) (acc : FVec Ideal S128x128 .f32) (a l : Fin 128) :
    (trip_k0_t2 (F := Ideal) Variants.none c none i a2 h2 a3 h3 a4 h4 a5 h5 a6 h6 a7 h7 a8 h8 a9 h9 a10 h10 a11 h11 a12 h12 a13 h13 a14 h14 x13 x14 k).1 acc (ix2 a l) = acc (ix2 a l) * X.dec (i 1) (met (i 1) k.val) l + X.add (i 1) (met (i 1) k.val) a l := by
  unfold trip_k0_t2
  dsimp only
  refine (p_next _ _ _ a l).trans ?_
  refine congrArg₂ (· + ·) (congrArg _ ?_) ?_
  · refine (hd _).trans ?_
    unfold outD
    congr 1
    · refine Fin.ext ?_
      simp [off6_eq]
    · refine Fin.ext ?_
      simp [off6_eq]
  · refine (hc _).trans ?_
    unfold outC
    congr 1
    · refine Fin.ext ?_
      simp [off7_eq]
    · refine Fin.ext ?_
      simp [off7_eq]
    · refine Fin.ext ?_
      simp [off7_eq]

theorem trip_keep (k : Fin k0_t2_loop.trips) (acc : FVec Ideal S128x128 .f32) :
    (trip_k0_t2 (F := Ideal) Variants.none c none i a2 h2 a3 h3 a4 h4 a5 h5 a6 h6 a7 h7 a8 h8 a9 h9 a10 h10 a11 h11 a12 h12 a13 h13 a14 h14 x13 x14 k).2.1 acc = [⟨Rect.unit (s := S1x1x64x128x128) (k0_off5 i k) S1x1x1x128x128.size (k0_off5_inb i k), k0_pay6 acc⟩] := by
  unfold trip_k0_t2
  rfl

include hd hc in
/-- THE SCAN: before step `n` the carried value is the state, and every chunk met before holds the state it was met with. -/
theorem scan (z : FVec Ideal S128x128 .f32) (hz : ∀ a l, z (ix2 a l) = 0) (f11 : BufTy.Contents (Elt Ideal) a11.view.ty) :
    ∀ n : ℕ, n ≤ 64 → (∀ a l, (st_k0_t2 (F := Ideal) Variants.none c none i a2 h2 a3 h3 a4 h4 a5 h5 a6 h6 a7 h7 a8 h8 a9 h9 a10 h10 a11 h11 a12 h12 a13 h13 a14 h14 x13 x14 z n).1 (ix2 a l) = X.state (i 1) n a l)
      ∧ ∀ m < n, ∀ a l, a11.view.read (Elt Ideal) (a11.view.writes (Elt Ideal) f11 (st_k0_t2 (F := Ideal) Variants.none c none i a2 h2 a3 h3 a4 h4 a5 h5 a6 h6 a7 h7 a8 h8 a9 h9 a10 h10 a11 h11 a12 h12 a13 h13 a14 h14 x13 x14 z n).2) (ix5 0 0 (met (i 1) m) a l) = X.state (i 1) m a l := by
  intro n
  induction n with
  | zero => exact fun _ => ⟨hz, fun m hm => absurd hm (Nat.not_lt_zero m)⟩
  | succ n ih =>
    intro hn
    obtain ⟨e1, e2⟩ := ih (by omega)
    have e := st_k0_t2_succ (F := Ideal) Variants.none c none i a2 h2 a3 h3 a4 h4 a5 h5 a6 h6 a7 h7 a8 h8 a9 h9 a10 h10 a11 h11 a12 h12 a13 h13 a14 h14 x13 x14 z ⟨n, lt_of_lt_of_eq (show n < 64 by omega) rfl⟩
    rw [show (st_k0_t2 (F := Ideal) Variants.none c none i a2 h2 a3 h3 a4 h4 a5 h5 a6 h6 a7 h7 a8 h8 a9 h9 a10 h10 a11 h11 a12 h12 a13 h13 a14 h14 x13 x14 z (n + 1)) = _ from e]
    refine ⟨fun a l => ?_, fun m hm a l => ?_⟩
    · refine (trip_next c i x13 x14 X hd hc _ _ a l).trans ?_
      rw [e1]
      rfl
    · dsimp only
      unfold tripL_k0_t2
      rw [trip_keep]
      by_cases hmn : m = n
      · subst hmn
        refine Eq.trans (View.read_writes_cons_hit_of_coords _ _ _ _ _ (ix5 0 0 0 a l) _ ?_) ?_
        rotate_left
        · exact (p_keep _ a l).trans (e1 a l)
        intro j
        match j with
        | 0 => simp [off5_eq]
        | 1 => simp [off5_eq]
        | 2 => simp [off5_eq]
        | 3 => simp [off5_eq]
        | 4 => simp [off5_eq]
      · refine (View.read_writes_cons_miss_of_axis _ _ _ _ _ 2 (met (i 1) n).val 1 (by show k0_off5 i _ 2 = _; rw [off5_eq]; rfl) rfl rfl ?_).trans (e2 m (by omega) a l)
        have hne : (met (i 1) m).val ≠ (met (i 1) n).val := fun h => hmn (met_inj _ (by omega) (by omega) h)
        show (met (i 1) m).val < _ ∨ _ ≤ (met (i 1) m).val
        omega

end Gla
-- ==== Proof.GlaInter.lean ====
/- The third loop of the gated recurrence: every row receives what the state before its chunk gives it. -/
module

public import proofs.«01_k».proof.Proof.GlaScan

@[expose] public section

set_option maxRecDepth 16384

noncomputable section

namespace Gla

open Idealize.ShloMosaic Idealize.ShloMosaic.TcCoe
open Cert.Kernel15Ideal Cert.Kernel15Ideal.Gen Cert.Reals

/-- What a row receives from the state before its chunk. -/
def Inp.inter (X : Inp) (d : Fin 2) (r : Fin 4096) (l : Fin 128) : EReal := ∑ j : Fin 128, X.qt r j * X.state d (turn d (chunkOf r)).val l j

/-- The chunk that way `w` of trip `k` takes. -/
abbrev chunkAt (k : Fin k0_t3_loop.trips) (w : Fin 32) : Fin 64 := ⟨k.val + 2 * w, by have : k.val < 2 := lt_of_lt_of_eq k.isLt rfl; omega⟩

theorem off8_eq : ∀ (k : Fin k0_t3_loop.trips) (w : Fin 32), k0_off8 k (BitVec.ofNat 32 (2 * w.val)) = ![64 * (chunkAt k w).val, 0] := by decide +kernel
theorem off9_eq : ∀ (k : Fin k0_t3_loop.trips) (w : Fin 32), k0_off9 k (BitVec.ofNat 32 (2 * w.val)) = ![0, 64 * (chunkAt k w).val, 0] := by decide +kernel
theorem off10_eq : ∀ (k : Fin k0_t3_loop.trips) (w : Fin 32), k0_off10 k (BitVec.ofNat 32 (2 * w.val)) = ![0, 0, (chunkAt k w).val, 0, 0] := by decide +kernel

abbrev rectI (k : Fin k0_t3_loop.trips) (w : Fin 32) : Rect S4096x128 := Rect.unit (s := S4096x128) (k0_off8 k (BitVec.ofNat 32 (2 * w.val))) S64x128.size (k0_off8_inb k w)

theorem casto (X : FVec Ideal S64x128 .f32) : shapeCast S64x128 X rfl = X := by
  funext y
  obtain ⟨r, l, rfl⟩ : ∃ (r : Fin 64) (l : Fin 128), y = ix2 r l := ⟨y 0, y 1, eq_ix2 y⟩
  pointwise []
theorem castq (X : FVec Ideal S1x64x128 .bf16) (r : Fin 64) (j : Fin 128) : shapeCast S64x128 X shapeCasts_S1x64x128_S64x128 (ix2 r j) = X (ix3 0 r j) := by pointwise []
theorem casts (X : FVec Ideal S1x1x1x128x128 .f32) (a l : Fin 128) : shapeCast S128x128 X shapeCasts_S1x1x1x128x128_S128x128 (ix2 a l) = X (ix5 0 0 0 a l) := by pointwise []

/-- The output's rows of a chunk. -/
def outI (X : Inp) (d : Fin 2) (O : S4096x128.Idx → EReal) (y : S4096x128.Idx) : EReal := O (ix2 (y 0) (y 1)) + X.inter d (y 0) (y 1)

section
variable {a10 : Memref sig .tc .vmem S4096x128 .f32} {a11 : Memref sig .tc .vmem S1x1x64x128x128 .f32} {a12 : Memref sig .tc .vmem S1x4096x128 .bf16}
  (x11 : BufTy.Contents (Elt Ideal) a11.view.ty) (x12 : BufTy.Contents (Elt Ideal) a12.view.ty) (d : Fin 2) (X : Inp)
  (hq : ∀ y, a12.view.read (Elt Ideal) x12 y = outQ X y) (hs : ∀ (c : Fin 64) (a l : Fin 128), a11.view.read (Elt Ideal) x11 (ix5 0 0 c a l) = X.state d (turn d c).val a l)
  (k : Fin k0_t3_loop.trips) (w : Fin 32)

include hq hs in
theorem one_i (f10 : BufTy.Contents (Elt Ideal) a10.view.ty) (O : S4096x128.Idx → EReal) (o : FVec Ideal S64x128 .f32)
    (ho : o = shapeCast S64x128 (View.readAt (Elt Ideal) a10.view (Rect.unit (s := S4096x128) (k0_off8 k (BitVec.ofNat 32 (2 * w.val))) S64x128.size (k0_off8_inb k w)).toLoadRect f10) rfl ∨ o = (View.readAt (Elt Ideal) a10.view (Rect.unit (s := S4096x128) (k0_off8 k (BitVec.ofNat 32 (2 * w.val))) S64x128.size (k0_off8_inb k w)).toLoadRect f10))
    (hO : ∀ (r : Fin 4096) (l : Fin 128), r.val / 64 % 2 = k.val → a10.view.read (Elt Ideal) f10 (ix2 r l) = O (ix2 r l)) (x : S64x128.Idx) :
    k0_pay331 (F := Ideal) o
      (shapeCast S64x128 (View.readAt (Elt Ideal) a12.view (Rect.unit (s := S1x4096x128) (k0_off9 k (BitVec.ofNat 32 (2 * w.val))) S1x64x128.size (k0_off9_inb k w)).toLoadRect x12 : FVec Ideal S1x64x128 .bf16) shapeCasts_S1x64x128_S64x128)
      (shapeCast S128x128 (View.readAt (Elt Ideal) a11.view (Rect.unit (s := S1x1x64x128x128) (k0_off10 k (BitVec.ofNat 32 (2 * w.val))) S1x1x1x128x128.size (k0_off10_inb k w)).toLoadRect x11 : FVec Ideal S1x1x1x128x128 .f32) shapeCasts_S1x1x1x128x128_S128x128) x
      = outI X d O ((rectI k w).emb x) := by
  have hk : k.val < 2 := lt_of_lt_of_eq k.isLt rfl
  obtain ⟨r, l, rfl⟩ : ∃ (r : Fin 64) (l : Fin 128), x = ix2 r l := ⟨x 0, x 1, eq_ix2 x⟩
  have e : (rectI k w).emb (ix2 r l) = ix2 (rowIn (chunkAt k w) r) l := by
    funext j
    match j with
    | 0 => exact Fin.ext (by simp [off8_eq])
    | 1 => exact Fin.ext (by simp [off8_eq])
  have hc : o = (View.readAt (Elt Ideal) a10.view (Rect.unit (s := S4096x128) (k0_off8 k (BitVec.ofNat 32 (2 * w.val))) S64x128.size (k0_off8_inb k w)).toLoadRect f10) := by
    rcases ho with h | h
    · rw [h]
      exact casto _
    · exact h
  subst hc
  have e' : chunkOf (rowIn (chunkAt k w) r) = chunkAt k w := Fin.ext (by simp [rowIn]; omega)
  rw [e, p_inter]
  refine congrArg₂ (· + ·) ?_ (Finset.sum_congr rfl fun j _ => ?_)
  · refine Eq.trans (congrArg (a10.view.read (Elt Ideal) f10) e) (hO _ l ?_)
    show (64 * (k.val + 2 * w.val) + r.val) / 64 % 2 = k.val
    omega
  · rw [castq, casts]
    refine congrArg₂ (· * ·) ?_ ?_
    · refine (hq _).trans ?_
      unfold outQ
      congr 1
      · exact Fin.ext (by simp [off9_eq])
      · exact Fin.ext (by simp [off9_eq])
    · refine Eq.trans (congrArg (a11.view.read (Elt Ideal) x11) ?_) ((hs (chunkAt k w) l j).trans ?_)
      · funext a
        match a with
        | 0 => exact Fin.ext (by simp [off10_eq])
        | 1 => exact Fin.ext (by simp [off10_eq])
        | 2 => exact Fin.ext (by simp [off10_eq])
        | 3 => exact Fin.ext (by simp [off10_eq])
        | 4 => exact Fin.ext (by simp [off10_eq])
      · show _ = X.state d (turn d (chunkOf (rowIn (chunkAt k w) r))).val l j
        rw [e']
end

theorem mem_i (k : Fin k0_t3_loop.trips) (w : Fin 32) (y : S4096x128.Idx) (h : (y 0).val / 64 = (chunkAt k w).val) : y ∈ (rectI k w).set := by
  refine mem_unit _ _ _ y ?_
  rw [off8_eq]
  exact fun j => match j with
    | 0 => ⟨by show 64 * (chunkAt k w).val ≤ _; omega, by show _ < 64 * (chunkAt k w).val + 64; omega⟩
    | 1 => ⟨Nat.zero_le _, lt_of_lt_of_eq (y 1).isLt (Nat.zero_add _).symm⟩

theorem not_mem_i (k : Fin k0_t3_loop.trips) (w : Fin 32) (y : S4096x128.Idx) (h : (y 0).val / 64 % 2 ≠ k.val) : y ∉ (rectI k w).set := by
  have hk : k.val < 2 := lt_of_lt_of_eq k.isLt rfl
  refine Rect.not_mem_set_of_axis _ y 0 (64 * (chunkAt k w).val) 64 (by show k0_off8 k _ 0 = _; rw [off8_eq]; rfl) rfl rfl ?_
  simp only [chunkAt]
  omega

abbrev turn0 : Fin k0_t3_loop.trips := ⟨0, by decide⟩
abbrev turn1 : Fin k0_t3_loop.trips := ⟨1, by decide⟩
abbrev inWays : List (Fin 32) := [31, 30, 29, 28, 27, 26, 25, 24, 23, 22, 21, 20, 19, 18, 17, 16, 15, 14, 13, 12, 11, 10, 9, 8, 7, 6, 5, 4, 3, 2, 1, 0]
theorem mem_inWays (w : Fin 32) : w ∈ inWays := by revert w; decide

section
variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (x11 : BufTy.Contents (Elt Ideal) a11.view.ty) (x12 : BufTy.Contents (Elt Ideal) a12.view.ty) (d : Fin 2) (X : Inp)
  (hq : ∀ y, a12.view.read (Elt Ideal) x12 y = outQ X y) (hs : ∀ (c : Fin 64) (a l : Fin 128), a11.view.read (Elt Ideal) x11 (ix5 0 0 c a l) = X.state d (turn d c).val a l)
  (k : Fin k0_t3_loop.trips) (f10 : BufTy.Contents (Elt Ideal) a10.view.ty)

theorem rects_i : ((trip_k0_t3 (F := Ideal) Variants.none c none i a2 h2 a3 h3 a4 h4 a5 h5 a6 h6 a7 h7 a8 h8 a9 h9 a10 h10 a11 h11 a12 h12 a13 h13 a14 h14 x11 x12 k).1 f10).map (·.1) = inWays.map (rectI k) := by unfold trip_k0_t3; rfl

include hq hs in
theorem trip_i (O : S4096x128.Idx → EReal) (hO : ∀ (r : Fin 4096) (l : Fin 128), r.val / 64 % 2 = k.val → a10.view.read (Elt Ideal) f10 (ix2 r l) = O (ix2 r l)) :
    ∀ p ∈ (trip_k0_t3 (F := Ideal) Variants.none c none i a2 h2 a3 h3 a4 h4 a5 h5 a6 h6 a7 h7 a8 h8 a9 h9 a10 h10 a11 h11 a12 h12 a13 h13 a14 h14 x11 x12 k).1 f10, ∀ x, p.2 x = outI X d O (p.1.emb x) := by
  unfold trip_k0_t3
  dsimp only
  simp only [List.forall_mem_cons, List.not_mem_nil, false_imp_iff, implies_true, and_true]
  exact ⟨one_i x11 x12 d X hq hs k 31 f10 O _ (by first | exact Or.inl rfl | exact Or.inr rfl) hO, one_i x11 x12 d X hq hs k 30 f10 O _ (by first | exact Or.inl rfl | exact Or.inr rfl) hO, one_i x11 x12 d X hq hs k 29 f10 O _ (by first | exact Or.inl rfl | exact Or.inr rfl) hO, one_i x11 x12 d X hq hs k 28 f10 O _ (by first | exact Or.inl rfl | exact Or.inr rfl) hO, one_i x11 x12 d X hq hs k 27 f10 O _ (by first | exact Or.inl rfl | exact Or.inr rfl) hO, one_i x11 x12 d X hq hs k 26 f10 O _ (by first | exact Or.inl rfl | exact Or.inr rfl) hO, one_i x11 x12 d X hq hs k 25 f10 O _ (by first | exact Or.inl rfl | exact Or.inr rfl) hO, one_i x11 x12 d X hq hs k 24 f10 O _ (by first | exact Or.inl rfl | exact Or.inr rfl) hO, one_i x11 x12 d X hq hs k 23 f10 O _ (by first | exact Or.inl rfl | exact Or.inr rfl) hO, one_i x11 x12 d X hq hs k 22 f10 O _ (by first | exact Or.inl rfl | exact Or.inr rfl) hO, one_i x11 x12 d X hq hs k 21 f10 O _ (by first | exact Or.inl rfl | exact Or.inr rfl) hO, one_i x11 x12 d X hq hs k 20 f10 O _ (by first | exact Or.inl rfl | exact Or.inr rfl) hO, one_i x11 x12 d X hq hs k 19 f10 O _ (by first | exact Or.inl rfl | exact Or.inr rfl) hO, one_i x11 x12 d X hq hs k 18 f10 O _ (by first | exact Or.inl rfl | exact Or.inr rfl) hO, one_i x11 x12 d X hq hs k 17 f10 O _ (by first | exact Or.inl rfl | exact Or.inr rfl) hO, one_i x11 x12 d X hq hs k 16 f10 O _ (by first | exact Or.inl rfl | exact Or.inr rfl) hO, one_i x11 x12 d X hq hs k 15 f10 O _ (by first | exact Or.inl rfl | exact Or.inr rfl) hO, one_i x11 x12 d X hq hs k 14 f10 O _ (by first | exact Or.inl rfl | exact Or.inr rfl) hO, one_i x11 x12 d X hq hs k 13 f10 O _ (by first | exact Or.inl rfl | exact Or.inr rfl) hO, one_i x11 x12 d X hq hs k 12 f10 O _ (by first | exact Or.inl rfl | exact Or.inr rfl) hO, one_i x11 x12 d X hq hs k 11 f10 O _ (by first | exact Or.inl rfl | exact Or.inr rfl) hO, one_i x11 x12 d X hq hs k 10 f10 O _ (by first | exact Or.inl rfl | exact Or.inr rfl) hO, one_i x11 x12 d X hq hs k 9 f10 O _ (by first | exact Or.inl rfl | exact Or.inr rfl) hO, one_i x11 x12 d X hq hs k 8 f10 O _ (by first | exact Or.inl rfl | exact Or.inr rfl) hO, one_i x11 x12 d X hq hs k 7 f10 O _ (by first | exact Or.inl rfl | exact Or.inr rfl) hO, one_i x11 x12 d X hq hs k 6 f10 O _ (by first | exact Or.inl rfl | exact Or.inr rfl) hO, one_i x11 x12 d X hq hs k 5 f10 O _ (by first | exact Or.inl rfl | exact Or.inr rfl) hO, one_i x11 x12 d X hq hs k 4 f10 O _ (by first | exact Or.inl rfl | exact Or.inr rfl) hO, one_i x11 x12 d X hq hs k 3 f10 O _ (by first | exact Or.inl rfl | exact Or.inr rfl) hO, one_i x11 x12 d X hq hs k 2 f10 O _ (by first | exact Or.inl rfl | exact Or.inr rfl) hO, one_i x11 x12 d X hq hs k 1 f10 O _ (by first | exact Or.inl rfl | exact Or.inr rfl) hO, one_i x11 x12 d X hq hs k 0 f10 O _ (by first | exact Or.inl rfl | exact Or.inr rfl) hO⟩

include hq hs in
/-- THE OUTPUT AFTER THE THIRD LOOP. -/
theorem loop_i (y : S4096x128.Idx) :
    a10.view.read (Elt Ideal) (a10.view.writes (Elt Ideal) f10 (pb_k0_t3 (F := Ideal) Variants.none c none i a2 h2 a3 h3 a4 h4 a5 h5 a6 h6 a7 h7 a8 h8 a9 h9 a10 h10 a11 h11 a12 h12 a13 h13 a14 h14 x11 x12 f10 k0_t3_loop.trips)) y = outI X d (a10.view.read (Elt Ideal) f10) y := by
  have k1 := pb_k0_t3_succ (F := Ideal) Variants.none c none i a2 h2 a3 h3 a4 h4 a5 h5 a6 h6 a7 h7 a8 h8 a9 h9 a10 h10 a11 h11 a12 h12 a13 h13 a14 h14 x11 x12 f10 turn1
  have k0 := pb_k0_t3_succ (F := Ideal) Variants.none c none i a2 h2 a3 h3 a4 h4 a5 h5 a6 h6 a7 h7 a8 h8 a9 h9 a10 h10 a11 h11 a12 h12 a13 h13 a14 h14 x11 x12 f10 turn0
  have k0' : pb_k0_t3 (F := Ideal) Variants.none c none i a2 h2 a3 h3 a4 h4 a5 h5 a6 h6 a7 h7 a8 h8 a9 h9 a10 h10 a11 h11 a12 h12 a13 h13 a14 h14 x11 x12 f10 turn1.val = (trip_k0_t3 (F := Ideal) Variants.none c none i a2 h2 a3 h3 a4 h4 a5 h5 a6 h6 a7 h7 a8 h8 a9 h9 a10 h10 a11 h11 a12 h12 a13 h13 a14 h14 x11 x12 turn0).1 f10 := by
    refine k0.trans ?_
    show (trip_k0_t3 (F := Ideal) Variants.none c none i a2 h2 a3 h3 a4 h4 a5 h5 a6 h6 a7 h7 a8 h8 a9 h9 a10 h10 a11 h11 a12 h12 a13 h13 a14 h14 x11 x12 turn0).1 f10 ++ [] = _
    simp only [List.append_nil]
  rw [k0'] at k1
  rw [show pb_k0_t3 (F := Ideal) Variants.none c none i a2 h2 a3 h3 a4 h4 a5 h5 a6 h6 a7 h7 a8 h8 a9 h9 a10 h10 a11 h11 a12 h12 a13 h13 a14 h14 x11 x12 f10 k0_t3_loop.trips = _ from k1]
  refine View.read_writes_apply_of_pieces _ _ _ _ ?_ y ?_
  · intro p hp
    rcases List.mem_append.1 hp with hp | hp
    · refine trip_i c i x11 x12 d X hq hs turn1 _ _ ?_ p hp
      intro r l hr
      refine View.read_writes_apply_of_forall_not_mem _ _ _ _ (ofRects_not (rects_i c i x11 x12 turn0 f10) fun q hq => ?_)
      obtain ⟨w, -, rfl⟩ := List.mem_map.1 hq
      refine not_mem_i _ _ _ ?_
      have e1 : r.val / 64 % 2 = 1 := hr
      show r.val / 64 % 2 ≠ 0
      omega
    · exact trip_i c i x11 x12 d X hq hs turn0 f10 _ (fun _ _ _ => rfl) p hp
  · have h0 : (y 0).val < 4096 := (y 0).isLt
    have hc : (y 0).val / 64 = 2 * ((y 0).val / 64 / 2) ∨ (y 0).val / 64 = 1 + 2 * ((y 0).val / 64 / 2) := by omega
    rcases hc with e | e
    · obtain ⟨p, hp, hy⟩ := ofRects (rects_i c i x11 x12 turn0 f10) (List.mem_map_of_mem (mem_inWays ⟨(y 0).val / 64 / 2, by omega⟩)) (mem_i _ _ y (by simp only [chunkAt]; omega))
      exact ⟨p, List.mem_append_right _ hp, hy⟩
    · obtain ⟨p, hp, hy⟩ := ofRects (rects_i c i x11 x12 turn1 _) (List.mem_map_of_mem (mem_inWays ⟨(y 0).val / 64 / 2, by omega⟩)) (mem_i _ _ y (by simp only [chunkAt]; omega))
      exact ⟨p, List.mem_append_left _ hp, hy⟩
end

end Gla
-- ==== Proof.GlaFrame.lean ====
module
public import proofs.«01_k».proof.Proof.GlaRun

@[expose] public section

set_option maxRecDepth 16384

noncomputable section

namespace Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Cert.Kernel15Ideal Cert.Kernel15Ideal.Gen

variable {F : FTy → Type} [FloatOps F]

local notation "𝕄" => MT nD τ sig Unit (Elt F) ℕ (UR sig nD τ) ℕ

attribute [local irreducible] first second

variable (m : (ℓ : Loc nD τ sig) → Buf (Elt F) ℓ) (ρ : Dev nD → PrngReg)

/-- What may be said of the two results' blocks after a point: of the gated result and of the sum of the directions. -/
abbrev Says (F : FTy → Type) [FloatOps F] := Dev nD → Fin cfg0.N → (S4096x128.Idx → Elt F .bf16) → (S4096x128.Idx → Elt F .f32) → Prop

/-- The body's proof data: it leaves each input block as found, and of the two results' blocks what `said` says; of the
    saved states, the scaled queries and the decays nothing is said. -/
def rdat (said : Says F) (c : Dev nD) : RDat τ (Elt F) Unit ℕ (UR sig nD τ) ℕ cfg0 c where
  A w := V m c (Pipeline.arrRef spec0 w)
  after := fun
    | 0, _, Y, X => X = Y
    | 1, _, Y, X => X = Y
    | 2, _, Y, X => X = Y
    | 3, _, Y, X => X = Y
    | 4, _, Y, X => X = Y
    | 5, _, Y, X => X = Y
    | 6, _, Y, X => X = Y
    | 7, t, _, X => ∃ X', said c t X X'
    | 8, t, _, X => ∃ X', said c t X' X
    | 9, _, _, _ => True
    | 10, _, _, _ => True
    | 11, _, _, _ => True
  Φ _ := Pipeline.ΦA spec0 c
  q w := Pipeline.shareOf spec0 w
  owed _ := 0

theorem finds_0 (said : Says F) (c : Dev nD) (t : Fin cfg0.N) (Y) (h : (rdat m said c).Finds 0 t Y) : Y = iblk m c 0 t := by
  obtain ⟨d, rfl⟩ := (rdat m said c).finds_in_eq_fetched 0 rfl (fun _ _ _ => rfl) (fun _ _ _ h => h) t Y h
  rfl

theorem finds_1 (said : Says F) (c : Dev nD) (t : Fin cfg0.N) (Y) (h : (rdat m said c).Finds 1 t Y) : Y = iblk m c 1 t := by
  obtain ⟨d, rfl⟩ := (rdat m said c).finds_in_eq_fetched 1 rfl (fun _ _ _ => rfl) (fun _ _ _ h => h) t Y h
  rfl

theorem finds_2 (said : Says F) (c : Dev nD) (t : Fin cfg0.N) (Y) (h : (rdat m said c).Finds 2 t Y) : Y = iblk m c 2 t := by
  obtain ⟨d, rfl⟩ := (rdat m said c).finds_in_eq_fetched 2 rfl (fun _ _ _ => rfl) (fun _ _ _ h => h) t Y h
  rfl

theorem finds_3 (said : Says F) (c : Dev nD) (t : Fin cfg0.N) (Y) (h : (rdat m said c).Finds 3 t Y) : Y = iblk m c 3 t := by
  obtain ⟨d, rfl⟩ := (rdat m said c).finds_in_eq_fetched 3 rfl (fun _ _ _ => rfl) (fun _ _ _ h => h) t Y h
  rfl

theorem finds_4 (said : Says F) (c : Dev nD) (t : Fin cfg0.N) (Y) (h : (rdat m said c).Finds 4 t Y) : Y = iblk m c 4 t := by
  obtain ⟨d, rfl⟩ := (rdat m said c).finds_in_eq_fetched 4 rfl (fun _ _ _ => rfl) (fun _ _ _ h => h) t Y h
  rfl

theorem finds_5 (said : Says F) (c : Dev nD) (t : Fin cfg0.N) (Y) (h : (rdat m said c).Finds 5 t Y) : Y = iblk m c 5 t := by
  obtain ⟨d, rfl⟩ := (rdat m said c).finds_in_eq_fetched 5 rfl (fun _ _ _ => rfl) (fun _ _ _ h => h) t Y h
  rfl

theorem finds_6 (said : Says F) (c : Dev nD) (t : Fin cfg0.N) (Y) (h : (rdat m said c).Finds 6 t Y) : Y = iblk m c 6 t := by
  obtain ⟨d, rfl⟩ := (rdat m said c).finds_in_eq_fetched 6 rfl (fun _ _ _ => rfl) (fun _ _ _ h => h) t Y h
  rfl

/-- The first direction is on at the even points. -/
theorem on_first (t : Fin cfg0.N) : onFirst (grid0.coords t) ↔ t.val % 2 = 0 := by
  have h : (grid0.coords t 1).val = t.val / 1 % 2 := Pipeline.Grid.coords_val t 1 (by decide) rfl
  simp only [onFirst, h]; word_cmp
/-- The second direction is on at the odd points. -/
theorem on_second (t : Fin cfg0.N) : onSecond (grid0.coords t) ↔ t.val % 2 = 1 := by
  have h : (grid0.coords t 1).val = t.val / 1 % 2 := Pipeline.Grid.coords_val t 1 (by decide) rfl
  simp only [onSecond, h]; word_cmp

/-- The run of the first direction at a point. -/
abbrev firstAt (c : Dev nD) (t : Fin cfg0.N) (h : t.val % 2 = 0) :=
  first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) ⟨cc0_scratch0, rfl, rfl, rfl, HEq.rfl⟩ ((on_first t).mpr h) (fun h1 => by have := (on_second t).mp h1; omega) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t))

/-- The run of the second direction at a point. -/
abbrev secondAt (c : Dev nD) (t : Fin cfg0.N) (h : t.val % 2 = 1) :=
  second (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) ⟨cc0_scratch0, rfl, rfl, rfl, HEq.rfl⟩ (fun h1 => by have := (on_first t).mp h1; omega) ((on_second t).mpr h) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t))

/-- What the runs must leave: at a point of the first direction what is said, at one of the second what is said given what
    was said after the first. -/
structure Holds (said : Says F) : Prop where
  first : ∀ c t (h : t.val % 2 = 0) f9 f10 f11 f12 f13 f14,
    said c t ((st0_7 t).view.read (Elt F) ((firstAt m c t h).1 f9 f10 f11 f12 f13 f14)) ((st0_8 t).view.read (Elt F) ((firstAt m c t h).2.1 f9 f10 f11 f12 f13 f14))
  second : ∀ c t (h : t.val % 2 = 1) f9 f10 f11 f12 f13 f14,
    (∃ X', said c ⟨t.val - 1, Nat.lt_of_le_of_lt (Nat.sub_le _ _) t.isLt⟩ X' ((st0_8 t).view.read (Elt F) f10)) →
    said c t ((st0_7 t).view.read (Elt F) ((secondAt m c t h).1 f9 f10 f11 f12 f13 f14)) ((st0_8 t).view.read (Elt F) ((secondAt m c t h).2.1 f9 f10 f11 f12 f13 f14))

/-- At a point of the second direction the sum's buffer holds what the first direction left in it. -/
theorem finds_8 (said : Says F) (c : Dev nD) (t : Fin cfg0.N) (h : t.val % 2 = 1) (Y) (hY : (rdat m said c).Finds 8 t Y) :
    ∃ X', said c ⟨t.val - 1, Nat.lt_of_le_of_lt (Nat.sub_le _ _) t.isLt⟩ X' Y := by
  rcases ((rdat m said c).finds_of_pos ((cfg0.win 8).fetch_out rfl t) (by omega) Y).mp hY with hfl | ⟨_, _, hR⟩
  · have := (flush0_8 _).mp hfl
    simp only at this; omega
  · exact hR

/-- A buffer at raw contents is one at some contents of a relation that holds of what they read. -/
theorem give (c : Dev nD) {sp : Space} {sh : Shape} {e : EltTy} (M : Memref sig .tc sp sh e) (f : M.view.ty.Contents (Elt F))
    (R : (sh.Idx → Elt F e) → Prop) (h : R (M.view.read (Elt F) f)) :
    (M.view.loc (c : Thread nD τ) ↦[M.view.set]{fullShare} f : sProp 𝕄)
      ⊢ iprop(∃ X, ⌜R X⌝ ∗ ∃ g, ⌜M.view.read (Elt F) g = X⌝ ∗ (M.view.loc (c : Thread nD τ) ↦[M.view.set]{fullShare} g)) := by
  iintro H
  iexists _; isplitr
  · ipureintro; exact h
  iexists f; isplitr
  · ipureintro; rfl
  iexact H

/-- The scratch buffer, as the runs hold it. -/
theorem scratch_eq (c : Dev nD) :
    (Pipeline.scopedRest (Ix := Unit) (Name := ℕ) (U := UR sig nD τ) (Lvl := ℕ) (Val := Elt F) spec0 c : sProp 𝕄)
      = iprop(∃ f, ((Memref.whole cc0_scratch0).view.loc (c : Thread nD τ) ↦[(Memref.whole cc0_scratch0).view.set]{fullShare} f)) := by
  rw [scopedRest0_eq]; simp only [View.set_whole, Memref.view_whole]

set_option maxHeartbeats 12800000 in
/-- The body obligation at every point, from what its two runs leave. -/
theorem body_obligation (said : Says F) (hs : Holds m said) (c : Dev nD) :
    (rdat m said c).BodyObligation (defs₀ (F := F)) Variants.none () Set.univ := by
  intro t Y hY
  have hrow : defs₀ (F := F) .tc cfg0.body (cfg0.bodyArgs t (cfg0.slots t)) = bodyAt0 t := by
    unfold defs₀; rw [Defs.onTc_tc]
  rw [bigSep_W0, bigSep_W0, hrow]
  have h8 := hY 8
  have hΦ : ∀ s, (rdat m said c).Φ s = Pipeline.ΦA spec0 c := fun _ => rfl
  rw [hΦ, hΦ, show (rdat m said c).owesAt () t.succ = (rdat m said c).owesAt () t.castSucc from rfl]
  unfold Pipeline.ΦA
  rw [scratch_eq]
  unfold owns
  iintro ⟨⟨⟨%fs, HS⟩, Hg⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  have hy0 := finds_0 m said c t _ (hY 0)
  rw [hy0] at e0 ⊢
  obtain rfl := (hstage0_0 ((cfg0.slots t 0).cast nbuf0_0)).eq_unread e0
  have hy1 := finds_1 m said c t _ (hY 1)
  rw [hy1] at e1 ⊢
  obtain rfl := (hstage0_1 ((cfg0.slots t 1).cast nbuf0_1)).eq_unread e1
  have hy2 := finds_2 m said c t _ (hY 2)
  rw [hy2] at e2 ⊢
  obtain rfl := (hstage0_2 ((cfg0.slots t 2).cast nbuf0_2)).eq_unread e2
  have hy3 := finds_3 m said c t _ (hY 3)
  rw [hy3] at e3 ⊢
  obtain rfl := (hstage0_3 ((cfg0.slots t 3).cast nbuf0_3)).eq_unread e3
  have hy4 := finds_4 m said c t _ (hY 4)
  rw [hy4] at e4 ⊢
  obtain rfl := (hstage0_4 ((cfg0.slots t 4).cast nbuf0_4)).eq_unread e4
  have hy5 := finds_5 m said c t _ (hY 5)
  rw [hy5] at e5 ⊢
  obtain rfl := (hstage0_5 ((cfg0.slots t 5).cast nbuf0_5)).eq_unread e5
  have hy6 := finds_6 m said c t _ (hY 6)
  rw [hy6] at e6 ⊢
  obtain rfl := (hstage0_6 ((cfg0.slots t 6).cast nbuf0_6)).eq_unread e6
  rcases (by omega : t.val % 2 = 0 ∨ t.val % 2 = 1) with h | h
  · have hsay := hs.first c t h f7 f8 f9 f10 f11 fs
    iapply ((firstAt m c t h).2.2.2.2.2.2 Set.univ f7 f8 f9 f10 f11 fs _)
    isplitl [H0 H1 H2 H3 H4 H5 H6 H7 H8 H9 H10 H11 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    unfold held
    iintro ⟨H0, H1, H2, H3, H4, H5, H6, H7, H8, H9, H10, H11, HS⟩
    isplitl [HS Hg]
    · isplitl [HS]
      · iexists _; iexact HS
      · iexact Hg
    isplitl [Ho]; · iexact Ho
    isplitl [H0]; · iapply (give c (st0_0 t) _ ((rdat m said c).after 0 t (iblk m c 0 t)) (Memref.IsWhole.read_unread _ _)); iexact H0
    isplitl [H1]; · iapply (give c (st0_1 t) _ ((rdat m said c).after 1 t (iblk m c 1 t)) (Memref.IsWhole.read_unread _ _)); iexact H1
    isplitl [H2]; · iapply (give c (st0_2 t) _ ((rdat m said c).after 2 t (iblk m c 2 t)) (Memref.IsWhole.read_unread _ _)); iexact H2
    isplitl [H3]; · iapply (give c (st0_3 t) _ ((rdat m said c).after 3 t (iblk m c 3 t)) (Memref.IsWhole.read_unread _ _)); iexact H3
    isplitl [H4]; · iapply (give c (st0_4 t) _ ((rdat m said c).after 4 t (iblk m c 4 t)) (Memref.IsWhole.read_unread _ _)); iexact H4
    isplitl [H5]; · iapply (give c (st0_5 t) _ ((rdat m said c).after 5 t (iblk m c 5 t)) (Memref.IsWhole.read_unread _ _)); iexact H5
    isplitl [H6]; · iapply (give c (st0_6 t) _ ((rdat m said c).after 6 t (iblk m c 6 t)) (Memref.IsWhole.read_unread _ _)); iexact H6
    isplitl [H7]; · iapply (give c (st0_7 t) _ ((rdat m said c).after 7 t (Y 7)) ⟨_, hsay⟩); iexact H7
    isplitl [H8]; · iapply (give c (st0_8 t) _ ((rdat m said c).after 8 t (Y 8)) ⟨_, hsay⟩); iexact H8
    isplitl [H9]; · iapply (give c (st0_9 t) _ ((rdat m said c).after 9 t (Y 9)) trivial); iexact H9
    isplitl [H10]; · iapply (give c (st0_10 t) _ ((rdat m said c).after 10 t (Y 10)) trivial); iexact H10
    iapply (give c (st0_11 t) _ ((rdat m said c).after 11 t (Y 11)) trivial); iexact H11
  · have hsay := hs.second c t h f7 f8 f9 f10 f11 fs (by rw [e8]; exact finds_8 m said c t h _ h8)
    iapply ((secondAt m c t h).2.2.2.2.2.2 Set.univ f7 f8 f9 f10 f11 fs _)
    isplitl [H0 H1 H2 H3 H4 H5 H6 H7 H8 H9 H10 H11 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    unfold held
    iintro ⟨H0, H1, H2, H3, H4, H5, H6, H7, H8, H9, H10, H11, HS⟩
    isplitl [HS Hg]
    · isplitl [HS]
      · iexists _; iexact HS
      · iexact Hg
    isplitl [Ho]; · iexact Ho
    isplitl [H0]; · iapply (give c (st0_0 t) _ ((rdat m said c).after 0 t (iblk m c 0 t)) (Memref.IsWhole.read_unread _ _)); iexact H0
    isplitl [H1]; · iapply (give c (st0_1 t) _ ((rdat m said c).after 1 t (iblk m c 1 t)) (Memref.IsWhole.read_unread _ _)); iexact H1
    isplitl [H2]; · iapply (give c (st0_2 t) _ ((rdat m said c).after 2 t (iblk m c 2 t)) (Memref.IsWhole.read_unread _ _)); iexact H2
    isplitl [H3]; · iapply (give c (st0_3 t) _ ((rdat m said c).after 3 t (iblk m c 3 t)) (Memref.IsWhole.read_unread _ _)); iexact H3
    isplitl [H4]; · iapply (give c (st0_4 t) _ ((rdat m said c).after 4 t (iblk m c 4 t)) (Memref.IsWhole.read_unread _ _)); iexact H4
    isplitl [H5]; · iapply (give c (st0_5 t) _ ((rdat m said c).after 5 t (iblk m c 5 t)) (Memref.IsWhole.read_unread _ _)); iexact H5
    isplitl [H6]; · iapply (give c (st0_6 t) _ ((rdat m said c).after 6 t (iblk m c 6 t)) (Memref.IsWhole.read_unread _ _)); iexact H6
    isplitl [H7]; · iapply (give c (st0_7 t) _ ((rdat m said c).after 7 t (Y 7)) ⟨_, hsay⟩); iexact H7
    isplitl [H8]; · iapply (give c (st0_8 t) _ ((rdat m said c).after 8 t (Y 8)) ⟨_, hsay⟩); iexact H8
    isplitl [H9]; · iapply (give c (st0_9 t) _ ((rdat m said c).after 9 t (Y 9)) trivial); iexact H9
    isplitl [H10]; · iapply (give c (st0_10 t) _ ((rdat m said c).after 10 t (Y 10)) trivial); iexact H10
    iapply (give c (st0_11 t) _ ((rdat m said c).after 11 t (Y 11)) trivial); iexact H11

-- the launch's implicit arguments are found by unifying its conclusion with this one
set_option backward.isDefEq.respectTransparency.types false in
/-- The run of the whole program: every array at what the proof data allow, every other buffer as the region found it. -/
theorem run_all (said : Says F) (hs : Holds m said) :
    θ_run defs (onTc (τ := τ) (main (F := F))) (s₀ m ρ) (fun r => Pipeline.RDat.FramePost cfg0 (rdat m said) (V m) r ∧ r.2.sem = fun _ => 0) :=
  Pipeline.RDat.θ_run_frame_track_shared (Q' := _) cfgs (0 : Fin 1) launch₀0 defs₀ Variants.none (rdat m said) m ρ main
    (hbody := fun c => body_obligation m said hs c) (hq := fun _ _ _ => rfl)
    (howed := fun _ _ => rfl) (V := V m) (hmain := hmain m Variants.none) (hA := fun _ _ => rfl) (hin := fun _ => .rfl) (hout := fun _ => .rfl)

/-- Of nothing said, the runs leave it. -/
theorem holds_nothing : Holds m (fun _ _ _ _ => True) := ⟨fun _ _ _ _ _ _ _ _ _ => trivial, fun _ _ _ _ _ _ _ _ _ _ => trivial⟩

/-- The program ends with its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 3 rfl).trans (V_main_arg0 m c),
      ((h.1 c).2 main_arg1 (Pipeline.mem_restRefs_of main_arg1 (by decide) (by decide))).trans (V_main_arg1 m c),
      (h.1.arr_in c 5 rfl).trans (V_main_arg2 m c)⟩, h.2⟩) (run_all m ρ _ (holds_nothing m))

end Gla

end
-- ==== Proof.GlaPoint.lean ====
/- What a grid point of the gated recurrence leaves: the output after the three loops and, on the second direction, the
   gated output. -/
module

public import proofs.«01_k».proof.Proof.GlaInter
public import proofs.«01_k».proof.Proof.GlaFrame
public import proofs.«01_k».proof.Proof.Gate
public import Idealize.ShloMosaic.Lib.VecWindow

@[expose] public section

set_option maxRecDepth 16384

noncomputable section

namespace Gla

open Idealize.ShloMosaic Idealize.ShloMosaic.TcCoe
open Cert.Kernel15Ideal Cert.Kernel15Ideal.Gen Cert.Reals

/-- What a direction adds to the output: what a row receives from its block and from the state before its chunk. -/
def Inp.gives (X : Inp) (d : Fin 2) (O : EReal) (r : Fin 4096) (l : Fin 128) : EReal := O + X.intra d r l + X.inter d r l

theorem trips_scan : k0_t2_loop.trips = 64 := by decide

section
variable (c : Dev nD) (i : grid0.Coords) {a2 : Memref sig .tc .vmem S4096x128 .f32} {h2 : a2.IsWhole} {a3 : Memref sig .tc .vmem S4096x128 .f32} {h3 : a3.IsWhole} {a4 : Memref sig .tc .vmem S4096x128 .f32} {h4 : a4.IsWhole} {a5 : Memref sig .tc .vmem S4096x128 .f32} {h5 : a5.IsWhole} {a6 : Memref sig .tc .vmem S1x1x1x128 .f32} {h6 : a6.IsWhole} {a7 : Memref sig .tc .vmem S1x128 .f32} {h7 : a7.IsWhole} {a8 : Memref sig .tc .vmem S1x4096x128 .f32} {h8 : a8.IsWhole} {a9 : Memref sig .tc .vmem S4096x128 .bf16} {h9 : a9.IsWhole} {a10 : Memref sig .tc .vmem S4096x128 .f32} {h10 : a10.IsWhole} {a11 : Memref sig .tc .vmem S1x1x64x128x128 .f32} {h11 : a11.IsWhole} {a12 : Memref sig .tc .vmem S1x4096x128 .bf16} {h12 : a12.IsWhole} {a13 : Memref sig .tc .vmem S1x1x64x8x128 .f32} {h13 : a13.IsWhole} {a14 : Memref sig .tc .vmem S64x128x128 .f32} {h14 : a14.IsWhole}
  (v58 : FVec Ideal S1x1x1x128 .f32) (x2 : BufTy.Contents (Elt Ideal) a2.view.ty) (x3 : BufTy.Contents (Elt Ideal) a3.view.ty) (x4 : BufTy.Contents (Elt Ideal) a4.view.ty) (x8 : BufTy.Contents (Elt Ideal) a8.view.ty)
  (f10 : BufTy.Contents (Elt Ideal) a10.view.ty) (f11 : BufTy.Contents (Elt Ideal) a11.view.ty) (f12 : BufTy.Contents (Elt Ideal) a12.view.ty) (f13 : BufTy.Contents (Elt Ideal) a13.view.ty) (f14 : BufTy.Contents (Elt Ideal) a14.view.ty)

/-- THE OUTPUT AFTER THE THREE LOOPS. -/
theorem loops_o (y : S4096x128.Idx) :
    a10.view.read (Elt Ideal) (a10.view.writes (Elt Ideal) (a10.view.writes (Elt Ideal) f10 (pb_k0_t1 (F := Ideal) Variants.none c none i a2 h2 a3 h3 a4 h4 a5 h5 a6 h6 a7 h7 a8 h8 a9 h9 a10 h10 a11 h11 a12 h12 a13 h13 a14 h14 (BitVec.ofNat 32 (i 1).val) first.sl.v0 first.sl.v1 first.sl.v25 (divsi first.sl.v1 first.sl.v2) first.sl.v41 (remsi first.sl.v1 first.sl.v2) first.sl.v4 v58 x2 x3 x4 x8 f10 f12 f13 f14 k0_t1_loop.trips).1) (pb_k0_t3 (F := Ideal) Variants.none c none i a2 h2 a3 h3 a4 h4 a5 h5 a6 h6 a7 h7 a8 h8 a9 h9 a10 h10 a11 h11 a12 h12 a13 h13 a14 h14
      (a11.view.writes (Elt Ideal) f11 (st_k0_t2 (F := Ideal) Variants.none c none i a2 h2 a3 h3 a4 h4 a5 h5 a6 h6 a7 h7 a8 h8 a9 h9 a10 h10 a11 h11 a12 h12 a13 h13 a14 h14 (a13.view.writes (Elt Ideal) f13 (pb_k0_t1 (F := Ideal) Variants.none c none i a2 h2 a3 h3 a4 h4 a5 h5 a6 h6 a7 h7 a8 h8 a9 h9 a10 h10 a11 h11 a12 h12 a13 h13 a14 h14 (BitVec.ofNat 32 (i 1).val) first.sl.v0 first.sl.v1 first.sl.v25 (divsi first.sl.v1 first.sl.v2) first.sl.v41 (remsi first.sl.v1 first.sl.v2) first.sl.v4 v58 x2 x3 x4 x8 f10 f12 f13 f14 k0_t1_loop.trips).2.2.1) (a14.view.writes (Elt Ideal) f14 (pb_k0_t1 (F := Ideal) Variants.none c none i a2 h2 a3 h3 a4 h4 a5 h5 a6 h6 a7 h7 a8 h8 a9 h9 a10 h10 a11 h11 a12 h12 a13 h13 a14 h14 (BitVec.ofNat 32 (i 1).val) first.sl.v0 first.sl.v1 first.sl.v25 (divsi first.sl.v1 first.sl.v2) first.sl.v41 (remsi first.sl.v1 first.sl.v2) first.sl.v4 v58 x2 x3 x4 x8 f10 f12 f13 f14 k0_t1_loop.trips).2.2.2) k0_pay5 k0_t2_loop.trips).2)
      (a12.view.writes (Elt Ideal) f12 (pb_k0_t1 (F := Ideal) Variants.none c none i a2 h2 a3 h3 a4 h4 a5 h5 a6 h6 a7 h7 a8 h8 a9 h9 a10 h10 a11 h11 a12 h12 a13 h13 a14 h14 (BitVec.ofNat 32 (i 1).val) first.sl.v0 first.sl.v1 first.sl.v25 (divsi first.sl.v1 first.sl.v2) first.sl.v41 (remsi first.sl.v1 first.sl.v2) first.sl.v4 v58 x2 x3 x4 x8 f10 f12 f13 f14 k0_t1_loop.trips).2.1) (a10.view.writes (Elt Ideal) f10 (pb_k0_t1 (F := Ideal) Variants.none c none i a2 h2 a3 h3 a4 h4 a5 h5 a6 h6 a7 h7 a8 h8 a9 h9 a10 h10 a11 h11 a12 h12 a13 h13 a14 h14 (BitVec.ofNat 32 (i 1).val) first.sl.v0 first.sl.v1 first.sl.v25 (divsi first.sl.v1 first.sl.v2) first.sl.v41 (remsi first.sl.v1 first.sl.v2) first.sl.v4 v58 x2 x3 x4 x8 f10 f12 f13 f14 k0_t1_loop.trips).1) k0_t3_loop.trips)) y
      = (runs x2 x3 x4 x8 v58).gives (i 1) (a10.view.read (Elt Ideal) f10 y) (y 0) (y 1) := by
  refine (loop_i c i _ _ (i 1) (runs x2 x3 x4 x8 v58) (loop_q c i (i 1) v58 x2 x3 x4 x8 f10 f12 f13 f14) ?_ _ y).trans ?_
  · intro n a l
    have e := (scan (h2 := h2) (h3 := h3) (h4 := h4) (h5 := h5) (h6 := h6) (h7 := h7) (h8 := h8) (h9 := h9) (h10 := h10) (h11 := h11) (h12 := h12) (h13 := h13) (h14 := h14) c i _ _ (runs x2 x3 x4 x8 v58) (loop_d (h2 := h2) (h3 := h3) (h4 := h4) (h5 := h5) (h6 := h6) (h7 := h7) (h8 := h8) (h9 := h9) (h10 := h10) (h11 := h11) (h12 := h12) (h13 := h13) (h14 := h14) c i (i 1) v58 x2 x3 x4 x8 f10 f12 f13 f14)
      (loop_c (h2 := h2) (h3 := h3) (h4 := h4) (h5 := h5) (h6 := h6) (h7 := h7) (h8 := h8) (h9 := h9) (h10 := h10) (h11 := h11) (h12 := h12) (h13 := h13) (h14 := h14) c i (i 1) v58 x2 x3 x4 x8 f10 f12 f13 f14) k0_pay5 p_none f11 k0_t2_loop.trips (le_of_eq trips_scan)).2 (turn (i 1) n).val (lt_of_lt_of_eq (turn (i 1) n).isLt trips_scan.symm) a l
    exact (congrArg (fun z : Fin 64 => a11.view.read (Elt Ideal) _ (ix5 0 0 z a l)) (met_turn (i 1) n)).symm.trans e
  · unfold outI
    rw [loop_o c i (i 1) v58 x2 x3 x4 x8 f10 f12 f13 f14]
    obtain ⟨r, l, rfl⟩ : ∃ (r : Fin 4096) (l : Fin 128), y = ix2 r l := ⟨y 0, y 1, eq_ix2 y⟩
    rfl
end

/-- The gated output of a row: the normed row, its gain, and the gate. -/
def gatedRow (o : Fin 128 → EReal) (n g : EReal) (l : Fin 128) : EReal :=
  o l * Ideal.rsqrt (Ideal.div (∑ j, o j * o j) (Ideal.ofBits .f32 0x43000000#32) + Ideal.ofBits .f32 0x358637BD#32) * n * (g * Cert.Gate.sigK g)

theorem p_gated (o g : FVec Ideal S4096x128 .f32) (n : FVec Ideal S1x128 .f32) (r : Fin 4096) (l : Fin 128) :
    k0_pay8 (F := Ideal) o g n (ix2 r l) = gatedRow (fun j => o (ix2 r j)) (n (ix2 0 l)) (g (ix2 r l)) l := by
  pointwise [k0_pay8]
  rfl

section
variable (c : Dev nD) (i : grid0.Coords) (a2 : Memref sig .tc .vmem S4096x128 .f32) (h2 : a2.IsWhole) (a3 : Memref sig .tc .vmem S4096x128 .f32) (h3 : a3.IsWhole) (a4 : Memref sig .tc .vmem S4096x128 .f32) (h4 : a4.IsWhole) (a5 : Memref sig .tc .vmem S4096x128 .f32) (h5 : a5.IsWhole) (a6 : Memref sig .tc .vmem S1x1x1x128 .f32) (h6 : a6.IsWhole) (a7 : Memref sig .tc .vmem S1x128 .f32) (h7 : a7.IsWhole) (a8 : Memref sig .tc .vmem S1x4096x128 .f32) (h8 : a8.IsWhole) (a9 : Memref sig .tc .vmem S4096x128 .bf16) (h9 : a9.IsWhole) (a10 : Memref sig .tc .vmem S4096x128 .f32) (h10 : a10.IsWhole) (a11 : Memref sig .tc .vmem S1x1x64x128x128 .f32) (h11 : a11.IsWhole) (a12 : Memref sig .tc .vmem S1x4096x128 .bf16) (h12 : a12.IsWhole) (a13 : Memref sig .tc .vmem S1x1x64x8x128 .f32) (h13 : a13.IsWhole) (a14 : Memref sig .tc .vmem S64x128x128 .f32) (h14 : a14.IsWhole) (x2 : BufTy.Contents (Elt Ideal) a2.view.ty) (x3 : BufTy.Contents (Elt Ideal) a3.view.ty) (x4 : BufTy.Contents (Elt Ideal) a4.view.ty) (x5 : BufTy.Contents (Elt Ideal) a5.view.ty) (x6 : BufTy.Contents (Elt Ideal) a6.view.ty) (x7 : BufTy.Contents (Elt Ideal) a7.view.ty) (x8 : BufTy.Contents (Elt Ideal) a8.view.ty) (f9 : BufTy.Contents (Elt Ideal) a9.view.ty) (f10 : BufTy.Contents (Elt Ideal) a10.view.ty) (f11 : BufTy.Contents (Elt Ideal) a11.view.ty) (f12 : BufTy.Contents (Elt Ideal) a12.view.ty) (f13 : BufTy.Contents (Elt Ideal) a13.view.ty) (f14 : BufTy.Contents (Elt Ideal) a14.view.ty)

/-- The output after the first direction's point. -/
theorem first_o (hc0 : onFirst i) (hc1 : ¬onSecond i) (y : S4096x128.Idx) :
    a10.view.read (Elt Ideal) ((first c i a2 h2 a3 h3 a4 h4 a5 h5 a6 h6 a7 h7 a8 h8 a9 h9 a10 h10 a11 h11 a12 h12 a13 h13 a14 h14 hc0 hc1 x2 x3 x4 x5 x6 x7 x8).2.1 f9 f10 f11 f12 f13 f14) y
      = (runs x2 x3 x4 x8 (a6.view.read (Elt Ideal) x6)).gives (i 1) 0 (y 0) (y 1) := by
  unfold first
  dsimp only
  simp only [View.writes_append]
  refine (loops_o c i _ x2 x3 x4 x8 _ f11 f12 f13 f14 y).trans ?_
  refine congrArg₂ (fun (v : FVec Ideal S1x1x1x128 .f32) (o : EReal) => (runs x2 x3 x4 x8 v).gives (i 1) o (y 0) (y 1)) (View.readAt_full _ _ _) ?_
  refine (congrFun (View.read_writes_full _ _ _ _ _) y).trans ?_
  obtain ⟨r, l, rfl⟩ : ∃ (r : Fin 4096) (l : Fin 128), y = ix2 r l := ⟨y 0, y 1, eq_ix2 y⟩
  pointwise [k0_pay3]

/-- The output after the second direction's point. -/
theorem second_o (hc0 : ¬onFirst i) (hc1 : onSecond i) (y : S4096x128.Idx) :
    a10.view.read (Elt Ideal) ((second c i a2 h2 a3 h3 a4 h4 a5 h5 a6 h6 a7 h7 a8 h8 a9 h9 a10 h10 a11 h11 a12 h12 a13 h13 a14 h14 hc0 hc1 x2 x3 x4 x5 x6 x7 x8).2.1 f9 f10 f11 f12 f13 f14) y
      = (runs x2 x3 x4 x8 (a6.view.read (Elt Ideal) x6)).gives (i 1) (a10.view.read (Elt Ideal) f10 y) (y 0) (y 1) := by
  unfold second
  dsimp only
  simp only [View.writes_append]
  refine (loops_o c i _ x2 x3 x4 x8 f10 f11 f12 f13 f14 y).trans ?_
  exact congrArg (fun v : FVec Ideal S1x1x1x128 .f32 => (runs x2 x3 x4 x8 v).gives (i 1) _ (y 0) (y 1)) (View.readAt_full _ _ _)

/-- The gated output after the second direction's point, of the output after it. -/
theorem second_g (hc0 : ¬onFirst i) (hc1 : onSecond i) (y : S4096x128.Idx) :
    a9.view.read (Elt Ideal) ((second c i a2 h2 a3 h3 a4 h4 a5 h5 a6 h6 a7 h7 a8 h8 a9 h9 a10 h10 a11 h11 a12 h12 a13 h13 a14 h14 hc0 hc1 x2 x3 x4 x5 x6 x7 x8).1 f9 f10 f11 f12 f13 f14) y
      = k0_pay8 (F := Ideal) (a10.view.read (Elt Ideal) ((second c i a2 h2 a3 h3 a4 h4 a5 h5 a6 h6 a7 h7 a8 h8 a9 h9 a10 h10 a11 h11 a12 h12 a13 h13 a14 h14 hc0 hc1 x2 x3 x4 x5 x6 x7 x8).2.1 f9 f10 f11 f12 f13 f14)) (a5.view.read (Elt Ideal) x5) (a7.view.read (Elt Ideal) x7) y := by
  have e5 := View.readAt_full (Val := Elt Ideal) a5.view x5 inb_S4096x128_S4096x128_0_0
  have e7 := View.readAt_full (Val := Elt Ideal) a7.view x7 inb_S1x128_S1x128_0_0
  have e10 := View.readAt_full (Val := Elt Ideal) a10.view ((second c i a2 h2 a3 h3 a4 h4 a5 h5 a6 h6 a7 h7 a8 h8 a9 h9 a10 h10 a11 h11 a12 h12 a13 h13 a14 h14 hc0 hc1 x2 x3 x4 x5 x6 x7 x8).2.1 f9 f10 f11 f12 f13 f14) inb_S4096x128_S4096x128_0_0
  unfold second at e10 ⊢
  dsimp only at e10 ⊢
  refine (congrFun (View.read_writes_full _ _ _ _ _) y).trans ?_
  exact congrFun (congr (congr (congrArg (k0_pay8 (F := Ideal)) e10) e5) e7) y
end

end Gla
-- ==== Proof.GlaIn.lean ====
/- What the gated recurrence of one head in one direction runs on, of the step's own arrays. -/
module

public import proofs.«01_k».proof.Proof.GlaPoint

@[expose] public section

set_option maxRecDepth 16384

noncomputable section

namespace Gla

open Idealize.ShloMosaic Idealize.ShloMosaic.TcCoe
open Cert.Kernel15Ideal

/-- Column `l` of head `h` in the `g`-th group of 1024 columns. -/
abbrev col (g : Fin 13) (h : Fin 8) (l : Fin 128) : Fin 13312 := ⟨1024 * g + (128 * h + l), by omega⟩
/-- Column `l` of head `h`. -/
abbrev lane (h : Fin 8) (l : Fin 128) : Fin 1024 := ⟨128 * h + l, by omega⟩
/-- The columns that gate direction `d`. -/
abbrev side (d : Fin 2) : Fin 13 := ⟨1 + d, by omega⟩
/-- A row's place in its chunk. -/
abbrev placeOf (r : Fin 4096) : Fin 64 := ⟨r % 64, by omega⟩

variable (P : S4096x13312.Idx → EReal) (L : S2x1024.Idx → EReal)

/-- The logarithm of what a row keeps of the state. -/
def logOf (d : Fin 2) (h : Fin 8) (r : Fin 4096) (l : Fin 128) : EReal :=
  Ideal.log (L (ix2 d (lane h l)) + (1 - L (ix2 d (lane h l))) * Cert.Gate.sigR (P (ix2 r (col (side d) h l))))

/-- Row `s` comes no later than row `r` in direction `d`. -/
abbrev before (d : Fin 2) (s r : Fin 64) : Prop := if d = 0 then s ≤ r else r ≤ s

/-- What the recurrence runs on. -/
def headInp (d : Fin 2) (h : Fin 8) : Inp where
  q r l := gated (P (ix2 r (col 0 h l)))
  k r l := kept (L (ix2 d (lane h l))) (P (ix2 r (col (side d) h l)))
  v r l := P (ix2 r (col 3 h l))
  b r l := ∑ s : Fin 64, if before d s (placeOf r) then logOf P L d h (rowIn (chunkOf r) s) l else 0

/-- The sum over both directions. -/
def both (h : Fin 8) (r : Fin 4096) (l : Fin 128) : EReal := (headInp P L 1 h).gives 1 ((headInp P L 0 h).gives 0 0 r l) r l

end Gla
-- ==== Proof.DecayPoint.lean ====
/- What a grid point of the running sums leaves: every row's sum over its chunk. -/
module

public import proofs.«01_k».proof.Proof.DecayBlock
public import proofs.«01_k».proof.Proof.GlaIn
public import proofs.«01_k».proof.Proof.Gen.Kernel14Ideal.Value

@[expose] public section

set_option maxRecDepth 16384

noncomputable section

namespace Decay

open Idealize.ShloMosaic Idealize.ShloMosaic.TcCoe
open Cert.Kernel14Ideal Cert.Kernel14Ideal.Gen Cert.Reals
open Gla (live before placeOf rowIn chunkOf rowOf)

/-- The rows of a block that a row's sum takes are those of its chunk that are not later in time. -/
theorem sum_live (d : Fin 2) (b : Fin 16) (r : Fin 256) (g : Fin 4096 → EReal) :
    (∑ s : Fin 256, if live d r s then g (rowOf b s) else 0) = ∑ s : Fin 64, if before d s (placeOf (rowOf b r)) then g (rowIn (chunkOf (rowOf b r)) s) else 0 := by
  rw [← (finProdFinEquiv (m := 4) (n := 64)).sum_comp, Fintype.sum_prod_type]
  refine (Finset.sum_eq_single (⟨r / 64, by omega⟩ : Fin 4) ?_ (fun h => absurd (Finset.mem_univ _) h)).trans ?_
  · intro a _ ha
    refine Finset.sum_eq_zero fun s _ => if_neg fun h => ha (Fin.ext ?_)
    have e : r.val / 64 = (finProdFinEquiv (a, s)).val / 64 := h.1
    rw [finProdFinEquiv_apply_val] at e
    show a.val = r.val / 64
    have := s.isLt
    simp only at e
    omega
  · refine Finset.sum_congr rfl fun s _ => ?_
    have v : (finProdFinEquiv ((⟨r / 64, by omega⟩ : Fin 4), s) : Fin 256).val = s.val + 64 * (r.val / 64) := rfl
    have hs := s.isLt
    have hr := r.isLt
    have e : rowOf b (finProdFinEquiv ((⟨r / 64, by omega⟩ : Fin 4), s)) = rowIn (chunkOf (rowOf b r)) s := by
      refine Fin.ext ?_
      show 256 * b.val + (finProdFinEquiv ((⟨r / 64, by omega⟩ : Fin 4), s) : Fin 256).val = 64 * ((256 * b.val + r.val) / 64) + s.val
      rw [v]
      omega
    rw [e]
    refine if_congr ?_ rfl rfl
    unfold live before
    refine Iff.trans (and_iff_right (by rw [v]; omega)) ?_
    by_cases hd : d = 0
    · rw [if_pos hd, if_pos hd, Fin.le_def, Fin.le_def, v]
      show _ ↔ s.val ≤ (256 * b.val + r.val) % 64
      omega
    · rw [if_neg hd, if_neg hd, Fin.le_def, Fin.le_def, v]
      show _ ↔ (256 * b.val + r.val) % 64 ≤ s.val
      omega

/-- The running sums of the array that a grid point reads. -/
def sums (d : Fin 2) (lb : S1x1x1x256.Idx → EReal) (A : S4096x256.Idx → EReal) (y : S1x4096x256.Idx) : EReal :=
  ∑ s : Fin 64, if before d s (placeOf (y 1)) then lg (lb (ix4 0 0 0 (y 2))) (A (ix2 (rowIn (chunkOf (y 1)) s) (y 2))) else 0

/-- The block that way `w` of trip `k` takes. -/
abbrev wayOf (k : Fin k0_t1_loop.trips) (w : Fin 8) : Fin 16 := ⟨k.val + 2 * w, by have : k.val < 2 := lt_of_lt_of_eq k.isLt rfl; omega⟩

theorem off1_eq : ∀ (k : Fin k0_t1_loop.trips) (w : Fin 8), k0_off1 k (BitVec.ofNat 32 (2 * w.val)) = ![256 * (wayOf k w).val, 0] := by decide +kernel
theorem off2_eq : ∀ (k : Fin k0_t1_loop.trips) (w : Fin 8), k0_off2 k (BitVec.ofNat 32 (2 * w.val)) = ![0, 256 * (wayOf k w).val, 0] := by decide +kernel

abbrev rows (a : Memref sig .tc .vmem S4096x256 .f32) (x : BufTy.Contents (Elt Ideal) a.view.ty) (k : Fin k0_t1_loop.trips) (w : Fin 8) : FVec Ideal S256x256 .f32 :=
  View.readAt (Elt Ideal) a.view (Rect.unit (s := S4096x256) (k0_off1 k (BitVec.ofNat 32 (2 * w.val))) S256x256.size (k0_off1_inb k w)).toLoadRect x

theorem rows_eq (a : Memref sig .tc .vmem S4096x256 .f32) (x) (k) (w : Fin 8) (r l : Fin 256) : rows a x k w (ix2 r l) = a.view.read (Elt Ideal) x (ix2 (rowOf (wayOf k w) r) l) := by
  refine congrArg (a.view.read (Elt Ideal) x) ?_
  funext j
  match j with
  | 0 => exact Fin.ext (by simp [off1_eq, rowOf])
  | 1 => exact Fin.ext (by simp [off1_eq])

section
variable (c : Dev nD) (i : grid0.Coords) {a2 : Memref sig .tc .vmem S4096x256 .f32} {h2 : a2.IsWhole} {a3 : Memref sig .tc .vmem S1x1x1x256 .f32} {h3 : a3.IsWhole} {a4 : Memref sig .tc .vmem S1x4096x256 .f32} {h4 : a4.IsWhole}
  (d : Fin 2) (lb : FVec Ideal S1x1x1x256 .f32) (h : ∀ l : Fin 256, lb (ix4 0 0 0 l) < ⊤) (x2 : BufTy.Contents (Elt Ideal) a2.view.ty) (k : Fin k0_t1_loop.trips)

include h in
theorem one (w : Fin 8) (x : S1x256x256.Idx) :
    shapeCast S1x256x256 (k0_pay7 (F := Ideal) (mask d) (k0_pay2 lb) (rows a2 x2 k w)) shapeCasts_S256x256_S1x256x256 x
      = sums d lb (a2.view.read (Elt Ideal) x2) ((Rect.unit (s := S1x4096x256) (k0_off2 k (BitVec.ofNat 32 (2 * w.val))) S1x256x256.size (k0_off2_inb k w)).emb x) := by
  obtain ⟨r, l, rfl⟩ : ∃ (r l : Fin 256), x = ix3 0 r l := ⟨x 1, x 2, by rw [eq_ix3 x]; congr 1; exact Subsingleton.elim _ _⟩
  have e : (Rect.unit (s := S1x4096x256) (k0_off2 k (BitVec.ofNat 32 (2 * w.val))) S1x256x256.size (k0_off2_inb k w)).emb (ix3 0 r l) = ix3 0 (rowOf (wayOf k w) r) l := by
    funext j
    match j with
    | 0 => exact Fin.ext (by simp [off2_eq])
    | 1 => exact Fin.ext (by simp [off2_eq, rowOf])
    | 2 => exact Fin.ext (by simp [off2_eq])
  rw [e]
  refine Eq.trans (b := k0_pay7 (F := Ideal) (mask d) (k0_pay2 lb) (rows a2 x2 k w) (ix2 r l)) (by pointwise []) ?_
  rw [p_sum d lb _ h]
  simp only [rows_eq]
  exact sum_live d (wayOf k w) r fun s => lg (lb (ix4 0 0 0 l)) (a2.view.read (Elt Ideal) x2 (ix2 s l))

include h in
theorem trip :
    ∀ p ∈ tripL_k0_t1 (F := Ideal) Variants.none c none i a2 h2 a3 h3 a4 h4 (BitVec.ofNat 32 d.val) (iota .tc S256x256 32 [0] iota_S256x256_d0_w32) (iota .tc S256x256 32 [1] iota_S256x256_d1_w32) k0_pay28 k0_pay29 k0_pay30 k0_pay31 k0_pay32 lb x2 k,
      ∀ x, p.2 x = sums d lb (a2.view.read (Elt Ideal) x2) (p.1.emb x) := by
  unfold tripL_k0_t1 trip_k0_t1
  dsimp only
  simp only [List.forall_mem_cons, List.not_mem_nil, false_imp_iff, implies_true, and_true]
  exact ⟨one d lb h x2 k 7, one d lb h x2 k 6, one d lb h x2 k 5, one d lb h x2 k 4, one d lb h x2 k 3, one d lb h x2 k 2, one d lb h x2 k 1, one d lb h x2 k 0⟩

/-- The pieces before a trip are those of the trips before it. -/
theorem of_trip (n : ℕ) (hn : n ≤ k0_t1_loop.trips) :
    ∀ p ∈ pb_k0_t1 (F := Ideal) Variants.none c none i a2 h2 a3 h3 a4 h4 (BitVec.ofNat 32 d.val) (iota .tc S256x256 32 [0] iota_S256x256_d0_w32) (iota .tc S256x256 32 [1] iota_S256x256_d1_w32) k0_pay28 k0_pay29 k0_pay30 k0_pay31 k0_pay32 lb x2 n,
      ∃ k, p ∈ tripL_k0_t1 (F := Ideal) Variants.none c none i a2 h2 a3 h3 a4 h4 (BitVec.ofNat 32 d.val) (iota .tc S256x256 32 [0] iota_S256x256_d0_w32) (iota .tc S256x256 32 [1] iota_S256x256_d1_w32) k0_pay28 k0_pay29 k0_pay30 k0_pay31 k0_pay32 lb x2 k := by
  induction n with
  | zero => exact fun p hp => absurd hp List.not_mem_nil
  | succ n ih =>
    intro p hp
    rw [pb_k0_t1_succ (F := Ideal) Variants.none c none i a2 h2 a3 h3 a4 h4 (BitVec.ofNat 32 d.val) (iota .tc S256x256 32 [0] iota_S256x256_d0_w32) (iota .tc S256x256 32 [1] iota_S256x256_d1_w32) k0_pay28 k0_pay29 k0_pay30 k0_pay31 k0_pay32 lb x2 ⟨n, hn⟩] at hp
    rcases List.mem_append.1 hp with hp | hp
    · exact ⟨⟨n, hn⟩, hp⟩
    · exact ih (Nat.le_of_succ_le hn) p hp
end

/-- What a grid point leaves in its block of the sums. -/
theorem out2 (c : Dev nD) (i : grid0.Coords) (a2 : Memref sig .tc .vmem S4096x256 .f32) (h2 : a2.IsWhole) (a3 : Memref sig .tc .vmem S1x1x1x256 .f32) (h3 : a3.IsWhole) (a4 : Memref sig .tc .vmem S1x4096x256 .f32) (h4 : a4.IsWhole)
    (A : FVec Ideal S4096x256 .f32) (lb : FVec Ideal S1x1x1x256 .f32) (h : ∀ l : Fin 256, lb (ix4 0 0 0 l) < ⊤) (y : S1x4096x256.Idx) :
    out0_A_2 (F := Ideal) c i a2 h2 a3 h3 a4 h4 A lb y = sums (i 0) lb A y := by
  unfold out0_A_2
  refine View.read_writes_apply_of_pieces _ _ _ _ (fun p hp x => ?_) y (cover0_A_2 (F := Ideal) c i a2 h2 a3 h3 a4 h4 A lb y)
  unfold kernelRun0_A at hp
  dsimp only at hp
  have e3 : kernelRun0_A.sl.v62 (F := Ideal) c a3 h3 lb = lb := (View.readAt_full _ _ _).trans (h3.read_unread _)
  rw [e3] at hp
  obtain ⟨k, hk⟩ := of_trip c i (i 0) lb (h2.unread A) k0_t1_loop.trips (le_refl _) p hp
  exact (trip c i (i 0) lb h (h2.unread A) k p hk x).trans (by rw [h2.read_unread])

end Decay
-- ==== Proof.GlaArr.lean ====
/- The two arrays that the gated recurrence's grid leaves: the sum over both directions, and the gated sum. -/
module

public import proofs.«01_k».proof.Proof.GlaPoint
public import proofs.«01_k».proof.Proof.GlaIn
public import Idealize.ShloMosaic.Lib.Pipeline.ArrRel

@[expose] public section

set_option maxRecDepth 16384

noncomputable section

namespace Gla

open Idealize.ShloMosaic Idealize.ShloMosaic.TcCoe Idealize.SL.Sem
open Idealize.ShloMosaic.Pipeline (RDat)
open Cert.Kernel15Ideal Cert.Kernel15Ideal.Gen Cert.Reals

variable (m : (ℓ : Loc nD τ sig) → Buf (Elt Ideal) ℓ) (ρ : Dev nD → PrngReg) (c : Dev nD)

/-- The recurrence that a grid point runs. -/
def runOf (t : Fin cfg0.N) : Inp :=
  inp (iblk m c 4 t : S1x1x1x128.Idx → EReal) (iblk m c 0 t : S4096x128.Idx → EReal) (iblk m c 1 t : S4096x128.Idx → EReal)
    (iblk m c 2 t : S4096x128.Idx → EReal) (iblk m c 6 t : S1x4096x128.Idx → EReal)

/-- The point before. -/
abbrev prior (t : Fin cfg0.N) : Fin cfg0.N := ⟨t.val - 1, Nat.lt_of_le_of_lt (Nat.sub_le _ _) t.isLt⟩

/-- The sum after the first direction's point, and after the second's. -/
def sumFirst (t : Fin cfg0.N) (r : Fin 4096) (l : Fin 128) : EReal := (runOf m c t).gives 0 0 r l
def sumBoth (t : Fin cfg0.N) (r : Fin 4096) (l : Fin 128) : EReal := (runOf m c t).gives 1 (sumFirst m c (prior t) r l) r l

/-- The gated sum. -/
def gatedBoth (t : Fin cfg0.N) (r : Fin 4096) (l : Fin 128) : EReal :=
  gatedRow (sumBoth m c t r) ((iblk m c 5 t : S1x128.Idx → EReal) (ix2 0 l)) ((iblk m c 3 t : S4096x128.Idx → EReal) (ix2 r l)) l

/-- What the two results' blocks hold after a point. -/
def told : Says Ideal := fun c t X7 X8 =>
  (t.val % 2 = 0 → ∀ y, X8 y = sumFirst m c t (y 0) (y 1))
  ∧ (t.val % 2 = 1 → ∀ y, X8 y = sumBoth m c t (y 0) (y 1) ∧ X7 y = gatedBoth m c t (y 0) (y 1))

theorem way (t : Fin cfg0.N) (d : Fin 2) (h : t.val % 2 = d.val) : (grid0.coords t 1 : Fin 2) = d := by
  have e : (grid0.coords t 1).val = t.val / 1 % 2 := Pipeline.Grid.coords_val t 1 (by decide) rfl
  exact Fin.ext (e.trans (by simpa using h))

theorem told_holds : Holds m (told m) where
  first c t h f9 f10 f11 f12 f13 f14 := by
    refine ⟨fun _ y => ?_, fun h1 => absurd h1 (by omega)⟩
    refine (first_o c (grid0.coords t) _ _ _ _ _ _ _ _ _ _ _ _ _ _ _ _ _ _ _ _ _ _ _ _ _ _ _ _ _ _ _ _ _ _ _ _ _ _ _ _ _ y).trans ?_
    unfold runs
    simp only [Memref.IsWhole.read_unread]
    unfold sumFirst runOf
    rw [way t 0 h]
  second c t h f9 f10 f11 f12 f13 f14 := by
    rintro ⟨X', hX, -⟩
    have h0 := hX (by show (t.val - 1) % 2 = 0; omega)
    refine ⟨fun h1 => absurd h1 (by omega), fun _ => ?_⟩
    have h8 : ∀ y : S4096x128.Idx, (st0_8 t).view.read (Elt Ideal) ((secondAt m c t h).2.1 f9 f10 f11 f12 f13 f14) y = sumBoth m c t (y 0) (y 1) := by
      intro y
      refine (second_o c (grid0.coords t) _ _ _ _ _ _ _ _ _ _ _ _ _ _ _ _ _ _ _ _ _ _ _ _ _ _ _ _ _ _ _ _ _ _ _ _ _ _ _ _ _ y).trans ?_
      unfold runs
      simp only [Memref.IsWhole.read_unread]
      unfold sumBoth runOf
      rw [way t 1 h]
      exact congrArg (fun o => Inp.gives _ 1 o (y 0) (y 1)) (h0 y)
    intro y
    refine ⟨h8 y, ?_⟩
    refine (second_g c (grid0.coords t) _ _ _ _ _ _ _ _ _ _ _ _ _ _ _ _ _ _ _ _ _ _ _ _ _ _ _ _ _ _ _ _ _ _ _ _ _ _ _ _ _ y).trans ?_
    obtain ⟨r, l, rfl⟩ : ∃ (r : Fin 4096) (l : Fin 128), y = ix2 r l := ⟨y 0, y 1, eq_ix2 y⟩
    refine (p_gated _ _ _ r l).trans ?_
    simp only [Memref.IsWhole.read_unread]
    unfold gatedBoth
    exact congrArg (fun o => gatedRow o _ _ l) (funext fun j => h8 (ix2 r j))

/-- The grid's second-direction point of head `h`. -/
abbrev lastOf (h : Fin 8) : Fin cfg0.N := ⟨2 * h + 1, by have : cfg0.N = 16 := by decide
                                                         omega⟩
theorem odd_of_flush : ∀ t : Fin cfg0.N, (win0_7.flush t = true → t.val % 2 = 1) ∧ (win0_8.flush t = true → t.val % 2 = 1)
    ∧ win0_7.index t = ![0, t.val / 2] ∧ win0_8.index t = ![0, t.val / 2] := by decide +kernel

theorem at7 (h : Fin 8) (y : (win0_7.xblock (grid0.coords (lastOf h))).Idx) : (ix2 (y 0) (lane h (y 1)) : S4096x1024.Idx) = (win0_7.blk (lastOf h)).view.emb y := by
  have e0 : ((((win0_7.blk (lastOf h)).view.emb y) 0 : Fin _) : ℕ) = (y 0).val := by
    blk_simp [(odd_of_flush (lastOf h)).2.2.1]
  have e1 : ((((win0_7.blk (lastOf h)).view.emb y) 1 : Fin _) : ℕ) = 128 * h.val + (y 1).val := by
    blk_simp [(odd_of_flush (lastOf h)).2.2.1]
    have : (lastOf h).val / 2 = h.val := by show (2 * h.val + 1) / 2 = h.val; omega
    rw [this, Nat.mul_comm]
  funext a
  match a with
  | 0 => exact Fin.ext e0.symm
  | 1 => exact Fin.ext e1.symm
theorem at8 (h : Fin 8) (y : (win0_8.xblock (grid0.coords (lastOf h))).Idx) : (ix2 (y 0) (lane h (y 1)) : S4096x1024.Idx) = (win0_8.blk (lastOf h)).view.emb y := by
  have e0 : ((((win0_8.blk (lastOf h)).view.emb y) 0 : Fin _) : ℕ) = (y 0).val := by
    blk_simp [(odd_of_flush (lastOf h)).2.2.2]
  have e1 : ((((win0_8.blk (lastOf h)).view.emb y) 1 : Fin _) : ℕ) = 128 * h.val + (y 1).val := by
    blk_simp [(odd_of_flush (lastOf h)).2.2.2]
    have : (lastOf h).val / 2 = h.val := by show (2 * h.val + 1) / 2 = h.val; omega
    rw [this, Nat.mul_comm]
  funext a
  match a with
  | 0 => exact Fin.ext e0.symm
  | 1 => exact Fin.ext e1.symm

/-- THE TWO ARRAYS AFTER THE RUN hold at head `h`'s columns what the head's second point leaves. -/
theorem arrays (G7 G8 : FVec Ideal S4096x1024 .f32) (r : PUnit × MemSt nD τ sig (Elt Ideal))
    (hr : RDat.FramePost cfg0 (rdat m (told m)) (V m) r)
    (h7 : ∀ h i l, gatedBoth m c (lastOf h) i l = G7 (ix2 i (lane h l))) (h8 : ∀ h i l, sumBoth m c (lastOf h) i l = G8 (ix2 i (lane h l))) :
    r.2.mem ((c.tc : Thread nD τ).loc main_v49_0) = (G7 : S4096x1024.Idx → EReal) ∧ r.2.mem ((c.tc : Thread nD τ).loc main_v49_1) = (G8 : S4096x1024.Idx → EReal) := by
  obtain ⟨after, hL, hA⟩ := hr.exists_exact c
  have last : ∀ t : Fin cfg0.N, t.val % 2 = 1 → ∃ h, t = lastOf h := fun t ht =>
    ⟨⟨t.val / 2, by have := t.isLt; have : cfg0.N = 16 := by decide
                    omega⟩, Fin.ext (by simp; omega)⟩
  constructor
  · refine (hA 7).trans (Pipeline.Dat.arrAt_eq_of_covers _ 7 _ (by decide +kernel) fun t hf y => ?_)
    obtain ⟨h, rfl⟩ := last t ((odd_of_flush t).1 hf)
    obtain ⟨Y, -, X', hX⟩ := hL 7 (lastOf h) hf
    have e := (hX.2 (by show (2 * h.val + 1) % 2 = 1; omega) y).2
    refine Eq.trans (show _ = after 7 (lastOf h) y from rfl) ((e.trans (h7 h (y 0) (y 1))).trans ?_)
    exact (congrArg G7 (at7 h y)).trans rfl
  · refine (hA 8).trans (Pipeline.Dat.arrAt_eq_of_covers _ 8 _ (by decide +kernel) fun t hf y => ?_)
    obtain ⟨h, rfl⟩ := last t ((odd_of_flush t).2.1 hf)
    obtain ⟨Y, -, X', hX⟩ := hL 8 (lastOf h) hf
    have e := (hX.2 (by show (2 * h.val + 1) % 2 = 1; omega) y).1
    refine Eq.trans (show _ = after 8 (lastOf h) y from rfl) ((e.trans (h8 h (y 0) (y 1))).trans ?_)
    exact (congrArg G8 (at8 h y)).trans rfl

end Gla
-- ==== Proof.GlaHead.lean ====
/- What a grid point of the gated recurrence runs on is its head's and its direction's. -/
module

public import proofs.«01_k».proof.Proof.GlaArr
public import Idealize.ShloMosaic.Lib.StableHlo.ReadAt

@[expose] public section

set_option maxRecDepth 16384

noncomputable section

namespace Gla

open Idealize.ShloMosaic Idealize.ShloMosaic.TcCoe
open Cert.Kernel15Ideal Cert.Kernel15Ideal.Gen Cert.Reals

variable (m : (ℓ : Loc nD τ sig) → Buf (Elt Ideal) ℓ) (c : Dev nD)

theorem idx : ∀ t : Fin cfg0.N, win0_0.index t = ![0, t.val / 2] ∧ win0_1.index t = ![0, 8 + 8 * (t.val % 2) + t.val / 2] ∧ win0_2.index t = ![0, 24 + t.val / 2]
    ∧ win0_3.index t = ![0, 32 + t.val / 2] ∧ win0_4.index t = ![t.val % 2, t.val / 2, 0, 0] ∧ win0_5.index t = ![0, 0] ∧ win0_6.index t = ![t.val % 2, 0, t.val / 2] := by decide +kernel

theorem tri (a b : Fin 64) : Scalar.select (IntOp.cmpi CmpIPredicate.sge (IntOp.addi (BitVec.ofNat 32 a.val) 0#32) (BitVec.ofNat 32 b.val)) 1#1 0#1 = if b ≤ a then 1#1 else 0#1 := by
  revert a b
  decide +kernel

abbrev arg0 : S4096x13312.Idx → EReal := m ((c.tc : Thread nD τ).loc main_arg0)
abbrev arg1 : S2x1024.Idx → EReal := m ((c.tc : Thread nD τ).loc main_arg1)
abbrev arg2 : S1x128.Idx → EReal := m ((c.tc : Thread nD τ).loc main_arg2)

/-- One summand of a running sum. -/
theorem summand (d : Fin 2) (h : Fin 8) (r : Fin 4096) (l : Fin 128) (x : Fin 64) (w : BitVec 1) (hw : w = if before d x (placeOf r) then 1#1 else 0#1)
    (j : S4096x13312.Idx) (hj : j = ix2 (rowIn (chunkOf r) x) (col (side d) h l)) :
    Scalar.select w (Ideal.log (arg1 m c (ix2 d (lane h l)) + (1 - arg1 m c (ix2 d (lane h l))) * Ideal.div 1 (1 + Ideal.exp (-arg0 m c j)))) (id (constant (F := Ideal) S_ FTy.f32 0#32) ix0)
      = if before d x (placeOf r) then logOf (arg0 m c) (arg1 m c) d h (rowIn (chunkOf r) x) l else 0 := by
  subst hw hj
  split_ifs with hb
  · rfl
  · exact Ideal.ofBits_zero_f32

theorem sums0 (h : Fin 8) (r : Fin 4096) (l : Fin 128) : (V m c main_v47 : S2x4096x1024.Idx → EReal) (ix3 0 r (lane h l)) = (headInp (arg0 m c) (arg1 m c) 0 h).b r l := by
  unfold V
  after_reads_at
  refine Finset.sum_congr rfl fun x _ => summand m c 0 h r l x _ ?_ _ ?_
  · exact (tri (placeOf r) x).trans rfl
  · exact congrArg₂ ix2 (Fin.ext (congrArg (· + x.val) (Nat.mul_comm _ _))) rfl
theorem sums1 (h : Fin 8) (r : Fin 4096) (l : Fin 128) : (V m c main_v47 : S2x4096x1024.Idx → EReal) (ix3 1 r (lane h l)) = (headInp (arg0 m c) (arg1 m c) 1 h).b r l := by
  unfold V
  after_reads_at
  refine Finset.sum_congr rfl fun x _ => summand m c 1 h r l x _ ?_ _ ?_
  · exact (tri x (placeOf r)).trans rfl
  · exact congrArg₂ ix2 (Fin.ext (congrArg (· + x.val) (Nat.mul_comm _ _))) rfl

/-- The grid's point for head `h` and direction `d`. -/
abbrev pointOf (d : Fin 2) (h : Fin 8) : Fin cfg0.N := ⟨2 * h + d, by
  have : cfg0.N = 16 := by decide
  omega⟩

variable (d : Fin 2) (h : Fin 8) (r : Fin 4096) (l : Fin 128)

theorem headOf : (pointOf d h).val / 2 = h.val := by show (2 * h.val + d.val) / 2 = h.val; omega
theorem sideOf : (pointOf d h).val % 2 = d.val := by show (2 * h.val + d.val) % 2 = d.val; omega

theorem emb0 : (win0_0.blk (pointOf d h)).view.emb ((ix2 r l : S4096x128.Idx) : (win0_0.xblock (grid0.coords (pointOf d h))).Idx) = (ix2 r (col 0 h l) : S4096x13312.Idx) := by
  have e0 : ((((win0_0.blk (pointOf d h)).view.emb (ix2 r l : S4096x128.Idx)) 0 : Fin _) : ℕ) = r.val := by
    blk_simp [idx (pointOf d h), headOf d h, sideOf d h]
    all_goals omega
  have e1 : ((((win0_0.blk (pointOf d h)).view.emb (ix2 r l : S4096x128.Idx)) 1 : Fin _) : ℕ) = 1024 * 0 + (128 * h.val + l.val) := by
    blk_simp [idx (pointOf d h), headOf d h, sideOf d h]
    all_goals omega
  funext a
  match a with
  | 0 => exact Fin.ext e0
  | 1 => exact Fin.ext e1
theorem emb1 : (win0_1.blk (pointOf d h)).view.emb ((ix2 r l : S4096x128.Idx) : (win0_1.xblock (grid0.coords (pointOf d h))).Idx) = (ix2 r (col (side d) h l) : S4096x13312.Idx) := by
  have e0 : ((((win0_1.blk (pointOf d h)).view.emb (ix2 r l : S4096x128.Idx)) 0 : Fin _) : ℕ) = r.val := by
    blk_simp [idx (pointOf d h), headOf d h, sideOf d h]
    all_goals omega
  have e1 : ((((win0_1.blk (pointOf d h)).view.emb (ix2 r l : S4096x128.Idx)) 1 : Fin _) : ℕ) = 1024 * (1 + d.val) + (128 * h.val + l.val) := by
    blk_simp [idx (pointOf d h), headOf d h, sideOf d h]
    all_goals omega
  funext a
  match a with
  | 0 => exact Fin.ext e0
  | 1 => exact Fin.ext e1
theorem emb2 : (win0_2.blk (pointOf d h)).view.emb ((ix2 r l : S4096x128.Idx) : (win0_2.xblock (grid0.coords (pointOf d h))).Idx) = (ix2 r (col 3 h l) : S4096x13312.Idx) := by
  have e0 : ((((win0_2.blk (pointOf d h)).view.emb (ix2 r l : S4096x128.Idx)) 0 : Fin _) : ℕ) = r.val := by
    blk_simp [idx (pointOf d h), headOf d h, sideOf d h]
    all_goals omega
  have e1 : ((((win0_2.blk (pointOf d h)).view.emb (ix2 r l : S4096x128.Idx)) 1 : Fin _) : ℕ) = 1024 * 3 + (128 * h.val + l.val) := by
    blk_simp [idx (pointOf d h), headOf d h, sideOf d h]
    all_goals omega
  funext a
  match a with
  | 0 => exact Fin.ext e0
  | 1 => exact Fin.ext e1
theorem emb3 : (win0_3.blk (pointOf d h)).view.emb ((ix2 r l : S4096x128.Idx) : (win0_3.xblock (grid0.coords (pointOf d h))).Idx) = (ix2 r (col 4 h l) : S4096x13312.Idx) := by
  have e0 : ((((win0_3.blk (pointOf d h)).view.emb (ix2 r l : S4096x128.Idx)) 0 : Fin _) : ℕ) = r.val := by
    blk_simp [idx (pointOf d h), headOf d h, sideOf d h]
    all_goals omega
  have e1 : ((((win0_3.blk (pointOf d h)).view.emb (ix2 r l : S4096x128.Idx)) 1 : Fin _) : ℕ) = 1024 * 4 + (128 * h.val + l.val) := by
    blk_simp [idx (pointOf d h), headOf d h, sideOf d h]
    all_goals omega
  funext a
  match a with
  | 0 => exact Fin.ext e0
  | 1 => exact Fin.ext e1
theorem emb4 : (win0_4.blk (pointOf d h)).view.emb ((ix4 0 0 0 l : S1x1x1x128.Idx) : (win0_4.xblock (grid0.coords (pointOf d h))).Idx) = (ix4 d h 0 l : S2x8x1x128.Idx) := by
  have e0 : ((((win0_4.blk (pointOf d h)).view.emb (ix4 0 0 0 l : S1x1x1x128.Idx)) 0 : Fin _) : ℕ) = d.val := by
    blk_simp [idx (pointOf d h), headOf d h, sideOf d h]
    all_goals omega
  have e1 : ((((win0_4.blk (pointOf d h)).view.emb (ix4 0 0 0 l : S1x1x1x128.Idx)) 1 : Fin _) : ℕ) = h.val := by
    blk_simp [idx (pointOf d h), headOf d h, sideOf d h]
    all_goals omega
  have e2 : ((((win0_4.blk (pointOf d h)).view.emb (ix4 0 0 0 l : S1x1x1x128.Idx)) 2 : Fin _) : ℕ) = 0 := by
    blk_simp [idx (pointOf d h), headOf d h, sideOf d h]
    all_goals omega
  have e3 : ((((win0_4.blk (pointOf d h)).view.emb (ix4 0 0 0 l : S1x1x1x128.Idx)) 3 : Fin _) : ℕ) = l.val := by
    blk_simp [idx (pointOf d h), headOf d h, sideOf d h]
    all_goals omega
  funext a
  match a with
  | 0 => exact Fin.ext e0
  | 1 => exact Fin.ext e1
  | 2 => exact Fin.ext e2
  | 3 => exact Fin.ext e3
theorem emb5 : (win0_5.blk (pointOf d h)).view.emb ((ix2 0 l : S1x128.Idx) : (win0_5.xblock (grid0.coords (pointOf d h))).Idx) = (ix2 0 l : S1x128.Idx) := by
  have e0 : ((((win0_5.blk (pointOf d h)).view.emb (ix2 0 l : S1x128.Idx)) 0 : Fin _) : ℕ) = 0 := by
    blk_simp [idx (pointOf d h), headOf d h, sideOf d h]
    all_goals omega
  have e1 : ((((win0_5.blk (pointOf d h)).view.emb (ix2 0 l : S1x128.Idx)) 1 : Fin _) : ℕ) = l.val := by
    blk_simp [idx (pointOf d h), headOf d h, sideOf d h]
    all_goals omega
  funext a
  match a with
  | 0 => exact Fin.ext e0
  | 1 => exact Fin.ext e1
theorem emb6 : (win0_6.blk (pointOf d h)).view.emb ((ix3 0 r l : S1x4096x128.Idx) : (win0_6.xblock (grid0.coords (pointOf d h))).Idx) = (ix3 d r (lane h l) : S2x4096x1024.Idx) := by
  have e0 : ((((win0_6.blk (pointOf d h)).view.emb (ix3 0 r l : S1x4096x128.Idx)) 0 : Fin _) : ℕ) = d.val := by
    blk_simp [idx (pointOf d h), headOf d h, sideOf d h]
    all_goals omega
  have e1 : ((((win0_6.blk (pointOf d h)).view.emb (ix3 0 r l : S1x4096x128.Idx)) 1 : Fin _) : ℕ) = r.val := by
    blk_simp [idx (pointOf d h), headOf d h, sideOf d h]
    all_goals omega
  have e2 : ((((win0_6.blk (pointOf d h)).view.emb (ix3 0 r l : S1x4096x128.Idx)) 2 : Fin _) : ℕ) = 128 * h.val + l.val := by
    blk_simp [idx (pointOf d h), headOf d h, sideOf d h]
    all_goals omega
  funext a
  match a with
  | 0 => exact Fin.ext e0
  | 1 => exact Fin.ext e1
  | 2 => exact Fin.ext e2
theorem i0 : (iblk m c 0 (pointOf d h) : S4096x128.Idx → EReal) (ix2 r l) = arg0 m c (ix2 r (col 0 h l)) :=
  (congrFun (V_main_arg0 m c) _).trans (congrArg (arg0 m c) (emb0 d h r l))
theorem i1 : (iblk m c 1 (pointOf d h) : S4096x128.Idx → EReal) (ix2 r l) = arg0 m c (ix2 r (col (side d) h l)) :=
  (congrFun (V_main_arg0 m c) _).trans (congrArg (arg0 m c) (emb1 d h r l))
theorem i2 : (iblk m c 2 (pointOf d h) : S4096x128.Idx → EReal) (ix2 r l) = arg0 m c (ix2 r (col 3 h l)) :=
  (congrFun (V_main_arg0 m c) _).trans (congrArg (arg0 m c) (emb2 d h r l))
theorem i3 : (iblk m c 3 (pointOf d h) : S4096x128.Idx → EReal) (ix2 r l) = arg0 m c (ix2 r (col 4 h l)) :=
  (congrFun (V_main_arg0 m c) _).trans (congrArg (arg0 m c) (emb3 d h r l))
theorem bounds : (V m c main_v48 : S2x8x1x128.Idx → EReal) (ix4 d h 0 l) = arg1 m c (ix2 d (lane h l)) := by
  unfold V
  after_reads_at
  exact congrArg (fun z => arg1 m c (ix2 d z)) (Fin.ext (congrArg (· + l.val) (Nat.mul_comm _ _)))
theorem i4 : (iblk m c 4 (pointOf d h) : S1x1x1x128.Idx → EReal) (ix4 0 0 0 l) = arg1 m c (ix2 d (lane h l)) :=
  (congrArg (V m c main_v48 : S2x8x1x128.Idx → EReal) (emb4 d h l)).trans (bounds m c d h l)
theorem i5 : (iblk m c 5 (pointOf d h) : S1x128.Idx → EReal) (ix2 0 l) = arg2 m c (ix2 0 l) :=
  (congrFun (V_main_arg2 m c) _).trans (congrArg (arg2 m c) (emb5 d h l))
theorem i6 : (iblk m c 6 (pointOf d h) : S1x4096x128.Idx → EReal) (ix3 0 r l) = (headInp (arg0 m c) (arg1 m c) d h).b r l := by
  refine (congrArg (V m c main_v47 : S2x4096x1024.Idx → EReal) (emb6 d h r l)).trans ?_
  match d with
  | 0 => exact sums0 m c h r l
  | 1 => exact sums1 m c h r l

theorem inp_eq (b : S1x1x1x128.Idx → EReal) (Q F W : S4096x128.Idx → EReal) (B : S1x4096x128.Idx → EReal) (Y : Inp) (hq : ∀ r l, gated (Q (ix2 r l)) = Y.q r l)
    (hk : ∀ r l, kept (b (ix4 0 0 0 l)) (F (ix2 r l)) = Y.k r l) (hv : ∀ r l, W (ix2 r l) = Y.v r l) (hb : ∀ r l, B (ix3 0 r l) = Y.b r l) : inp b Q F W B = Y := by
  obtain ⟨q, k, v, b'⟩ := Y
  exact congr (congr (congr (congrArg Inp.mk (funext fun r => funext fun l => hq r l)) (funext fun r => funext fun l => hk r l)) (funext fun r => funext fun l => hv r l)) (funext fun r => funext fun l => hb r l)

/-- What the point runs on. -/
theorem runOf_eq : runOf m c (pointOf d h) = headInp (arg0 m c) (arg1 m c) d h := inp_eq _ _ _ _ _ _
  (fun r l => congrArg gated (i0 m c d h r l)) (fun r l => congrArg₂ kept (i4 m c d h l) (i1 m c d h r l)) (fun r l => i2 m c d h r l) (fun r l => i6 m c d h r l)

theorem sumBoth_eq : sumBoth m c (lastOf h) r l = both (arg0 m c) (arg1 m c) h r l := by
  unfold sumBoth sumFirst both
  rw [show lastOf h = pointOf 1 h from rfl, show prior (pointOf 1 h) = pointOf 0 h from Fin.ext (by simp), runOf_eq, runOf_eq]

theorem gatedBoth_eq : gatedBoth m c (lastOf h) r l
    = gatedRow (both (arg0 m c) (arg1 m c) h r) (arg2 m c (ix2 0 l)) (arg0 m c (ix2 r (col 4 h l))) l := by
  unfold gatedBoth
  rw [show (iblk m c 5 (lastOf h) : S1x128.Idx → EReal) (ix2 0 l) = _ from i5 m c 1 h l, show (iblk m c 3 (lastOf h) : S4096x128.Idx → EReal) (ix2 r l) = _ from i3 m c 1 h r l]
  exact congrArg (fun o => gatedRow o _ _ l) (funext fun j => sumBoth_eq m c h r j)

end Gla
-- ==== Proof.DecayRef.lean ====
/- The running sums as the reference takes them. -/
module

public import proofs.«01_k».proof.Proof.DecayBlock
public import proofs.«01_k».proof.Proof.GlaHead
public import proofs.«01_k».proof.Proof.Gen.Reference14Ideal.Read

@[expose] public section

set_option maxRecDepth 16384

noncomputable section

namespace Decay

open Idealize.ShloMosaic Idealize.ShloMosaic.TcCoe
open Cert.Kernel14Ideal Cert.Kernel14Ideal.Gen Cert.Reals
open Cert.Reference14Ideal.Read
open Gla (before placeOf rowIn chunkOf)

/-- Column `j` of the columns that gate direction `d`. -/
abbrev gateCol (d : Fin 2) (j : Fin 1024) : Fin 13312 := ⟨1024 * (1 + d) + j, by omega⟩

/-- The running sum of a row over its chunk. -/
def total (P : S4096x13312.Idx → EReal) (L : S2x1024.Idx → EReal) (d : Fin 2) (r : Fin 4096) (j : Fin 1024) : EReal :=
  ∑ s : Fin 64, if before d s (placeOf r) then lg (L (ix2 d j)) (P (ix2 (rowIn (chunkOf r) s) (gateCol d j))) else 0

/-- One summand. -/
theorem summand (P : S4096x13312.Idx → EReal) (L : S2x1024.Idx → EReal) (w : BitVec 1) (p : Prop) [Decidable p] (hw : w = if p then 1#1 else 0#1) (a a' : S2x1024.Idx) (ha : a = a') (b b' : S4096x13312.Idx) (hb : b = b') :
    Scalar.select w (Ideal.log (L a + (1 - L a) * Ideal.div 1 (1 + Ideal.exp (-P b)))) (id (constant (F := Ideal) Cert.Reference14Ideal.S_ FTy.f32 0#32) ix0)
      = if p then lg (L a') (P b') else 0 := by
  subst hw ha hb
  split_ifs
  · rfl
  · exact Ideal.ofBits_zero_f32

theorem ref0 (P : FVec Ideal S4096x13312 .f32) (L : FVec Ideal S2x1024 .f32) (r : Fin 4096) (j : Fin 1024) :
    (val_main_v48 (F := Ideal) P L (ix3 0 r j) : EReal) = total P L 0 r j := by
  pointwise [val_main_c, val_main_v0, val_main_call0_v0, val_main_call0_c, val_main_call0_v1, val_main_call0_v2, val_main_call0_v3, val_main_call0_v4, val_main_call0_c_0, val_main_call0_v5, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5, val_main_cst_6, val_main_cst_7, val_main_cst_8, val_main_call1_v0, val_main_call1_v1, val_main_call1_v2, val_main_call1_v3, val_main_call3_v0, val_main_call3_v1, val_main_call3_v2, val_main_call3_v3]
  refine Finset.sum_congr rfl fun x _ => summand P L _ _ ?_ _ _ rfl _ _ ?_
  · exact Gla.tri (placeOf r) x
  · exact congrArg₂ ix2 (Fin.ext (congrArg (· + x.val) (Nat.mul_comm _ _))) rfl

theorem ref1 (P : FVec Ideal S4096x13312 .f32) (L : FVec Ideal S2x1024 .f32) (r : Fin 4096) (j : Fin 1024) :
    (val_main_v48 (F := Ideal) P L (ix3 1 r j) : EReal) = total P L 1 r j := by
  pointwise [val_main_c, val_main_v0, val_main_call0_v0, val_main_call0_c, val_main_call0_v1, val_main_call0_v2, val_main_call0_v3, val_main_call0_v4, val_main_call0_c_0, val_main_call0_v5, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5, val_main_cst_6, val_main_cst_7, val_main_cst_8, val_main_call1_v0, val_main_call1_v1, val_main_call1_v2, val_main_call1_v3, val_main_call3_v0, val_main_call3_v1, val_main_call3_v2, val_main_call3_v3]
  unfold total
  refine Eq.trans ?_ (Equiv.sum_comp Fin.revPerm _)
  have hr := r.isLt
  refine Finset.sum_congr rfl fun x _ => summand P L _ _ ?_ _ _ rfl _ _ ?_
  · refine (Gla.tri (placeOf r.rev) x).trans (if_congr ?_ rfl rfl)
    show x.val ≤ (4096 - (r.val + 1)) % 64 ↔ r.val % 64 ≤ 64 - (x.val + 1)
    have hx := x.isLt
    omega
  · refine congrArg₂ ix2 (Fin.ext ?_) rfl
    show 4096 - ((4096 - (r.val + 1)) / 64 * 64 + x.val + 1) = 64 * (r.val / 64) + (64 - (x.val + 1))
    have hx := x.isLt
    omega

end Decay
-- ==== Proof.Decay.lean ====
/- The running sums of the logarithms over each chunk: the kernel's array is the reference's wherever the lower bounds are
   below infinity. -/
module

public import proofs.«01_k».proof.Proof.DecayPoint
public import proofs.«01_k».proof.Proof.DecayRef
public import proofs.«01_k».proof.Proof.Finite
public import proofs.«01_k».proof.Proof.Gen.Pre_below14

@[expose] public section

set_option maxRecDepth 16384

noncomputable section

namespace Decay

open Idealize.ShloMosaic Idealize.ShloMosaic.TcCoe
open Cert.Kernel14Ideal Cert.Kernel14Ideal.Gen Cert.Reals
open Gla (before placeOf rowIn chunkOf)

/-- What the precondition says: the lower bounds are below infinity. -/
theorem of_below14 (P : FVec Ideal Cert.Pre_below14.S4096x13312 .f32) (L : FVec Ideal Cert.Pre_below14.S2x1024 .f32)
    (h : Cert.Pre_below14.fn (F := Ideal) P L = fun _ => 1#1) (i : S2x1024.Idx) : (L i : EReal) < ⊤ := by
  have v : Ideal.cmp .olt (L i) (Ideal.ofBits .f32 0x7F800000#32) = 1#1 := Host.reduce_andi_all _ _ _ _ _ (congrFun h fun a => a.elim0) i
  rw [word_top] at v
  by_contra hc
  simp [Ideal.cmp, hc] at v

variable (m : (ℓ : Loc nD τ sig) → Buf (Elt Ideal) ℓ) (c : Dev nD)

abbrev arg0 : S4096x13312.Idx → EReal := m ((c.tc : Thread nD τ).loc main_arg0)
abbrev arg1 : S2x1024.Idx → EReal := m ((c.tc : Thread nD τ).loc main_arg1)

theorem idx : ∀ t : Fin cfg0.N, win0_0.index t = ![0, 4 + t.val] ∧ win0_1.index t = ![t.val / 4, t.val % 4, 0, 0] ∧ win0_2.index t = ![t.val / 4, 0, t.val % 4]
    ∧ ((grid0.coords t) 0).val = t.val / 4 := by decide +kernel

/-- Column `l` of the `h`-th group of 256 columns. -/
abbrev quart (h : Fin 4) (l : Fin 256) : Fin 1024 := ⟨256 * h + l, by omega⟩

theorem bounds (d : Fin 2) (h : Fin 4) (l : Fin 256) : (V m c main_v1 : S2x4x1x256.Idx → EReal) (ix4 d h 0 l) = arg1 m c (ix2 d (quart h l)) := by
  unfold V
  after_reads_at
  exact congrArg (arg1 m c) (congrArg (ix2 d) (Fin.ext (by show (h.val * 2 + l.val / 128) * 128 + l.val % 128 = 256 * h.val + l.val; omega)))

variable (t : Fin cfg0.N)

abbrev dirOf : Fin 2 := ⟨t.val / 4, by have : t.val < 8 := lt_of_lt_of_eq t.isLt rfl; omega⟩
abbrev partOf : Fin 4 := ⟨t.val % 4, by omega⟩

theorem emb0 (r : Fin 4096) (l : Fin 256) : (win0_0.blk t).view.emb ((ix2 r l : S4096x256.Idx) : (win0_0.xblock (grid0.coords t)).Idx) = (ix2 r (gateCol (dirOf t) (quart (partOf t) l)) : S4096x13312.Idx) := by
  have e0 : ((((win0_0.blk t).view.emb (ix2 r l : S4096x256.Idx)) 0 : Fin _) : ℕ) = r.val := by
    blk_simp [idx t]
    all_goals omega
  have e1 : ((((win0_0.blk t).view.emb (ix2 r l : S4096x256.Idx)) 1 : Fin _) : ℕ) = 1024 * (1 + t.val / 4) + (256 * (t.val % 4) + l.val) := by
    blk_simp [idx t]
    all_goals omega
  funext a
  match a with
  | 0 => exact Fin.ext e0
  | 1 => exact Fin.ext e1

theorem emb1 (l : Fin 256) : (win0_1.blk t).view.emb ((ix4 0 0 0 l : S1x1x1x256.Idx) : (win0_1.xblock (grid0.coords t)).Idx) = (ix4 (dirOf t) (partOf t) 0 l : S2x4x1x256.Idx) := by
  have e0 : ((((win0_1.blk t).view.emb (ix4 0 0 0 l : S1x1x1x256.Idx)) 0 : Fin _) : ℕ) = t.val / 4 := by
    blk_simp [idx t]
    all_goals omega
  have e1 : ((((win0_1.blk t).view.emb (ix4 0 0 0 l : S1x1x1x256.Idx)) 1 : Fin _) : ℕ) = t.val % 4 := by
    blk_simp [idx t]
    all_goals omega
  have e2 : ((((win0_1.blk t).view.emb (ix4 0 0 0 l : S1x1x1x256.Idx)) 2 : Fin _) : ℕ) = 0 := by
    blk_simp [idx t]
    all_goals omega
  have e3 : ((((win0_1.blk t).view.emb (ix4 0 0 0 l : S1x1x1x256.Idx)) 3 : Fin _) : ℕ) = l.val := by
    blk_simp [idx t]
    all_goals omega
  funext a
  match a with
  | 0 => exact Fin.ext e0
  | 1 => exact Fin.ext e1
  | 2 => exact Fin.ext e2
  | 3 => exact Fin.ext e3

theorem emb2 (r : Fin 4096) (l : Fin 256) : (win0_2.blk t).view.emb ((ix3 0 r l : S1x4096x256.Idx) : (win0_2.xblock (grid0.coords t)).Idx) = (ix3 (dirOf t) r (quart (partOf t) l) : S2x4096x1024.Idx) := by
  have e0 : ((((win0_2.blk t).view.emb (ix3 0 r l : S1x4096x256.Idx)) 0 : Fin _) : ℕ) = t.val / 4 := by
    blk_simp [idx t]
    all_goals omega
  have e1 : ((((win0_2.blk t).view.emb (ix3 0 r l : S1x4096x256.Idx)) 1 : Fin _) : ℕ) = r.val := by
    blk_simp [idx t]
    all_goals omega
  have e2 : ((((win0_2.blk t).view.emb (ix3 0 r l : S1x4096x256.Idx)) 2 : Fin _) : ℕ) = 256 * (t.val % 4) + l.val := by
    blk_simp [idx t]
    all_goals omega
  funext a
  match a with
  | 0 => exact Fin.ext e0
  | 1 => exact Fin.ext e1
  | 2 => exact Fin.ext e2

theorem i0 (r : Fin 4096) (l : Fin 256) : (iblk m c 0 t : S4096x256.Idx → EReal) (ix2 r l) = arg0 m c (ix2 r (gateCol (dirOf t) (quart (partOf t) l))) :=
  (congrFun (V_main_arg0 m c) _).trans (congrArg (arg0 m c) (emb0 t r l))
theorem i1 (l : Fin 256) : (iblk m c 1 t : S1x1x1x256.Idx → EReal) (ix4 0 0 0 l) = arg1 m c (ix2 (dirOf t) (quart (partOf t) l)) :=
  (congrArg (V m c main_v1) (emb1 t l)).trans (bounds m c _ _ l)

theorem ref (P : FVec Ideal S4096x13312 .f32) (L : FVec Ideal S2x1024 .f32) (d : Fin 2) (r : Fin 4096) (j : Fin 1024) :
    (Cert.Reference14Ideal.Read.val_main_v48 (F := Ideal) P L (ix3 d r j) : EReal) = total P L d r j := by
  fin_cases d
  · exact ref0 P L r j
  · exact ref1 P L r j

/-- THE SUMS' ARRAY IS THE REFERENCE'S. -/
theorem final2 (h : ∀ i, arg1 m c i < ⊤) :
    (dats m 0 c).arrAt 2 cfg0.N = Cert.Reference14Ideal.Read.val_main_v48 (F := Ideal) (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 4096) (l : Fin 256), y = (ix3 0 r l : S1x4096x256.Idx) := ⟨y 1, y 2, by
    refine (eq_ix3 (n0 := 1) (n1 := 4096) (n2 := 256) y).trans ?_
    exact congrArg (fun a : Fin 1 => (ix3 a (y 1) (y 2) : S1x4096x256.Idx)) (Subsingleton.elim _ _)⟩
  refine Eq.trans ?_ ((congrArg (Cert.Reference14Ideal.Read.val_main_v48 (F := Ideal) (arg0 m c) (arg1 m c)) (emb2 t r l)).trans (ref (arg0 m c) (arg1 m c) (dirOf t) r (quart (partOf t) l))).symm
  blk_simp
  rw [after0_2]
  unfold outsAt0
  refine (out2 c _ _ _ _ _ _ _ (iblk m c 0 t) (iblk m c 1 t) (fun l => by rw [i1]; exact h _) (ix3 0 r l)).trans ?_
  have e : (grid0.coords t) 0 = dirOf t := Fin.ext (idx t).2.2.2
  rw [e]
  unfold sums total
  refine Finset.sum_congr rfl fun s _ => if_congr Iff.rfl (congrArg₂ lg (i1 m c t l) (i0 m c t _ l)) rfl

end Decay
-- ==== Proof.GlaOwn.lean ====
/- A chunk's own part of the output, and the sums in the order in which a direction meets the rows. -/
module

public import proofs.«01_k».proof.Proof.GlaIn

@[expose] public section

set_option maxRecDepth 16384

noncomputable section

namespace Gla

open Idealize.ShloMosaic Idealize.ShloMosaic.TcCoe

/-- What a row receives from the rows of its chunk. -/
def Inp.own (X : Inp) (d : Fin 2) (r : Fin 4096) (l : Fin 128) : EReal :=
  ∑ s : Fin 64, (if before d s (placeOf r) then ∑ j : Fin 128, X.qt r j * X.kt (rowIn (chunkOf r) s) j else 0) * X.v (rowIn (chunkOf r) s) l

/-- Of a block's rows only those of the row's own chunk count. -/
theorem Inp.intra_own (X : Inp) (d : Fin 2) (r : Fin 4096) (l : Fin 128) : X.intra d r l = X.own d r l := by
  have hq : r.val % 256 / 64 < 4 := by omega
  symm
  unfold Inp.own Inp.intra
  refine Finset.sum_of_injOn (fun s : Fin 64 => (⟨64 * (r.val % 256 / 64) + s.val, by omega⟩ : Fin 256)) ?_ (fun _ _ => Finset.mem_coe.2 (Finset.mem_univ _)) ?_ ?_
  · intro a _ b _ e
    have := congrArg Fin.val e
    exact Fin.ext (by simpa using this)
  · intro s _ hs
    refine if_neg fun hl => hs ?_
    obtain ⟨h1, -⟩ := hl
    refine ⟨⟨s.val % 64, by omega⟩, Finset.mem_coe.2 (Finset.mem_univ _), Fin.ext ?_⟩
    have h1' : r.val % 256 / 64 = s.val / 64 := h1
    show 64 * (r.val % 256 / 64) + s.val % 64 = s.val
    omega
  · intro s _
    have er : rowOf (blockOf r) (⟨64 * (r.val % 256 / 64) + s.val, by omega⟩ : Fin 256) = rowIn (chunkOf r) s := Fin.ext (by
      show 256 * (r.val / 256) + (64 * (r.val % 256 / 64) + s.val) = 64 * (r.val / 64) + s.val
      omega)
    have el : live d ⟨r.val % 256, by omega⟩ (⟨64 * (r.val % 256 / 64) + s.val, by omega⟩ : Fin 256) ↔ before d s (placeOf r) := by
      unfold live before
      have ha : (r.val % 256) / 64 = (64 * (r.val % 256 / 64) + s.val) / 64 := by omega
      have hb : 64 * (r.val % 256 / 64) + s.val ≤ r.val % 256 ↔ s.val ≤ r.val % 64 := by omega
      have hc : r.val % 256 ≤ 64 * (r.val % 256 / 64) + s.val ↔ r.val % 64 ≤ s.val := by omega
      split_ifs
      · exact ⟨fun h => hb.1 h.2, fun h => ⟨ha, hb.2 h⟩⟩
      · exact ⟨fun h => hc.1 h.2, fun h => ⟨ha, hc.2 h⟩⟩
    simp only [er]
    by_cases h : before d s (placeOf r)
    · rw [if_pos h, if_pos (el.2 h)]
    · rw [if_neg h, if_neg (fun q => h (el.1 q)), zero_mul]

/-- One direction's output. -/
def Inp.out (X : Inp) (d : Fin 2) (r : Fin 4096) (l : Fin 128) : EReal := X.own d r l + X.inter d r l

theorem both_out (P : Cert.Kernel15Ideal.S4096x13312.Idx → EReal) (L : Cert.Kernel15Ideal.S2x1024.Idx → EReal) (h : Fin 8) (r : Fin 4096) (l : Fin 128) :
    both P L h r l = (headInp P L 0 h).out 0 r l + (headInp P L 1 h).out 1 r l := by
  unfold both Inp.gives Inp.out
  rw [Inp.intra_own, Inp.intra_own, zero_add, add_assoc]

/-- A row's place in its chunk, in the order of the direction. -/
def flip (d : Fin 2) (s : Fin 64) : Fin 64 := if d = 0 then s else s.rev
/-- The row that step `n` meets at place `s`. -/
def rowAt (d : Fin 2) (n s : Fin 64) : Fin 4096 := rowIn (met d n.val) (flip d s)

theorem chunkOf_rowIn (c s : Fin 64) : chunkOf (rowIn c s) = c := Fin.ext (by show (64 * c.val + s.val) / 64 = c.val; omega)
theorem placeOf_rowIn (c s : Fin 64) : placeOf (rowIn c s) = s := Fin.ext (by show (64 * c.val + s.val) % 64 = s.val; omega)
theorem chunkOf_rowAt (d : Fin 2) (n s : Fin 64) : chunkOf (rowAt d n s) = met d n.val := chunkOf_rowIn _ _
theorem placeOf_rowAt (d : Fin 2) (n s : Fin 64) : placeOf (rowAt d n s) = flip d s := placeOf_rowIn _ _
theorem turn_met (d : Fin 2) (n : Fin 64) : turn d (met d n.val) = n := by
  refine Fin.ext ?_
  unfold turn met
  split_ifs <;> simp <;> omega
theorem rowAt_last (d : Fin 2) (n : Fin 64) : rowAt d n 63 = endOf d (met d n.val) := by
  unfold rowAt endOf flip
  split_ifs
  · rfl
  · rfl
theorem before_flip (d : Fin 2) (i s : Fin 64) : before d (flip d i) (flip d s) ↔ i ≤ s := by
  unfold before flip
  split_ifs
  · exact Iff.rfl
  · exact Fin.rev_le_rev

/-- A sum over a chunk, in the order of the direction. -/
theorem sum_flip (d : Fin 2) (f : Fin 64 → EReal) : ∑ s, f s = ∑ s, f (flip d s) := by
  unfold flip
  split_ifs
  · rfl
  · exact (Equiv.sum_comp Fin.revPerm f).symm

end Gla
-- ==== Proof.GlaStep.lean ====
/- One step of the reference's scan over chunks, at an index. -/
module

public import proofs.«01_k».proof.Proof.Reals
public import proofs.«01_k».proof.Proof.Gen.Reference15Ideal.Step
public import Idealize.ShloMosaic.Lib.Pointwise
public import Idealize.ShloMosaic.Lib.WordCmp

@[expose] public section

set_option maxRecDepth 16384

noncomputable section

namespace Gla.Ref

open Idealize.ShloMosaic Idealize.ShloMosaic.TcCoe
open Cert.Reference15Ideal Cert.Reference15Ideal.Gen Cert.Reference15Ideal.Step Cert.Reals

/-- A chunk's place. -/
theorem place (j : Fin 64) : ∀ a : Fin 4, (((![(constantI S_ 32 (BitVec.ofNat 32 j.val) : (⟨S_, .i32⟩ : BufTy).Contents (Elt Ideal)), constantI S_ 32 0#32, constantI S_ 32 0#32, constantI S_ 32 0#32] : Fin 4 → (⟨S_, .i32⟩ : BufTy).Contents (Elt Ideal))) a (Shape.Idx.first h_S_)).toInt = ((![j.val, 0, 0, 0] : Fin 4 → ℕ) a : ℤ) := by
  have hj : (BitVec.ofNat 32 j.val).toInt = (j.val : ℤ) := by revert j; decide
  intro a
  fin_cases a
  · exact hj
  · rfl
  · rfl
  · rfl

theorem fits (j : Fin 64) : S64x16x64x128.Slices ![j.val, 0, 0, 0] S1x16x64x128 := by revert j; decide

/-- A chunk that is cut out at its number. -/
theorem cut (X : FVec Ideal S64x16x64x128 .f32) (j : Fin 64) (z1 z2 z3 : (⟨S_, .i32⟩ : BufTy).Contents (Elt Ideal))
    (e1 : z1 = constantI S_ 32 0#32) (e2 : z2 = constantI S_ 32 0#32) (e3 : z3 = constantI S_ 32 0#32) (x : Fin 16) (r : Fin 64) (l : Fin 128) :
    shapeCast S16x64x128 (Host.dynamicSlice S1x16x64x128 X (fun k => (((![(constantI S_ 32 (BitVec.ofNat 32 j.val) : (⟨S_, .i32⟩ : BufTy).Contents (Elt Ideal)), z1, z2, z3] : Fin 4 → (⟨S_, .i32⟩ : BufTy).Contents (Elt Ideal))) k (Shape.Idx.first h_S_)).toInt) sliceFits_S64x16x64x128_S1x16x64x128)
      shapeCasts_S1x16x64x128_S16x64x128 (ix3 x r l) = X (ix4 j x r l) := by
  subst e1 e2 e3
  rw [WordCmp.dynamicSlice_eq_extract _ _ _ _ ![j.val, 0, 0, 0] (fits j) (place j)]
  pointwise []

variable (j : Fin 64) (s : State Ideal) (x : Fin 16) (r : Fin 64) (l : Fin 128)

theorem b4_point : b4 j s (ix3 x r l) = s.main_v71_0 (ix4 j x r l) := cut _ j _ _ _ rfl rfl rfl x r l
theorem b9_point : b9 j s (ix3 x r l) = s.main_v71_1 (ix4 j x r l) := cut _ j _ _ _ rfl rfl rfl x r l
theorem b14_point : b14 j s (ix3 x r l) = s.main_v71_2 (ix4 j x r l) := cut _ j _ _ _ rfl rfl rfl x r l
theorem b19_point : b19 j s (ix3 x r l) = s.main_v71_3 (ix4 j x r l) := cut _ j _ _ _ rfl rfl rfl x r l

/-- The triangle. -/
theorem tri (r s : Fin 64) : (K_main_v60 (F := Ideal)) (ix2 r s) = if s ≤ r then 1#1 else 0#1 := by
  revert r s
  decide +kernel

/-- The running sums of a chunk. -/
theorem b29_point : b29 j s (ix3 x r l) = ∑ i : Fin 64, if i ≤ r then b19 j s (ix3 x i l) else 0 := by
  pointwise [b29, b28, b27, b26, b25, b24, b23, b22, b21, b20]
  refine Finset.sum_congr rfl fun i _ => ?_
  rw [tri]
  split_ifs <;> rfl

theorem b32_point : b32 j s (ix3 x r l) = b4 j s (ix3 x r l) * Ideal.exp (b29 j s (ix3 x r l)) := by pointwise [b32, b31]
theorem b35_point : b35 j s (ix3 x r l) = b9 j s (ix3 x r l) * Ideal.exp (-b29 j s (ix3 x r l)) := by pointwise [b35, b34, b33]
theorem b39_point : b39 j s (ix3 x r l) = b9 j s (ix3 x r l) * Ideal.exp (b29 j s (ix3 x 63 l) - b29 j s (ix3 x r l)) := by
  pointwise [b39, b38, b37, b36, b30]
theorem b46_point : b46 j s (ix3 x r l) = ∑ i : Fin 64, (if i ≤ r then ∑ k : Fin 128, b32 j s (ix3 x r k) * b35 j s (ix3 x i k) else 0) * b14 j s (ix3 x i l) := by
  pointwise [b46, b45, b44, b43, b42, b41, b40]
  refine Finset.sum_congr rfl fun i _ => ?_
  rw [tri]
  split_ifs
  · rfl
  · exact (zero_mul _).symm
theorem b50_point : b50 j s (ix3 x r l) = ∑ k : Fin 128, b32 j s (ix3 x r k) * s.main_v71_6 (ix3 x k l) := by pointwise [b50]
theorem b54_point (a l : Fin 128) : b54 j s (ix3 x a l) = Ideal.exp (b29 j s (ix3 x 63 a)) * s.main_v71_6 (ix3 x a l)
    + ∑ i : Fin 64, b39 j s (ix3 x i a) * b14 j s (ix3 x i l) := by
  pointwise [b54, b53, b52, b51, b49, b48, b30, b47]
theorem b60_point (n : Fin 64) : b60 j s (ix4 n x r l) = if n = j then b46 j s (ix3 x r l) + b50 j s (ix3 x r l) else s.main_v71_7 (ix4 n x r l) := by
  unfold b60 b57 b58 b59
  rw [WordCmp.dynamicUpdateSlice_eq_update _ _ _ _ ![j.val, 0, 0, 0] (fits j) (place j)]
  pointwise [b56, b55]
  have e : (j.val ≤ n.val ∧ n.val < j.val + 1) ↔ n = j := by rw [Fin.ext_iff]; omega
  by_cases h : n = j
  · rw [dif_pos (e.2 h), if_pos h]
  · rw [dif_neg (fun q => h (e.1 q)), if_neg h]

end Gla.Ref
-- ==== Proof.GlaChunks.lean ====
/- What the reference's scan runs on is each head's and direction's. -/
module

public import proofs.«01_k».proof.Proof.GlaOwn
public import proofs.«01_k».proof.Proof.GlaStep

@[expose] public section

set_option maxRecDepth 16384

noncomputable section

namespace Gla.Ref

open Idealize.ShloMosaic Idealize.ShloMosaic.TcCoe
open Cert.Reference15Ideal Cert.Reference15Ideal.Gen Cert.Reference15Ideal.Step Cert.Reals

/-- A head and direction's place in the stack of both directions. -/
abbrev two (d : Fin 2) (h : Fin 8) : Fin 16 := ⟨8 * d + h, by omega⟩

theorem rowAt0 (n s : Fin 64) : rowAt 0 n s = ⟨64 * n.val + s.val, by omega⟩ := Fin.ext (by simp [rowAt, met, flip, Nat.mod_eq_of_lt n.isLt])
theorem rowAt1 (n s : Fin 64) : rowAt 1 n s = ⟨4095 - (64 * n.val + s.val), by omega⟩ := Fin.ext (by simp [rowAt, met, flip, Nat.mod_eq_of_lt n.isLt, Fin.val_rev]; omega)

variable (P : FVec Ideal S4096x13312 .f32) (L : FVec Ideal S2x1024 .f32) (h : Fin 8) (n s : Fin 64) (l : Fin 128)

section
variable (i : Fin 4096)
theorem p8 : A_main_v8 (F := Ideal) P L (ix3 h i l) = gated (P (ix2 i (col 0 h l))) := by
  pointwise [A_main_v8, A_main_v6, A_main_v5, A_main_v4, A_main_call0_v5, A_main_call0_v3, A_main_call0_v1, A_main_call0_v0, A_main_v0, K_main_v7, K_main_cst, K_main_call0_v2, K_main_call0_cst, K_main_call0_v4, K_main_call0_cst_0]
  rw [show (⟨h.val * 128 + l.val, by omega⟩ : Fin 13312) = col 0 h l from Fin.ext (by simp; omega)]
  unfold gated
  rw [Cert.Gate.sig_eq]
  rfl
theorem p10 : A_main_v10 (F := Ideal) P L (ix3 h i l) = P (ix2 i (col 3 h l)) := by
  pointwise [A_main_v10, A_main_v9, A_main_v3]
  simp only [Nat.mul_comm h.val]
  rfl
theorem p27 : A_main_v27 (F := Ideal) P L (ix3 h i l) = kept (L (ix2 0 (lane h l))) (P (ix2 i (col 1 h l))) := by
  pointwise [A_main_v27, A_main_v26, A_main_v25, A_main_v23, A_main_v22, A_main_v21, A_main_v20, A_main_v19, A_main_v17, A_main_v15, A_main_v14, A_main_v13, A_main_v11, A_main_v1, K_main_v24, K_main_cst_3, K_main_v18, K_main_cst_2, K_main_v16, K_main_cst_1, K_main_v12, K_main_cst_0]
  simp only [Nat.mul_comm h.val]
  unfold kept
  rw [Cert.Gate.sig_eq]
  rfl
theorem p47 : A_main_v47 (F := Ideal) P L (ix3 h i l) = kept (L (ix2 1 (lane h l))) (P (ix2 i (col 2 h l))) := by
  pointwise [A_main_v47, A_main_v46, A_main_v45, A_main_v43, A_main_v42, A_main_v41, A_main_v40, A_main_v39, A_main_v37, A_main_v35, A_main_v34, A_main_v33, A_main_v31, A_main_v2, K_main_v44, K_main_cst_7, K_main_v38, K_main_cst_6, K_main_v36, K_main_cst_5, K_main_v32, K_main_cst_4]
  simp only [Nat.mul_comm h.val]
  unfold kept
  rw [Cert.Gate.sig_eq]
  rfl
theorem p30 : A_main_v30 (F := Ideal) P L (ix3 h i l) = logOf P L 0 h i l := by
  pointwise [A_main_v30, A_main_v29, A_main_v28, A_main_v23, A_main_v22, A_main_v21, A_main_v20, A_main_v19, A_main_v17, A_main_v15, A_main_v14, A_main_v13, A_main_v11, A_main_v1, K_main_v18, K_main_cst_2, K_main_v16, K_main_cst_1, K_main_v12, K_main_cst_0]
  simp only [Nat.mul_comm h.val]
  rfl
theorem p50 : A_main_v50 (F := Ideal) P L (ix3 h i l) = logOf P L 1 h i l := by
  pointwise [A_main_v50, A_main_v49, A_main_v48, A_main_v43, A_main_v42, A_main_v41, A_main_v40, A_main_v39, A_main_v37, A_main_v35, A_main_v34, A_main_v33, A_main_v31, A_main_v2, K_main_v38, K_main_cst_6, K_main_v36, K_main_cst_5, K_main_v32, K_main_cst_4]
  simp only [Nat.mul_comm h.val]
  rfl
end

/-- The stack of an array and another in reverse, in chunks. -/
theorem stack0 (A B : FVec Ideal S8x4096x128 .f32) : transpose S64x16x64x128 [1, 0, 2, 3] (shapeCast S16x64x64x128 (concatenate S16x4096x128 0 [⟨S8x4096x128, A⟩, ⟨S8x4096x128, B⟩] concatenates_S8x4096x128_S8x4096x128_S16x4096x128_d0) shapeCasts_S16x4096x128_S16x64x64x128)
    transposes_S16x64x64x128_S64x16x64x128_1_0_2_3 (ix4 n (two 0 h) s l) = A (ix3 h (rowAt 0 n s) l) := by
  rw [rowAt0]
  pointwise []
  simp only [Nat.mul_comm n.val]
theorem stack1 (A B : FVec Ideal S8x4096x128 .f32) : transpose S64x16x64x128 [1, 0, 2, 3] (shapeCast S16x64x64x128 (concatenate S16x4096x128 0 [⟨S8x4096x128, A⟩, ⟨S8x4096x128, Host.reverse [1] B⟩] concatenates_S8x4096x128_S8x4096x128_S16x4096x128_d0) shapeCasts_S16x4096x128_S16x64x64x128)
    transposes_S16x64x64x128_S64x16x64x128_1_0_2_3 (ix4 n (two 1 h) s l) = B (ix3 h (rowAt 1 n s) l) := by
  rw [rowAt1]
  pointwise []
  exact congrArg (fun z => B (ix3 h z l)) (Fin.ext (by simp [Fin.val_rev]; omega))

variable (d : Fin 2)
theorem chunk_q : A_main_v63 (F := Ideal) P L (ix4 n (two d h) s l) = (headInp P L d h).q (rowAt d n s) l := by
  match d with
  | 0 => exact (stack0 h n s l _ _).trans (p8 P L h l _)
  | 1 => exact (stack1 h n s l _ _).trans (p8 P L h l _)
theorem chunk_k : A_main_v65 (F := Ideal) P L (ix4 n (two d h) s l) = (headInp P L d h).k (rowAt d n s) l := by
  match d with
  | 0 => exact (stack0 h n s l _ _).trans (p27 P L h l _)
  | 1 => exact (stack1 h n s l _ _).trans (p47 P L h l _)
theorem chunk_v : A_main_v67 (F := Ideal) P L (ix4 n (two d h) s l) = (headInp P L d h).v (rowAt d n s) l := by
  match d with
  | 0 => exact (stack0 h n s l _ _).trans (p10 P L h l _)
  | 1 => exact (stack1 h n s l _ _).trans (p10 P L h l _)
theorem chunk_log : A_main_v69 (F := Ideal) P L (ix4 n (two d h) s l) = logOf P L d h (rowAt d n s) l := by
  match d with
  | 0 => exact (stack0 h n s l _ _).trans (p30 P L h l _)
  | 1 => exact (stack1 h n s l _ _).trans (p50 P L h l _)

end Gla.Ref
-- ==== Proof.GlaLast.lean ====
/- The reference's scan: its states, its outputs, and the two results. -/
module

public import proofs.«01_k».proof.Proof.GlaChunks

@[expose] public section

set_option maxRecDepth 16384

noncomputable section

namespace Gla.Ref

open Idealize.ShloMosaic Idealize.ShloMosaic.TcCoe
open Cert.Reference15Ideal Cert.Reference15Ideal.Gen Cert.Reference15Ideal.Step Cert.Reals

variable (P : FVec Ideal S4096x13312 .f32) (L : FVec Ideal S2x1024 .f32)

/-- The scan's states. -/
def states : ℕ → State Ideal
  | 0 => init P L
  | n + 1 => step n (states n)

/-- The chunks stay as they are. -/
theorem keeps (n : ℕ) : (states P L n).main_v71_0 = A_main_v63 P L ∧ (states P L n).main_v71_1 = A_main_v65 P L
    ∧ (states P L n).main_v71_2 = A_main_v67 P L ∧ (states P L n).main_v71_3 = A_main_v69 P L := by
  induction n with
  | zero => exact ⟨rfl, rfl, rfl, rfl⟩
  | succ n ih => exact ih

section
variable (d : Fin 2) (h : Fin 8) (n s : Fin 64) (l : Fin 128)

theorem at_q : b4 n.val (states P L n.val) (ix3 (two d h) s l) = (headInp P L d h).q (rowAt d n s) l := by
  rw [b4_point, (keeps P L n.val).1, chunk_q]
theorem at_k : b9 n.val (states P L n.val) (ix3 (two d h) s l) = (headInp P L d h).k (rowAt d n s) l := by
  rw [b9_point, (keeps P L n.val).2.1, chunk_k]
theorem at_v : b14 n.val (states P L n.val) (ix3 (two d h) s l) = (headInp P L d h).v (rowAt d n s) l := by
  rw [b14_point, (keeps P L n.val).2.2.1, chunk_v]
theorem at_log : b19 n.val (states P L n.val) (ix3 (two d h) s l) = logOf P L d h (rowAt d n s) l := by
  rw [b19_point, (keeps P L n.val).2.2.2, chunk_log]

theorem at_b : b29 n.val (states P L n.val) (ix3 (two d h) s l) = (headInp P L d h).b (rowAt d n s) l := by
  rw [b29_point]
  refine Eq.trans ?_ (sum_flip d (fun i => if before d i (placeOf (rowAt d n s)) then logOf P L d h (rowIn (chunkOf (rowAt d n s)) i) l else 0)).symm
  refine Finset.sum_congr rfl fun i _ => ?_
  rw [placeOf_rowAt, chunkOf_rowAt, at_log]
  by_cases hi : i ≤ s
  · rw [if_pos hi, if_pos ((before_flip d i s).2 hi)]
    rfl
  · rw [if_neg hi, if_neg (fun q => hi ((before_flip d i s).1 q))]

theorem at_qt : b32 n.val (states P L n.val) (ix3 (two d h) s l) = (headInp P L d h).qt (rowAt d n s) l := by
  rw [b32_point, at_q, at_b]
  rfl
theorem at_kt : b35 n.val (states P L n.val) (ix3 (two d h) s l) = (headInp P L d h).kt (rowAt d n s) l := by
  rw [b35_point, at_k, at_b]
  unfold Inp.kt
  rw [zero_sub]
theorem at_kh : b39 n.val (states P L n.val) (ix3 (two d h) s l) = (headInp P L d h).kh d (rowAt d n s) l := by
  rw [b39_point, at_k, at_b, at_b]
  unfold Inp.kh
  rw [chunkOf_rowAt, rowAt_last]

theorem at_own : b46 n.val (states P L n.val) (ix3 (two d h) s l) = (headInp P L d h).own d (rowAt d n s) l := by
  rw [b46_point]
  unfold Inp.own
  refine Eq.trans ?_ (sum_flip d _).symm
  refine Finset.sum_congr rfl fun i _ => ?_
  rw [placeOf_rowAt, chunkOf_rowAt, at_v]
  refine congrArg₂ (· * ·) ?_ rfl
  by_cases hi : i ≤ s
  · rw [if_pos hi, if_pos ((before_flip d i s).2 hi)]
    exact Finset.sum_congr rfl fun j _ => congrArg₂ (· * ·) (at_qt P L d h n s j) (at_kt P L d h n i j)
  · rw [if_neg hi, if_neg (fun q => hi ((before_flip d i s).1 q))]
end

variable (d : Fin 2) (h : Fin 8)

/-- The scan's state before step `n`. -/
theorem at_state (n : ℕ) (hn : n ≤ 64) (k a : Fin 128) : (states P L n).main_v71_6 (ix3 (two d h) k a) = (headInp P L d h).state d n a k := by
  induction n generalizing k a with
  | zero =>
    show K_main_v61 (F := Ideal) (ix3 (two d h) k a) = 0
    pointwise [K_main_v61, K_main_cst_8]
  | succ n ih =>
    have e := b54_point (⟨n, hn⟩ : Fin 64) (states P L n) (two d h) k a
    refine (e.trans ?_ : b54 n (states P L n) (ix3 (two d h) k a) = _)
    rw [ih (by omega)]
    show _ = (headInp P L d h).state d n a k * (headInp P L d h).dec d (met d n) k + (headInp P L d h).add d (met d n) a k
    refine congrArg₂ (· + ·) ?_ ?_
    · rw [mul_comm]
      refine congrArg _ (congrArg Ideal.exp ((at_b P L d h ⟨n, hn⟩ 63 k).trans ?_))
      rw [rowAt_last]
    · unfold Inp.add
      refine Eq.trans ?_ (sum_flip d _).symm
      refine Finset.sum_congr rfl fun i _ => ?_
      rw [mul_comm]
      exact congrArg₂ (· * ·) (at_v P L d h ⟨n, hn⟩ i a) (at_kh P L d h ⟨n, hn⟩ i k)

theorem at_out (n s : Fin 64) (l : Fin 128) : b46 n.val (states P L n.val) (ix3 (two d h) s l) + b50 n.val (states P L n.val) (ix3 (two d h) s l)
    = (headInp P L d h).out d (rowAt d n s) l := by
  unfold Inp.out
  refine congrArg₂ (· + ·) (at_own P L d h n s l) ?_
  rw [b50_point]
  unfold Inp.inter
  rw [chunkOf_rowAt, turn_met]
  exact Finset.sum_congr rfl fun j _ => congrArg₂ (· * ·) (at_qt P L d h n s j) (at_state P L d h n.val n.isLt.le j l)

/-- The outputs of the steps so far. -/
theorem at_outs (n : ℕ) (hn : n ≤ 64) (k : Fin 64) (hk : k.val < n) (s : Fin 64) (l : Fin 128) :
    (states P L n).main_v71_7 (ix4 k (two d h) s l) = (headInp P L d h).out d (rowAt d k s) l := by
  induction n with
  | zero => exact absurd hk (Nat.not_lt_zero _)
  | succ n ih =>
    refine ((b60_point (⟨n, hn⟩ : Fin 64) (states P L n) (two d h) s l k).trans ?_ : b60 n (states P L n) (ix4 k (two d h) s l) = _)
    by_cases e : k = ⟨n, hn⟩
    · subst e
      rw [if_pos rfl]
      exact at_out P L d h ⟨n, hn⟩ s l
    · rw [if_neg e]
      refine ih (by omega) ?_
      have : k.val ≠ n := fun q => e (Fin.ext q)
      omega

/-- The gated norm of the sum over both directions. -/
def gatedArr (O : FVec Ideal S4096x1024 .f32) (P : FVec Ideal S4096x13312 .f32) (G : FVec Ideal S1x128 .f32) : FVec Ideal S4096x1024 .bf16 :=
  truncf .bf16 (shapeCast _ (mulf (mulf (mulf (shapeCast _ O shapeCasts_S4096x1024_S4096x8x128) (broadcastInDim S4096x8x128 ![0, 1, 2] bcast_S4096x8x1_S4096x8x128_0_1_2 (Host.rsqrt (addf (Host.divf (broadcastInDim S4096x8x1 ![0, 1] bcast_S4096x8_S4096x8x1_0_1 (Host.reduceAdd (mulf (shapeCast _ O shapeCasts_S4096x1024_S4096x8x128) (shapeCast _ O shapeCasts_S4096x1024_S4096x8x128)) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32)))))) (broadcastInDim S4096x8x128 ![0, 1, 2] bcast_S1x1x128_S4096x8x128_0_1_2 (broadcastInDim S1x1x128 ![1, 2] bcast_S1x128_S1x1x128_1_2 (G)))) (mulf (shapeCast _ (extractStridedSlice S4096x1024 ![0, 4096] (P) slices_S4096x13312_S4096x1024_0_4096) shapeCasts_S4096x1024_S4096x8x128) (Host.divf (broadcastInDim S4096x8x128 ![] bcast_S_S4096x8x128 (constant S_ .f32 0x3F800000#32)) (addf (broadcastInDim S4096x8x128 ![] bcast_S_S4096x8x128 (constant S_ .f32 0x3F800000#32)) (Host.exp (Host.negf (shapeCast _ (extractStridedSlice S4096x1024 ![0, 4096] (P) slices_S4096x13312_S4096x1024_0_4096) shapeCasts_S4096x1024_S4096x8x128))))))) shapeCasts_S4096x8x128_S4096x1024) bitsLt_bf16_f32

theorem v99_eq (s : State Ideal) (G : FVec Ideal S1x128 .f32) : R_main_v99 s P G = gatedArr (R_main_v79 s) P G := rfl

theorem gatedArr_point (O : FVec Ideal S4096x1024 .f32) (G : FVec Ideal S1x128 .f32) (r : Fin 4096) (l : Fin 128) :
    gatedArr O P G (ix2 r (lane h l)) = gatedRow (fun j => O (ix2 r (lane h j))) (G (ix2 0 l)) (P (ix2 r (col 4 h l))) l := by
  pointwise [gatedArr]
  have e1 : (128 * h.val + l.val) / 128 = h.val := by omega
  have e2 : (128 * h.val + l.val) % 128 = l.val := by omega
  simp only [e1, e2, Nat.mul_comm h.val]
  unfold gatedRow
  rw [Cert.Gate.sig_eq]
  rfl

theorem v79_point (s : State Ideal) (r : Fin 4096) (l : Fin 128) : R_main_v79 s (ix2 r (lane h l))
    = s.main_v71_7 (ix4 (chunkOf r) (two 0 h) (placeOf r) l) + s.main_v71_7 (ix4 (chunkOf r.rev) (two 1 h) (placeOf r.rev) l) := by
  pointwise [R_main_v79]
  have e1 : (128 * h.val + l.val) / 128 = h.val := by omega
  have e2 : (128 * h.val + l.val) % 128 = l.val := by omega
  simp only [e1, e2]
  exact congrArg₂ (· + ·) (congrArg (fun z => s.main_v71_7 (ix4 (chunkOf r) z (placeOf r) l)) (Fin.ext (by simp))) rfl

theorem result (r : Fin 4096) (l : Fin 128) : R_main_v79 (states P L 64) (ix2 r (lane h l)) = both P L h r l := by
  rw [both_out, v79_point, at_outs P L 0 h 64 le_rfl _ (chunkOf r).isLt, at_outs P L 1 h 64 le_rfl _ (chunkOf r.rev).isLt]
  have e0 : rowAt 0 (chunkOf r) (placeOf r) = r := (rowAt0 _ _).trans (Fin.ext (by show 64 * (r.val / 64) + r.val % 64 = r.val; omega))
  have e1 : rowAt 1 (chunkOf r.rev) (placeOf r.rev) = r := (rowAt1 _ _).trans (Fin.ext (by
    show 4095 - (64 * (r.rev.val / 64) + r.rev.val % 64) = r.val
    rw [Fin.val_rev]
    omega))
  rw [e0, e1]

end Gla.Ref
-- ==== Proof.GlaRef.lean ====
/- The gated recurrence, forward: the reference's two results as its scan's step iterated. -/
module

public import proofs.«01_k».proof.Proof.Gen.Reference15Ideal.Run
public import proofs.«01_k».proof.Proof.Gen.Reference15Ideal.Step

@[expose] public section

set_option maxRecDepth 65536

noncomputable section

namespace Gla.Ref

open Idealize.ShloMosaic Idealize.ShloMosaic.TcCoe Idealize.SL.Sem Idealize.ShloMosaic.StableHlo
open Cert.Reference15Ideal Cert.Reference15Ideal.Gen Cert.Reference15Ideal.Value
open Cert.Reference15Ideal.Step

variable {F : FTy → Type} [FloatOps F]

/-- The loop's buffers before a trip: the carried state, the rows it reads, the mask, the trip's number. -/
structure At (V : Valuation τ sig (Elt F)) (s : State F) (j : ℕ) : Prop where
  state : V (Proc.devRef .tc main_v71_6) = s.main_v71_6
  rows : V (Proc.devRef .tc main_v71_7) = s.main_v71_7
  q : V (Proc.devRef .tc main_v71_0) = s.main_v71_0
  k : V (Proc.devRef .tc main_v71_1) = s.main_v71_1
  v : V (Proc.devRef .tc main_v71_2) = s.main_v71_2
  g : V (Proc.devRef .tc main_v71_3) = s.main_v71_3
  trip : V (Proc.devRef .tc main_v71_5) = constantI S_ 32 (BitVec.ofNat 32 j)
  mask : V (Proc.devRef .tc main_v71_4) = K_main_v60 (F := F)

variable {V : Valuation τ sig (Elt F)} {s : State F} {j : ℕ}

/-- The running sums, their last row, the decayed queries, the keys and the values of a trip. -/
theorem sums (h : At V s j) : res_main_while0b_v107 V = b29 j s := by
  unfold res_main_while0b_v107
  rw [h.mask, h.g, h.trip]
  rfl
theorem total (h : At V s j) : res_main_while0b_v108 V = b30 j s := by
  unfold res_main_while0b_v108
  rw [sums h]
  rfl
theorem decayed (h : At V s j) : res_main_while0b_v110 V = b32 j s := by
  unfold res_main_while0b_v110
  rw [sums h, h.q, h.trip]
  rfl
theorem keys (h : At V s j) : res_main_while0b_v101 V = b9 j s := by
  unfold res_main_while0b_v101
  rw [h.k, h.trip]
  rfl
theorem vals (h : At V s j) : res_main_while0b_v102 V = b14 j s := by
  unfold res_main_while0b_v102
  rw [h.v, h.trip]
  rfl

/-- A trip hands on the next state, the rows with the trip's own written, the next number. -/
theorem next_state (h : At V s j) : Value.step_main_v71_6 V = (step j s).main_v71_6 := by
  unfold Value.step_main_v71_6
  rw [sums h, total h, keys h, vals h, h.state]
  rfl
theorem next_rows (h : At V s j) : Value.step_main_v71_7 V = (step j s).main_v71_7 := by
  unfold Value.step_main_v71_7
  rw [sums h, decayed h, keys h, vals h, h.state, h.mask, h.trip, h.rows]
  rfl
theorem next_trip (h : At V s j) : Value.step_main_v71_5 V = constantI S_ 32 (BitVec.ofNat 32 (j + 1)) := by
  unfold Value.step_main_v71_5
  rw [h.trip]
  funext i
  exact (BitVec.ofNat_add j 1).symm

theorem next (h : At V s j) : At (STEP V) (step j s) (j + 1) :=
  ⟨(STEP_main_v71_6 V).trans (next_state h), (STEP_main_v71_7 V).trans (next_rows h),
    (STEP_main_v71_0 V).trans h.q, (STEP_main_v71_1 V).trans h.k, (STEP_main_v71_2 V).trans h.v,
    (STEP_main_v71_3 V).trans h.g, (STEP_main_v71_5 V).trans (next_trip h), (STEP_main_v71_4 V).trans h.mask⟩

variable (m : (ℓ : Loc nD τ sig) → Buf (Elt F) ℓ) (c : Dev nD)

set_option maxHeartbeats 600000 in
/-- What the lines before the loop leave. -/
theorem entry : At (entryContents preI m c)
    (init (m ((c.tc : Thread nD τ).loc main_arg0)) (m ((c.tc : Thread nD τ).loc main_arg1))) 0 := by
  constructor <;> (simp only [entryContents, afterL_cons, afterL_nil]; after_reads_simp) <;> rfl

/-- Before trip `n` the buffers hold the `n`-th state. -/
theorem iterated (it : ℕ → State F)
    (h0 : it 0 = init (m ((c.tc : Thread nD τ).loc main_arg0)) (m ((c.tc : Thread nD τ).loc main_arg1)))
    (hs : ∀ n, it (n + 1) = step n (it n)) : ∀ n, At (STEP^[n] (entryContents preI m c)) (it n) n
  | 0 => h0 ▸ entry m c
  | n + 1 => by
    rw [Function.iterate_succ_apply', hs n]
    exact next (iterated it h0 hs n)

/-- The gated result and the sum, of the state after the last trip. -/
theorem gated_at (h : At V s j) {P : FVec F S4096x13312 .f32} {G : FVec F S1x128 .f32}
    (hP : V (Proc.devRef .tc main_arg0) = P) (hG : V (Proc.devRef .tc main_arg2) = G) :
    out_main_v99 V = R_main_v99 s P G := by
  unfold out_main_v99
  rw [h.rows, hP, hG]
  rfl
theorem sum_at (h : At V s j) : out_main_v79 V = R_main_v79 s := by
  unfold out_main_v79
  rw [h.rows]
  rfl

/-- The reference's run: its results are those of the state after the last trip, its arguments unchanged. -/
theorem run_states (ρ : Dev nD → PrngReg) (it : Dev nD → ℕ → State F)
    (h0 : ∀ c : Dev nD, it c 0 = init (m ((c.tc : Thread nD τ).loc main_arg0)) (m ((c.tc : Thread nD τ).loc main_arg1)))
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v99) = R_main_v99 (it c 64) (m ((c.tc : Thread nD τ).loc main_arg0)) (m ((c.tc : Thread nD τ).loc main_arg2))
      ∧ r.2.mem ((c.tc : Thread nD τ).loc main_v79) = R_main_v79 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := iterated m c (it c) (h0 c) (hs c) 64
    ⟨(h c).1.trans (gated_at hk (iter_main_arg0 m c 64) (iter_main_arg2 m c 64)), (h c).2.1.trans (sum_at hk), (h c).2.2⟩)
    (Value.run m ρ)

end Gla.Ref
-- ==== Proof.Gla.lean ====
/- The gated recurrence, forward: the kernel's two results are the reference's. -/
module

public import proofs.«01_k».proof.Proof.GlaHead
public import proofs.«01_k».proof.Proof.GlaLast
public import proofs.«01_k».proof.Proof.GlaRef

@[expose] public section

set_option maxRecDepth 16384

noncomputable section

namespace Gla

open Idealize.ShloMosaic Idealize.ShloMosaic.TcCoe Idealize.SL.Sem
open Cert.Kernel15Ideal Cert.Kernel15Ideal.Gen

/-- The reference's two results. -/
def refSum (P : FVec Ideal S4096x13312 .f32) (L : FVec Ideal S2x1024 .f32) : FVec Ideal S4096x1024 .f32 :=
  Cert.Reference15Ideal.Step.R_main_v79 (Ref.states P L 64)
def refGated (P : FVec Ideal S4096x13312 .f32) (L : FVec Ideal S2x1024 .f32) (G : FVec Ideal S1x128 .f32) : FVec Ideal S4096x1024 .bf16 :=
  Cert.Reference15Ideal.Step.R_main_v99 (Ref.states P L 64) P G

/-- The kernel leaves them, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49_0) = (refGated (arg0 m c) (arg1 m c) (arg2 m c) : S4096x1024.Idx → EReal)
      ∧ r.2.mem ((c.tc : Thread nD τ).loc main_v49_1) = (refSum (arg0 m c) (arg1 m c) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_all m ρ _ (told_holds m))
  suffices k : _ ∧ _ from ⟨k.1, k.2, (h.1.arr_in c 3 rfl).trans (V_main_arg0 m c),
    ((h.1 c).2 main_arg1 (Pipeline.mem_restRefs_of main_arg1 (by decide) (by decide))).trans (V_main_arg1 m c),
    (h.1.arr_in c 5 rfl).trans (V_main_arg2 m c)⟩
  refine arrays m c _ _ r h.1 (fun h' i l => ?_) (fun h' i l => ?_)
  · rw [gatedBoth_eq]
    unfold refGated
    rw [Ref.v99_eq, Ref.gatedArr_point]
    exact congrArg (fun o => gatedRow o _ _ l) (funext fun j => (Ref.result _ _ h' i j).symm)
  · exact (sumBoth_eq m c h' i l).trans (Ref.result _ _ h' i l).symm

/-- The reference leaves them, and its arguments as they were. -/
theorem run_ref (m : (ℓ : Loc Cert.Reference15Ideal.nD Cert.Reference15Ideal.τ Cert.Reference15Ideal.sig) → Buf (Elt Ideal) ℓ) (ρ : Dev Cert.Reference15Ideal.nD → PrngReg) :
    θ_run Cert.Reference15Ideal.defs (onTc (τ := Cert.Reference15Ideal.τ) (Cert.Reference15Ideal.main (F := Ideal))) ⟨m, fun _ => 0, ρ⟩ fun r => ∀ c : Dev Cert.Reference15Ideal.nD,
      r.2.mem ((c.tc : Thread Cert.Reference15Ideal.nD Cert.Reference15Ideal.τ).loc Cert.Reference15Ideal.main_v99)
        = (refGated (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) : S4096x1024.Idx → EReal)
      ∧ r.2.mem ((c.tc : Thread Cert.Reference15Ideal.nD Cert.Reference15Ideal.τ).loc Cert.Reference15Ideal.main_v79)
        = (refSum (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) : S4096x1024.Idx → EReal)
      ∧ r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2) :=
  Ref.run_states (F := Ideal) m ρ
    (fun c => Ref.states (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)))
    (fun _ => rfl) (fun _ _ => rfl)

end Gla
-- ==== Proof.MemKv.lean ====
/- The products around the memory tokens' keys and values (`mem_kv_fwd`, `mem_kv_bwd_w`, `mem_kv_bwd_act`), each taken in one
   block: the kernel's array is the reference's. Nothing is asked of the arguments. -/
module

public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read
public import Idealize.ShloMosaic.Lib.Pipeline.ValueKit

@[expose] public section

set_option maxRecDepth 16384

noncomputable section

namespace Cert.MemKv

open Idealize.ShloMosaic Idealize.ShloMosaic.TcCoe Idealize.SL.Sem
open Idealize.ShloMosaic.Pipeline (Dat)

section
open Cert.Kernel22Ideal Cert.Kernel22Ideal.Gen Cert.Reference22Ideal.Read

theorem idx22 : ∀ t : Fin cfg0.N, win0_0.index t = ![0, 0] ∧ win0_1.index t = ![0, 0] ∧ win0_2.index t = ![0, 0] := by decide +kernel

theorem out22 (x : FVec Ideal S256x1024 .bf16) (w : FVec Ideal S1024x1024 .bf16) (y : S256x1024.Idx) :
    (out0_2 (F := Ideal) x w y : EReal) = ∑ k : Fin 1024, x (ix2 (y 0) k) * w (ix2 k (y 1)) := by
  unfold out0_2
  canon_tiles z h
  open_payloads
  pointwise []
  obtain rfl : y = z := by funext a; fin_cases a <;> exact Fin.ext (by assumption)
  rfl

/-- The keys and values. -/
theorem final22 (m : (ℓ : Loc nD τ sig) → Buf (Elt Ideal) ℓ) (c : Dev nD) :
    (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out22 _ _ y).trans ?_
  pointwise [val_main_v2, val_main_v1, val_main_v0]
  refine Finset.sum_congr rfl fun k _ => congrArg₂ (· * ·) ?_ ?_
  · blk_point [iblk, V, idx22 t]
  · blk_point [iblk, V, idx22 t]
end

section
open Cert.Kernel23Ideal Cert.Kernel23Ideal.Gen Cert.Reference23Ideal.Read

theorem idx23 : ∀ t : Fin cfg0.N, win0_0.index t = ![0, 0] ∧ win0_1.index t = ![0, 0] ∧ win0_2.index t = ![0, 0] := by decide +kernel

theorem out23 (x d : FVec Ideal S256x1024 .bf16) (y : S1024x1024.Idx) :
    (out0_2 (F := Ideal) x d y : EReal) = ∑ k : Fin 256, x (ix2 k (y 0)) * d (ix2 k (y 1)) := by
  unfold out0_2
  canon_tiles z h
  open_payloads
  pointwise []
  obtain rfl : y = z := by funext a; fin_cases a <;> exact Fin.ext (by assumption)
  rfl

/-- The weight's gradient; the derivative's product comes out transposed. -/
theorem final23 (m : (ℓ : Loc nD τ sig) → Buf (Elt Ideal) ℓ) (c : Dev nD) :
    (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out23 _ _ y).trans ?_
  pointwise [val_main_v6, val_main_v5, val_main_v4, val_main_v3, val_main_v0]
  refine Finset.sum_congr rfl fun k _ => (mul_comm _ _).trans (congrArg₂ (· * ·) ?_ ?_)
  · blk_point [iblk, V, idx23 t]
  · blk_point [iblk, V, idx23 t]
end

section
open Cert.Kernel24Ideal Cert.Kernel24Ideal.Gen Cert.Reference24Ideal.Read

theorem idx24 : ∀ t : Fin cfg0.N, win0_0.index t = ![0, 0] ∧ win0_1.index t = ![0, 0] ∧ win0_2.index t = ![0, 0] := by decide +kernel

theorem out24 (d : FVec Ideal S256x1024 .bf16) (w : FVec Ideal S1024x1024 .bf16) (y : S256x1024.Idx) :
    (out0_2 (F := Ideal) d w y : EReal) = ∑ k : Fin 1024, d (ix2 (y 0) k) * w (ix2 (y 1) k) := by
  unfold out0_2
  canon_tiles z h
  open_payloads
  pointwise []
  obtain rfl : y = z := by funext a; fin_cases a <;> exact Fin.ext (by assumption)
  rfl

/-- The gradient of the normed memory tokens. -/
theorem final24 (m : (ℓ : Loc nD τ sig) → Buf (Elt Ideal) ℓ) (c : Dev nD) :
    (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out24 _ _ y).trans ?_
  pointwise [val_main_v4, val_main_v3, val_main_v0]
  refine Finset.sum_congr rfl fun k _ => congrArg₂ (· * ·) ?_ ?_
  · blk_point [iblk, V, idx24 t]
  · blk_point [iblk, V, idx24 t]
end

end Cert.MemKv

end
-- ==== Proof.ProjFwd.lean ====
/- The input projection (`proj_fwd`): the kernel's array, taken eight pieces of the weight's columns at a time, is the
   reference's. Nothing is asked of the arguments. -/
module

public import proofs.«01_k».proof.Proof.Gen.Kernel25Ideal.Value
public import proofs.«01_k».proof.Proof.Gen.Reference25Ideal.Read
public import Idealize.ShloMosaic.Lib.Pipeline.ValueKit

@[expose] public section

set_option maxRecDepth 16384

noncomputable section

namespace Cert.ProjFwd

open Idealize.ShloMosaic Idealize.ShloMosaic.TcCoe Idealize.SL.Sem
open Idealize.ShloMosaic.Pipeline (Dat)
open Cert.Kernel25Ideal Cert.Kernel25Ideal.Gen Cert.Reference25Ideal.Read

/-- The blocks that grid point `t` names: the piece of the columns is `t / 2`, the rows' half `t % 2`. -/
theorem idx : ∀ t : Fin cfg0.N, win0_0.index t = ![t.val % 2, 0] ∧ win0_1.index t = ![t.val / 2, 0, 0] ∧ win0_2.index t = ![t.val % 2, t.val / 2] := by decide +kernel

theorem out (x : FVec Ideal S2048x1024 .bf16) (w : FVec Ideal S1x1024x1664 .bf16) (y : S2048x1664.Idx) :
    (out0_2 (F := Ideal) x w y : EReal) = ∑ k : Fin 1024, x (ix2 (y 0) k) * w (ix3 0 k (y 1)) := by
  unfold out0_2
  canon_tiles z h
  open_payloads
  pointwise []
  obtain rfl : y = z := by funext a; fin_cases a <;> exact Fin.ext (by assumption)
  rfl

variable (m : (ℓ : Loc nD τ sig) → Buf (Elt Ideal) ℓ) (c : Dev nD)

/-- A column of a piece, as a column of the weight. -/
abbrev col (t : Fin cfg0.N) (j : Fin 1664) : Fin 13312 := ⟨t.val / 2 * 1664 + j, by have : t.val < 16 := lt_of_lt_of_eq t.isLt N_0; omega⟩

theorem weight (t : Fin cfg0.N) (k : Fin 1024) (j : Fin 1664) : iblk m c 1 t (ix3 0 k j) = m ((c : Thread nD τ).loc main_arg1) (ix2 k (col t j)) := by
  blk_point [iblk, V, idx t]

theorem final : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have e : ((win0_2.blk t).view.emb y) 1 = col t (y 1) := Fin.ext (by blk_simp [idx t])
  blk_simp
  rw [after0_2]
  refine (out _ _ y).trans ?_
  pointwise [val_main_v2, val_main_v1, val_main_v0]
  refine Finset.sum_congr rfl fun k _ => congrArg₂ (· * ·) ?_ ?_
  · blk_point [iblk, V, idx t]
  · refine (weight m c t k (y 1)).trans (congrArg (m ((c : Thread nD τ).loc main_arg1)) (congrArg (ix2 k) ?_))
    exact e.symm

end Cert.ProjFwd

end
-- ==== Proof.Halves.lean ====
/- A sum over rows, as the sums over their two halves. -/
module

public import Mathlib.Data.EReal.Operations
public import Mathlib.Algebra.BigOperators.Fin

@[expose] public section

namespace Cert

theorem sum_halves (f : Fin 4096 → EReal) : (∑ k, f k) = (∑ k : Fin 2048, f ⟨0 * 2048 + k, by omega⟩) + ∑ k : Fin 2048, f ⟨1 * 2048 + k, by omega⟩ := by
  refine (Fin.sum_univ_add (a := 2048) (b := 2048) f).trans (congrArg₂ (· + ·) ?_ ?_)
  · exact Finset.sum_congr rfl fun k _ => congrArg f (Fin.ext (by simp))
  · exact Finset.sum_congr rfl fun k _ => congrArg f (Fin.ext (by simp [Nat.add_comm]))

end Cert

end
-- ==== Proof.OutW.lean ====
/- The gradient of the output projection's weight (`out_bwd_w`): the rows' two halves are multiplied and added; the array is the
   reference's. Nothing is asked of the arguments. -/
module

public import proofs.«01_k».proof.Proof.Gen.Kernel26Ideal.Value
public import proofs.«01_k».proof.Proof.Gen.Reference26Ideal.Read
public import proofs.«01_k».proof.Proof.Halves
public import Idealize.ShloMosaic.Lib.Pipeline.ValueKit

@[expose] public section

set_option maxRecDepth 16384

noncomputable section

namespace Cert.OutW

open Idealize.ShloMosaic Idealize.ShloMosaic.TcCoe Idealize.SL.Sem
open Idealize.ShloMosaic.Pipeline (Dat)
open Cert.Kernel26Ideal Cert.Kernel26Ideal.Gen Cert.Reference26Ideal.Read

theorem idx : ∀ t : Fin cfg0.N, win0_0.index t = ![t.val, 0] ∧ win0_1.index t = ![t.val, 0] ∧ win0_2.index t = ![0, 0] := by decide +kernel

variable (m : (ℓ : Loc nD τ sig) → Buf (Elt Ideal) ℓ) (c : Dev nD)

/-- A row of a half, as a row of the whole. -/
abbrev row (t : Fin cfg0.N) (k : Fin 2048) : Fin 4096 := ⟨t.val * 2048 + k, by have : t.val < 2 := lt_of_lt_of_eq t.isLt N_0; omega⟩

theorem left (t : Fin cfg0.N) (k : Fin 2048) (i : Fin 1024) : iblk m c 0 t (ix2 k i) = m ((c : Thread nD τ).loc main_arg0) (ix2 (row t k) i) := by
  blk_point [iblk, V, idx t]
theorem right (t : Fin cfg0.N) (k : Fin 2048) (i : Fin 1024) : iblk m c 1 t (ix2 k i) = m ((c : Thread nD τ).loc main_arg1) (ix2 (row t k) i) := by
  blk_point [iblk, V, idx t]

theorem first (t : Fin cfg0.N) (h : t.val % 2 = 0) : (outsAt0 m c t.val t.isLt).2 = k0_pay2 (F := Ideal) (iblk m c 0 t) (iblk m c 1 t) := by
  rw [outsAt0_A m c t h (by omega)]
  frame_out

theorem second (t : Fin cfg0.N) (h : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h]
  frame_out
  exact congrArg (fun z => k0_pay4 (F := Ideal) _ _ z) (Memref.IsWhole.read_unread _ _)

theorem final : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 2 := lt_of_lt_of_eq t.isLt N_0
  have e0 : ((win0_2.blk t).view.emb y) 0 = y 0 := Fin.ext (by blk_simp [idx t])
  have e1 : ((win0_2.blk t).view.emb y) 1 = y 1 := Fin.ext (by blk_simp [idx t])
  blk_simp
  rw [after0_2, second m c t ht, first m c ⟨t.val - 1, Nat.lt_of_le_of_lt (Nat.sub_le _ _) t.isLt⟩ (by show (t.val - 1) % 2 = 0; omega)]
  pointwise [k0_pay1, k0_pay2, k0_pay4, val_main_v6, val_main_v5, val_main_v4, val_main_v3, val_main_v0]
  refine Eq.trans ?_ (sum_halves _).symm
  refine congrArg₂ (· + ·) (Finset.sum_congr rfl fun k _ => ?_) (Finset.sum_congr rfl fun k _ => ?_)
  all_goals
    refine (mul_comm _ _).trans (congrArg₂ (· * ·) ((right m c _ k _).trans (congrArg (m ((c : Thread nD τ).loc main_arg1)) (congrArg₂ ix2 (Fin.ext ?_) e1.symm)))
      ((left m c _ k _).trans (congrArg (m ((c : Thread nD τ).loc main_arg0)) (congrArg₂ ix2 (Fin.ext ?_) e0.symm))))
    all_goals
      simp only
      omega

end Cert.OutW

end
-- ==== Proof.ProjW.lean ====
/- The gradient of the input projection's weight (`proj_bwd_w`): eight pieces of the weight's columns, stacked, each the sum of
   the products over the two halves of the positions; the array is the reference's. Nothing is asked of the arguments. -/
module

public import proofs.«01_k».proof.Proof.Gen.Kernel27Ideal.Value
public import proofs.«01_k».proof.Proof.Gen.Reference27Ideal.Read
public import proofs.«01_k».proof.Proof.Halves
public import Idealize.ShloMosaic.Lib.Pipeline.ValueKit

@[expose] public section

set_option maxRecDepth 16384

noncomputable section

namespace Cert.ProjW

open Idealize.ShloMosaic Idealize.ShloMosaic.TcCoe Idealize.SL.Sem
open Idealize.ShloMosaic.Pipeline (Dat)
open Cert.Kernel27Ideal Cert.Kernel27Ideal.Gen Cert.Reference27Ideal.Read

/-- The blocks that grid point `t` names: the piece is `t / 2`, the positions half `t % 2`. -/
theorem idx : ∀ t : Fin cfg0.N, win0_0.index t = ![0, t.val % 2] ∧ win0_1.index t = ![t.val % 2, t.val / 2] ∧ win0_2.index t = ![t.val / 2, 0, 0] := by decide +kernel

variable (m : (ℓ : Loc nD τ sig) → Buf (Elt Ideal) ℓ) (c : Dev nD)

/-- A row of the half that a point takes, as a row of the whole. -/
abbrev row (t : Fin cfg0.N) (k : Fin 2048) : Fin 4096 := ⟨t.val % 2 * 2048 + k, by omega⟩

/-- A column of a piece, as a column of the whole. -/
abbrev col (t : Fin cfg0.N) (j : Fin 1664) : Fin 13312 := ⟨t.val / 2 * 1664 + j, by have : t.val < 16 := lt_of_lt_of_eq t.isLt N_0; omega⟩

theorem left (t : Fin cfg0.N) (i : Fin 1024) (k : Fin 2048) : iblk m c 0 t (ix2 i k) = m ((c : Thread nD τ).loc main_arg0) (ix2 i (row t k)) := by
  blk_point [iblk, V, idx t]
theorem right (t : Fin cfg0.N) (k : Fin 2048) (j : Fin 1664) : iblk m c 1 t (ix2 k j) = m ((c : Thread nD τ).loc main_arg1) (ix2 (row t k) (col t j)) := by
  blk_point [iblk, V, idx t]

theorem first (t : Fin cfg0.N) (h : t.val % 2 = 0) : (outsAt0 m c t.val t.isLt).2 = k0_pay2 (F := Ideal) (iblk m c 0 t) (iblk m c 1 t) := by
  rw [outsAt0_A m c t h (by omega)]
  frame_out

theorem second (t : Fin cfg0.N) (h : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h]
  frame_out
  exact congrArg (fun z => k0_pay4 (F := Ideal) _ _ z) (Memref.IsWhole.read_unread _ _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 16 := lt_of_lt_of_eq t.isLt N_0
  have e0 : (((win0_2.blk t).view.emb y) 0).val = t.val / 2 := by blk_simp [idx t]
  have e1 : ((win0_2.blk t).view.emb y) 1 = y 1 := Fin.ext (by blk_simp [idx t])
  have e2 : ((win0_2.blk t).view.emb y) 2 = y 2 := Fin.ext (by blk_simp [idx t])
  blk_simp
  rw [after0_2, second m c t ht, first m c ⟨t.val - 1, Nat.lt_of_le_of_lt (Nat.sub_le _ _) t.isLt⟩ (by show (t.val - 1) % 2 = 0; omega)]
  pointwise [k0_pay1, k0_pay2, k0_pay4, val_main_v9, val_main_v8, val_main_v7, val_main_v6, val_main_v5, val_main_v4, val_main_v3, val_main_v1, val_main_v0]
  refine Eq.trans ?_ (sum_halves _).symm
  refine congrArg₂ (· + ·) (Finset.sum_congr rfl fun k _ => ?_) (Finset.sum_congr rfl fun k _ => ?_)
  all_goals
    refine (mul_comm _ _).trans (congrArg₂ (· * ·) ((right m c _ k _).trans (congrArg (m ((c : Thread nD τ).loc main_arg1)) (congrArg₂ ix2 (Fin.ext ?_)
        (Fin.ext (.trans ?_ (congrArg₂ (fun a b : ℕ => a * 1664 + b) e0.symm (congrArg Fin.val e2.symm)))))))
      ((left m c _ _ k).trans (congrArg (m ((c : Thread nD τ).loc main_arg0)) (congrArg₂ ix2 e1.symm (Fin.ext ?_)))))
    all_goals
      simp only <;> omega

end Cert.ProjW

end
-- ==== Proof.FfnOutW.lean ====
/- The gradient of the second feed-forward product's weight (`ffn_out_bwd_w`): two blocks of the weight's rows, each the sum of
   the products over the two halves of the positions; the array is the reference's. Nothing is asked of the arguments. -/
module

public import proofs.«01_k».proof.Proof.Gen.Kernel28Ideal.Value
public import proofs.«01_k».proof.Proof.Gen.Reference28Ideal.Read
public import proofs.«01_k».proof.Proof.Halves
public import Idealize.ShloMosaic.Lib.Pipeline.ValueKit

@[expose] public section

set_option maxRecDepth 16384

noncomputable section

namespace Cert.FfnOutW

open Idealize.ShloMosaic Idealize.ShloMosaic.TcCoe Idealize.SL.Sem
open Idealize.ShloMosaic.Pipeline (Dat)
open Cert.Kernel28Ideal Cert.Kernel28Ideal.Gen Cert.Reference28Ideal.Read

/-- The blocks that grid point `t` names: the weight's rows are half `t / 2`, the positions half `t % 2`. -/
theorem idx : ∀ t : Fin cfg0.N, win0_0.index t = ![t.val / 2, t.val % 2] ∧ win0_1.index t = ![t.val % 2, 0] ∧ win0_2.index t = ![t.val / 2, 0] := by decide +kernel

variable (m : (ℓ : Loc nD τ sig) → Buf (Elt Ideal) ℓ) (c : Dev nD)

/-- A row of the half that a point takes, as a row of the whole. -/
abbrev row (t : Fin cfg0.N) (k : Fin 2048) : Fin 4096 := ⟨t.val % 2 * 2048 + k, by omega⟩

/-- A row of a block of the weight, as a row of the whole. -/
abbrev blk (t : Fin cfg0.N) (i : Fin 1408) : Fin 2816 := ⟨t.val / 2 * 1408 + i, by have : t.val < 4 := lt_of_lt_of_eq t.isLt N_0; omega⟩

theorem left (t : Fin cfg0.N) (i : Fin 1408) (k : Fin 2048) : iblk m c 0 t (ix2 i k) = m ((c : Thread nD τ).loc main_arg0) (ix2 (blk t i) (row t k)) := by
  blk_point [iblk, V, idx t]
theorem right (t : Fin cfg0.N) (k : Fin 2048) (j : Fin 1024) : iblk m c 1 t (ix2 k j) = m ((c : Thread nD τ).loc main_arg1) (ix2 (row t k) j) := by
  blk_point [iblk, V, idx t]

theorem first (t : Fin cfg0.N) (h : t.val % 2 = 0) : (outsAt0 m c t.val t.isLt).2 = k0_pay2 (F := Ideal) (iblk m c 0 t) (iblk m c 1 t) := by
  rw [outsAt0_A m c t h (by omega)]
  frame_out

theorem second (t : Fin cfg0.N) (h : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h]
  frame_out
  exact congrArg (fun z => k0_pay4 (F := Ideal) _ _ z) (Memref.IsWhole.read_unread _ _)

theorem final : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 4 := lt_of_lt_of_eq t.isLt N_0
  have e0 : ((win0_2.blk t).view.emb y) 0 = blk t (y 0) := Fin.ext (by blk_simp [idx t])
  have e1 : ((win0_2.blk t).view.emb y) 1 = y 1 := Fin.ext (by blk_simp [idx t])
  blk_simp
  rw [after0_2, second m c t ht, first m c ⟨t.val - 1, Nat.lt_of_le_of_lt (Nat.sub_le _ _) t.isLt⟩ (by show (t.val - 1) % 2 = 0; omega)]
  pointwise [k0_pay1, k0_pay2, k0_pay4, val_main_v7, val_main_v6, val_main_v5, val_main_v4, val_main_v3, val_main_v1, val_main_v0]
  refine Eq.trans ?_ (sum_halves _).symm
  refine congrArg₂ (· + ·) (Finset.sum_congr rfl fun k _ => ?_) (Finset.sum_congr rfl fun k _ => ?_)
  all_goals
    refine (mul_comm _ _).trans (congrArg₂ (· * ·) ((right m c _ k _).trans (congrArg (m ((c : Thread nD τ).loc main_arg1)) (congrArg₂ ix2 (Fin.ext ?_) e1.symm)))
      ((left m c _ _ k).trans (congrArg (m ((c : Thread nD τ).loc main_arg0)) (congrArg₂ ix2 (Fin.ext (.trans ?_ (congrArg Fin.val e0.symm))) (Fin.ext ?_)))))
    all_goals
      simp only <;> omega

end Cert.FfnOutW

end
-- ==== Proof.FfnInW.lean ====
/- The gradient of the first feed-forward product's weight (`ffn_in_bwd_w`): four blocks of the weight's columns, two from each
   half's gradient, each the sum of the products over the two halves of the positions; the array is the reference's. Nothing
   is asked of the arguments. -/
module

public import proofs.«01_k».proof.Proof.Gen.Kernel29Ideal.Value
public import proofs.«01_k».proof.Proof.Gen.Reference29Ideal.Read
public import proofs.«01_k».proof.Proof.Halves
public import Idealize.ShloMosaic.Lib.Pipeline.ValueKit

@[expose] public section

set_option maxRecDepth 16384

noncomputable section

namespace Cert.FfnInW

open Idealize.ShloMosaic Idealize.ShloMosaic.TcCoe Idealize.SL.Sem
open Idealize.ShloMosaic.Pipeline (Dat)
open Cert.Kernel29Ideal Cert.Kernel29Ideal.Gen Cert.Reference29Ideal.Read

/-- The blocks that grid point `t` names: the half of the weight's columns is `t / 4`, the block in it `t / 2 % 2`, the
    positions half `t % 2`. -/
theorem idx : ∀ t : Fin cfg0.N, win0_0.index t = ![0, t.val % 2] ∧ win0_1.index t = ![t.val / 4, t.val % 2, t.val / 2 % 2] ∧ win0_2.index t = ![0, t.val / 2] := by decide +kernel

variable (m : (ℓ : Loc nD τ sig) → Buf (Elt Ideal) ℓ) (c : Dev nD)

/-- A row of the half that a point takes, as a row of the whole. -/
abbrev row (t : Fin cfg0.N) (k : Fin 2048) : Fin 4096 := ⟨t.val % 2 * 2048 + k, by omega⟩

theorem left (t : Fin cfg0.N) (i : Fin 1024) (k : Fin 2048) : iblk m c 0 t (ix2 i k) = m ((c : Thread nD τ).loc main_arg0) (ix2 i (row t k)) := by
  blk_point [iblk, V, idx t]
theorem right (t : Fin cfg0.N) (k : Fin 2048) (j : Fin 1408) : iblk m c 1 t (ix3 0 k j) = m ((c : Thread nD τ).loc main_arg1) (ix3 ⟨t.val / 4, by have : t.val < 8 := lt_of_lt_of_eq t.isLt N_0; omega⟩ (row t k) ⟨t.val / 2 % 2 * 1408 + j, by omega⟩) := by
  blk_point [iblk, V, idx t]

theorem first (t : Fin cfg0.N) (h : t.val % 2 = 0) : (outsAt0 m c t.val t.isLt).2 = k0_pay2 (F := Ideal) (iblk m c 0 t) (iblk m c 1 t) := by
  rw [outsAt0_A m c t h (by omega)]
  frame_out

theorem second (t : Fin cfg0.N) (h : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h]
  frame_out
  exact congrArg (fun z => k0_pay4 (F := Ideal) _ _ z) (Memref.IsWhole.read_unread _ _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 8 := lt_of_lt_of_eq t.isLt N_0
  have e0 : ((win0_2.blk t).view.emb y) 0 = y 0 := Fin.ext (by blk_simp [idx t])
  have e1 : (((win0_2.blk t).view.emb y) 1).val = t.val / 2 * 1408 + y 1 := by blk_simp [idx t]
  blk_simp
  rw [after0_2, second m c t ht, first m c ⟨t.val - 1, Nat.lt_of_le_of_lt (Nat.sub_le _ _) t.isLt⟩ (by show (t.val - 1) % 2 = 0; omega)]
  pointwise [k0_pay1, k0_pay2, k0_pay4, val_main_v9, val_main_v8, val_main_v7, val_main_v6, val_main_v4, val_main_v3, val_main_v2, val_main_v1, val_main_v0]
  refine Eq.trans ?_ (sum_halves _).symm
  refine congrArg₂ (· + ·) (Finset.sum_congr rfl fun k _ => ?_) (Finset.sum_congr rfl fun k _ => ?_)
  all_goals
    refine (mul_comm _ _).trans (congrArg₂ (· * ·) ((right m c _ k _).trans (congrArg (m ((c : Thread nD τ).loc main_arg1)) (congr (congrArg₂ ix3
        (Fin.ext (.trans ?_ (congrArg (· / 2816) e1.symm))) (Fin.ext ?_)) (Fin.ext (.trans ?_ (congrArg (· % 2816) e1.symm))))))
      ((left m c _ _ k).trans (congrArg (m ((c : Thread nD τ).loc main_arg0)) (congrArg₂ ix2 e0.symm (Fin.ext ?_)))))
    all_goals
      have hy : (y 1).val < 1408 := (y 1).isLt
      simp only <;> omega

end Cert.FfnInW

end
-- ==== Proof.Adam.lean ====
/- The update of a device's part of the input projection's weight (`adamw_w_in`): its gradient, the sum of its own part and
   of three that came from other chips, the two moments and the step. Kernel and reference write the same expression at every
   element, the sum grouped differently, so nothing is asked of the arguments. -/
module

public import proofs.«01_k».proof.Proof.Gen.Kernel30Ideal.Value
public import proofs.«01_k».proof.Proof.Gen.Reference30Ideal.Read
public import Idealize.ShloMosaic.Lib.Pipeline.ValueKit

@[expose] public section

set_option maxRecDepth 16384

noncomputable section

namespace Cert.Adam

open Idealize.ShloMosaic Idealize.ShloMosaic.TcCoe Idealize.SL.Sem
open Idealize.ShloMosaic.Pipeline (Dat)
open Cert.Kernel30Ideal Cert.Kernel30Ideal.Gen Cert.Reference30Ideal.Read

/-- The blocks that grid point `t` names: the block `t` of the rows, of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := by decide +kernel

/-- The gradient at an element: a part and three more. -/
def grad (a : EReal) (r : Fin 3 → EReal) : EReal := ((a + r 0) + r 1) + r 2

/-- The first moment at an element. -/
def fst (g m : EReal) : EReal := Ideal.ofBits .f32 0x3F666666#32 * m + Ideal.ofBits .f32 0x3DCCCCCD#32 * g

/-- The second moment at an element. -/
def snd (g v : EReal) : EReal := Ideal.ofBits .f32 0x3F7FBE77#32 * v + Ideal.ofBits .f32 0x3A83126F#32 * (g * g)

/-- The step at an element, from the weight and the new moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

section
variable (x0 : FVec Ideal S128x1664 .f32) (x1 : FVec Ideal S3x128x1664 .bf16) (x2 x3 x4 : FVec Ideal S128x1664 .f32) (y : S128x1664.Idx)

/-- The gradient at an element of the block. -/
abbrev gb : EReal := grad (x0 y) fun k => x1 (ix3 k (y 0) (y 1))

theorem out5 : (out0_5 (F := Ideal) x0 x1 x2 x3 x4 y : EReal) = gb x0 x1 y := by
  unfold out0_5
  canon_tiles z h
  open_payloads
  pointwise []
  obtain rfl : y = z := by funext a; fin_cases a <;> exact Fin.ext (by assumption)
  rfl

theorem out6 : (out0_6 (F := Ideal) x0 x1 x2 x3 x4 y : EReal) = step (x2 y) (fst (gb x0 x1 y) (x3 y)) (snd (gb x0 x1 y) (x4 y)) := by
  unfold out0_6
  canon_tiles z h
  open_payloads
  pointwise []
  obtain rfl : y = z := by funext a; fin_cases a <;> exact Fin.ext (by assumption)
  rfl

theorem out7 : (out0_7 (F := Ideal) x0 x1 x2 x3 x4 y : EReal) = fst (gb x0 x1 y) (x3 y) := by
  unfold out0_7
  canon_tiles z h
  open_payloads
  pointwise []
  obtain rfl : y = z := by funext a; fin_cases a <;> exact Fin.ext (by assumption)
  rfl

theorem out8 : (out0_8 (F := Ideal) x0 x1 x2 x3 x4 y : EReal) = snd (gb x0 x1 y) (x4 y) := by
  unfold out0_8
  canon_tiles z h
  open_payloads
  pointwise []
  obtain rfl : y = z := by funext a; fin_cases a <;> exact Fin.ext (by assumption)
  rfl

end

section
variable (x0 : FVec Ideal S1024x1664 .f32) (x1 : FVec Ideal S3x1024x1664 .bf16) (x2 x3 x4 : FVec Ideal S1024x1664 .f32) (i : S1024x1664.Idx)

/-- The gradient at an element of the whole array. -/
abbrev gw : EReal := grad (x0 i) fun k => x1 (ix3 k (i 0) (i 1))

theorem r_grad : (val_main_v2 (F := Ideal) x0 x1 i : EReal) = gw x0 x1 i := by
  unfold gw grad
  pointwise [val_main_v2, val_main_v1, val_main_cst, val_main_v0]
  rw [Fin.sum_univ_three, ← add_assoc, ← add_assoc]

theorem r_fst : (val_main_v7 (F := Ideal) x0 x1 x3 i : EReal) = fst (gw x0 x1 i) (x3 i) := by
  rw [← r_grad, val_main_v7_apply, val_main_v6_apply, val_main_v5_apply, val_main_v4_apply, val_main_v3_apply]
  rfl

theorem r_snd : (val_main_v13 (F := Ideal) x0 x1 x4 i : EReal) = snd (gw x0 x1 i) (x4 i) := by
  rw [← r_grad, val_main_v13_apply, val_main_v12_apply, val_main_v11_apply, val_main_v10_apply, val_main_v9_apply, val_main_v8_apply]
  rfl

theorem r_step : (val_main_v26 (F := Ideal) x0 x1 x2 x3 x4 i : EReal) = step (x2 i) (fst (gw x0 x1 i) (x3 i)) (snd (gw x0 x1 i) (x4 i)) := by
  rw [← r_fst, ← r_snd, val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply]
  rfl
end

variable (m : (ℓ : Loc nD τ sig) → Buf (Elt Ideal) ℓ) (c : Dev nD)

theorem final5 : (dats m 0 c).arrAt 5 cfg0.N = val_main_v2 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  refine (out5 _ _ _ _ _ y).trans (Eq.trans ?_ (r_grad _ _ _).symm)
  have e0 : iblk m c 0 t y = m ((c : Thread nD τ).loc main_arg0) ((win0_5.blk t).view.emb y) := by blk_point [iblk, V, idx t]
  have e1 : (fun k => iblk m c 1 t (ix3 k (y 0) (y 1))) = fun k => m ((c : Thread nD τ).loc main_arg1) (ix3 k (((win0_5.blk t).view.emb y) 0) (((win0_5.blk t).view.emb y) 1)) := by
    funext k
    blk_point [iblk, V, idx t]
  unfold gb gw
  rw [e0, e1]

theorem final6 : (dats m 0 c).arrAt 6 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (out6 _ _ _ _ _ y).trans (Eq.trans ?_ (r_step _ _ _ _ _ _).symm)
  have e0 : iblk m c 0 t y = m ((c : Thread nD τ).loc main_arg0) ((win0_6.blk t).view.emb y) := by blk_point [iblk, V, idx t]
  have e1 : (fun k => iblk m c 1 t (ix3 k (y 0) (y 1))) = fun k => m ((c : Thread nD τ).loc main_arg1) (ix3 k (((win0_6.blk t).view.emb y) 0) (((win0_6.blk t).view.emb y) 1)) := by
    funext k
    blk_point [iblk, V, idx t]
  have e2 : iblk m c 2 t y = m ((c : Thread nD τ).loc main_arg2) ((win0_6.blk t).view.emb y) := by blk_point [iblk, V, idx t]
  have e3 : iblk m c 3 t y = m ((c : Thread nD τ).loc main_arg3) ((win0_6.blk t).view.emb y) := by blk_point [iblk, V, idx t]
  have e4 : iblk m c 4 t y = m ((c : Thread nD τ).loc main_arg4) ((win0_6.blk t).view.emb y) := by blk_point [iblk, V, idx t]
  unfold gb gw
  rw [e0, e1, e2, e3, e4]

theorem final7 : (dats m 0 c).arrAt 7 cfg0.N = val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  refine (out7 _ _ _ _ _ y).trans (Eq.trans ?_ (r_fst _ _ _ _).symm)
  have e0 : iblk m c 0 t y = m ((c : Thread nD τ).loc main_arg0) ((win0_7.blk t).view.emb y) := by blk_point [iblk, V, idx t]
  have e1 : (fun k => iblk m c 1 t (ix3 k (y 0) (y 1))) = fun k => m ((c : Thread nD τ).loc main_arg1) (ix3 k (((win0_7.blk t).view.emb y) 0) (((win0_7.blk t).view.emb y) 1)) := by
    funext k
    blk_point [iblk, V, idx t]
  have e3 : iblk m c 3 t y = m ((c : Thread nD τ).loc main_arg3) ((win0_7.blk t).view.emb y) := by blk_point [iblk, V, idx t]
  unfold gb gw
  rw [e0, e1, e3]

theorem final8 : (dats m 0 c).arrAt 8 cfg0.N = val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  refine (out8 _ _ _ _ _ y).trans (Eq.trans ?_ (r_snd _ _ _ _).symm)
  have e0 : iblk m c 0 t y = m ((c : Thread nD τ).loc main_arg0) ((win0_8.blk t).view.emb y) := by blk_point [iblk, V, idx t]
  have e1 : (fun k => iblk m c 1 t (ix3 k (y 0) (y 1))) = fun k => m ((c : Thread nD τ).loc main_arg1) (ix3 k (((win0_8.blk t).view.emb y) 0) (((win0_8.blk t).view.emb y) 1)) := by
    funext k
    blk_point [iblk, V, idx t]
  have e4 : iblk m c 4 t y = m ((c : Thread nD τ).loc main_arg4) ((win0_8.blk t).view.emb y) := by blk_point [iblk, V, idx t]
  unfold gb gw
  rw [e0, e1, e4]

end Cert.Adam

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gain
public import proofs.«01_k».proof.Proof.Gen.Kernel2.Frame
public import proofs.«01_k».proof.Proof.Gen.Kernel2Ideal.Value
public import proofs.«01_k».proof.Proof.Gen.Reference2Ideal.Run
public import proofs.«01_k».proof.Proof.Swiglu
public import proofs.«01_k».proof.Proof.SwigluPre
public import proofs.«01_k».proof.Proof.Gen.Pre_finite2
public import proofs.«01_k».proof.Proof.Gen.Kernel3.Frame
public import proofs.«01_k».proof.Proof.Gen.Kernel3Ideal.Value
public import proofs.«01_k».proof.Proof.Gen.Reference3Ideal.Run
public import proofs.«01_k».proof.Proof.MemPre
public import proofs.«01_k».proof.Proof.Mem
public import proofs.«01_k».proof.Proof.Gen.Pre_finite3
public import proofs.«01_k».proof.Proof.Gen.Kernel4.Frame
public import proofs.«01_k».proof.Proof.Gen.Kernel4Ideal.Value
public import proofs.«01_k».proof.Proof.Gen.Reference4Ideal.Run
public import proofs.«01_k».proof.Proof.NormPre
public import proofs.«01_k».proof.Proof.FfnNorm
public import proofs.«01_k».proof.Proof.Gen.Pre_finite4
public import proofs.«01_k».proof.Proof.Gen.Kernel5.Frame
public import proofs.«01_k».proof.Proof.Gen.Kernel5Ideal.Value
public import proofs.«01_k».proof.Proof.Gen.Reference5Ideal.Run
public import proofs.«01_k».proof.Proof.Loss
public import proofs.«01_k».proof.Proof.Gen.Kernel7.Frame
public import proofs.«01_k».proof.Proof.Gen.Kernel7Ideal.Value
public import proofs.«01_k».proof.Proof.Gen.Reference7Ideal.Run
public import proofs.«01_k».proof.Proof.ProjPre
public import proofs.«01_k».proof.Proof.ProjNorm
public import proofs.«01_k».proof.Proof.Gen.Pre_finite7
public import proofs.«01_k».proof.Proof.Gen.Kernel6.Frame
public import proofs.«01_k».proof.Proof.Gen.Kernel6Ideal.Value
public import proofs.«01_k».proof.Proof.Gen.Reference6Ideal.Run
public import proofs.«01_k».proof.Proof.ProjTop
public import proofs.«01_k».proof.Proof.Gen.Pre_finite6
public import proofs.«01_k».proof.Proof.Gen.Kernel13.Frame
public import proofs.«01_k».proof.Proof.Gen.Kernel13Ideal.Value
public import proofs.«01_k».proof.Proof.Gen.Reference13Ideal.Run
public import proofs.«01_k».proof.Proof.MemFwd
public import proofs.«01_k».proof.Proof.Gen.Pre_finite13
public import proofs.«01_k».proof.Proof.Gen.Kernel16.Frame
public import proofs.«01_k».proof.Proof.Gen.Kernel16Ideal.Value
public import proofs.«01_k».proof.Proof.Gen.Reference16Ideal.Run
public import proofs.«01_k».proof.Proof.FfnIn
public import proofs.«01_k».proof.Proof.Gen.Kernel17.Frame
public import proofs.«01_k».proof.Proof.Gen.Kernel17Ideal.Value
public import proofs.«01_k».proof.Proof.Gen.Reference17Ideal.Run
public import proofs.«01_k».proof.Proof.Norms
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.ResNorm
public import proofs.«01_k».proof.Proof.Gen.Kernel20.Frame
public import proofs.«01_k».proof.Proof.Gen.Kernel20Ideal.Value
public import proofs.«01_k».proof.Proof.Gen.Reference20Ideal.Run
public import proofs.«01_k».proof.Proof.Merge
public import proofs.«01_k».proof.Proof.Gen.Kernel21.Frame
public import proofs.«01_k».proof.Proof.Gen.Kernel21Ideal.Value
public import proofs.«01_k».proof.Proof.Gen.Reference21Ideal.Run
public import proofs.«01_k».proof.Proof.Table
public import proofs.«01_k».proof.Proof.Gen.Kernel14.Frame
public import proofs.«01_k».proof.Proof.Gen.Kernel14Ideal.Value
public import proofs.«01_k».proof.Proof.Gen.Reference14Ideal.Run
public import proofs.«01_k».proof.Proof.Decay
public import proofs.«01_k».proof.Proof.Gen.Reference14Ideal.Read
public import proofs.«01_k».proof.Proof.Gen.Pre_below14
public import proofs.«01_k».proof.Proof.Gen.Kernel15.Frame
public import proofs.«01_k».proof.Proof.Gen.Kernel15Ideal.Frame
public import proofs.«01_k».proof.Proof.Gen.Reference15Ideal.Run
public import proofs.«01_k».proof.Proof.Gla
public import proofs.«01_k».proof.Proof.GlaFrame
public import proofs.«01_k».proof.Proof.GlaBitsFrame
public import proofs.«01_k».proof.Proof.Gen.Kernel22.Frame
public import proofs.«01_k».proof.Proof.Gen.Kernel22Ideal.Value
public import proofs.«01_k».proof.Proof.Gen.Reference22Ideal.Run
public import proofs.«01_k».proof.Proof.MemKv
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.ProjFwd
public import proofs.«01_k».proof.Proof.Gen.Kernel26.Frame
public import proofs.«01_k».proof.Proof.Gen.Kernel26Ideal.Value
public import proofs.«01_k».proof.Proof.Gen.Reference26Ideal.Run
public import proofs.«01_k».proof.Proof.OutW
public import proofs.«01_k».proof.Proof.Gen.Kernel27.Frame
public import proofs.«01_k».proof.Proof.Gen.Kernel27Ideal.Value
public import proofs.«01_k».proof.Proof.Gen.Reference27Ideal.Run
public import proofs.«01_k».proof.Proof.ProjW
public import proofs.«01_k».proof.Proof.Gen.Kernel28.Frame
public import proofs.«01_k».proof.Proof.Gen.Kernel28Ideal.Value
public import proofs.«01_k».proof.Proof.Gen.Reference28Ideal.Run
public import proofs.«01_k».proof.Proof.FfnOutW
public import proofs.«01_k».proof.Proof.Gen.Kernel29.Frame
public import proofs.«01_k».proof.Proof.Gen.Kernel29Ideal.Value
public import proofs.«01_k».proof.Proof.Gen.Reference29Ideal.Run
public import proofs.«01_k».proof.Proof.FfnInW
public import proofs.«01_k».proof.Proof.Gen.Kernel30.Frame
public import proofs.«01_k».proof.Proof.Gen.Kernel30Ideal.Value
public import proofs.«01_k».proof.Proof.Gen.Reference30Ideal.Run
public import proofs.«01_k».proof.Proof.Adam
public import Idealize.ShloMosaic.Adequacy
public import Idealize.ShloMosaic.Init
public import Idealize.ShloMosaic.Lib.Quiescent

@[expose] public section

noncomputable section

namespace Cert.Proof

open Idealize.ShloMosaic Idealize.SL.Sem

/-- The reference of call 1 runs, leaves its arguments as they were and signals nothing. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The gradient of the memory norm's gain: both programs leave the same array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.2]
  exact (Cert.ReferenceIdeal.Read.val_main_v14_eq _ _).trans (Gain.ref_eq _ _)

/-- The reference of call 2 runs, leaves its arguments as they were and signals nothing. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gradient of the gated unit: both programs leave the same array. -/
theorem algebraic_Kernel2Ideal_Reference2Ideal_pre_finite2 : algebraic_Kernel2Ideal_Reference2Ideal_pre_finite2 := by
  intro m ρ m' ρ' hpre hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨hb, hw, hd⟩ := Finite.of_finite2 _ _ _ _ (hpre c)
  rw [(h c).1, Swiglu.final m c hb hw hd, (hagree c).1, (hagree c).2.1, (hagree c).2.2.1, (hagree c).2.2.2]
  exact Cert.Reference2Ideal.Read.val_main_v14_eq _ _ _ _

/-- The reference of call 3 runs, leaves its arguments as they were and signals nothing. -/
theorem quiescent_Reference3Ideal : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The gradient of the memory attention: both programs leave the same five arrays. -/
theorem algebraic_Kernel3Ideal_Reference3Ideal_pre_finite3 : algebraic_Kernel3Ideal_Reference3Ideal_pre_finite3 := by
  intro m ρ m' ρ' hpre hagree
  refine ⟨_, _, _, _, _, Cert.Kernel3Ideal.Value.run_blocks (F := Ideal) m ρ, ?_⟩
  refine (θ_run Cert.Reference3Ideal.defs _ _).mono (fun _ h c => ⟨?_, ?_, ?_, ?_, ?_, (h c).2.2.2.2.2⟩) (Cert.Reference3Ideal.Value.run (F := Ideal) m' ρ')
  all_goals
    obtain ⟨⟨Q, h0⟩, ⟨E, h1⟩, ⟨gq, h2⟩, ⟨gk, h3⟩, ⟨D, h4⟩⟩ := Finite.of_finite3 _ _ _ _ _ _ (hpre c)
  · rw [(h c).1, Mem.final6 m c Q D E gq gk h0 h1 h2 h3 h4, Cert.Reference3Ideal.Read.val_main_v143_eq, (hagree c).1, (hagree c).2.1, (hagree c).2.2.1, (hagree c).2.2.2.1, (hagree c).2.2.2.2.1, (hagree c).2.2.2.2.2]
  · rw [(h c).2.1, Mem.final7 m c Q D E gq gk h0 h1 h2 h3 h4, Cert.Reference3Ideal.Read.val_main_v117_eq, (hagree c).1, (hagree c).2.1, (hagree c).2.2.1, (hagree c).2.2.2.1, (hagree c).2.2.2.2.1]
  · rw [(h c).2.2.1, Mem.final8 m c Q D E gq gk h0 h1 h2 h3 h4, Cert.Reference3Ideal.Read.val_main_v95_eq, (hagree c).1, (hagree c).2.1, (hagree c).2.2.1, (hagree c).2.2.2.1, (hagree c).2.2.2.2.1]
  · rw [(h c).2.2.2.1, Mem.final9 m c Q D E gq gk h0 h1 h2 h3 h4, Cert.Reference3Ideal.Read.val_main_v124_eq, (hagree c).1, (hagree c).2.1, (hagree c).2.2.1, (hagree c).2.2.2.1, (hagree c).2.2.2.2.1]
  · rw [(h c).2.2.2.2.1, Mem.final10 m c Q D E gq gk h0 h1 h2 h3 h4, Cert.Reference3Ideal.Read.val_main_v102_eq, (hagree c).1, (hagree c).2.1, (hagree c).2.2.1, (hagree c).2.2.2.1, (hagree c).2.2.2.2.1]

/-- The reference of call 4 runs, leaves its arguments as they were and signals nothing. -/
theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The gradient of the gated unit's input product and of the norm before it: both programs leave the same three arrays. -/
theorem algebraic_Kernel4Ideal_Reference4Ideal_pre_finite4 : algebraic_Kernel4Ideal_Reference4Ideal_pre_finite4 := by
  intro m ρ m' ρ' hpre hagree
  refine ⟨_, _, _, Cert.Kernel4Ideal.Value.run_blocks (F := Ideal) m ρ, ?_⟩
  refine (θ_run Cert.Reference4Ideal.defs _ _).mono (fun _ h c => ⟨?_, ?_, ?_, (h c).2.2.2⟩) (Cert.Reference4Ideal.Value.run (F := Ideal) m' ρ')
  all_goals
    obtain ⟨⟨C, h0⟩, ⟨W, h1⟩, ⟨X, h2⟩, ⟨G, h4⟩⟩ := Finite.of_finite4 _ _ _ _ _ (hpre c)
  · rw [(h c).1, FfnNorm.final5 m c C W X G h0 h1 h2 h4, Cert.Reference4Ideal.Read.val_main_v44_eq, (hagree c).1, (hagree c).2.1, (hagree c).2.2.1, (hagree c).2.2.2.1, (hagree c).2.2.2.2]
  · rw [(h c).2.1, FfnNorm.final6 m c C W X G h0 h1 h2 h4, Cert.Reference4Ideal.Read.val_main_v45_eq, (hagree c).1, (hagree c).2.1, (hagree c).2.2.1, (hagree c).2.2.2.1, (hagree c).2.2.2.2]
  · rw [(h c).2.2.1, FfnNorm.final7 m c C W X h0 h1 h2, Cert.Reference4Ideal.Read.val_main_v27_eq, (hagree c).1, (hagree c).2.1, (hagree c).2.2.1]

/-- The reference of call 5 runs, leaves its arguments as they were and signals nothing. -/
theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The loss and its gradient: both programs leave the same three arrays. -/
theorem algebraic_Kernel5Ideal_Reference5Ideal : algebraic_Kernel5Ideal_Reference5Ideal := by
  intro m ρ m' ρ' _ hagree
  refine ⟨_, _, _, Cert.Kernel5Ideal.Value.run_blocks (F := Ideal) m ρ, ?_⟩
  refine (θ_run Cert.Reference5Ideal.defs _ _).mono (fun _ h c => ⟨?_, ?_, ?_, (h c).2.2.2⟩) (Cert.Reference5Ideal.Value.run (F := Ideal) m' ρ')
  · rw [(h c).1, Loss.final4 m c, Cert.Reference5Ideal.Read.val_main_v18_eq, (hagree c).1, (hagree c).2.1, (hagree c).2.2.1, (hagree c).2.2.2]
  · rw [(h c).2.1, Loss.final5 m c, Cert.Reference5Ideal.Read.val_main_v19_eq, (hagree c).1, (hagree c).2.1, (hagree c).2.2.1, (hagree c).2.2.2]
  · rw [(h c).2.2.1, Loss.final6 m c, Cert.Reference5Ideal.Read.val_main_v20_eq, (hagree c).1, (hagree c).2.1, (hagree c).2.2.1, (hagree c).2.2.2]

/-- The reference of call 7 runs, leaves its arguments as they were and signals nothing. -/
theorem quiescent_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The gradient of the input projections' product and of the norm before it, on the second part's rows: both programs leave the same two arrays. -/
theorem algebraic_Kernel7Ideal_Reference7Ideal_pre_finite7 : algebraic_Kernel7Ideal_Reference7Ideal_pre_finite7 := by
  intro m ρ m' ρ' hpre hagree
  refine ⟨_, _, Cert.Kernel7Ideal.Value.run_blocks (F := Ideal) m ρ, ?_⟩
  refine (θ_run Cert.Reference7Ideal.defs _ _).mono (fun _ h c => ⟨?_, ?_, (h c).2.2⟩) (Cert.Reference7Ideal.Value.run (F := Ideal) m' ρ')
  all_goals
    obtain ⟨⟨C, h0⟩, ⟨W, h1⟩, ⟨X, h2⟩, ⟨G, h4⟩⟩ := Finite.of_finite7 _ _ _ _ _ _ (hpre c)
  · rw [(h c).1, ProjNorm.final5 m c C W X G h0 h1 h2 h4, Cert.Reference7Ideal.Read.val_main_v43_eq, (hagree c).1, (hagree c).2.1, (hagree c).2.2.1, (hagree c).2.2.2.1, (hagree c).2.2.2.2.1, (hagree c).2.2.2.2.2]
  · rw [(h c).2.1, ProjNorm.final6 m c C W X h0 h1 h2, Cert.Reference7Ideal.Read.val_main_v24_eq, (hagree c).1, (hagree c).2.1, (hagree c).2.2.1]

/-- The reference of call 6 runs, leaves its arguments as they were and signals nothing. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of the input norm's gain, on the first part's rows: both programs leave the same array. -/
theorem algebraic_Kernel6Ideal_Reference6Ideal_pre_finite6 : algebraic_Kernel6Ideal_Reference6Ideal_pre_finite6 := by
  intro m ρ m' ρ' hpre hagree
  refine ⟨_, (θ_run Cert.Kernel6Ideal.defs _ _).mono (fun _ h c => (h c).2) (Cert.Kernel6Ideal.Value.run_blocks (F := Ideal) m ρ), ?_⟩
  refine (θ_run Cert.Reference6Ideal.defs _ _).mono (fun _ h c => ⟨?_, (h c).2⟩) (Cert.Reference6Ideal.Value.run (F := Ideal) m' ρ')
  obtain ⟨⟨C, h0⟩, ⟨W, h1⟩, ⟨X, h2⟩⟩ := Finite.of_finite6 _ _ _ _ _ (hpre c)
  rw [(h c).1, ProjTop.final6 m c C W X h0 h1 h2, Cert.Reference6Ideal.Read.val_main_v24_eq, (hagree c).1, (hagree c).2.1, (hagree c).2.2.1]

/-- The reference of call 13 runs, leaves its arguments as they were and signals nothing. -/
theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The memory attention, forward: both programs leave the same array. -/
theorem algebraic_Kernel13Ideal_Reference13Ideal_pre_finite13 : algebraic_Kernel13Ideal_Reference13Ideal_pre_finite13 := by
  intro m ρ m' ρ' hpre hagree
  refine ⟨_, Cert.Kernel13Ideal.Value.run_blocks (F := Ideal) m ρ, ?_⟩
  refine (θ_run Cert.Reference13Ideal.defs _ _).mono (fun _ h c => ⟨?_, (h c).2⟩) (Cert.Reference13Ideal.Value.run (F := Ideal) m' ρ')
  all_goals
    obtain ⟨⟨Q, h0⟩, ⟨E, h1⟩, ⟨gq, h2⟩, ⟨gk, h3⟩⟩ := Finite.of_finite13 _ _ _ _ (hpre c)
  · rw [(h c).1, MemFwd.final5 m c Q E gq gk h0 h1 h2 h3, Cert.Reference13Ideal.Read.val_main_v49_eq, (hagree c).1, (hagree c).2.1, (hagree c).2.2.1, (hagree c).2.2.2]

/-- The reference of call 16 runs, leaves its arguments as they were and signals nothing. -/
theorem quiescent_Reference16Ideal : quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The gated unit, forward: both programs leave the same four arrays. -/
theorem algebraic_Kernel16Ideal_Reference16Ideal : algebraic_Kernel16Ideal_Reference16Ideal := by
  intro m ρ m' ρ' _ hagree
  refine ⟨_, _, _, _, Cert.Kernel16Ideal.Value.run_blocks (F := Ideal) m ρ, ?_⟩
  refine (θ_run Cert.Reference16Ideal.defs _ _).mono (fun _ h c => ⟨?_, ?_, ?_, ?_, (h c).2.2.2.2⟩) (Cert.Reference16Ideal.Value.run (F := Ideal) m' ρ')
  · rw [(h c).1, FfnIn.final3 m c, Cert.Reference16Ideal.Read.val_main_v8_eq, (hagree c).1, (hagree c).2]
  · rw [(h c).2.1, FfnIn.final4 m c, Cert.Reference16Ideal.Read.val_main_v9_eq, (hagree c).1, (hagree c).2]
  · rw [(h c).2.2.1, FfnIn.final5 m c, Cert.Reference16Ideal.Read.val_main_v7_eq, (hagree c).1, (hagree c).2]
  · rw [(h c).2.2.2.1, FfnIn.final6 m c, Cert.Reference16Ideal.Read.val_main_v10_eq, (hagree c).1, (hagree c).2]

/-- The reference of call 17 runs, leaves its arguments as they were and signals nothing. -/
theorem quiescent_Reference17Ideal : quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The norm before the mixers: both programs leave the same two arrays. -/
theorem algebraic_Kernel17Ideal_Reference17Ideal : algebraic_Kernel17Ideal_Reference17Ideal := by
  intro m ρ m' ρ' _ hagree
  refine ⟨_, _, Cert.Kernel17Ideal.Value.run_blocks (F := Ideal) m ρ, ?_⟩
  refine (θ_run Cert.Reference17Ideal.defs _ _).mono (fun _ h c => ⟨?_, ?_, (h c).2.2⟩) (Cert.Reference17Ideal.Value.run (F := Ideal) m' ρ')
  · rw [(h c).1, Norms.final17 m c, Cert.Reference17Ideal.Read.val_main_v12_eq, (hagree c).1, (hagree c).2]
  · rw [(h c).2.1, Norms.final17T m c, Cert.Reference17Ideal.Read.val_main_v13_eq, (hagree c).1, (hagree c).2]

/-- The reference of call 18 runs, leaves its arguments as they were and signals nothing. -/
theorem quiescent_Reference18Ideal : quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The norm of the memory tokens: both programs leave the same array. -/
theorem algebraic_Kernel18Ideal_Reference18Ideal : algebraic_Kernel18Ideal_Reference18Ideal := by
  intro m ρ m' ρ' _ hagree
  refine ⟨_, Cert.Kernel18Ideal.Value.run_blocks (F := Ideal) m ρ, ?_⟩
  refine (θ_run Cert.Reference18Ideal.defs _ _).mono (fun _ h c => ⟨?_, (h c).2⟩) (Cert.Reference18Ideal.Value.run (F := Ideal) m' ρ')
  · rw [(h c).1, Norms.final18 m c, Cert.Reference18Ideal.Read.val_main_v12_eq, (hagree c).1, (hagree c).2]

/-- The reference of call 19 runs, leaves its arguments as they were and signals nothing. -/
theorem quiescent_Reference19Ideal : quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The residual and the norm before the gated unit: both programs leave the same three arrays. -/
theorem algebraic_Kernel19Ideal_Reference19Ideal : algebraic_Kernel19Ideal_Reference19Ideal := by
  intro m ρ m' ρ' _ hagree
  refine ⟨_, _, _, Cert.Kernel19Ideal.Value.run_blocks (F := Ideal) m ρ, ?_⟩
  refine (θ_run Cert.Reference19Ideal.defs _ _).mono (fun _ h c => ⟨?_, ?_, ?_, (h c).2.2.2⟩) (Cert.Reference19Ideal.Value.run (F := Ideal) m' ρ')
  · rw [(h c).1, ResNorm.final4 m c, Cert.Reference19Ideal.Read.val_main_v3_eq, (hagree c).1, (hagree c).2.1, (hagree c).2.2.1]
  · rw [(h c).2.1, ResNorm.final5 m c, Cert.Reference19Ideal.Read.val_main_v16_eq, (hagree c).1, (hagree c).2.1, (hagree c).2.2.1, (hagree c).2.2.2]
  · rw [(h c).2.2.1, ResNorm.final6 m c, Cert.Reference19Ideal.Read.val_main_v17_eq, (hagree c).1, (hagree c).2.1, (hagree c).2.2.1, (hagree c).2.2.2]

/-- The reference of call 20 runs, leaves its arguments as they were and signals nothing. -/
theorem quiescent_Reference20Ideal : quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The merge of the mixers, forward: both programs leave the same four arrays. -/
theorem algebraic_Kernel20Ideal_Reference20Ideal : algebraic_Kernel20Ideal_Reference20Ideal := by
  intro m ρ m' ρ' _ hagree
  refine ⟨_, _, _, _, Cert.Kernel20Ideal.Value.run_blocks (F := Ideal) m ρ, ?_⟩
  refine (θ_run Cert.Reference20Ideal.defs _ _).mono (fun _ h c => ⟨?_, ?_, ?_, ?_, (h c).2.2.2.2⟩) (Cert.Reference20Ideal.Value.run (F := Ideal) m' ρ')
  · rw [(h c).1, Merge.final9 m c, Cert.Reference20Ideal.Read.val_main_v37_eq, (hagree c).1, (hagree c).2.1, (hagree c).2.2.1, (hagree c).2.2.2.1, (hagree c).2.2.2.2.1, (hagree c).2.2.2.2.2.1, (hagree c).2.2.2.2.2.2]
  · rw [(h c).2.1, Merge.final10 m c, Cert.Reference20Ideal.Read.val_main_v38_eq, (hagree c).2.1, (hagree c).2.2.2.2.1]
  · rw [(h c).2.2.1, Merge.final11 m c, Cert.Reference20Ideal.Read.val_main_v39_eq, (hagree c).2.2.1, (hagree c).2.2.2.2.2.1]
  · rw [(h c).2.2.2.1, Merge.final12 m c, Cert.Reference20Ideal.Read.val_main_v40_eq, (hagree c).2.2.2.1, (hagree c).2.2.2.2.2.2]

/-- The reference of call 21 runs, leaves its arguments as they were and signals nothing. -/
theorem quiescent_Reference21Ideal : quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- The lower bounds of the forget gates: both programs leave the same array. -/
theorem algebraic_Kernel21Ideal_Reference21Ideal : algebraic_Kernel21Ideal_Reference21Ideal := by
  intro m ρ m' ρ' _ hagree
  refine ⟨_, Cert.Kernel21Ideal.Value.run_blocks (F := Ideal) m ρ, ?_⟩
  refine (θ_run Cert.Reference21Ideal.defs _ _).mono (fun _ h c => ⟨?_, (h c).2⟩) (Cert.Reference21Ideal.Value.run (F := Ideal) m' ρ')
  · rw [(h c).1, Table.final1 m c, Cert.Reference21Ideal.Read.val_main_v11_eq, (hagree c)]

/-- The reference of call 14 runs, leaves its arguments as they were and signals nothing. -/
theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The running sums of the logarithms: both programs leave the same array where the lower bounds are below infinity. -/
theorem algebraic_Kernel14Ideal_Reference14Ideal_pre_below14 : algebraic_Kernel14Ideal_Reference14Ideal_pre_below14 := by
  intro m ρ m' ρ' hpre hagree
  refine ⟨_, Cert.Kernel14Ideal.Value.run_blocks (F := Ideal) m ρ, ?_⟩
  refine (θ_run Cert.Reference14Ideal.defs _ _).mono (fun _ h c => ⟨?_, (h c).2⟩) (Cert.Reference14Ideal.Value.run (F := Ideal) m' ρ')
  rw [(h c).1, Decay.final2 m c (Decay.of_below14 _ _ (hpre c)), Cert.Reference14Ideal.Read.val_main_v48_eq, (hagree c).1, (hagree c).2]

/-- The reference of call 15 runs, leaves its arguments as they were and signals nothing. -/
theorem quiescent_Reference15Ideal : quiescent_Reference15Ideal := fun m ρ _ =>
  (θ_run Cert.Reference15Ideal.defs _ _).mono (fun r h => ⟨fun c => (h c).2.2, sem_eq_zero_of_no_sems (by decide) r.2⟩)
    (Gla.run_ref m ρ)

/-- The gated linear recurrence, forward: both programs leave the same two arrays. -/
theorem algebraic_Kernel15Ideal_Reference15Ideal : algebraic_Kernel15Ideal_Reference15Ideal := by
  intro m ρ m' ρ' _ hagree
  refine ⟨_, _, Gla.run m ρ, ?_⟩
  refine (θ_run Cert.Reference15Ideal.defs _ _).mono (fun _ h c => ⟨?_, ?_, (h c).2.2⟩) (Gla.run_ref m' ρ')
  · rw [(h c).1, (hagree c).1, (hagree c).2.1, (hagree c).2.2]
  · rw [(h c).2.1, (hagree c).1, (hagree c).2.1]

/-- The reference of call 22 runs, leaves its arguments as they were and signals nothing. -/
theorem quiescent_Reference22Ideal : quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- The memory tokens' keys and values: both programs leave the same array. -/
theorem algebraic_Kernel22Ideal_Reference22Ideal : algebraic_Kernel22Ideal_Reference22Ideal := by
  intro m ρ m' ρ' _ hagree
  refine ⟨_, Cert.Kernel22Ideal.Value.run_blocks (F := Ideal) m ρ, ?_⟩
  refine (θ_run Cert.Reference22Ideal.defs _ _).mono (fun _ h c => ⟨?_, (h c).2⟩) (Cert.Reference22Ideal.Value.run (F := Ideal) m' ρ')
  · rw [(h c).1, MemKv.final22 m c, Cert.Reference22Ideal.Read.val_main_v2_eq, (hagree c).1, (hagree c).2]

/-- The reference of call 23 runs, leaves its arguments as they were and signals nothing. -/
theorem quiescent_Reference23Ideal : quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The gradient of the weight of the memory tokens' keys and values: both programs leave the same array. -/
theorem algebraic_Kernel23Ideal_Reference23Ideal : algebraic_Kernel23Ideal_Reference23Ideal := by
  intro m ρ m' ρ' _ hagree
  refine ⟨_, Cert.Kernel23Ideal.Value.run_blocks (F := Ideal) m ρ, ?_⟩
  refine (θ_run Cert.Reference23Ideal.defs _ _).mono (fun _ h c => ⟨?_, (h c).2⟩) (Cert.Reference23Ideal.Value.run (F := Ideal) m' ρ')
  · rw [(h c).1, MemKv.final23 m c, Cert.Reference23Ideal.Read.val_main_v6_eq, (hagree c).1, (hagree c).2]

/-- The reference of call 24 runs, leaves its arguments as they were and signals nothing. -/
theorem quiescent_Reference24Ideal : quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- The gradient of the normed memory tokens: both programs leave the same array. -/
theorem algebraic_Kernel24Ideal_Reference24Ideal : algebraic_Kernel24Ideal_Reference24Ideal := by
  intro m ρ m' ρ' _ hagree
  refine ⟨_, Cert.Kernel24Ideal.Value.run_blocks (F := Ideal) m ρ, ?_⟩
  refine (θ_run Cert.Reference24Ideal.defs _ _).mono (fun _ h c => ⟨?_, (h c).2⟩) (Cert.Reference24Ideal.Value.run (F := Ideal) m' ρ')
  · rw [(h c).1, MemKv.final24 m c, Cert.Reference24Ideal.Read.val_main_v4_eq, (hagree c).1, (hagree c).2]

/-- The reference of call 25 runs, leaves its arguments as they were and signals nothing. -/
theorem quiescent_Reference25Ideal : quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- The input projection: both programs leave the same array. -/
theorem algebraic_Kernel25Ideal_Reference25Ideal : algebraic_Kernel25Ideal_Reference25Ideal := by
  intro m ρ m' ρ' _ hagree
  refine ⟨_, Cert.Kernel25Ideal.Value.run_blocks (F := Ideal) m ρ, ?_⟩
  refine (θ_run Cert.Reference25Ideal.defs _ _).mono (fun _ h c => ⟨?_, (h c).2⟩) (Cert.Reference25Ideal.Value.run (F := Ideal) m' ρ')
  · rw [(h c).1, ProjFwd.final m c, Cert.Reference25Ideal.Read.val_main_v2_eq, (hagree c).1, (hagree c).2]

/-- The reference of call 26 runs, leaves its arguments as they were and signals nothing. -/
theorem quiescent_Reference26Ideal : quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- The gradient of the output projection's weight: both programs leave the same array. -/
theorem algebraic_Kernel26Ideal_Reference26Ideal : algebraic_Kernel26Ideal_Reference26Ideal := by
  intro m ρ m' ρ' _ hagree
  refine ⟨_, Cert.Kernel26Ideal.Value.run_blocks (F := Ideal) m ρ, ?_⟩
  refine (θ_run Cert.Reference26Ideal.defs _ _).mono (fun _ h c => ⟨?_, (h c).2⟩) (Cert.Reference26Ideal.Value.run (F := Ideal) m' ρ')
  · rw [(h c).1, OutW.final m c, Cert.Reference26Ideal.Read.val_main_v6_eq, (hagree c).1, (hagree c).2]

/-- The reference of call 27 runs, leaves its arguments as they were and signals nothing. -/
theorem quiescent_Reference27Ideal : quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The gradient of the input projection's weight: both programs leave the same array. -/
theorem algebraic_Kernel27Ideal_Reference27Ideal : algebraic_Kernel27Ideal_Reference27Ideal := by
  intro m ρ m' ρ' _ hagree
  refine ⟨_, Cert.Kernel27Ideal.Value.run_blocks (F := Ideal) m ρ, ?_⟩
  refine (θ_run Cert.Reference27Ideal.defs _ _).mono (fun _ h c => ⟨?_, (h c).2⟩) (Cert.Reference27Ideal.Value.run (F := Ideal) m' ρ')
  · rw [(h c).1, ProjW.final m c, Cert.Reference27Ideal.Read.val_main_v9_eq, (hagree c).1, (hagree c).2]

/-- The reference of call 28 runs, leaves its arguments as they were and signals nothing. -/
theorem quiescent_Reference28Ideal : quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The gradient of the second feed-forward product's weight: both programs leave the same array. -/
theorem algebraic_Kernel28Ideal_Reference28Ideal : algebraic_Kernel28Ideal_Reference28Ideal := by
  intro m ρ m' ρ' _ hagree
  refine ⟨_, Cert.Kernel28Ideal.Value.run_blocks (F := Ideal) m ρ, ?_⟩
  refine (θ_run Cert.Reference28Ideal.defs _ _).mono (fun _ h c => ⟨?_, (h c).2⟩) (Cert.Reference28Ideal.Value.run (F := Ideal) m' ρ')
  · rw [(h c).1, FfnOutW.final m c, Cert.Reference28Ideal.Read.val_main_v7_eq, (hagree c).1, (hagree c).2]

/-- The reference of call 29 runs, leaves its arguments as they were and signals nothing. -/
theorem quiescent_Reference29Ideal : quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- The gradient of the first feed-forward product's weight: both programs leave the same array. -/
theorem algebraic_Kernel29Ideal_Reference29Ideal : algebraic_Kernel29Ideal_Reference29Ideal := by
  intro m ρ m' ρ' _ hagree
  refine ⟨_, Cert.Kernel29Ideal.Value.run_blocks (F := Ideal) m ρ, ?_⟩
  refine (θ_run Cert.Reference29Ideal.defs _ _).mono (fun _ h c => ⟨?_, (h c).2⟩) (Cert.Reference29Ideal.Value.run (F := Ideal) m' ρ')
  · rw [(h c).1, FfnInW.final m c, Cert.Reference29Ideal.Read.val_main_v9_eq, (hagree c).1, (hagree c).2]

/-- The reference of call 30 runs, leaves its arguments as they were and signals nothing. -/
theorem quiescent_Reference30Ideal : quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

/-- The update of a device's part of the input projection's weight: both programs leave the same four arrays. -/
theorem algebraic_Kernel30Ideal_Reference30Ideal : algebraic_Kernel30Ideal_Reference30Ideal := by
  intro m ρ m' ρ' _ hagree
  refine ⟨_, _, _, _, Cert.Kernel30Ideal.Value.run_blocks (F := Ideal) m ρ, ?_⟩
  refine (θ_run Cert.Reference30Ideal.defs _ _).mono (fun _ h c => ⟨?_, ?_, ?_, ?_, (h c).2.2.2.2⟩) (Cert.Reference30Ideal.Value.run (F := Ideal) m' ρ')
  · rw [(h c).1, Adam.final5 m c, Cert.Reference30Ideal.Read.val_main_v2_eq, (hagree c).1, (hagree c).2.1]
  · rw [(h c).2.1, Adam.final6 m c, Cert.Reference30Ideal.Read.val_main_v26_eq, (hagree c).1, (hagree c).2.1, (hagree c).2.2.1, (hagree c).2.2.2.1, (hagree c).2.2.2.2]
  · rw [(h c).2.2.1, Adam.final7 m c, Cert.Reference30Ideal.Read.val_main_v7_eq, (hagree c).1, (hagree c).2.1, (hagree c).2.2.2.1]
  · rw [(h c).2.2.2.1, Adam.final8 m c, Cert.Reference30Ideal.Read.val_main_v13_eq, (hagree c).1, (hagree c).2.1, (hagree c).2.2.2.2]

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel6.Gen.facts, Cert.Kernel6Ideal.Gen.facts, Cert.Reference6Ideal.Gen.facts, Cert.Kernel13.Gen.facts, Cert.Kernel13Ideal.Gen.facts, Cert.Reference13Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Pre_finite2.Gen.facts, Cert.Pre_finite3.Gen.facts, Cert.Pre_finite4.Gen.facts, Cert.Pre_finite7.Gen.facts, Cert.Pre_finite6.Gen.facts, Cert.Pre_finite13.Gen.facts, Cert.Pre_below14.Gen.facts,
  fun m ρ _ => Cert.Kernel.Gen.frame m ρ,
  fun m ρ _ => Cert.KernelIdeal.Gen.frame m ρ,
  quiescent_ReferenceIdeal,
  fun m ρ _ => Cert.Kernel2.Gen.frame m ρ,
  fun m ρ _ => Cert.Kernel2Ideal.Gen.frame m ρ,
  fun m ρ _ => Cert.Kernel2Ideal.Gen.frame m ρ,
  quiescent_Reference2Ideal,
  fun m ρ _ => quiescent_Reference2Ideal m ρ trivial,
  fun m ρ _ => Cert.Kernel3.Gen.frame m ρ,
  fun m ρ _ => Cert.Kernel3Ideal.Gen.frame m ρ,
  fun m ρ _ => Cert.Kernel3Ideal.Gen.frame m ρ,
  quiescent_Reference3Ideal,
  fun m ρ _ => quiescent_Reference3Ideal m ρ trivial,
  fun m ρ _ => Cert.Kernel4.Gen.frame m ρ,
  fun m ρ _ => Cert.Kernel4Ideal.Gen.frame m ρ,
  fun m ρ _ => Cert.Kernel4Ideal.Gen.frame m ρ,
  quiescent_Reference4Ideal,
  fun m ρ _ => quiescent_Reference4Ideal m ρ trivial,
  fun m ρ _ => Cert.Kernel5.Gen.frame m ρ,
  fun m ρ _ => Cert.Kernel5Ideal.Gen.frame m ρ,
  quiescent_Reference5Ideal,
  fun m ρ _ => Cert.Kernel7.Gen.frame m ρ,
  fun m ρ _ => Cert.Kernel7Ideal.Gen.frame m ρ,
  fun m ρ _ => Cert.Kernel7Ideal.Gen.frame m ρ,
  quiescent_Reference7Ideal,
  fun m ρ _ => quiescent_Reference7Ideal m ρ trivial,
  fun m ρ _ => Cert.Kernel6.Gen.frame m ρ,
  fun m ρ _ => Cert.Kernel6Ideal.Gen.frame m ρ,
  fun m ρ _ => Cert.Kernel6Ideal.Gen.frame m ρ,
  quiescent_Reference6Ideal,
  fun m ρ _ => quiescent_Reference6Ideal m ρ trivial,
  fun m ρ _ => Cert.Kernel13.Gen.frame m ρ,
  fun m ρ _ => Cert.Kernel13Ideal.Gen.frame m ρ,
  fun m ρ _ => Cert.Kernel13Ideal.Gen.frame m ρ,
  quiescent_Reference13Ideal,
  fun m ρ _ => quiescent_Reference13Ideal m ρ trivial,
  fun m ρ _ => Cert.Kernel16.Gen.frame m ρ,
  fun m ρ _ => Cert.Kernel16Ideal.Gen.frame m ρ,
  quiescent_Reference16Ideal,
  fun m ρ _ => Cert.Kernel17.Gen.frame m ρ,
  fun m ρ _ => Cert.Kernel17Ideal.Gen.frame m ρ,
  quiescent_Reference17Ideal,
  fun m ρ _ => Cert.Kernel18.Gen.frame m ρ,
  fun m ρ _ => Cert.Kernel18Ideal.Gen.frame m ρ,
  quiescent_Reference18Ideal,
  fun m ρ _ => Cert.Kernel19.Gen.frame m ρ,
  fun m ρ _ => Cert.Kernel19Ideal.Gen.frame m ρ,
  quiescent_Reference19Ideal,
  fun m ρ _ => Cert.Kernel20.Gen.frame m ρ,
  fun m ρ _ => Cert.Kernel20Ideal.Gen.frame m ρ,
  quiescent_Reference20Ideal,
  fun m ρ _ => Cert.Kernel21.Gen.frame m ρ,
  fun m ρ _ => Cert.Kernel21Ideal.Gen.frame m ρ,
  quiescent_Reference21Ideal,
  fun m ρ _ => Cert.Kernel14.Gen.frame m ρ,
  fun m ρ _ => Cert.Kernel14Ideal.Gen.frame m ρ,
  fun m ρ _ => Cert.Kernel14Ideal.Gen.frame m ρ,
  quiescent_Reference14Ideal,
  fun m ρ _ => quiescent_Reference14Ideal m ρ trivial,
  fun m ρ _ => GlaBits.frame m ρ,
  fun m ρ _ => Gla.frame m ρ,
  quiescent_Reference15Ideal,
  fun m ρ _ => Cert.Kernel22.Gen.frame m ρ,
  fun m ρ _ => Cert.Kernel22Ideal.Gen.frame m ρ,
  quiescent_Reference22Ideal,
  fun m ρ _ => Cert.Kernel23.Gen.frame m ρ,
  fun m ρ _ => Cert.Kernel23Ideal.Gen.frame m ρ,
  quiescent_Reference23Ideal,
  fun m ρ _ => Cert.Kernel24.Gen.frame m ρ,
  fun m ρ _ => Cert.Kernel24Ideal.Gen.frame m ρ,
  quiescent_Reference24Ideal,
  fun m ρ _ => Cert.Kernel25.Gen.frame m ρ,
  fun m ρ _ => Cert.Kernel25Ideal.Gen.frame m ρ,
  quiescent_Reference25Ideal,
  fun m ρ _ => Cert.Kernel26.Gen.frame m ρ,
  fun m ρ _ => Cert.Kernel26Ideal.Gen.frame m ρ,
  quiescent_Reference26Ideal,
  fun m ρ _ => Cert.Kernel27.Gen.frame m ρ,
  fun m ρ _ => Cert.Kernel27Ideal.Gen.frame m ρ,
  quiescent_Reference27Ideal,
  fun m ρ _ => Cert.Kernel28.Gen.frame m ρ,
  fun m ρ _ => Cert.Kernel28Ideal.Gen.frame m ρ,
  quiescent_Reference28Ideal,
  fun m ρ _ => Cert.Kernel29.Gen.frame m ρ,
  fun m ρ _ => Cert.Kernel29Ideal.Gen.frame m ρ,
  quiescent_Reference29Ideal,
  fun m ρ _ => Cert.Kernel30.Gen.frame m ρ,
  fun m ρ _ => Cert.Kernel30Ideal.Gen.frame m ρ,
  quiescent_Reference30Ideal,
  (trivial : preserves_Kernel_KernelIdeal),
  algebraic_KernelIdeal_ReferenceIdeal,
  (trivial : preserves_Kernel2_Kernel2Ideal),
  algebraic_Kernel2Ideal_Reference2Ideal_pre_finite2,
  (trivial : preserves_Kernel3_Kernel3Ideal),
  algebraic_Kernel3Ideal_Reference3Ideal_pre_finite3,
  (trivial : preserves_Kernel4_Kernel4Ideal),
  algebraic_Kernel4Ideal_Reference4Ideal_pre_finite4,
  (trivial : preserves_Kernel5_Kernel5Ideal),
  algebraic_Kernel5Ideal_Reference5Ideal,
  (trivial : preserves_Kernel7_Kernel7Ideal),
  algebraic_Kernel7Ideal_Reference7Ideal_pre_finite7,
  (trivial : preserves_Kernel6_Kernel6Ideal),
  algebraic_Kernel6Ideal_Reference6Ideal_pre_finite6,
  (trivial : preserves_Kernel13_Kernel13Ideal),
  algebraic_Kernel13Ideal_Reference13Ideal_pre_finite13,
  (trivial : preserves_Kernel16_Kernel16Ideal),
  algebraic_Kernel16Ideal_Reference16Ideal,
  (trivial : preserves_Kernel17_Kernel17Ideal),
  algebraic_Kernel17Ideal_Reference17Ideal,
  (trivial : preserves_Kernel18_Kernel18Ideal),
  algebraic_Kernel18Ideal_Reference18Ideal,
  (trivial : preserves_Kernel19_Kernel19Ideal),
  algebraic_Kernel19Ideal_Reference19Ideal,
  (trivial : preserves_Kernel20_Kernel20Ideal),
  algebraic_Kernel20Ideal_Reference20Ideal,
  (trivial : preserves_Kernel21_Kernel21Ideal),
  algebraic_Kernel21Ideal_Reference21Ideal,
  (trivial : preserves_Kernel14_Kernel14Ideal),
  algebraic_Kernel14Ideal_Reference14Ideal_pre_below14,
  (trivial : preserves_Kernel15_Kernel15Ideal),
  algebraic_Kernel15Ideal_Reference15Ideal,
  (trivial : preserves_Kernel22_Kernel22Ideal),
  algebraic_Kernel22Ideal_Reference22Ideal,
  (trivial : preserves_Kernel23_Kernel23Ideal),
  algebraic_Kernel23Ideal_Reference23Ideal,
  (trivial : preserves_Kernel24_Kernel24Ideal),
  algebraic_Kernel24Ideal_Reference24Ideal,
  (trivial : preserves_Kernel25_Kernel25Ideal),
  algebraic_Kernel25Ideal_Reference25Ideal,
  (trivial : preserves_Kernel26_Kernel26Ideal),
  algebraic_Kernel26Ideal_Reference26Ideal,
  (trivial : preserves_Kernel27_Kernel27Ideal),
  algebraic_Kernel27Ideal_Reference27Ideal,
  (trivial : preserves_Kernel28_Kernel28Ideal),
  algebraic_Kernel28Ideal_Reference28Ideal,
  (trivial : preserves_Kernel29_Kernel29Ideal),
  algebraic_Kernel29Ideal_Reference29Ideal,
  (trivial : preserves_Kernel30_Kernel30Ideal),
  algebraic_Kernel30Ideal_Reference30Ideal⟩

end Cert.Proof

end
